-- ==== Defs.lean ====
def Pre_Kernel [hPre_offsets_sorted : Cert.Pre_offsets_sorted.Facts] (m : (ℓ : Loc Cert.Kernel.nD Cert.Kernel.τ Cert.Kernel.sig) → Buf (Elt Bits) ℓ) : Prop :=
  ∀ c : Dev Cert.Kernel.nD,
    (Cert.Pre_offsets_sorted.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_offsets_sorted : Cert.Pre_offsets_sorted.Facts] (m : (ℓ : Loc Cert.KernelIdeal.nD Cert.KernelIdeal.τ Cert.KernelIdeal.sig) → Buf (Elt Ideal) ℓ) : Prop :=
  ∀ c : Dev Cert.KernelIdeal.nD,
    (Cert.Pre_offsets_sorted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_offsets_sorted [hPre_offsets_sorted : Cert.Pre_offsets_sorted.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_offsets_sorted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] [hPre_offsets_sorted : Cert.Pre_offsets_sorted.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_offsets_sorted : Cert.Pre_offsets_sorted.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_offsets_sorted [hReferenceIdeal : Cert.ReferenceIdeal.Facts] [hPre_offsets_sorted : Cert.Pre_offsets_sorted.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_offsets_sorted m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_offsets_sorted : Cert.Pre_offsets_sorted.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v66) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_offsets_sorted : Cert.Pre_offsets_sorted.Facts),
    quiescent_Kernel (hKernel := hKernel) (hPre_offsets_sorted := hPre_offsets_sorted)
    ∧ quiescent_KernelIdeal (hKernelIdeal := hKernelIdeal) (hPre_offsets_sorted := hPre_offsets_sorted)
    ∧ quiescent_ReferenceIdeal (hReferenceIdeal := hReferenceIdeal)
    ∧ quiescent_ReferenceIdeal_pre_offsets_sorted (hReferenceIdeal := hReferenceIdeal) (hPre_offsets_sorted := hPre_offsets_sorted)
    ∧ preserves_Kernel_KernelIdeal
    ∧ algebraic_KernelIdeal_ReferenceIdeal (hKernelIdeal := hKernelIdeal) (hReferenceIdeal := hReferenceIdeal) (hPre_offsets_sorted := hPre_offsets_sorted)
-- ==== Pre_offsets_sorted.lean ====
abbrev S1536x3584 : Shape := ⟨2, ![1536, 3584]⟩
abbrev S25 : Shape := ⟨1, ![25]⟩
abbrev S1536x18944 : Shape := ⟨2, ![1536, 18944]⟩
abbrev S1536 : Shape := ⟨1, ![1536]⟩
abbrev S24x18944 : Shape := ⟨2, ![24, 18944]⟩
abbrev S9472x3584 : Shape := ⟨2, ![9472, 3584]⟩
abbrev S148x3584 : Shape := ⟨2, ![148, 3584]⟩
abbrev S23 : Shape := ⟨1, ![23]⟩
abbrev S22 : Shape := ⟨1, ![22]⟩
abbrev S_ : Shape := ⟨0, ![]⟩
abbrev S1 : Shape := ⟨1, ![1]⟩

class Facts : Prop where
  slices_S25_S23_1 : S25.Slices ![1] S23
  slices_S25_S22_2 : S25.Slices ![2] S22
  bcast_S_S1 : S_.BroadcastsInDim S1 (![] : Fin 0 → Fin S1.rank)
  concatenates_S22_S1_S23_d0 : Shape.Concatenates [S22, S1] S23 0
  bcast_S_S23 : S_.BroadcastsInDim S23 (![] : Fin 0 → Fin S23.rank)

variable [Facts]

def fn {F : FTy → Type} [FloatOps F] (main_arg0 : FVec F S1536x3584 .bf16) (main_arg1 : IVec S25 32) (main_arg2 : FVec F S1536x18944 .fp8e4m3) (main_arg3 : FVec F S1536 .f32) (main_arg4 : FVec F S1536x18944 .fp8e4m3) (main_arg5 : FVec F S1536 .f32) (main_arg6 : FVec F S24x18944 .f32) (main_arg7 : IVec S9472x3584 8) (main_arg8 : FVec F S148x3584 .f32) : IVec S23 1 :=
  let main_v0 : IVec S23 32 := (extractStridedSlice S23 ![1] · slices_S25_S23_1) main_arg1
  let main_v1 : IVec S22 32 := (extractStridedSlice S22 ![2] · slices_S25_S22_2) main_arg1
  let main_c : IVec S_ 32 := constantI S_ 32 1536#32
  let main_v2 : IVec S1 32 := broadcastInDim S1 ![] bcast_S_S1 main_c
  let main_v3 : IVec S23 32 := (fun a b => concatenate S23 0 [⟨S22, a⟩, ⟨S1, b⟩] concatenates_S22_S1_S23_d0) main_v1 main_v2
  let main_c_0 : IVec S_ 32 := constantI S_ 32 0#32
  let main_v4 : IVec S23 32 := broadcastInDim S23 ![] bcast_S_S23 main_c_0
  let main_v5 : IVec S23 1 := cmpi .sge main_v0 main_v4
  let main_v6 : IVec S23 1 := cmpi .sle main_v0 main_v3
  let main_v7 : IVec S23 1 := andi main_v5 main_v6
  main_v7
-- ==== Kernel.lean ====
abbrev S1536x3584 : Shape := ⟨2, ![1536, 3584]⟩
abbrev S25 : Shape := ⟨1, ![25]⟩
abbrev S1536x18944 : Shape := ⟨2, ![1536, 18944]⟩
abbrev S1536 : Shape := ⟨1, ![1536]⟩
abbrev S24x18944 : Shape := ⟨2, ![24, 18944]⟩
abbrev S9472x3584 : Shape := ⟨2, ![9472, 3584]⟩
abbrev S148x3584 : Shape := ⟨2, ![148, 3584]⟩
abbrev S12x128 : Shape := ⟨2, ![12, 128]⟩
abbrev S1536x512 : Shape := ⟨2, ![1536, 512]⟩
abbrev S24x512 : Shape := ⟨2, ![24, 512]⟩
abbrev S256x3584 : Shape := ⟨2, ![256, 3584]⟩
abbrev S512x3584 : Shape := ⟨2, ![512, 3584]⟩
abbrev S200x512 : Shape := ⟨2, ![200, 512]⟩
abbrev S4x32x128 : Shape := ⟨3, ![4, 32, 128]⟩
abbrev S32x512 : Shape := ⟨2, ![32, 512]⟩
abbrev S1536x128 : Shape := ⟨2, ![1536, 128]⟩
abbrev S192 : Shape := ⟨1, ![192]⟩
abbrev S26 : Shape := ⟨1, ![26]⟩
abbrev S1 : Shape := ⟨1, ![1]⟩
abbrev S8x128 : Shape := ⟨2, ![8, 128]⟩
abbrev S1x128 : Shape := ⟨2, ![1, 128]⟩
abbrev S128x128 : Shape := ⟨2, ![128, 128]⟩
abbrev S1x512 : Shape := ⟨2, ![1, 512]⟩
abbrev S1x1x128 : Shape := ⟨3, ![1, 1, 128]⟩
abbrev S64x3584 : Shape := ⟨2, ![64, 3584]⟩
abbrev S64x1x3584 : Shape := ⟨3, ![64, 1, 3584]⟩
abbrev S64x2x3584 : Shape := ⟨3, ![64, 2, 3584]⟩
abbrev S128x3584 : Shape := ⟨2, ![128, 3584]⟩
abbrev S1x3584 : Shape := ⟨2, ![1, 3584]⟩
abbrev S512x512 : Shape := ⟨2, ![512, 512]⟩
abbrev S32x128 : Shape := ⟨2, ![32, 128]⟩
abbrev S1x8x128 : Shape := ⟨3, ![1, 8, 128]⟩
abbrev S8x128x1 : Shape := ⟨3, ![8, 128, 1]⟩
abbrev S8x512 : Shape := ⟨2, ![8, 512]⟩
abbrev S512 : Shape := ⟨1, ![512]⟩

abbrev nBuf : Space → Nat
  | .hbm => 13
  | .vmem => 27
  | .smem => 5
  | _ => 0

abbrev bufTy : (tb : Table) → Fin (tcTables nBuf tb) → BufTy
  | .hbm, ⟨0, _⟩ => ⟨S1536x3584, .bf16⟩
  | .hbm, ⟨1, _⟩ => ⟨S1536x18944, .fp8e4m3⟩
  | .hbm, ⟨2, _⟩ => ⟨S1536, .f32⟩
  | .hbm, ⟨3, _⟩ => ⟨S1536x18944, .fp8e4m3⟩
  | .hbm, ⟨4, _⟩ => ⟨S1536, .f32⟩
  | .hbm, ⟨5, _⟩ => ⟨S24x18944, .f32⟩
  | .hbm, ⟨6, _⟩ => ⟨S9472x3584, .i8⟩
  | .hbm, ⟨7, _⟩ => ⟨S148x3584, .f32⟩
  | .hbm, ⟨8, _⟩ => ⟨S12x128, .f32⟩
  | .hbm, ⟨9, _⟩ => ⟨S12x128, .f32⟩
  | .hbm, ⟨10, _⟩ => ⟨S24x18944, .f32⟩
  | .hbm, ⟨11, _⟩ => ⟨S1536x18944, .bf16⟩
  | .hbm, ⟨12, _⟩ => ⟨S1536x18944, .bf16⟩
  | .local _ .vmem, ⟨0, _⟩ => ⟨S1536x3584, .bf16⟩
  | .local _ .vmem, ⟨1, _⟩ => ⟨S1536x512, .fp8e4m3⟩
  | .local _ .vmem, ⟨2, _⟩ => ⟨S1536x512, .fp8e4m3⟩
  | .local _ .vmem, ⟨3, _⟩ => ⟨S1536x512, .fp8e4m3⟩
  | .local _ .vmem, ⟨4, _⟩ => ⟨S1536x512, .fp8e4m3⟩
  | .local _ .vmem, ⟨5, _⟩ => ⟨S12x128, .f32⟩
  | .local _ .vmem, ⟨6, _⟩ => ⟨S12x128, .f32⟩
  | .local _ .vmem, ⟨7, _⟩ => ⟨S24x512, .f32⟩
  | .local _ .vmem, ⟨8, _⟩ => ⟨S24x512, .f32⟩
  | .local _ .vmem, ⟨9, _⟩ => ⟨S256x3584, .i8⟩
  | .local _ .vmem, ⟨10, _⟩ => ⟨S256x3584, .i8⟩
  | .local _ .vmem, ⟨11, _⟩ => ⟨S148x3584, .f32⟩
  | .local _ .vmem, ⟨12, _⟩ => ⟨S24x512, .f32⟩
  | .local _ .vmem, ⟨13, _⟩ => ⟨S24x512, .f32⟩
  | .local _ .vmem, ⟨14, _⟩ => ⟨S1536x512, .bf16⟩
  | .local _ .vmem, ⟨15, _⟩ => ⟨S1536x512, .bf16⟩
  | .local _ .vmem, ⟨16, _⟩ => ⟨S1536x512, .bf16⟩
  | .local _ .vmem, ⟨17, _⟩ => ⟨S1536x512, .bf16⟩
  | .local _ .vmem, ⟨18, _⟩ => ⟨S512x3584, .bf16⟩
  | .local _ .vmem, ⟨19, _⟩ => ⟨S1536x512, .f32⟩
  | .local _ .vmem, ⟨20, _⟩ => ⟨S1536x512, .f32⟩
  | .local _ .vmem, ⟨21, _⟩ => ⟨S200x512, .f32⟩
  | .local _ .vmem, ⟨22, _⟩ => ⟨S4x32x128, .f32⟩
  | .local _ .vmem, ⟨23, _⟩ => ⟨S32x512, .f32⟩
  | .local _ .vmem, ⟨24, _⟩ => ⟨S1536x128, .f32⟩
  | .local _ .vmem, ⟨25, _⟩ => ⟨S1536x128, .f32⟩
  | .local _ .vmem, ⟨26, _⟩ => ⟨S1536x128, .i32⟩
  | .local _ .smem, ⟨0, _⟩ => ⟨S25, .i32⟩
  | .local _ .smem, ⟨1, _⟩ => ⟨S192, .i32⟩
  | .local _ .smem, ⟨2, _⟩ => ⟨S192, .i32⟩
  | .local _ .smem, ⟨3, _⟩ => ⟨S25, .i32⟩
  | .local _ .smem, ⟨4, _⟩ => ⟨S26, .i32⟩
  | _, _ => ⟨S1536x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_arg1 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_scratch7 : Ref sig .tc := ⟨.vmem, 25, rfl⟩
abbrev cc0_scratch8 : Ref sig .tc := ⟨.vmem, 26, rfl⟩
abbrev cc0_scratch9 : Ref sig .tc := ⟨.smem, 1, rfl⟩
abbrev cc0_scratch10 : Ref sig .tc := ⟨.smem, 2, rfl⟩
abbrev cc0_scratch11 : Ref sig .tc := ⟨.smem, 3, rfl⟩
abbrev cc0_scratch12 : Ref sig .tc := ⟨.smem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![37], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_79 : BitVec 32 := 0#32
  let c25_i32 : BitVec 32 := 25#32
  let v151 : BitVec 32 := Scalar.addi c0_i32_79 c25_i32
  let c1_i32_80 : BitVec 32 := 1#32
  ⟨c0_i32_79, v151, c1_i32_80⟩
def k0_off1 (k0_t1 : Fin k0_t1_loop.trips) : Fin 1 → Nat :=
  let c0_i32_79 : BitVec 32 := 0#32
  let c1_i32_80 : BitVec 32 := 1#32
  let arg26 : BitVec 32 := Scf.iv c0_i32_79 c1_i32_80 k0_t1
  let v354 : Index := Scalar.indexCast arg26
  ![v354.toNat]
def k0_off2 (k0_t1 : Fin k0_t1_loop.trips) : Fin 1 → Nat :=
  let c0_i32_79 : BitVec 32 := 0#32
  let c1_i32_80 : BitVec 32 := 1#32
  let arg26 : BitVec 32 := Scf.iv c0_i32_79 c1_i32_80 k0_t1
  let v356 : Index := Scalar.indexCast arg26
  ![v356.toNat]
@[reducible] def k0_t2_loop : Scf.Loop 32 :=
  let c0_i32_83 : BitVec 32 := 0#32
  let c24_i32_84 : BitVec 32 := 24#32
  let v152 : BitVec 32 := Scalar.addi c0_i32_83 c24_i32_84
  let c1_i32_85 : BitVec 32 := 1#32
  ⟨c0_i32_83, v152, c1_i32_85⟩
def k0_off3 (k0_t2 : Fin k0_t2_loop.trips) : Fin 1 → Nat :=
  let c0_i32_83 : BitVec 32 := 0#32
  let c1_i32_85 : BitVec 32 := 1#32
  let arg26 : BitVec 32 := Scf.iv c0_i32_83 c1_i32_85 k0_t2
  let v354 : Index := Scalar.indexCast arg26
  ![v354.toNat]
def k0_off4 (k0_t2 : Fin k0_t2_loop.trips) : Fin 1 → Nat :=
  let c0_i32_83 : BitVec 32 := 0#32
  let c1_i32_85 : BitVec 32 := 1#32
  let arg26 : BitVec 32 := Scf.iv c0_i32_83 c1_i32_85 k0_t2
  let c1_i32_180 : BitVec 32 := 1#32
  let v359 : BitVec 32 := Scalar.addi arg26 c1_i32_180
  let v360 : Index := Scalar.indexCast v359
  ![v360.toNat]
def k0_off5 (arg27 : BitVec 32) : Fin 1 → Nat :=
  let v364 : Index := Scalar.indexCast arg27
  ![v364.toNat]

def k0_off6 (arg27 : BitVec 32) : Fin 1 → Nat :=
  let v369 : Index := Scalar.indexCast arg27
  ![v369.toNat]

def k0_chk1 (i : grid0.Coords) (arg27 : BitVec 32) : Prop :=
  (∀ (k0_h1 : k0_cond1 i = 1#1), ∀ a, (k0_off5 arg27) a + S1.size a ≤ S26.size a) ∧
  (∀ (k0_h1 : k0_cond1 i = 1#1), ∀ a, (k0_off6 arg27) a + S1.size a ≤ S25.size a)
theorem k0_off5_inb : ∀ (i : grid0.Coords) (arg27 : BitVec 32) (k0_hw1 : k0_chk1 i arg27), ∀ (k0_h1 : k0_cond1 i = 1#1), ∀ a, (k0_off5 arg27) a + S1.size a ≤ S26.size a := fun i arg27 k0_hw1 k0_h1 => k0_hw1.1 k0_h1
theorem k0_off6_inb : ∀ (i : grid0.Coords) (arg27 : BitVec 32) (k0_hw1 : k0_chk1 i arg27), ∀ (k0_h1 : k0_cond1 i = 1#1), ∀ a, (k0_off6 arg27) a + S1.size a ≤ S25.size a := fun i arg27 k0_hw1 k0_h1 => k0_hw1.2 k0_h1

@[reducible] def k0_t3_loop : Scf.Loop 32 :=
  let c0_i32_88 : BitVec 32 := 0#32
  let c192_i32 : BitVec 32 := 192#32
  let v154 : BitVec 32 := Scalar.addi c0_i32_88 c192_i32
  let c1_i32_89 : BitVec 32 := 1#32
  ⟨c0_i32_88, v154, c1_i32_89⟩
@[reducible] def k0_t4_loop : Scf.Loop 32 :=
  let c0_i32_179 : BitVec 32 := 0#32
  let c24_i32_180 : BitVec 32 := 24#32
  let v355 : BitVec 32 := Scalar.addi c0_i32_179 c24_i32_180
  let c1_i32_181 : BitVec 32 := 1#32
  ⟨c0_i32_179, v355, c1_i32_181⟩
def k0_off7 (arg29 : BitVec 32) : Fin 1 → Nat :=
  let c1_i32_185 : BitVec 32 := 1#32
  let v367 : BitVec 32 := Scalar.addi arg29 c1_i32_185
  let v368 : Index := Scalar.indexCast v367
  ![v368.toNat]

def k0_chk2 (i : grid0.Coords) (arg29 : BitVec 32) : Prop :=
  (∀ (k0_h1 : k0_cond1 i = 1#1), ∀ a, (k0_off7 arg29) a + S1.size a ≤ S26.size a)
theorem k0_off7_inb : ∀ (i : grid0.Coords) (arg29 : BitVec 32) (k0_hw2 : k0_chk2 i arg29), ∀ (k0_h1 : k0_cond1 i = 1#1), ∀ a, (k0_off7 arg29) a + S1.size a ≤ S26.size a := fun i arg29 k0_hw2 k0_h1 => k0_hw2 k0_h1

def k0_off8 (k0_t3 : Fin k0_t3_loop.trips) : Fin 1 → Nat :=
  let c0_i32_88 : BitVec 32 := 0#32
  let c1_i32_89 : BitVec 32 := 1#32
  let arg26 : BitVec 32 := Scf.iv c0_i32_88 c1_i32_89 k0_t3
  let v357 : Index := Scalar.indexCast arg26
  ![v357.toNat]
def k0_off9 (v356 : BitVec 32) : Fin 1 → Nat :=
  let c1_i32_182 : BitVec 32 := 1#32
  let v359 : BitVec 32 := Scalar.addi v356 c1_i32_182
  let v360 : Index := Scalar.indexCast v359
  ![v360.toNat]

def k0_chk3 (i : grid0.Coords) (v356 : BitVec 32) : Prop :=
  (∀ (k0_h1 : k0_cond1 i = 1#1), ∀ a, (k0_off9 v356) a + S1.size a ≤ S26.size a)
theorem k0_off9_inb : ∀ (i : grid0.Coords) (v356 : BitVec 32) (k0_hw3 : k0_chk3 i v356), ∀ (k0_h1 : k0_cond1 i = 1#1), ∀ a, (k0_off9 v356) a + S1.size a ≤ S26.size a := fun i v356 k0_hw3 k0_h1 => k0_hw3 k0_h1

def k0_off10 (k0_t3 : Fin k0_t3_loop.trips) : Fin 1 → Nat :=
  let c0_i32_88 : BitVec 32 := 0#32
  let c1_i32_89 : BitVec 32 := 1#32
  let arg26 : BitVec 32 := Scf.iv c0_i32_88 c1_i32_89 k0_t3
  let v365 : Index := Scalar.indexCast arg26
  ![v365.toNat]
@[reducible] def k0_t5_loop : Scf.Loop 32 :=
  let c0_i32_91 : BitVec 32 := 0#32
  let c192_i32_92 : BitVec 32 := 192#32
  let v157 : BitVec 32 := Scalar.addi c0_i32_91 c192_i32_92
  let c1_i32_93 : BitVec 32 := 1#32
  ⟨c0_i32_91, v157, c1_i32_93⟩
def k0_off11 (k0_t5 : Fin k0_t5_loop.trips) : Fin 1 → Nat :=
  let c0_i32_91 : BitVec 32 := 0#32
  let c1_i32_93 : BitVec 32 := 1#32
  let arg26 : BitVec 32 := Scf.iv c0_i32_91 c1_i32_93 k0_t5
  let v473 : Index := Scalar.indexCast arg26
  ![v473.toNat]
def k0_mult1 (k0_t5 : Fin k0_t5_loop.trips) : BitVec 32 :=
  let c0_i32_91 : BitVec 32 := 0#32
  let c1_i32_93 : BitVec 32 := 1#32
  let arg26 : BitVec 32 := Scf.iv c0_i32_91 c1_i32_93 k0_t5
  let c8_i32_191 : BitVec 32 := 8#32
  let v477 : BitVec 32 := Scalar.muli arg26 c8_i32_191
  v477
def k0_off12 (k0_t5 : Fin k0_t5_loop.trips) : Fin 2 → Nat :=
  let c0_i32_91 : BitVec 32 := 0#32
  let c1_i32_93 : BitVec 32 := 1#32
  let arg26 : BitVec 32 := Scf.iv c0_i32_91 c1_i32_93 k0_t5
  let c8_i32_191 : BitVec 32 := 8#32
  let v477 : BitVec 32 := Scalar.muli arg26 c8_i32_191
  let v478 : BitVec 32 := v477
  let v479 : Index := Scalar.indexCast v478
  let c0_192 : Index := 0#32
  ![v479.toNat, 0]
@[reducible] def k0_t6_loop : Scf.Loop 32 :=
  let c0_i32_1 : BitVec 32 := 0#32
  let c24_i32 : BitVec 32 := 24#32
  let v3 : BitVec 32 := Scalar.addi c0_i32_1 c24_i32
  let c1_i32 : BitVec 32 := 1#32
  ⟨c0_i32_1, v3, c1_i32⟩
def k0_off13 (k0_t6 : Fin k0_t6_loop.trips) : Fin 1 → Nat :=
  let c0_i32_1 : BitVec 32 := 0#32
  let c1_i32 : BitVec 32 := 1#32
  let arg26 : BitVec 32 := Scf.iv c0_i32_1 c1_i32 k0_t6
  let v151 : Index := Scalar.indexCast arg26
  ![v151.toNat]
def k0_off14 (v152 : BitVec 32) : Fin 2 → Nat :=
  let c23_i32 : BitVec 32 := 23#32
  let v153 : BitVec 32 := Scalar.minsi v152 c23_i32
  let v154 : Index := Scalar.indexCast v153
  let c0_79 : Index := 0#32
  ![v154.toNat, 0]

def k0_chk4 (v152 : BitVec 32) : Prop :=
  (∀ a, (k0_off14 v152) a + S1x512.size a ≤ S24x512.size a)
theorem k0_off14_inb : ∀ (v152 : BitVec 32) (k0_hw4 : k0_chk4 v152), ∀ a, (k0_off14 v152) a + S1x512.size a ≤ S24x512.size a := fun v152 k0_hw4 => k0_hw4

def k0_off15 (k0_t6 : Fin k0_t6_loop.trips) : Fin 3 → Nat :=
  let c0_80 : Index := 0#32
  let c0_i32_1 : BitVec 32 := 0#32
  let c1_i32 : BitVec 32 := 1#32
  let arg26 : BitVec 32 := Scf.iv c0_i32_1 c1_i32 k0_t6
  let v157 : Index := Scalar.indexCast arg26
  let c0_81 : Index := 0#32
  ![0, v157.toNat, 0]
def k0_off16 (k0_t6 : Fin k0_t6_loop.trips) : Fin 3 → Nat :=
  let c1 : Index := 1#32
  let c0_i32_1 : BitVec 32 := 0#32
  let c1_i32 : BitVec 32 := 1#32
  let arg26 : BitVec 32 := Scf.iv c0_i32_1 c1_i32 k0_t6
  let v162 : Index := Scalar.indexCast arg26
  let c0_82 : Index := 0#32
  ![1, v162.toNat, 0]
def k0_off17 (k0_t6 : Fin k0_t6_loop.trips) : Fin 3 → Nat :=
  let c2 : Index := 2#32
  let c0_i32_1 : BitVec 32 := 0#32
  let c1_i32 : BitVec 32 := 1#32
  let arg26 : BitVec 32 := Scf.iv c0_i32_1 c1_i32 k0_t6
  let v167 : Index := Scalar.indexCast arg26
  let c0_83 : Index := 0#32
  ![2, v167.toNat, 0]
def k0_off18 (k0_t6 : Fin k0_t6_loop.trips) : Fin 3 → Nat :=
  let c3 : Index := 3#32
  let c0_i32_1 : BitVec 32 := 0#32
  let c1_i32 : BitVec 32 := 1#32
  let arg26 : BitVec 32 := Scf.iv c0_i32_1 c1_i32 k0_t6
  let v172 : Index := Scalar.indexCast arg26
  let c0_84 : Index := 0#32
  ![3, v172.toNat, 0]
def k0_off19 (i : grid0.Coords) (c0_i32_13 : BitVec 32) : Fin 2 → Nat :=
  let arg0 : BitVec 32 := BitVec.ofNat 32 (i 0).val
  let c4_i32_12 : BitVec 32 := 4#32
  let v30 : BitVec 32 := Scalar.muli arg0 c4_i32_12
  let v31 : BitVec 32 := Scalar.addi v30 c0_i32_13
  let v32 : Index := Scalar.indexCast v31
  let c0_14 : Index := 0#32
  ![v32.toNat, 0]
@[reducible] def k0_t7_loop : Scf.Loop 32 :=
  let c0_i32_68 : BitVec 32 := 0#32
  let c48_i32 : BitVec 32 := 48#32
  let v146 : BitVec 32 := Scalar.addi c0_i32_68 c48_i32
  let c1_i32_69 : BitVec 32 := 1#32
  ⟨c0_i32_68, v146, c1_i32_69⟩
def k0_mult2 (k0_t7 : Fin k0_t7_loop.trips) : BitVec 32 :=
  let c0_i32_68 : BitVec 32 := 0#32
  let c1_i32_69 : BitVec 32 := 1#32
  let arg26 : BitVec 32 := Scf.iv c0_i32_68 c1_i32_69 k0_t7
  let c32_i32 : BitVec 32 := 32#32
  let v151 : BitVec 32 := Scalar.muli arg26 c32_i32
  v151
def k0_off20 (k0_t7 : Fin k0_t7_loop.trips) : Fin 2 → Nat :=
  let c0_i32_68 : BitVec 32 := 0#32
  let c1_i32_69 : BitVec 32 := 1#32
  let arg26 : BitVec 32 := Scf.iv c0_i32_68 c1_i32_69 k0_t7
  let c32_i32 : BitVec 32 := 32#32
  let v151 : BitVec 32 := Scalar.muli arg26 c32_i32
  let v152 : BitVec 32 := v151
  let v153 : Index := Scalar.indexCast v152
  let c0_79 : Index := 0#32
  ![v153.toNat, 0]
def k0_off21 (k0_t7 : Fin k0_t7_loop.trips) : Fin 2 → Nat :=
  let c0_i32_68 : BitVec 32 := 0#32
  let c1_i32_69 : BitVec 32 := 1#32
  let arg26 : BitVec 32 := Scf.iv c0_i32_68 c1_i32_69 k0_t7
  let c32_i32 : BitVec 32 := 32#32
  let v151 : BitVec 32 := Scalar.muli arg26 c32_i32
  let v152 : BitVec 32 := v151
  let v155 : Index := Scalar.indexCast v152
  let c0_80 : Index := 0#32
  ![v155.toNat, 0]
def k0_off22 (k0_t7 : Fin k0_t7_loop.trips) : Fin 1 → Nat :=
  let c0_i32_68 : BitVec 32 := 0#32
  let c1_i32_69 : BitVec 32 := 1#32
  let arg26 : BitVec 32 := Scf.iv c0_i32_68 c1_i32_69 k0_t7
  let c4_i32_84 : BitVec 32 := 4#32
  let v169 : BitVec 32 := Scalar.muli arg26 c4_i32_84
  let c0_i32_85 : BitVec 32 := 0#32
  let v170 : BitVec 32 := Scalar.addi v169 c0_i32_85
  let v171 : Index := Scalar.indexCast v170
  ![v171.toNat]
def k0_mult3 (k0_t7 : Fin k0_t7_loop.trips) : BitVec 32 :=
  let c0_i32_68 : BitVec 32 := 0#32
  let c1_i32_69 : BitVec 32 := 1#32
  let arg26 : BitVec 32 := Scf.iv c0_i32_68 c1_i32_69 k0_t7
  let c4_i32_84 : BitVec 32 := 4#32
  let v169 : BitVec 32 := Scalar.muli arg26 c4_i32_84
  let c0_i32_85 : BitVec 32 := 0#32
  let v170 : BitVec 32 := Scalar.addi v169 c0_i32_85
  let c8_i32_86 : BitVec 32 := 8#32
  let v173 : BitVec 32 := Scalar.muli v170 c8_i32_86
  v173
def k0_off23 (k0_t7 : Fin k0_t7_loop.trips) : Fin 2 → Nat :=
  let c0_i32_68 : BitVec 32 := 0#32
  let c1_i32_69 : BitVec 32 := 1#32
  let arg26 : BitVec 32 := Scf.iv c0_i32_68 c1_i32_69 k0_t7
  let c4_i32_84 : BitVec 32 := 4#32
  let v169 : BitVec 32 := Scalar.muli arg26 c4_i32_84
  let c0_i32_85 : BitVec 32 := 0#32
  let v170 : BitVec 32 := Scalar.addi v169 c0_i32_85
  let c8_i32_86 : BitVec 32 := 8#32
  let v173 : BitVec 32 := Scalar.muli v170 c8_i32_86
  let v174 : BitVec 32 := v173
  let v175 : Index := Scalar.indexCast v174
  let c0_87 : Index := 0#32
  ![v175.toNat, 0]
def k0_off24 (v172 : BitVec 32) : Fin 3 → Nat :=
  let c0_88 : Index := 0#32
  let v177 : Index := Scalar.indexCast v172
  let c0_89 : Index := 0#32
  ![0, v177.toNat, 0]

def k0_off25 (v172 : BitVec 32) : Fin 3 → Nat :=
  let c1 : Index := 1#32
  let v188 : Index := Scalar.indexCast v172
  let c0_92 : Index := 0#32
  ![1, v188.toNat, 0]
def k0_off26 (v172 : BitVec 32) : Fin 3 → Nat :=
  let c2 : Index := 2#32
  let v199 : Index := Scalar.indexCast v172
  let c0_95 : Index := 0#32
  ![2, v199.toNat, 0]
def k0_off27 (v172 : BitVec 32) : Fin 3 → Nat :=
  let c3 : Index := 3#32
  let v210 : Index := Scalar.indexCast v172
  let c0_98 : Index := 0#32
  ![3, v210.toNat, 0]

def k0_chk5 (v172 : BitVec 32) : Prop :=
  (∀ a, (k0_off24 v172) a + S1x8x128.size a ≤ S4x32x128.size a) ∧
  (∀ a, (k0_off25 v172) a + S1x8x128.size a ≤ S4x32x128.size a) ∧
  (∀ a, (k0_off26 v172) a + S1x8x128.size a ≤ S4x32x128.size a) ∧
  (∀ a, (k0_off27 v172) a + S1x8x128.size a ≤ S4x32x128.size a)
theorem k0_off24_inb : ∀ (v172 : BitVec 32) (k0_hw5 : k0_chk5 v172), ∀ a, (k0_off24 v172) a + S1x8x128.size a ≤ S4x32x128.size a := fun v172 k0_hw5 => k0_hw5.1
theorem k0_off25_inb : ∀ (v172 : BitVec 32) (k0_hw5 : k0_chk5 v172), ∀ a, (k0_off25 v172) a + S1x8x128.size a ≤ S4x32x128.size a := fun v172 k0_hw5 => k0_hw5.2.1
theorem k0_off26_inb : ∀ (v172 : BitVec 32) (k0_hw5 : k0_chk5 v172), ∀ a, (k0_off26 v172) a + S1x8x128.size a ≤ S4x32x128.size a := fun v172 k0_hw5 => k0_hw5.2.2.1
theorem k0_off27_inb : ∀ (v172 : BitVec 32) (k0_hw5 : k0_chk5 v172), ∀ a, (k0_off27 v172) a + S1x8x128.size a ≤ S4x32x128.size a := fun v172 k0_hw5 => k0_hw5.2.2.2

def k0_off28 (k0_t7 : Fin k0_t7_loop.trips) : Fin 1 → Nat :=
  let c0_i32_68 : BitVec 32 := 0#32
  let c1_i32_69 : BitVec 32 := 1#32
  let arg26 : BitVec 32 := Scf.iv c0_i32_68 c1_i32_69 k0_t7
  let c4_i32_101 : BitVec 32 := 4#32
  let v222 : BitVec 32 := Scalar.muli arg26 c4_i32_101
  let c1_i32_102 : BitVec 32 := 1#32
  let v223 : BitVec 32 := Scalar.addi v222 c1_i32_102
  let v224 : Index := Scalar.indexCast v223
  ![v224.toNat]
def k0_mult4 (k0_t7 : Fin k0_t7_loop.trips) : BitVec 32 :=
  let c0_i32_68 : BitVec 32 := 0#32
  let c1_i32_69 : BitVec 32 := 1#32
  let arg26 : BitVec 32 := Scf.iv c0_i32_68 c1_i32_69 k0_t7
  let c4_i32_101 : BitVec 32 := 4#32
  let v222 : BitVec 32 := Scalar.muli arg26 c4_i32_101
  let c1_i32_102 : BitVec 32 := 1#32
  let v223 : BitVec 32 := Scalar.addi v222 c1_i32_102
  let c8_i32_103 : BitVec 32 := 8#32
  let v226 : BitVec 32 := Scalar.muli v223 c8_i32_103
  v226
def k0_off29 (k0_t7 : Fin k0_t7_loop.trips) : Fin 2 → Nat :=
  let c0_i32_68 : BitVec 32 := 0#32
  let c1_i32_69 : BitVec 32 := 1#32
  let arg26 : BitVec 32 := Scf.iv c0_i32_68 c1_i32_69 k0_t7
  let c4_i32_101 : BitVec 32 := 4#32
  let v222 : BitVec 32 := Scalar.muli arg26 c4_i32_101
  let c1_i32_102 : BitVec 32 := 1#32
  let v223 : BitVec 32 := Scalar.addi v222 c1_i32_102
  let c8_i32_103 : BitVec 32 := 8#32
  let v226 : BitVec 32 := Scalar.muli v223 c8_i32_103
  let v227 : BitVec 32 := v226
  let v228 : Index := Scalar.indexCast v227
  let c0_104 : Index := 0#32
  ![v228.toNat, 0]
def k0_off30 (v225 : BitVec 32) : Fin 3 → Nat :=
  let c0_105 : Index := 0#32
  let v230 : Index := Scalar.indexCast v225
  let c0_106 : Index := 0#32
  ![0, v230.toNat, 0]

def k0_off31 (v225 : BitVec 32) : Fin 3 → Nat :=
  let c1_109 : Index := 1#32
  let v241 : Index := Scalar.indexCast v225
  let c0_110 : Index := 0#32
  ![1, v241.toNat, 0]
def k0_off32 (v225 : BitVec 32) : Fin 3 → Nat :=
  let c2_113 : Index := 2#32
  let v252 : Index := Scalar.indexCast v225
  let c0_114 : Index := 0#32
  ![2, v252.toNat, 0]
def k0_off33 (v225 : BitVec 32) : Fin 3 → Nat :=
  let c3_117 : Index := 3#32
  let v263 : Index := Scalar.indexCast v225
  let c0_118 : Index := 0#32
  ![3, v263.toNat, 0]

def k0_chk6 (v225 : BitVec 32) : Prop :=
  (∀ a, (k0_off30 v225) a + S1x8x128.size a ≤ S4x32x128.size a) ∧
  (∀ a, (k0_off31 v225) a + S1x8x128.size a ≤ S4x32x128.size a) ∧
  (∀ a, (k0_off32 v225) a + S1x8x128.size a ≤ S4x32x128.size a) ∧
  (∀ a, (k0_off33 v225) a + S1x8x128.size a ≤ S4x32x128.size a)
theorem k0_off30_inb : ∀ (v225 : BitVec 32) (k0_hw6 : k0_chk6 v225), ∀ a, (k0_off30 v225) a + S1x8x128.size a ≤ S4x32x128.size a := fun v225 k0_hw6 => k0_hw6.1
theorem k0_off31_inb : ∀ (v225 : BitVec 32) (k0_hw6 : k0_chk6 v225), ∀ a, (k0_off31 v225) a + S1x8x128.size a ≤ S4x32x128.size a := fun v225 k0_hw6 => k0_hw6.2.1
theorem k0_off32_inb : ∀ (v225 : BitVec 32) (k0_hw6 : k0_chk6 v225), ∀ a, (k0_off32 v225) a + S1x8x128.size a ≤ S4x32x128.size a := fun v225 k0_hw6 => k0_hw6.2.2.1
theorem k0_off33_inb : ∀ (v225 : BitVec 32) (k0_hw6 : k0_chk6 v225), ∀ a, (k0_off33 v225) a + S1x8x128.size a ≤ S4x32x128.size a := fun v225 k0_hw6 => k0_hw6.2.2.2

def k0_off34 (k0_t7 : Fin k0_t7_loop.trips) : Fin 1 → Nat :=
  let c0_i32_68 : BitVec 32 := 0#32
  let c1_i32_69 : BitVec 32 := 1#32
  let arg26 : BitVec 32 := Scf.iv c0_i32_68 c1_i32_69 k0_t7
  let c4_i32_121 : BitVec 32 := 4#32
  let v275 : BitVec 32 := Scalar.muli arg26 c4_i32_121
  let c2_i32_122 : BitVec 32 := 2#32
  let v276 : BitVec 32 := Scalar.addi v275 c2_i32_122
  let v277 : Index := Scalar.indexCast v276
  ![v277.toNat]
def k0_mult5 (k0_t7 : Fin k0_t7_loop.trips) : BitVec 32 :=
  let c0_i32_68 : BitVec 32 := 0#32
  let c1_i32_69 : BitVec 32 := 1#32
  let arg26 : BitVec 32 := Scf.iv c0_i32_68 c1_i32_69 k0_t7
  let c4_i32_121 : BitVec 32 := 4#32
  let v275 : BitVec 32 := Scalar.muli arg26 c4_i32_121
  let c2_i32_122 : BitVec 32 := 2#32
  let v276 : BitVec 32 := Scalar.addi v275 c2_i32_122
  let c8_i32_123 : BitVec 32 := 8#32
  let v279 : BitVec 32 := Scalar.muli v276 c8_i32_123
  v279
def k0_off35 (k0_t7 : Fin k0_t7_loop.trips) : Fin 2 → Nat :=
  let c0_i32_68 : BitVec 32 := 0#32
  let c1_i32_69 : BitVec 32 := 1#32
  let arg26 : BitVec 32 := Scf.iv c0_i32_68 c1_i32_69 k0_t7
  let c4_i32_121 : BitVec 32 := 4#32
  let v275 : BitVec 32 := Scalar.muli arg26 c4_i32_121
  let c2_i32_122 : BitVec 32 := 2#32
  let v276 : BitVec 32 := Scalar.addi v275 c2_i32_122
  let c8_i32_123 : BitVec 32 := 8#32
  let v279 : BitVec 32 := Scalar.muli v276 c8_i32_123
  let v280 : BitVec 32 := v279
  let v281 : Index := Scalar.indexCast v280
  let c0_124 : Index := 0#32
  ![v281.toNat, 0]
def k0_off36 (v278 : BitVec 32) : Fin 3 → Nat :=
  let c0_125 : Index := 0#32
  let v283 : Index := Scalar.indexCast v278
  let c0_126 : Index := 0#32
  ![0, v283.toNat, 0]

def k0_off37 (v278 : BitVec 32) : Fin 3 → Nat :=
  let c1_129 : Index := 1#32
  let v294 : Index := Scalar.indexCast v278
  let c0_130 : Index := 0#32
  ![1, v294.toNat, 0]
def k0_off38 (v278 : BitVec 32) : Fin 3 → Nat :=
  let c2_133 : Index := 2#32
  let v305 : Index := Scalar.indexCast v278
  let c0_134 : Index := 0#32
  ![2, v305.toNat, 0]
def k0_off39 (v278 : BitVec 32) : Fin 3 → Nat :=
  let c3_137 : Index := 3#32
  let v316 : Index := Scalar.indexCast v278
  let c0_138 : Index := 0#32
  ![3, v316.toNat, 0]

def k0_chk7 (v278 : BitVec 32) : Prop :=
  (∀ a, (k0_off36 v278) a + S1x8x128.size a ≤ S4x32x128.size a) ∧
  (∀ a, (k0_off37 v278) a + S1x8x128.size a ≤ S4x32x128.size a) ∧
  (∀ a, (k0_off38 v278) a + S1x8x128.size a ≤ S4x32x128.size a) ∧
  (∀ a, (k0_off39 v278) a + S1x8x128.size a ≤ S4x32x128.size a)
theorem k0_off36_inb : ∀ (v278 : BitVec 32) (k0_hw7 : k0_chk7 v278), ∀ a, (k0_off36 v278) a + S1x8x128.size a ≤ S4x32x128.size a := fun v278 k0_hw7 => k0_hw7.1
theorem k0_off37_inb : ∀ (v278 : BitVec 32) (k0_hw7 : k0_chk7 v278), ∀ a, (k0_off37 v278) a + S1x8x128.size a ≤ S4x32x128.size a := fun v278 k0_hw7 => k0_hw7.2.1
theorem k0_off38_inb : ∀ (v278 : BitVec 32) (k0_hw7 : k0_chk7 v278), ∀ a, (k0_off38 v278) a + S1x8x128.size a ≤ S4x32x128.size a := fun v278 k0_hw7 => k0_hw7.2.2.1
theorem k0_off39_inb : ∀ (v278 : BitVec 32) (k0_hw7 : k0_chk7 v278), ∀ a, (k0_off39 v278) a + S1x8x128.size a ≤ S4x32x128.size a := fun v278 k0_hw7 => k0_hw7.2.2.2

def k0_off40 (k0_t7 : Fin k0_t7_loop.trips) : Fin 1 → Nat :=
  let c0_i32_68 : BitVec 32 := 0#32
  let c1_i32_69 : BitVec 32 := 1#32
  let arg26 : BitVec 32 := Scf.iv c0_i32_68 c1_i32_69 k0_t7
  let c4_i32_141 : BitVec 32 := 4#32
  let v328 : BitVec 32 := Scalar.muli arg26 c4_i32_141
  let c3_i32_142 : BitVec 32 := 3#32
  let v329 : BitVec 32 := Scalar.addi v328 c3_i32_142
  let v330 : Index := Scalar.indexCast v329
  ![v330.toNat]
def k0_mult6 (k0_t7 : Fin k0_t7_loop.trips) : BitVec 32 :=
  let c0_i32_68 : BitVec 32 := 0#32
  let c1_i32_69 : BitVec 32 := 1#32
  let arg26 : BitVec 32 := Scf.iv c0_i32_68 c1_i32_69 k0_t7
  let c4_i32_141 : BitVec 32 := 4#32
  let v328 : BitVec 32 := Scalar.muli arg26 c4_i32_141
  let c3_i32_142 : BitVec 32 := 3#32
  let v329 : BitVec 32 := Scalar.addi v328 c3_i32_142
  let c8_i32_143 : BitVec 32 := 8#32
  let v332 : BitVec 32 := Scalar.muli v329 c8_i32_143
  v332
def k0_off41 (k0_t7 : Fin k0_t7_loop.trips) : Fin 2 → Nat :=
  let c0_i32_68 : BitVec 32 := 0#32
  let c1_i32_69 : BitVec 32 := 1#32
  let arg26 : BitVec 32 := Scf.iv c0_i32_68 c1_i32_69 k0_t7
  let c4_i32_141 : BitVec 32 := 4#32
  let v328 : BitVec 32 := Scalar.muli arg26 c4_i32_141
  let c3_i32_142 : BitVec 32 := 3#32
  let v329 : BitVec 32 := Scalar.addi v328 c3_i32_142
  let c8_i32_143 : BitVec 32 := 8#32
  let v332 : BitVec 32 := Scalar.muli v329 c8_i32_143
  let v333 : BitVec 32 := v332
  let v334 : Index := Scalar.indexCast v333
  let c0_144 : Index := 0#32
  ![v334.toNat, 0]
def k0_off42 (v331 : BitVec 32) : Fin 3 → Nat :=
  let c0_145 : Index := 0#32
  let v336 : Index := Scalar.indexCast v331
  let c0_146 : Index := 0#32
  ![0, v336.toNat, 0]

def k0_off43 (v331 : BitVec 32) : Fin 3 → Nat :=
  let c1_149 : Index := 1#32
  let v347 : Index := Scalar.indexCast v331
  let c0_150 : Index := 0#32
  ![1, v347.toNat, 0]
def k0_off44 (v331 : BitVec 32) : Fin 3 → Nat :=
  let c2_153 : Index := 2#32
  let v358 : Index := Scalar.indexCast v331
  let c0_154 : Index := 0#32
  ![2, v358.toNat, 0]
def k0_off45 (v331 : BitVec 32) : Fin 3 → Nat :=
  let c3_157 : Index := 3#32
  let v369 : Index := Scalar.indexCast v331
  let c0_158 : Index := 0#32
  ![3, v369.toNat, 0]

def k0_chk8 (v331 : BitVec 32) : Prop :=
  (∀ a, (k0_off42 v331) a + S1x8x128.size a ≤ S4x32x128.size a) ∧
  (∀ a, (k0_off43 v331) a + S1x8x128.size a ≤ S4x32x128.size a) ∧
  (∀ a, (k0_off44 v331) a + S1x8x128.size a ≤ S4x32x128.size a) ∧
  (∀ a, (k0_off45 v331) a + S1x8x128.size a ≤ S4x32x128.size a)
theorem k0_off42_inb : ∀ (v331 : BitVec 32) (k0_hw8 : k0_chk8 v331), ∀ a, (k0_off42 v331) a + S1x8x128.size a ≤ S4x32x128.size a := fun v331 k0_hw8 => k0_hw8.1
theorem k0_off43_inb : ∀ (v331 : BitVec 32) (k0_hw8 : k0_chk8 v331), ∀ a, (k0_off43 v331) a + S1x8x128.size a ≤ S4x32x128.size a := fun v331 k0_hw8 => k0_hw8.2.1
theorem k0_off44_inb : ∀ (v331 : BitVec 32) (k0_hw8 : k0_chk8 v331), ∀ a, (k0_off44 v331) a + S1x8x128.size a ≤ S4x32x128.size a := fun v331 k0_hw8 => k0_hw8.2.2.1
theorem k0_off45_inb : ∀ (v331 : BitVec 32) (k0_hw8 : k0_chk8 v331), ∀ a, (k0_off45 v331) a + S1x8x128.size a ≤ S4x32x128.size a := fun v331 k0_hw8 => k0_hw8.2.2.2

def k0_off46 (k0_t7 : Fin k0_t7_loop.trips) : Fin 2 → Nat :=
  let c0_i32_68 : BitVec 32 := 0#32
  let c1_i32_69 : BitVec 32 := 1#32
  let arg26 : BitVec 32 := Scf.iv c0_i32_68 c1_i32_69 k0_t7
  let c32_i32 : BitVec 32 := 32#32
  let v151 : BitVec 32 := Scalar.muli arg26 c32_i32
  let v152 : BitVec 32 := v151
  let v387 : Index := Scalar.indexCast v152
  let c0_161 : Index := 0#32
  ![v387.toNat, 0]
def k0_off47 (k0_t7 : Fin k0_t7_loop.trips) : Fin 1 → Nat :=
  let c0_i32_68 : BitVec 32 := 0#32
  let c1_i32_69 : BitVec 32 := 1#32
  let arg26 : BitVec 32 := Scf.iv c0_i32_68 c1_i32_69 k0_t7
  let c4_i32_165 : BitVec 32 := 4#32
  let v404 : BitVec 32 := Scalar.muli arg26 c4_i32_165
  let c0_i32_166 : BitVec 32 := 0#32
  let v405 : BitVec 32 := Scalar.addi v404 c0_i32_166
  let v406 : Index := Scalar.indexCast v405
  ![v406.toNat]
def k0_mult7 (v407 : BitVec 32) : BitVec 32 :=
  let c8_i32_167 : BitVec 32 := 8#32
  let v408 : BitVec 32 := Scalar.muli v407 c8_i32_167
  v408

def k0_off48 (v407 : BitVec 32) : Fin 2 → Nat :=
  let c8_i32_167 : BitVec 32 := 8#32
  let v408 : BitVec 32 := Scalar.muli v407 c8_i32_167
  let v409 : BitVec 32 := v408
  let v410 : Index := Scalar.indexCast v409
  let c0_168 : Index := 0#32
  ![v410.toNat, 0]

def k0_chk9 (v407 : BitVec 32) : Prop :=
  (8 ∣ (k0_mult7 v407).toNat) ∧
  (∀ a, (k0_off48 v407) a + S8x512.size a ≤ S200x512.size a)
theorem k0_mult7_dvd : ∀ (v407 : BitVec 32) (k0_hw9 : k0_chk9 v407), 8 ∣ (k0_mult7 v407).toNat := fun v407 k0_hw9 => k0_hw9.1
theorem k0_off48_inb : ∀ (v407 : BitVec 32) (k0_hw9 : k0_chk9 v407), ∀ a, (k0_off48 v407) a + S8x512.size a ≤ S200x512.size a := fun v407 k0_hw9 => k0_hw9.2

def k0_off49 (k0_t7 : Fin k0_t7_loop.trips) : Fin 1 → Nat :=
  let c0_i32_68 : BitVec 32 := 0#32
  let c1_i32_69 : BitVec 32 := 1#32
  let arg26 : BitVec 32 := Scf.iv c0_i32_68 c1_i32_69 k0_t7
  let c4_i32_170 : BitVec 32 := 4#32
  let v418 : BitVec 32 := Scalar.muli arg26 c4_i32_170
  let c1_i32_171 : BitVec 32 := 1#32
  let v419 : BitVec 32 := Scalar.addi v418 c1_i32_171
  let v420 : Index := Scalar.indexCast v419
  ![v420.toNat]
def k0_mult8 (v421 : BitVec 32) : BitVec 32 :=
  let c8_i32_172 : BitVec 32 := 8#32
  let v422 : BitVec 32 := Scalar.muli v421 c8_i32_172
  v422

def k0_off50 (v421 : BitVec 32) : Fin 2 → Nat :=
  let c8_i32_172 : BitVec 32 := 8#32
  let v422 : BitVec 32 := Scalar.muli v421 c8_i32_172
  let v423 : BitVec 32 := v422
  let v424 : Index := Scalar.indexCast v423
  let c0_173 : Index := 0#32
  ![v424.toNat, 0]

def k0_chk10 (v421 : BitVec 32) : Prop :=
  (8 ∣ (k0_mult8 v421).toNat) ∧
  (∀ a, (k0_off50 v421) a + S8x512.size a ≤ S200x512.size a)
theorem k0_mult8_dvd : ∀ (v421 : BitVec 32) (k0_hw10 : k0_chk10 v421), 8 ∣ (k0_mult8 v421).toNat := fun v421 k0_hw10 => k0_hw10.1
theorem k0_off50_inb : ∀ (v421 : BitVec 32) (k0_hw10 : k0_chk10 v421), ∀ a, (k0_off50 v421) a + S8x512.size a ≤ S200x512.size a := fun v421 k0_hw10 => k0_hw10.2

def k0_off51 (k0_t7 : Fin k0_t7_loop.trips) : Fin 1 → Nat :=
  let c0_i32_68 : BitVec 32 := 0#32
  let c1_i32_69 : BitVec 32 := 1#32
  let arg26 : BitVec 32 := Scf.iv c0_i32_68 c1_i32_69 k0_t7
  let c4_i32_175 : BitVec 32 := 4#32
  let v432 : BitVec 32 := Scalar.muli arg26 c4_i32_175
  let c2_i32_176 : BitVec 32 := 2#32
  let v433 : BitVec 32 := Scalar.addi v432 c2_i32_176
  let v434 : Index := Scalar.indexCast v433
  ![v434.toNat]
def k0_mult9 (v435 : BitVec 32) : BitVec 32 :=
  let c8_i32_177 : BitVec 32 := 8#32
  let v436 : BitVec 32 := Scalar.muli v435 c8_i32_177
  v436

def k0_off52 (v435 : BitVec 32) : Fin 2 → Nat :=
  let c8_i32_177 : BitVec 32 := 8#32
  let v436 : BitVec 32 := Scalar.muli v435 c8_i32_177
  let v437 : BitVec 32 := v436
  let v438 : Index := Scalar.indexCast v437
  let c0_178 : Index := 0#32
  ![v438.toNat, 0]

def k0_chk11 (v435 : BitVec 32) : Prop :=
  (8 ∣ (k0_mult9 v435).toNat) ∧
  (∀ a, (k0_off52 v435) a + S8x512.size a ≤ S200x512.size a)
theorem k0_mult9_dvd : ∀ (v435 : BitVec 32) (k0_hw11 : k0_chk11 v435), 8 ∣ (k0_mult9 v435).toNat := fun v435 k0_hw11 => k0_hw11.1
theorem k0_off52_inb : ∀ (v435 : BitVec 32) (k0_hw11 : k0_chk11 v435), ∀ a, (k0_off52 v435) a + S8x512.size a ≤ S200x512.size a := fun v435 k0_hw11 => k0_hw11.2

def k0_off53 (k0_t7 : Fin k0_t7_loop.trips) : Fin 1 → Nat :=
  let c0_i32_68 : BitVec 32 := 0#32
  let c1_i32_69 : BitVec 32 := 1#32
  let arg26 : BitVec 32 := Scf.iv c0_i32_68 c1_i32_69 k0_t7
  let c4_i32_180 : BitVec 32 := 4#32
  let v446 : BitVec 32 := Scalar.muli arg26 c4_i32_180
  let c3_i32_181 : BitVec 32 := 3#32
  let v447 : BitVec 32 := Scalar.addi v446 c3_i32_181
  let v448 : Index := Scalar.indexCast v447
  ![v448.toNat]
def k0_mult10 (v449 : BitVec 32) : BitVec 32 :=
  let c8_i32_182 : BitVec 32 := 8#32
  let v450 : BitVec 32 := Scalar.muli v449 c8_i32_182
  v450

def k0_off54 (v449 : BitVec 32) : Fin 2 → Nat :=
  let c8_i32_182 : BitVec 32 := 8#32
  let v450 : BitVec 32 := Scalar.muli v449 c8_i32_182
  let v451 : BitVec 32 := v450
  let v452 : Index := Scalar.indexCast v451
  let c0_183 : Index := 0#32
  ![v452.toNat, 0]

def k0_chk12 (v449 : BitVec 32) : Prop :=
  (8 ∣ (k0_mult10 v449).toNat) ∧
  (∀ a, (k0_off54 v449) a + S8x512.size a ≤ S200x512.size a)
theorem k0_mult10_dvd : ∀ (v449 : BitVec 32) (k0_hw12 : k0_chk12 v449), 8 ∣ (k0_mult10 v449).toNat := fun v449 k0_hw12 => k0_hw12.1
theorem k0_off54_inb : ∀ (v449 : BitVec 32) (k0_hw12 : k0_chk12 v449), ∀ a, (k0_off54 v449) a + S8x512.size a ≤ S200x512.size a := fun v449 k0_hw12 => k0_hw12.2

@[reducible] def k0_t8_loop : Scf.Loop 32 :=
  let c0_i32_71 : BitVec 32 := 0#32
  let c24_i32_72 : BitVec 32 := 24#32
  let v148 : BitVec 32 := Scalar.addi c0_i32_71 c24_i32_72
  let c1_i32_73 : BitVec 32 := 1#32
  ⟨c0_i32_71, v148, c1_i32_73⟩
def k0_off55 (k0_t8 : Fin k0_t8_loop.trips) : Fin 1 → Nat :=
  let c0_i32_71 : BitVec 32 := 0#32
  let c1_i32_73 : BitVec 32 := 1#32
  let arg26 : BitVec 32 := Scf.iv c0_i32_71 c1_i32_73 k0_t8
  let v151 : Index := Scalar.indexCast arg26
  ![v151.toNat]
def k0_off56 (k0_t8 : Fin k0_t8_loop.trips) : Fin 1 → Nat :=
  let c0_i32_71 : BitVec 32 := 0#32
  let c1_i32_73 : BitVec 32 := 1#32
  let arg26 : BitVec 32 := Scf.iv c0_i32_71 c1_i32_73 k0_t8
  let c1_i32_79 : BitVec 32 := 1#32
  let v153 : BitVec 32 := Scalar.addi arg26 c1_i32_79
  let v154 : Index := Scalar.indexCast v153
  ![v154.toNat]
def k0_off57 (v152 : BitVec 32) : Fin 1 → Nat :=
  let c3_i32_80 : BitVec 32 := 3#32
  let v157 : BitVec 32 := Scalar.shrui v152 c3_i32_80
  let c191_i32 : BitVec 32 := 191#32
  let v158 : BitVec 32 := Scalar.minsi v157 c191_i32
  let v162 : Index := Scalar.indexCast v158
  ![v162.toNat]

def k0_off58 (v155 : BitVec 32) : Fin 1 → Nat :=
  let c1_i32_81 : BitVec 32 := 1#32
  let v159 : BitVec 32 := Scalar.subi v155 c1_i32_81
  let c0_i32_82 : BitVec 32 := 0#32
  let v160 : BitVec 32 := Scalar.maxsi v159 c0_i32_82
  let c3_i32_83 : BitVec 32 := 3#32
  let v161 : BitVec 32 := Scalar.shrui v160 c3_i32_83
  let v166 : Index := Scalar.indexCast v161
  ![v166.toNat]

def k0_mult11 (k0_t8 : Fin k0_t8_loop.trips) : BitVec 32 :=
  let c0_i32_71 : BitVec 32 := 0#32
  let c1_i32_73 : BitVec 32 := 1#32
  let arg26 : BitVec 32 := Scf.iv c0_i32_71 c1_i32_73 k0_t8
  let c8_i32_86 : BitVec 32 := 8#32
  let v172 : BitVec 32 := Scalar.muli arg26 c8_i32_86
  v172
def k0_off59 (k0_t8 : Fin k0_t8_loop.trips) : Fin 2 → Nat :=
  let c0_i32_71 : BitVec 32 := 0#32
  let c1_i32_73 : BitVec 32 := 1#32
  let arg26 : BitVec 32 := Scf.iv c0_i32_71 c1_i32_73 k0_t8
  let c8_i32_86 : BitVec 32 := 8#32
  let v172 : BitVec 32 := Scalar.muli arg26 c8_i32_86
  let v173 : BitVec 32 := v172
  let v174 : Index := Scalar.indexCast v173
  let c0_87 : Index := 0#32
  ![v174.toNat, 0]
def k0_mult12 (v152 : BitVec 32) : BitVec 32 :=
  let c3_i32_80 : BitVec 32 := 3#32
  let v157 : BitVec 32 := Scalar.shrui v152 c3_i32_80
  let c191_i32 : BitVec 32 := 191#32
  let v158 : BitVec 32 := Scalar.minsi v157 c191_i32
  let c8_i32_90 : BitVec 32 := 8#32
  let v181 : BitVec 32 := Scalar.muli v158 c8_i32_90
  v181
def k0_off60 (v152 : BitVec 32) : Fin 2 → Nat :=
  let c3_i32_80 : BitVec 32 := 3#32
  let v157 : BitVec 32 := Scalar.shrui v152 c3_i32_80
  let c191_i32 : BitVec 32 := 191#32
  let v158 : BitVec 32 := Scalar.minsi v157 c191_i32
  let c8_i32_90 : BitVec 32 := 8#32
  let v181 : BitVec 32 := Scalar.muli v158 c8_i32_90
  let v182 : BitVec 32 := v181
  let v183 : Index := Scalar.indexCast v182
  let c0_91 : Index := 0#32
  ![v183.toNat, 0]

def k0_chk13 (v152 : BitVec 32) : Prop :=
  (∀ a, (k0_off57 v152) a + S1.size a ≤ S192.size a) ∧
  (8 ∣ (k0_mult12 v152).toNat) ∧
  (∀ a, (k0_off60 v152) a + S8x512.size a ≤ S1536x512.size a)
theorem k0_off57_inb : ∀ (v152 : BitVec 32) (k0_hw13 : k0_chk13 v152), ∀ a, (k0_off57 v152) a + S1.size a ≤ S192.size a := fun v152 k0_hw13 => k0_hw13.1
theorem k0_mult12_dvd : ∀ (v152 : BitVec 32) (k0_hw13 : k0_chk13 v152), 8 ∣ (k0_mult12 v152).toNat := fun v152 k0_hw13 => k0_hw13.2.1
theorem k0_off60_inb : ∀ (v152 : BitVec 32) (k0_hw13 : k0_chk13 v152), ∀ a, (k0_off60 v152) a + S8x512.size a ≤ S1536x512.size a := fun v152 k0_hw13 => k0_hw13.2.2

def k0_mult13 (v155 : BitVec 32) : BitVec 32 :=
  let c1_i32_81 : BitVec 32 := 1#32
  let v159 : BitVec 32 := Scalar.subi v155 c1_i32_81
  let c0_i32_82 : BitVec 32 := 0#32
  let v160 : BitVec 32 := Scalar.maxsi v159 c0_i32_82
  let c3_i32_83 : BitVec 32 := 3#32
  let v161 : BitVec 32 := Scalar.shrui v160 c3_i32_83
  let c8_i32_96 : BitVec 32 := 8#32
  let v198 : BitVec 32 := Scalar.muli v161 c8_i32_96
  v198
def k0_off61 (v155 : BitVec 32) : Fin 2 → Nat :=
  let c1_i32_81 : BitVec 32 := 1#32
  let v159 : BitVec 32 := Scalar.subi v155 c1_i32_81
  let c0_i32_82 : BitVec 32 := 0#32
  let v160 : BitVec 32 := Scalar.maxsi v159 c0_i32_82
  let c3_i32_83 : BitVec 32 := 3#32
  let v161 : BitVec 32 := Scalar.shrui v160 c3_i32_83
  let c8_i32_96 : BitVec 32 := 8#32
  let v198 : BitVec 32 := Scalar.muli v161 c8_i32_96
  let v199 : BitVec 32 := v198
  let v200 : Index := Scalar.indexCast v199
  let c0_97 : Index := 0#32
  ![v200.toNat, 0]

def k0_chk14 (v155 : BitVec 32) : Prop :=
  (∀ a, (k0_off58 v155) a + S1.size a ≤ S192.size a) ∧
  (8 ∣ (k0_mult13 v155).toNat) ∧
  (∀ a, (k0_off61 v155) a + S8x512.size a ≤ S1536x512.size a)
theorem k0_off58_inb : ∀ (v155 : BitVec 32) (k0_hw14 : k0_chk14 v155), ∀ a, (k0_off58 v155) a + S1.size a ≤ S192.size a := fun v155 k0_hw14 => k0_hw14.1
theorem k0_mult13_dvd : ∀ (v155 : BitVec 32) (k0_hw14 : k0_chk14 v155), 8 ∣ (k0_mult13 v155).toNat := fun v155 k0_hw14 => k0_hw14.2.1
theorem k0_off61_inb : ∀ (v155 : BitVec 32) (k0_hw14 : k0_chk14 v155), ∀ a, (k0_off61 v155) a + S8x512.size a ≤ S1536x512.size a := fun v155 k0_hw14 => k0_hw14.2.2

def k0_off62 (k0_t8 : Fin k0_t8_loop.trips) : Fin 1 → Nat :=
  let c0_i32_71 : BitVec 32 := 0#32
  let c1_i32_73 : BitVec 32 := 1#32
  let arg26 : BitVec 32 := Scf.iv c0_i32_71 c1_i32_73 k0_t8
  let v212 : Index := Scalar.indexCast arg26
  ![v212.toNat]
def k0_off63 (v213 : BitVec 32) : Fin 2 → Nat :=
  let v214 : Index := Scalar.indexCast v213
  let c0_100 : Index := 0#32
  ![v214.toNat, 0]

def k0_chk15 (v213 : BitVec 32) : Prop :=
  (∀ a, (k0_off63 v213) a + S1x512.size a ≤ S32x512.size a)
theorem k0_off63_inb : ∀ (v213 : BitVec 32) (k0_hw15 : k0_chk15 v213), ∀ a, (k0_off63 v213) a + S1x512.size a ≤ S32x512.size a := fun v213 k0_hw15 => k0_hw15

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1536x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1536x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1536x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S12x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S12x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S24x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x3584 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S148x3584 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S24x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1536x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1536x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S1536x3584 : Shape := ⟨2, ![1536, 3584]⟩
abbrev S25 : Shape := ⟨1, ![25]⟩
abbrev S1536x18944 : Shape := ⟨2, ![1536, 18944]⟩
abbrev S1536 : Shape := ⟨1, ![1536]⟩
abbrev S24x18944 : Shape := ⟨2, ![24, 18944]⟩
abbrev S9472x3584 : Shape := ⟨2, ![9472, 3584]⟩
abbrev S148x3584 : Shape := ⟨2, ![148, 3584]⟩
abbrev S_ : Shape := ⟨0, ![]⟩
abbrev S148x1x3584 : Shape := ⟨3, ![148, 1, 3584]⟩
abbrev S148x64x3584 : Shape := ⟨3, ![148, 64, 3584]⟩
abbrev S1536x148x64 : Shape := ⟨3, ![1536, 148, 64]⟩
abbrev S1536x148x64x1 : Shape := ⟨4, ![1536, 148, 64, 1]⟩
abbrev S1536x148x64x2 : Shape := ⟨4, ![1536, 148, 64, 2]⟩
abbrev S23 : Shape := ⟨1, ![23]⟩
abbrev S1x23 : Shape := ⟨2, ![1, 23]⟩
abbrev S1536x1 : Shape := ⟨2, ![1536, 1]⟩
abbrev S1536x23 : Shape := ⟨2, ![1536, 23]⟩
abbrev S1x1536 : Shape := ⟨2, ![1, 1536]⟩
abbrev S24 : Shape := ⟨1, ![24]⟩
abbrev S24x1 : Shape := ⟨2, ![24, 1]⟩
abbrev S24x1536 : Shape := ⟨2, ![24, 1536]⟩
abbrev S24x1536x1 : Shape := ⟨3, ![24, 1536, 1]⟩
abbrev S1x1536x18944 : Shape := ⟨3, ![1, 1536, 18944]⟩
abbrev S24x1536x18944 : Shape := ⟨3, ![24, 1536, 18944]⟩

abbrev nBuf : Space → Nat
  | .hbm => 108
  | .vmem => 6
  | .smem => 0
  | _ => 0

abbrev bufTy : (tb : Table) → Fin (tcTables nBuf tb) → BufTy
  | .hbm, ⟨0, _⟩ => ⟨S1536x3584, .bf16⟩
  | .hbm, ⟨1, _⟩ => ⟨S25, .i32⟩
  | .hbm, ⟨2, _⟩ => ⟨S1536x18944, .fp8e4m3⟩
  | .hbm, ⟨3, _⟩ => ⟨S1536, .f32⟩
  | .hbm, ⟨4, _⟩ => ⟨S1536x18944, .fp8e4m3⟩
  | .hbm, ⟨5, _⟩ => ⟨S1536, .f32⟩
  | .hbm, ⟨6, _⟩ => ⟨S24x18944, .f32⟩
  | .hbm, ⟨7, _⟩ => ⟨S9472x3584, .i8⟩
  | .hbm, ⟨8, _⟩ => ⟨S148x3584, .f32⟩
  | .hbm, ⟨9, _⟩ => ⟨S9472x3584, .i32⟩
  | .hbm, ⟨10, _⟩ => ⟨S_, .i32⟩
  | .hbm, ⟨11, _⟩ => ⟨S9472x3584, .i32⟩
  | .hbm, ⟨12, _⟩ => ⟨S9472x3584, .i32⟩
  | .hbm, ⟨13, _⟩ => ⟨S_, .i32⟩
  | .hbm, ⟨14, _⟩ => ⟨S9472x3584, .i32⟩
  | .hbm, ⟨15, _⟩ => ⟨S9472x3584, .i32⟩
  | .hbm, ⟨16, _⟩ => ⟨S_, .i32⟩
  | .hbm, ⟨17, _⟩ => ⟨S9472x3584, .i32⟩
  | .hbm, ⟨18, _⟩ => ⟨S9472x3584, .i32⟩
  | .hbm, ⟨19, _⟩ => ⟨S_, .i32⟩
  | .hbm, ⟨20, _⟩ => ⟨S9472x3584, .i32⟩
  | .hbm, ⟨21, _⟩ => ⟨S9472x3584, .i32⟩
  | .hbm, ⟨22, _⟩ => ⟨S_, .i32⟩
  | .hbm, ⟨23, _⟩ => ⟨S9472x3584, .i32⟩
  | .hbm, ⟨24, _⟩ => ⟨S9472x3584, .i32⟩
  | .hbm, ⟨25, _⟩ => ⟨S_, .i32⟩
  | .hbm, ⟨26, _⟩ => ⟨S9472x3584, .i32⟩
  | .hbm, ⟨27, _⟩ => ⟨S9472x3584, .i32⟩
  | .hbm, ⟨28, _⟩ => ⟨S148x3584, .bf16⟩
  | .hbm, ⟨29, _⟩ => ⟨S148x1x3584, .bf16⟩
  | .hbm, ⟨30, _⟩ => ⟨S9472x3584, .bf16⟩
  | .hbm, ⟨31, _⟩ => ⟨S148x64x3584, .bf16⟩
  | .hbm, ⟨32, _⟩ => ⟨S148x64x3584, .bf16⟩
  | .hbm, ⟨33, _⟩ => ⟨S148x64x3584, .bf16⟩
  | .hbm, ⟨34, _⟩ => ⟨S9472x3584, .bf16⟩
  | .hbm, ⟨35, _⟩ => ⟨S148x64x3584, .bf16⟩
  | .hbm, ⟨36, _⟩ => ⟨S148x64x3584, .bf16⟩
  | .hbm, ⟨37, _⟩ => ⟨S148x64x3584, .bf16⟩
  | .hbm, ⟨38, _⟩ => ⟨S1536x148x64, .f32⟩
  | .hbm, ⟨39, _⟩ => ⟨S1536x148x64, .f32⟩
  | .hbm, ⟨40, _⟩ => ⟨S1536x148x64x1, .f32⟩
  | .hbm, ⟨41, _⟩ => ⟨S1536x148x64x1, .f32⟩
  | .hbm, ⟨42, _⟩ => ⟨S1536x148x64x2, .f32⟩
  | .hbm, ⟨43, _⟩ => ⟨S1536x18944, .f32⟩
  | .hbm, ⟨44, _⟩ => ⟨S1536, .i32⟩
  | .hbm, ⟨45, _⟩ => ⟨S23, .i32⟩
  | .hbm, ⟨46, _⟩ => ⟨S1x23, .i32⟩
  | .hbm, ⟨47, _⟩ => ⟨S1536x1, .i32⟩
  | .hbm, ⟨48, _⟩ => ⟨S1536x23, .i32⟩
  | .hbm, ⟨49, _⟩ => ⟨S1536x23, .i32⟩
  | .hbm, ⟨50, _⟩ => ⟨S1536x23, .i1⟩
  | .hbm, ⟨51, _⟩ => ⟨S1536x23, .i32⟩
  | .hbm, ⟨52, _⟩ => ⟨S_, .i32⟩
  | .hbm, ⟨53, _⟩ => ⟨S1536, .i32⟩
  | .hbm, ⟨54, _⟩ => ⟨S_, .i32⟩
  | .hbm, ⟨55, _⟩ => ⟨S1536, .i32⟩
  | .hbm, ⟨56, _⟩ => ⟨S1536, .i1⟩
  | .hbm, ⟨57, _⟩ => ⟨S_, .i32⟩
  | .hbm, ⟨58, _⟩ => ⟨S1536, .i32⟩
  | .hbm, ⟨59, _⟩ => ⟨S1536, .i32⟩
  | .hbm, ⟨60, _⟩ => ⟨S1536, .i32⟩
  | .hbm, ⟨61, _⟩ => ⟨S1536x1, .i32⟩
  | .hbm, ⟨62, _⟩ => ⟨S1536x18944, .f32⟩
  | .hbm, ⟨63, _⟩ => ⟨S1536x1, .f32⟩
  | .hbm, ⟨64, _⟩ => ⟨S1536x1, .f32⟩
  | .hbm, ⟨65, _⟩ => ⟨S1536x18944, .f32⟩
  | .hbm, ⟨66, _⟩ => ⟨S1536x18944, .f32⟩
  | .hbm, ⟨67, _⟩ => ⟨S1536x18944, .f32⟩
  | .hbm, ⟨68, _⟩ => ⟨S1536x18944, .f32⟩
  | .hbm, ⟨69, _⟩ => ⟨S_, .f32⟩
  | .hbm, ⟨70, _⟩ => ⟨S1536x18944, .f32⟩
  | .hbm, ⟨71, _⟩ => ⟨S1536x18944, .f32⟩
  | .hbm, ⟨72, _⟩ => ⟨S_, .f32⟩
  | .hbm, ⟨73, _⟩ => ⟨S1536x18944, .f32⟩
  | .hbm, ⟨74, _⟩ => ⟨S1536x18944, .f32⟩
  | .hbm, ⟨75, _⟩ => ⟨S1536x18944, .f32⟩
  | .hbm, ⟨76, _⟩ => ⟨S1536x18944, .f32⟩
  | .hbm, ⟨77, _⟩ => ⟨S1536x18944, .f32⟩
  | .hbm, ⟨78, _⟩ => ⟨S_, .f32⟩
  | .hbm, ⟨79, _⟩ => ⟨S1536x18944, .f32⟩
  | .hbm, ⟨80, _⟩ => ⟨S1536x18944, .f32⟩
  | .hbm, ⟨81, _⟩ => ⟨S1536x18944, .f32⟩
  | .hbm, ⟨82, _⟩ => ⟨S_, .f32⟩
  | .hbm, ⟨83, _⟩ => ⟨S1536x18944, .f32⟩
  | .hbm, ⟨84, _⟩ => ⟨S1536x18944, .f32⟩
  | .hbm, ⟨85, _⟩ => ⟨S1536x18944, .f32⟩
  | .hbm, ⟨86, _⟩ => ⟨S1536x18944, .f32⟩
  | .hbm, ⟨87, _⟩ => ⟨S1536x18944, .bf16⟩
  | .hbm, ⟨88, _⟩ => ⟨S1536x18944, .f32⟩
  | .hbm, ⟨89, _⟩ => ⟨S1536x18944, .bf16⟩
  | .hbm, ⟨90, _⟩ => ⟨S1x1536, .i32⟩
  | .hbm, ⟨91, _⟩ => ⟨S24, .i32⟩
  | .hbm, ⟨92, _⟩ => ⟨S24x1, .i32⟩
  | .hbm, ⟨93, _⟩ => ⟨S24x1536, .i32⟩
  | .hbm, ⟨94, _⟩ => ⟨S24x1536, .i32⟩
  | .hbm, ⟨95, _⟩ => ⟨S24x1536, .i1⟩
  | .hbm, ⟨96, _⟩ => ⟨S24x1536x1, .i1⟩
  | .hbm, ⟨97, _⟩ => ⟨S1536x18944, .f32⟩
  | .hbm, ⟨98, _⟩ => ⟨S1536x18944, .f32⟩
  | .hbm, ⟨99, _⟩ => ⟨S1x1536x18944, .f32⟩
  | .hbm, ⟨100, _⟩ => ⟨S_, .f32⟩
  | .hbm, ⟨101, _⟩ => ⟨S_, .f32⟩
  | .hbm, ⟨102, _⟩ => ⟨S24x1536x18944, .i1⟩
  | .hbm, ⟨103, _⟩ => ⟨S24x1536x18944, .f32⟩
  | .hbm, ⟨104, _⟩ => ⟨S24x1536x18944, .f32⟩
  | .hbm, ⟨105, _⟩ => ⟨S24x1536x18944, .f32⟩
  | .hbm, ⟨106, _⟩ => ⟨S_, .f32⟩
  | .hbm, ⟨107, _⟩ => ⟨S24x18944, .f32⟩
  | .local _ .vmem, ⟨0, _⟩ => ⟨S1536x18944, .fp8e4m3⟩
  | .local _ .vmem, ⟨1, _⟩ => ⟨S1536x1, .f32⟩
  | .local _ .vmem, ⟨2, _⟩ => ⟨S1536x18944, .fp8e4m3⟩
  | .local _ .vmem, ⟨3, _⟩ => ⟨S1536x1, .f32⟩
  | .local _ .vmem, ⟨4, _⟩ => ⟨S1536x18944, .f32⟩
  | .local _ .vmem, ⟨5, _⟩ => ⟨S1536x18944, .f32⟩
  | _, _ => ⟨S1536x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_c_1 : Ref sig .tc := ⟨.hbm, 16, rfl⟩
abbrev main_v5 : Ref sig .tc := ⟨.hbm, 17, rfl⟩
abbrev main_v6 : Ref sig .tc := ⟨.hbm, 18, rfl⟩
abbrev main_c_2 : Ref sig .tc := ⟨.hbm, 19, rfl⟩
abbrev main_v7 : Ref sig .tc := ⟨.hbm, 20, rfl⟩
abbrev main_v8 : Ref sig .tc := ⟨.hbm, 21, rfl⟩
abbrev main_c_3 : Ref sig .tc := ⟨.hbm, 22, rfl⟩
abbrev main_v9 : Ref sig .tc := ⟨.hbm, 23, rfl⟩
abbrev main_v10 : Ref sig .tc := ⟨.hbm, 24, rfl⟩
abbrev main_c_4 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_5 : Ref sig .tc := ⟨.hbm, 52, rfl⟩
abbrev main_v37 : Ref sig .tc := ⟨.hbm, 53, rfl⟩
abbrev main_c_6 : Ref sig .tc := ⟨.hbm, 54, rfl⟩
abbrev main_v38 : Ref sig .tc := ⟨.hbm, 55, rfl⟩
abbrev main_v39 : Ref sig .tc := ⟨.hbm, 56, rfl⟩
abbrev main_c_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47_0 : Ref sig .tc := ⟨.hbm, 65, rfl⟩
abbrev main_v47_1 : Ref sig .tc := ⟨.hbm, 66, rfl⟩
abbrev main_v48 : Ref sig .tc := ⟨.hbm, 67, rfl⟩
abbrev main_v49 : Ref sig .tc := ⟨.hbm, 68, rfl⟩
abbrev main_cst : Ref sig .tc := ⟨.hbm, 69, rfl⟩
abbrev main_v50 : Ref sig .tc := ⟨.hbm, 70, rfl⟩
abbrev main_v51 : Ref sig .tc := ⟨.hbm, 71, rfl⟩
abbrev main_cst_8 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_9 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_10 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_11 : Ref sig .tc := ⟨.hbm, 100, rfl⟩
abbrev main_call0_v0 : Ref sig .tc := ⟨.hbm, 101, rfl⟩
abbrev main_call0_v1 : Ref sig .tc := ⟨.hbm, 102, rfl⟩
abbrev main_call0_v2 : Ref sig .tc := ⟨.hbm, 103, rfl⟩
abbrev main_call0_v3 : Ref sig .tc := ⟨.hbm, 104, rfl⟩
abbrev main_v77 : Ref sig .tc := ⟨.hbm, 105, rfl⟩
abbrev main_cst_12 : Ref sig .tc := ⟨.hbm, 106, rfl⟩
abbrev main_v78 : Ref sig .tc := ⟨.hbm, 107, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1536x18944 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x18944 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x18944 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x18944 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Rank.lean ====
/- The tables of tasks, over the natural numbers: what the compaction of the 24 tasks to those that own a row makes of
   two tables `start` and `task`, and how a row's task and its rank among the tasks that own a row are read back. -/
module

public import Idealize.ShloMosaic.Lib.Exec

@[expose] public section

namespace Cert.Rank

/-- The first row of task `t`: the first task starts at row 0, whatever the table says. -/
def sOf (off : ℕ → ℕ) (t : ℕ) : ℕ := if t = 0 then 0 else off t
/-- The row after the last one of task `t`: the last task ends at row 1536, whatever the table says. -/
def eOf (off : ℕ → ℕ) (t : ℕ) : ℕ := if t = 23 then 1536 else off (t + 1)
/-- Task `t` owns a row. -/
def Live (off : ℕ → ℕ) (t : ℕ) : Prop := sOf off t < eOf off t
instance (off : ℕ → ℕ) (t : ℕ) : Decidable (Live off t) := inferInstanceAs (Decidable (_ < _))
/-- How many tasks before `t` own a row. -/
def cnt (off : ℕ → ℕ) : ℕ → ℕ
  | 0 => 0
  | t + 1 => cnt off t + if Live off t then 1 else 0
/-- The task of a row: how many of the 23 inner offsets it has reached. -/
def tsk (off : ℕ → ℕ) (row : ℕ) : ℕ := ((Finset.range 23).filter fun i => off (i + 1) ≤ row).card
/-- The rank of a row's task among the tasks that own a row. -/
def R (off : ℕ → ℕ) (row : ℕ) : ℕ := cnt off (tsk off row)
/-- The precondition: the inner offsets do not decrease and stay within 1536. -/
def Sorted (off : ℕ → ℕ) : Prop := ∀ i, 1 ≤ i → i ≤ 23 → off i ≤ if i = 23 then 1536 else off (i + 1)

/-- The two tables after `k` tasks: a task that owns a row is written at its rank, and the places from the count on are
as the fill left them. -/
def Comp (off : ℕ → ℕ) (k : ℕ) (start task : ℕ → ℕ) : Prop :=
  (∀ t, t < k → Live off t → start (cnt off t) = sOf off t ∧ task (cnt off t) = t)
    ∧ ∀ i, cnt off k ≤ i → i ≤ 24 → start i = 1536 ∧ task i = 24

/-- What the rest of the kernel needs of the two tables. -/
structure Tab (off start task : ℕ → ℕ) : Prop where
  le : ∀ i, i ≤ 24 → ∀ row, row < 1536 → (start i ≤ row ↔ i ≤ R off row)
  task_R : ∀ row, row < 1536 → task (R off row) = tsk off row
  dead : ∀ i, i < 24 → (∃ row, row < 1536 ∧ R off row = i) ∨ task i = 24
  start_le : ∀ i, i ≤ 24 → start i ≤ 1536
  task_le : ∀ i, i ≤ 24 → task i ≤ 24

variable {off : ℕ → ℕ}

theorem cnt_mono {t t' : ℕ} (h : t ≤ t') : cnt off t ≤ cnt off t' := by
  induction h with
  | refl => exact le_rfl
  | step _ ih => exact ih.trans (Nat.le_add_right _ _)

theorem cnt_lt {t t' : ℕ} (h : t < t') (hl : Live off t) : cnt off t < cnt off t' := by
  have h1 : cnt off (t + 1) = cnt off t + 1 := by simp [cnt, hl]
  have := cnt_mono (off := off) (Nat.succ_le_of_lt h)
  simp only [Nat.succ_eq_add_one] at this
  omega

theorem cnt_le (t : ℕ) : cnt off t ≤ t := by
  induction t with
  | zero => exact le_rfl
  | succ t ih => unfold cnt; split <;> omega

/-- Each place under the count is the rank of a task that owns a row. -/
theorem exists_cnt {k i : ℕ} (h : i < cnt off k) : ∃ t, t < k ∧ Live off t ∧ cnt off t = i := by
  induction k with
  | zero => simp [cnt] at h
  | succ k ih =>
    by_cases hk : i < cnt off k
    · obtain ⟨t, h1, h2, h3⟩ := ih hk; exact ⟨t, by omega, h2, h3⟩
    · unfold cnt at h
      split at h
      · exact ⟨k, by omega, ‹_›, by omega⟩
      · omega

theorem comp_zero {start task : ℕ → ℕ} (h : ∀ i, i ≤ 24 → start i = 1536 ∧ task i = 24) : Comp off 0 start task :=
  ⟨fun _ h => absurd h (Nat.not_lt_zero _), fun i _ hi => h i hi⟩

/-- One trip of the compaction: the place `cnt k` is overwritten where task `k` owns a row. -/
theorem comp_step {k : ℕ} {start task start' task' : ℕ → ℕ} (H : Comp off k start task)
    (hs : ∀ i, i ≤ 24 → start' i = if i = cnt off k then (if Live off k then sOf off k else start i) else start i)
    (ht : ∀ i, i ≤ 24 → task' i = if i = cnt off k then (if Live off k then k else task i) else task i)
    (hk : k < 24) : Comp off (k + 1) start' task' := by
  refine ⟨fun t h hl => ?_, fun i h h24 => ?_⟩
  · have hc : cnt off t ≤ 24 := (cnt_le t).trans (by omega)
    rw [hs _ hc, ht _ hc]
    by_cases e : t = k
    · subst e; simp [hl]
    · have hlt : t < k := by omega
      have := cnt_lt hlt hl
      rw [if_neg (by omega), if_neg (by omega)]
      exact H.1 t hlt hl
  · rw [hs i h24, ht i h24]
    unfold cnt at h
    by_cases hl : Live off k
    · rw [if_pos hl] at h
      rw [if_neg (by omega), if_neg (by omega)]
      exact H.2 i (by omega) h24
    · simp only [if_neg hl, ite_self]
      exact H.2 i (by omega) h24

theorem off_mono (hS : Sorted off) {i j : ℕ} (hi : 1 ≤ i) (hij : i ≤ j) (hj : j ≤ 23) : off i ≤ off j := by
  induction hij with
  | refl => exact le_rfl
  | @step m hm ih =>
    simp only [Nat.succ_eq_add_one] at *
    have h := hS m (le_trans hi hm) (by omega)
    rw [if_neg (by omega)] at h
    exact (ih (by omega)).trans h

theorem off_le (hS : Sorted off) {i : ℕ} (hi : 1 ≤ i) (h : i ≤ 23) : off i ≤ 1536 := by
  have h1 := off_mono hS hi h le_rfl
  have h2 := hS 23 (by omega) le_rfl
  rw [if_pos rfl] at h2
  omega

theorem tsk_le (row : ℕ) : tsk off row ≤ 23 := by
  unfold tsk
  exact (Finset.card_filter_le _ _).trans (by simp)

/-- An inner offset is reached exactly when its number is at most the row's task. -/
theorem le_tsk_iff (hS : Sorted off) (row : ℕ) {i : ℕ} (hi : 1 ≤ i) (h : i ≤ 23) : off i ≤ row ↔ i ≤ tsk off row := by
  constructor
  · intro ho
    have hsub : Finset.range i ⊆ (Finset.range 23).filter fun i => off (i + 1) ≤ row := by
      intro j hj
      rw [Finset.mem_range] at hj
      rw [Finset.mem_filter, Finset.mem_range]
      exact ⟨by omega, (off_mono hS (by omega) (by omega) h).trans ho⟩
    have := Finset.card_le_card hsub
    rwa [Finset.card_range] at this
  · intro hle
    by_contra ho
    have hsub : ((Finset.range 23).filter fun i => off (i + 1) ≤ row) ⊆ Finset.range (i - 1) := by
      intro j hj
      rw [Finset.mem_filter, Finset.mem_range] at hj
      rw [Finset.mem_range]
      by_contra hn
      exact ho ((off_mono hS hi (by omega) (by omega)).trans hj.2)
    have := Finset.card_le_card hsub
    rw [Finset.card_range] at this
    unfold tsk at hle
    omega

theorem sOf_tsk_le (hS : Sorted off) (row : ℕ) : sOf off (tsk off row) ≤ row := by
  unfold sOf
  split
  · omega
  · exact (le_tsk_iff hS row (by omega) (tsk_le row)).2 le_rfl

theorem lt_eOf_tsk (hS : Sorted off) {row : ℕ} (hr : row < 1536) : row < eOf off (tsk off row) := by
  unfold eOf
  split
  · exact hr
  · have := tsk_le (off := off) row
    by_contra hn
    have := (le_tsk_iff hS row (i := tsk off row + 1) (by omega) (by omega)).1 (by omega)
    omega

theorem live_tsk (hS : Sorted off) {row : ℕ} (hr : row < 1536) : Live off (tsk off row) :=
  lt_of_le_of_lt (sOf_tsk_le hS row) (lt_eOf_tsk hS hr)

theorem eOf_le_sOf (hS : Sorted off) {t t' : ℕ} (h : t < t') (h' : t' ≤ 23) : eOf off t ≤ sOf off t' := by
  unfold eOf sOf
  rw [if_neg (by omega), if_neg (by omega)]
  exact off_mono hS (by omega) (by omega) h'

theorem sOf_mono (hS : Sorted off) {t t' : ℕ} (h : t ≤ t') (h' : t' ≤ 23) : sOf off t ≤ sOf off t' := by
  unfold sOf
  split
  · omega
  · rw [if_neg (by omega)]; exact off_mono hS (by omega) h h'

theorem eOf_le (hS : Sorted off) {t : ℕ} (h : t ≤ 23) : eOf off t ≤ 1536 := by
  unfold eOf
  split
  · exact le_rfl
  · exact off_le hS (by omega) (by omega)

theorem R_lt (hS : Sorted off) {row : ℕ} (hr : row < 1536) : R off row < cnt off 24 :=
  cnt_lt (by have := tsk_le (off := off) row; omega) (live_tsk hS hr)

theorem R_le (row : ℕ) : R off row ≤ 23 := (cnt_le _).trans (tsk_le row)

theorem sOf_le_iff (hS : Sorted off) {row t : ℕ} (hr : row < 1536) (ht : t < 24) (hl : Live off t) :
    sOf off t ≤ row ↔ cnt off t ≤ R off row := by
  have hT := tsk_le (off := off) row
  by_cases h : t ≤ tsk off row
  · exact ⟨fun _ => cnt_mono h, fun _ => (sOf_mono hS h hT).trans (sOf_tsk_le hS row)⟩
  · have h1 := eOf_le_sOf hS (t := tsk off row) (t' := t) (by omega) (by omega)
    have h2 := lt_eOf_tsk hS hr
    have h3 : R off row < cnt off t := cnt_lt (by omega) (live_tsk hS hr)
    constructor <;> intro <;> omega

/-- The row that a task owning a row starts at belongs to it. -/
theorem tsk_sOf (hS : Sorted off) {t : ℕ} (ht : t < 24) (hl : Live off t) : tsk off (sOf off t) = t := by
  have hr : sOf off t < 1536 := lt_of_lt_of_le hl (eOf_le hS (by omega))
  have hT := tsk_le (off := off) (sOf off t)
  have h1 := sOf_tsk_le hS (sOf off t)
  have h2 := lt_eOf_tsk hS hr
  rcases Nat.lt_trichotomy (tsk off (sOf off t)) t with h | h | h
  · have := eOf_le_sOf hS h (by omega); omega
  · exact h
  · have := eOf_le_sOf hS h hT
    have : sOf off t < eOf off t := hl
    omega

theorem tab_of_comp (hS : Sorted off) {start task : ℕ → ℕ} (H : Comp off 24 start task) : Tab off start task := by
  have key : ∀ i, i ≤ 24 → (∃ t, t < 24 ∧ Live off t ∧ cnt off t = i) ∨ (cnt off 24 ≤ i ∧ start i = 1536 ∧ task i = 24) := by
    intro i hi
    by_cases h : i < cnt off 24
    · exact .inl (exists_cnt h)
    · exact .inr ⟨by omega, H.2 i (by omega) hi⟩
  refine ⟨fun i hi row hr => ?_, fun row hr => ?_, fun i hi => ?_, fun i hi => ?_, fun i hi => ?_⟩
  · rcases key i hi with ⟨t, ht, hl, rfl⟩ | ⟨h1, h2, -⟩
    · rw [(H.1 t ht hl).1]; exact sOf_le_iff hS hr ht hl
    · have := R_lt hS hr
      rw [h2]; constructor <;> intro <;> omega
  · exact (H.1 _ (by have := tsk_le (off := off) row; omega) (live_tsk hS hr)).2
  · rcases key i (by omega) with ⟨t, ht, hl, rfl⟩ | ⟨-, -, h⟩
    · left
      refine ⟨sOf off t, lt_of_lt_of_le hl (eOf_le hS (by omega)), ?_⟩
      unfold R; rw [tsk_sOf hS ht hl]
    · exact .inr h
  · rcases key i hi with ⟨t, ht, hl, rfl⟩ | ⟨-, h, -⟩
    · rw [(H.1 t ht hl).1]; exact (le_of_lt hl).trans (eOf_le hS (by omega))
    · exact h.le
  · rcases key i hi with ⟨t, ht, hl, rfl⟩ | ⟨-, -, h⟩
    · rw [(H.1 t ht hl).2]; omega
    · exact h.le

theorem tsk_mono {row row' : ℕ} (h : row ≤ row') : tsk off row ≤ tsk off row' :=
  Finset.card_le_card (Finset.monotone_filter_right _ fun _ _ hi => le_trans hi h)

theorem R_mono {row row' : ℕ} (h : row ≤ row') : R off row ≤ R off row' := cnt_mono (tsk_mono h)

/-- From one row to the next the rank grows by at most one. -/
theorem R_succ_le (hS : Sorted off) {row : ℕ} (hr : row + 1 < 1536) : R off (row + 1) ≤ R off row + 1 := by
  by_contra hn
  have hlt := R_lt hS hr
  obtain ⟨t, ht, hl, hc⟩ := exists_cnt (off := off) (k := 24) (i := R off row + 1) (by omega)
  obtain ⟨t', ht', hl', hc'⟩ := exists_cnt (off := off) (k := 24) (i := R off row + 2) (by omega)
  have h1 := (sOf_le_iff hS (row := row) (by omega) ht hl).not.2 (by omega)
  have h2 := (sOf_le_iff hS (row := row + 1) (by omega) ht' hl').2 (by omega)
  have htt : t < t' := by
    by_contra h
    have := cnt_mono (off := off) (t := t') (t' := t) (by omega)
    omega
  have h3 := eOf_le_sOf hS htt (by omega)
  have h4 : sOf off t < eOf off t := hl
  omega

theorem R_add_le (hS : Sorted off) (row n : ℕ) (hr : row + n < 1536) : R off (row + n) ≤ R off row + n := by
  induction n with
  | zero => exact le_rfl
  | succ n ih =>
    have := R_succ_le hS (row := row + n) (by omega)
    have := ih (by omega)
    rw [← Nat.add_assoc]; omega

/-- Two rows of one task have one rank, and of one rank one task. -/
theorem R_eq_iff (hS : Sorted off) {row row' : ℕ} (hr : row < 1536) (hr' : row' < 1536) :
    R off row = R off row' ↔ tsk off row = tsk off row' := by
  refine ⟨fun h => ?_, fun h => by unfold R; rw [h]⟩
  rcases Nat.lt_trichotomy (tsk off row) (tsk off row') with h1 | h1 | h1
  · have : R off row < R off row' := cnt_lt h1 (live_tsk hS hr); omega
  · exact h1
  · have : R off row' < R off row := cnt_lt h1 (live_tsk hS hr'); omega

/-- The slot of block `b`: the rank of its rows where they all share one, and 24 where they do not. -/
def SL (off : ℕ → ℕ) (b : ℕ) : ℕ := if R off (8 * b + 7) = R off (8 * b) then R off (8 * b) else 24

theorem SL_le (b : ℕ) : SL off b ≤ 24 := by
  unfold SL; split
  · exact (R_le _).trans (by omega)
  · exact le_rfl

end Cert.Rank

end
-- ==== Proof.Words.lean ====
/- Tables of words read as functions of the natural numbers: a load of one word, a store of one word, and the integer
   operations on small words. -/
module

public import Idealize.ShloMosaic.Lib.Exec
public import Idealize.ShloMosaic.Lib.VecWindow
public import Idealize.ShloMosaic.Lib.WritesUnit
public import Idealize.ShloMosaic.Lib.WordCmp

@[expose] public section

namespace Cert.Words

open Idealize.ShloMosaic Idealize.ShloMosaic.View

/-- The table `x` of `d` words as a function of the natural numbers, zero past its end. -/
def nw {d : ℕ} (x : (⟨1, ![d]⟩ : Shape).Idx → BitVec 32) (n : ℕ) : ℕ :=
  if h : n < d then (x fun a => ⟨n, by have : a = 0 := Subsingleton.elim _ _; subst this; exact h⟩).toNat else 0

variable {sig : RefSig} {κ : Kind} {sp : Space} {F : FTy → Type} {d : ℕ}

/-- A load of one word at place `n`. -/
theorem toNat_readAt (v : View sig κ sp ⟨1, ![d]⟩ .i32) (f : v.ty.Contents (Elt F)) {off size : Fin 1 → ℕ}
    (inb : ∀ a, off a + size a ≤ (⟨1, ![d]⟩ : Shape).size a) (j : (Rect.unit (s := ⟨1, ![d]⟩) off size inb).toLoadRect.shape.Idx)
    {n : ℕ} (h : off = ![n]) (hs : size = ![1]) :
    (v.readAt (Elt F) (Rect.unit (s := ⟨1, ![d]⟩) off size inb).toLoadRect f j : BitVec 32).toNat
      = nw (v.read (Elt F) f : (⟨1, ![d]⟩ : Shape).Idx → BitVec 32) n := by
  subst h hs
  have hn : n < d := by have := inb 0; simp at this; omega
  unfold nw
  rw [dif_pos hn]
  refine congrArg BitVec.toNat (congrArg (v.read (Elt F) f) (funext fun a => Fin.ext ?_))
  have : a = 0 := Subsingleton.elim _ _
  subst this
  show n + 1 * (j 0).val = n
  have : (j 0).val < 1 := (j 0).isLt
  omega

/-- A store of one word at place `n`, read back at place `i`. -/
theorem nw_writes_cons (v : View sig κ sp ⟨1, ![d]⟩ .i32) (f : v.ty.Contents (Elt F)) {off size : Fin 1 → ℕ}
    (inb : ∀ a, off a + size a ≤ (⟨1, ![d]⟩ : Shape).size a) (w : BitVec 32)
    (L : List (Piece (Elt F) ⟨1, ![d]⟩ .i32)) {n i : ℕ} (h : off = ![n]) (hs : size = ![1]) (hi : i < d) :
    nw (v.read (Elt F) (v.writes (Elt F) f ((⟨Rect.unit (s := ⟨1, ![d]⟩) off size inb, fun _ => w⟩ : Piece (Elt F) ⟨1, ![d]⟩ .i32) :: L))
        : (⟨1, ![d]⟩ : Shape).Idx → BitVec 32) i
      = if i = n then w.toNat else nw (v.read (Elt F) (v.writes (Elt F) f L) : (⟨1, ![d]⟩ : Shape).Idx → BitVec 32) i := by
  subst hs
  unfold nw
  rw [dif_pos hi, dif_pos hi]
  by_cases e : i = n
  · subst e
    rw [if_pos rfl]
    exact congrArg BitVec.toNat (read_writes_cons_unit_of_mem v f inb (fun _ => w) L _ (fun _ => ⟨0, by simp⟩) h (by
      intro a; have : a = 0 := Subsingleton.elim _ _
      subst this; simp))
  · rw [if_neg e]
    refine congrArg BitVec.toNat (read_writes_cons_unit_of_not_mem v f inb (fun _ => w) L _ h 0 ?_)
    simp only [Matrix.cons_val_zero, Matrix.cons_val_fin_one]; omega

/-- A small word reads, signed, as its natural number. -/
theorem toInt_of_lt {x : BitVec 32} (h : x.toNat < 2 ^ 31) : x.toInt = (x.toNat : Int) :=
  WordCmp.toInt_eq_toNat_of_lt_half (w := 32) h

/-- Signed comparisons of small words are the comparisons of their natural numbers. -/
theorem cmpi_sgt {x y : BitVec 32} (hx : x.toNat < 2 ^ 31) (hy : y.toNat < 2 ^ 31) :
    Scalar.cmpi .sgt x y = if y.toNat < x.toNat then 1#1 else 0#1 := by
  show IntOp.cmpi .sgt x y = _
  rw [WordCmp.cmpi_sgt_eq, WordCmp.ofBool_decide_eq_ite, toInt_of_lt hx, toInt_of_lt hy]; simp
theorem cmpi_sge {x y : BitVec 32} (hx : x.toNat < 2 ^ 31) (hy : y.toNat < 2 ^ 31) :
    Scalar.cmpi .sge x y = if y.toNat ≤ x.toNat then 1#1 else 0#1 := by
  show IntOp.cmpi .sge x y = _
  rw [WordCmp.cmpi_sge_eq, WordCmp.ofBool_decide_eq_ite, toInt_of_lt hx, toInt_of_lt hy]; simp
theorem cmpi_sle {x y : BitVec 32} (hx : x.toNat < 2 ^ 31) (hy : y.toNat < 2 ^ 31) :
    Scalar.cmpi .sle x y = if x.toNat ≤ y.toNat then 1#1 else 0#1 := by
  show IntOp.cmpi .sle x y = _
  rw [WordCmp.cmpi_sle_eq, WordCmp.ofBool_decide_eq_ite, toInt_of_lt hx, toInt_of_lt hy]; simp
theorem cmpi_slt {x y : BitVec 32} (hx : x.toNat < 2 ^ 31) (hy : y.toNat < 2 ^ 31) :
    Scalar.cmpi .slt x y = if x.toNat < y.toNat then 1#1 else 0#1 := by
  show IntOp.cmpi .slt x y = _
  rw [WordCmp.cmpi_slt_eq, WordCmp.ofBool_decide_eq_ite, toInt_of_lt hx, toInt_of_lt hy]; simp
theorem cmpi_eq (x y : BitVec 32) : Scalar.cmpi .eq x y = if x.toNat = y.toNat then 1#1 else 0#1 := by
  show IntOp.cmpi .eq x y = _
  rw [WordCmp.cmpi_eq_eq, WordCmp.ofBool_decide_eq_ite]
  simp only [← BitVec.toNat_inj]
theorem cmpi_ne (x y : BitVec 32) : Scalar.cmpi .ne x y = if x.toNat = y.toNat then 0#1 else 1#1 := by
  show IntOp.cmpi .ne x y = _
  rw [WordCmp.cmpi_ne_eq, WordCmp.ofBool_decide_eq_ite]
  simp only [ne_eq, ← BitVec.toNat_inj]; split <;> simp_all

/-- A choice by a decided condition. -/
theorem select_ite {α : Type} (p : Prop) [Decidable p] (x y : α) :
    Scalar.select (if p then 1#1 else 0#1) x y = if p then x else y := by
  split <;> rfl

theorem toNat_ite (p : Prop) [Decidable p] (x y : BitVec 32) : (if p then x else y).toNat = if p then x.toNat else y.toNat := by
  split <;> rfl

theorem addi_toNat (x y : BitVec 32) (h : x.toNat + y.toNat < 2 ^ 32) : (Scalar.addi x y).toNat = x.toNat + y.toNat := by
  show (x + y).toNat = _
  rw [BitVec.toNat_add, Nat.mod_eq_of_lt h]
theorem muli_toNat (x y : BitVec 32) (h : x.toNat * y.toNat < 2 ^ 32) : (Scalar.muli x y).toNat = x.toNat * y.toNat := by
  show (x * y).toNat = _
  rw [BitVec.toNat_mul, Nat.mod_eq_of_lt h]
theorem extui_ite_toNat (p : Prop) [Decidable p] : (Scalar.extui (if p then 1#1 else 0#1) : BitVec 32).toNat = if p then 1 else 0 := by
  split <;> rfl
/-- The number of a trip of a loop from 0 by 1. -/
theorem iv_toNat {n : ℕ} (k : Fin n) (h : n ≤ 2 ^ 32) : (Scf.iv 0#32 1#32 k).toNat = k.val := by
  have := k.isLt
  simp [Scf.iv]
  omega

end Cert.Words

end
-- ==== Proof.Pre.lean ====
/- The precondition read off the printed predicate: the inner offsets do not decrease and lie between 0 and 1536. -/
module

public import proofs.«01_k».proof.Pre_offsets_sorted
public import proofs.«01_k».proof.Proof.Rank
public import proofs.«01_k».proof.Proof.Words
public import Idealize.ShloMosaic.Lib.Pointwise
public import Idealize.ShloMosaic.Lib.Pipeline.Value

@[expose] public section

namespace Cert.Pre

open Idealize.ShloMosaic Cert.Words Cert.Rank Cert.Pre_offsets_sorted Cert.Pre_offsets_sorted.Facts

/-- A word between 0 and another, both read with a sign, is at most it as a natural number. -/
theorem toNat_le_of_signed (a b : BitVec 32) (h : IntOp.andi (IntOp.cmpi .sge a 0#32) (IntOp.cmpi .sle a b) = 1#1) : a.toNat ≤ b.toNat := by
  change IntOp.andi (BitVec.ofBool (decide ((0#32).toInt ≤ a.toInt))) (BitVec.ofBool (decide (a.toInt ≤ b.toInt))) = 1#1 at h
  have e : (0#32).toInt ≤ a.toInt ∧ a.toInt ≤ b.toInt := by
    by_cases h1 : (0#32).toInt ≤ a.toInt <;> by_cases h2 : a.toInt ≤ b.toInt <;> simp only [h1, h2, decide_true, decide_false] at h <;>
      first | exact ⟨h1, h2⟩ | exact absurd h (by decide)
  rw [BitVec.toInt_eq_toNat_cond a, BitVec.toInt_eq_toNat_cond b] at e
  have ha := a.isLt; have hb := b.isLt
  have e0 : (0#32).toInt = 0 := by decide
  split at e <;> split at e <;> omega

/-- A table at a place in it. -/
theorem nw_at {d : ℕ} (x : (⟨1, ![d]⟩ : Shape).Idx → BitVec 32) (j : (⟨1, ![d]⟩ : Shape).Idx) {n : ℕ} (h : (j 0).val = n) : (x j).toNat = nw x n := by
  subst h
  unfold nw
  rw [dif_pos (show (j 0).val < d from (j 0).isLt)]
  exact congrArg (fun j => (x j).toNat) (funext fun a => by obtain rfl : a = 0 := Subsingleton.elim _ _; rfl)

variable [Facts] {F : FTy → Type} [FloatOps F]

/-- The printed predicate is the precondition. -/
theorem sorted_of (x0 : FVec F S1536x3584 .bf16) (x : IVec S25 32) (x2 : FVec F S1536x18944 .fp8e4m3) (x3 : FVec F S1536 .f32)
    (x4 : FVec F S1536x18944 .fp8e4m3) (x5 : FVec F S1536 .f32) (x6 : FVec F S24x18944 .f32) (x7 : IVec S9472x3584 8) (x8 : FVec F S148x3584 .f32)
    (h : fn x0 x x2 x3 x4 x5 x6 x7 x8 = fun _ => 1#1) : Sorted (nw x) := by
  intro i h1 h23
  let j : S23.Idx := fun a => ⟨i - 1, by obtain rfl : a = 0 := Subsingleton.elim _ _; show i - 1 < 23; omega⟩
  have e := congrFun h j
  unfold fn at e
  dsimp only at e
  rw [andi_apply, cmpi_apply, cmpi_apply] at e
  have e' := toNat_le_of_signed _ _ e
  let k : S25.Idx := fun a => ⟨i, by obtain rfl : a = 0 := Subsingleton.elim _ _; show i < 25; omega⟩
  rw [extractStridedSlice_apply _ _ _ j k (fun a => by obtain rfl : a = 0 := Subsingleton.elim _ _; show i = 1 + (i - 1); omega), nw_at x k (n := i) rfl] at e'
  refine e'.trans ?_
  by_cases hi : i = 23
  · rw [if_pos hi]
    rw [concatenate_pair_apply_right (t := S23) (s₁ := S22) (s₂ := S1) 0 _ _ _ j rfl rfl (fun a => ⟨0, by obtain rfl : a = 0 := Subsingleton.elim _ _; exact Nat.one_pos⟩)
      (fun b hb => absurd (Subsingleton.elim _ _) hb) (by show 0 + 22 = i - 1; omega)]
    exact Nat.le_refl 1536
  · rw [if_neg hi]
    let l : S22.Idx := fun a => ⟨i - 1, by obtain rfl : a = 0 := Subsingleton.elim _ _; show i - 1 < 22; omega⟩
    let q : S25.Idx := fun a => ⟨i + 1, by obtain rfl : a = 0 := Subsingleton.elim _ _; show i + 1 < 25; omega⟩
    rw [concatenate_pair_apply_left (t := S23) (s₁ := S22) (s₂ := S1) 0 _ _ _ j rfl l (fun b => rfl),
      extractStridedSlice_apply _ _ _ l q (fun a => by obtain rfl : a = 0 := Subsingleton.elim _ _; show i + 1 = 2 + (i - 1); omega), nw_at x q (n := i + 1) rfl]

end Cert.Pre
-- ==== Proof.KernelIdeal.Compact.lean ====
/- The two loops that fill the tables of tasks: every place cleared, then the tasks that own a row written one after
   another. -/
module

public import proofs.«01_k».proof.Proof.Gen.KernelIdeal.Loops
public import proofs.«01_k».proof.Proof.Words
public import proofs.«01_k».proof.Proof.Rank

@[expose] public section

set_option maxRecDepth 16384
set_option maxHeartbeats 4000000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.Words Cert.Rank

variable {F : FTy → Type} [FloatOps F]

/-- The resources of the run: the frame kit's. -/
local notation "𝕄" => MT nD τ sig Unit (Elt F) ℕ (UR sig nD τ) ℕ

section Trips

variable (𝒱 : Variants) (c : Dev nD) (bd : Option 𝒱.V) (E : Set ℕ) (i : grid0.Coords) (arg1 : Memref sig .tc .smem S25 .i32) (harg1 : arg1.IsWhole) (arg2 : Memref sig .tc .vmem S1536x3584 .bf16) (harg2 : arg2.IsWhole) (arg3 : Memref sig .tc .vmem S1536x512 .fp8e4m3) (harg3 : arg3.IsWhole) (arg4 : Memref sig .tc .vmem S1536x512 .fp8e4m3) (harg4 : arg4.IsWhole) (arg5 : Memref sig .tc .vmem S12x128 .f32) (harg5 : arg5.IsWhole) (arg6 : Memref sig .tc .vmem S12x128 .f32) (harg6 : arg6.IsWhole) (arg7 : Memref sig .tc .vmem S24x512 .f32) (harg7 : arg7.IsWhole) (arg8 : Memref sig .tc .vmem S256x3584 .i8) (harg8 : arg8.IsWhole) (arg9 : Memref sig .tc .vmem S148x3584 .f32) (harg9 : arg9.IsWhole) (arg10 : Memref sig .tc .vmem S24x512 .f32) (harg10 : arg10.IsWhole) (arg11 : Memref sig .tc .vmem S1536x512 .bf16) (harg11 : arg11.IsWhole) (arg12 : Memref sig .tc .vmem S1536x512 .bf16) (harg12 : arg12.IsWhole) (arg13 : Memref sig .tc .vmem S512x3584 .bf16) (harg13 : arg13.IsWhole) (arg14 : Memref sig .tc .vmem S1536x512 .f32) (harg14 : arg14.IsWhole) (arg15 : Memref sig .tc .vmem S1536x512 .f32) (harg15 : arg15.IsWhole) (arg16 : Memref sig .tc .vmem S200x512 .f32) (harg16 : arg16.IsWhole) (arg17 : Memref sig .tc .vmem S4x32x128 .f32) (harg17 : arg17.IsWhole) (arg18 : Memref sig .tc .vmem S32x512 .f32) (harg18 : arg18.IsWhole) (arg19 : Memref sig .tc .vmem S1536x128 .f32) (harg19 : arg19.IsWhole) (arg20 : Memref sig .tc .vmem S1536x128 .f32) (harg20 : arg20.IsWhole) (arg21 : Memref sig .tc .vmem S1536x128 .i32) (harg21 : arg21.IsWhole) (arg22 : Memref sig .tc .smem S192 .i32) (harg22 : arg22.IsWhole) (arg23 : Memref sig .tc .smem S192 .i32) (harg23 : arg23.IsWhole) (arg24 : Memref sig .tc .smem S25 .i32) (harg24 : arg24.IsWhole) (arg25 : Memref sig .tc .smem S26 .i32) (harg25 : arg25.IsWhole)

/-- The table of the offsets. -/
abbrev offN (X1 : BufTy.Contents (Elt F) arg1.view.ty) : ℕ → ℕ := nw (arg1.view.read (Elt F) X1)

theorem chk1_of (i : grid0.Coords) (w : BitVec 32) (h : w.toNat ≤ 24) : k0_chk1 i w := by
  constructor
  all_goals
    intro _ a
    have : a = 0 := Subsingleton.elim _ _
    subst this
    show w.toNat + 1 ≤ _
    simp; omega

set_option warn.classDefReducibility false in
/-- THE COMPACTION. Before trip `k` the tables are those after `k` tasks, and the value carried is the count. -/
def loopInv2 (k0_h1 : k0_cond1 i = 1#1) (q : PosShare TreeShare) (X1 : BufTy.Contents (Elt F) arg1.view.ty) (hS : Sorted (offN arg1 X1)) :
    LoopInvTy_k0_t2 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_h1 0#32 where
  inv k acc := iprop(⌜acc.toNat = cnt (offN arg1 X1) k⌝
    ∗ (arg1.view.loc (c : Thread nD τ) ↦[arg1.view.set]{q} X1)
    ∗ ∃ f24 f25, (arg24.view.loc (c : Thread nD τ) ↦[arg24.view.set]{fullShare} f24)
      ∗ (arg25.view.loc (c : Thread nD τ) ↦[arg25.view.set]{fullShare} f25)
      ∗ ⌜25 ≤ Scf.trips k0_t1_loop.lb k0_t1_loop.ub k0_t1_loop.st → Comp (offN arg1 X1) k (nw (arg25.view.read (Elt F) f25)) (nw (arg24.view.read (Elt F) f24))⌝)
  step k acc := by
    have hk : k.val < 24 := Nat.lt_of_lt_of_le k.isLt k0_t2_abs.2.1
    iintro ⟨%hacc, H1, ⟨%f24, %f25, H24, H25, %hC⟩⟩
    replace hC := hC (by decide +kernel)
    have hc : k0_chk1 i acc := chk1_of i acc (by rw [hacc]; exact (cnt_le _).trans hk.le)
    unfold k0_t2_body
    sl_exec
    sl_step
    have hiv : (loopInv2.sl.arg26 k).toNat = k.val := iv_toNat k (by have := k0_t2_abs.2.1; exact le_trans this (by decide))
    have h357 : (loopInv2.sl.v357 i arg1 k0_h1 X1 k).toNat = sOf (offN arg1 X1) k := by
      unfold loopInv2.sl.v357 loopInv2.sl.v356 loopInv2.sl.r
      rw [cmpi_eq, select_ite, toNat_ite, hiv, toNat_readAt _ _ _ _ (k0_off3_eq k) rfl]
      rfl
    have h362 : (loopInv2.sl.v362 i arg1 k0_h1 X1 k).toNat = eOf (offN arg1 X1) k := by
      unfold loopInv2.sl.v362 loopInv2.sl.v358 loopInv2.sl.r_1
      rw [cmpi_eq, select_ite, toNat_ite, hiv, toNat_readAt _ _ _ _ (k0_off4_eq k) rfl]
      rfl
    have hs : sOf (offN arg1 X1) k ≤ 1536 := by
      unfold sOf; split
      · omega
      · exact off_le hS (by omega) (by omega)
    have h363 : loopInv2.sl.v363 i arg1 k0_h1 X1 k = if Live (offN arg1 X1) k then 1#1 else 0#1 := by
      have he := eOf_le hS (t := k) (by omega)
      unfold loopInv2.sl.v363
      rw [cmpi_sgt (by rw [h362]; omega) (by rw [h357]; omega), h357, h362]
      rfl
    isplitr
    · ipureintro
      unfold loopInv2.sl.v375 loopInv2.sl.v374
      rw [h363, addi_toNat, extui_ite_toNat, hacc]
      · rfl
      · rw [extui_ite_toNat, hacc]; have := cnt_le (off := offN arg1 X1) k; split <;> omega
    isplitl [H1]; · iexact H1
    iexists _, _
    isplitl [H24]; · iexact H24
    isplitl [H25]; · iexact H25
    ipureintro
    intro _
    refine comp_step hC ?_ ?_ hk
    · intro j hj
      rw [nw_writes_cons _ _ _ _ _ (n := cnt (offN arg1 X1) k) (show k0_off5 acc = ![cnt (offN arg1 X1) k] from congrArg (![·]) hacc) rfl (by omega)]
      try rw [View.writes_nil]
      unfold loopInv2.sl.v366 loopInv2.sl.r_2
      rw [h363, select_ite, toNat_ite, h357, toNat_readAt _ _ _ _ (show k0_off5 acc = ![cnt (offN arg1 X1) k] from congrArg (![·]) hacc) rfl]
      by_cases e : j = cnt (offN arg1 X1) k
      · rw [if_pos e, if_pos e, e]
      · rw [if_neg e, if_neg e]
    · intro j hj
      rw [nw_writes_cons _ _ _ _ _ (n := cnt (offN arg1 X1) k) (show k0_off6 acc = ![cnt (offN arg1 X1) k] from congrArg (![·]) hacc) rfl (by omega), View.writes_nil]
      unfold loopInv2.sl.v371 loopInv2.sl.r_3
      rw [h363, select_ite, toNat_ite, hiv, toNat_readAt _ _ _ _ (show k0_off6 acc = ![cnt (offN arg1 X1) k] from congrArg (![·]) hacc) rfl]
      by_cases e : j = cnt (offN arg1 X1) k
      · rw [if_pos e, if_pos e, e]
      · rw [if_neg e, if_neg e]

set_option warn.classDefReducibility false in
/-- THE FILL. Before trip `k` the first `k` places are cleared. -/
def loopInv1 (k0_h1 : k0_cond1 i = 1#1) (off : ℕ → ℕ) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_h1 where
  inv k acc := iprop(∃ f24 f25, (arg24.view.loc (c : Thread nD τ) ↦[arg24.view.set]{fullShare} f24)
      ∗ (arg25.view.loc (c : Thread nD τ) ↦[arg25.view.set]{fullShare} f25)
      ∗ ⌜∀ j, j < k → nw (arg25.view.read (Elt F) f25) j = 1536 ∧ nw (arg24.view.read (Elt F) f24) j = 24⌝
      ∗ ⌜25 ≤ k → Comp off 0 (nw (arg25.view.read (Elt F) f25)) (nw (arg24.view.read (Elt F) f24))⌝)
  step k acc := by
    have hk : k.val < 25 := Nat.lt_of_lt_of_le k.isLt k0_t1_abs.2.1
    iintro ⟨%f24, %f25, H24, H25, %hC, -⟩
    unfold k0_t1_body
    sl_exec
    sl_step
    iexists _, _
    isplitl [H24]; · iexact H24
    isplitl [H25]; · iexact H25
    suffices hF : _ from by
      isplitr
      · ipureintro; exact hF
      · ipureintro; exact fun h => comp_zero fun j hj => hF j (by omega)
    intro j hj
    rw [nw_writes_cons _ _ _ _ _ (k0_off1_eq k) rfl (by omega), nw_writes_cons _ _ _ _ _ (k0_off2_eq k) rfl (by omega), View.writes_nil, View.writes_nil]
    by_cases e : j = k.val
    · rw [if_pos e, if_pos e]; exact ⟨rfl, rfl⟩
    · rw [if_neg e, if_neg e]; exact hC j (by omega)

end Trips

end Cert.KernelIdeal.Body

end
-- ==== Proof.KernelIdeal.Blocks.lean ====
/- The loop that finds each block's first rank and its slot: the rank of its first row by counting on from the rank
   before, and the slot by the start of the next rank. -/
module

public import proofs.«01_k».proof.Proof.KernelIdeal.Compact

@[expose] public section

set_option maxRecDepth 16384
set_option maxHeartbeats 4000000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.Words Cert.Rank

variable {F : FTy → Type} [FloatOps F]

/-- The resources of the run: the frame kit's. -/
local notation "𝕄" => MT nD τ sig Unit (Elt F) ℕ (UR sig nD τ) ℕ

section Trips

variable (𝒱 : Variants) (c : Dev nD) (bd : Option 𝒱.V) (E : Set ℕ) (i : grid0.Coords) (arg1 : Memref sig .tc .smem S25 .i32) (harg1 : arg1.IsWhole) (arg2 : Memref sig .tc .vmem S1536x3584 .bf16) (harg2 : arg2.IsWhole) (arg3 : Memref sig .tc .vmem S1536x512 .fp8e4m3) (harg3 : arg3.IsWhole) (arg4 : Memref sig .tc .vmem S1536x512 .fp8e4m3) (harg4 : arg4.IsWhole) (arg5 : Memref sig .tc .vmem S12x128 .f32) (harg5 : arg5.IsWhole) (arg6 : Memref sig .tc .vmem S12x128 .f32) (harg6 : arg6.IsWhole) (arg7 : Memref sig .tc .vmem S24x512 .f32) (harg7 : arg7.IsWhole) (arg8 : Memref sig .tc .vmem S256x3584 .i8) (harg8 : arg8.IsWhole) (arg9 : Memref sig .tc .vmem S148x3584 .f32) (harg9 : arg9.IsWhole) (arg10 : Memref sig .tc .vmem S24x512 .f32) (harg10 : arg10.IsWhole) (arg11 : Memref sig .tc .vmem S1536x512 .bf16) (harg11 : arg11.IsWhole) (arg12 : Memref sig .tc .vmem S1536x512 .bf16) (harg12 : arg12.IsWhole) (arg13 : Memref sig .tc .vmem S512x3584 .bf16) (harg13 : arg13.IsWhole) (arg14 : Memref sig .tc .vmem S1536x512 .f32) (harg14 : arg14.IsWhole) (arg15 : Memref sig .tc .vmem S1536x512 .f32) (harg15 : arg15.IsWhole) (arg16 : Memref sig .tc .vmem S200x512 .f32) (harg16 : arg16.IsWhole) (arg17 : Memref sig .tc .vmem S4x32x128 .f32) (harg17 : arg17.IsWhole) (arg18 : Memref sig .tc .vmem S32x512 .f32) (harg18 : arg18.IsWhole) (arg19 : Memref sig .tc .vmem S1536x128 .f32) (harg19 : arg19.IsWhole) (arg20 : Memref sig .tc .vmem S1536x128 .f32) (harg20 : arg20.IsWhole) (arg21 : Memref sig .tc .vmem S1536x128 .i32) (harg21 : arg21.IsWhole) (arg22 : Memref sig .tc .smem S192 .i32) (harg22 : arg22.IsWhole) (arg23 : Memref sig .tc .smem S192 .i32) (harg23 : arg23.IsWhole) (arg24 : Memref sig .tc .smem S25 .i32) (harg24 : arg24.IsWhole) (arg25 : Memref sig .tc .smem S26 .i32) (harg25 : arg25.IsWhole)

theorem chk2_of (i : grid0.Coords) (w : BitVec 32) (h : w.toNat ≤ 24) : k0_chk2 i w := by
  intro _ a
  have : a = 0 := Subsingleton.elim _ _
  subst this
  show (w + 1#32).toNat + 1 ≤ 26
  rw [BitVec.toNat_add]; simp; omega

theorem off7_of (w : BitVec 32) (h : w.toNat ≤ 24) : k0_off7 w = ![w.toNat + 1] := by
  refine congrArg (![·]) ?_
  show (w + 1#32).toNat = _
  rw [BitVec.toNat_add]; simp; omega

theorem off9_of (w : BitVec 32) (h : w.toNat ≤ 24) : k0_off9 w = ![w.toNat + 1] := off7_of w h

theorem chk3_of (i : grid0.Coords) (w : BitVec 32) (h : w.toNat ≤ 24) : k0_chk3 i w := chk2_of i w h

set_option warn.classDefReducibility false in
/-- COUNTING ON. From a rank at most the row's, each of the 24 trips moves one rank on until the row's is reached. -/
def loopInv4 (k0_h1 : k0_cond1 i = 1#1) (off : ℕ → ℕ) (X25 : BufTy.Contents (Elt F) arg25.view.ty) (v354 init : BitVec 32)
    (hrow : v354.toNat < 1536) (hX : ∀ i, i ≤ 24 → (nw (arg25.view.read (Elt F) X25) i ≤ v354.toNat ↔ i ≤ R off v354.toNat))
    (hle : ∀ i, i ≤ 24 → nw (arg25.view.read (Elt F) X25) i ≤ 1536) (hinit : init.toNat ≤ R off v354.toNat) :
    LoopInvTy_k0_t4 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_h1 v354 init where
  inv k acc := iprop(⌜acc.toNat = min (init.toNat + k) (R off v354.toNat)⌝
    ∗ (arg25.view.loc (c : Thread nD τ) ↦[arg25.view.set]{fullShare} X25))
  step k acc := by
    have hR := R_le (off := off) v354.toNat
    iintro ⟨%hacc, H25⟩
    have hc : k0_chk2 i acc := chk2_of i acc (by omega)
    unfold k0_t4_body
    sl_exec
    sl_step
    isplitr
    · ipureintro
      unfold loopInv4.sl.v372 loopInv4.sl.v371 loopInv4.sl.v370 loopInv4.sl.r
      have e := toNat_readAt (F := F) arg25.view X25 (k0_off7_inb i acc hc k0_h1) (Shape.Idx.first (numel1_S1.symm ▸ Nat.one_pos)) (off7_of acc (by omega)) rfl
      have e2 := hle (acc.toNat + 1) (by omega)
      have e3 := hX (acc.toNat + 1) (by omega)
      have e1 := e
      rw [← e] at e2 e3
      rw [cmpi_sle (lt_of_le_of_lt e2 (by decide)) (by omega), addi_toNat, extui_ite_toNat]
      · rw [if_congr e3 rfl rfl]
        split <;> omega
      · rw [extui_ite_toNat]; split <;> omega
    iexact H25

theorem off8_lt (k : Fin k0_t3_loop.trips) : k.val < 192 := Nat.lt_of_lt_of_le k.isLt k0_t3_abs.2.1

set_option warn.classDefReducibility false in
/-- THE BLOCKS. Before trip `k` the first `k` blocks have their rank and slot, and the rank carried is at most the next
block's. -/
def loopInv3 (k0_h1 : k0_cond1 i = 1#1) (off : ℕ → ℕ) (X24 : BufTy.Contents (Elt F) arg24.view.ty) (X25 : BufTy.Contents (Elt F) arg25.view.ty)
    (hS : Sorted off) (hT : Tab off (nw (arg25.view.read (Elt F) X25)) (nw (arg24.view.read (Elt F) X24))) :
    LoopInvTy_k0_t3 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_h1 0#32 where
  inv k acc := iprop(⌜acc.toNat ≤ R off (8 * k)⌝
    ∗ (arg25.view.loc (c : Thread nD τ) ↦[arg25.view.set]{fullShare} X25)
    ∗ (arg24.view.loc (c : Thread nD τ) ↦[arg24.view.set]{fullShare} X24)
    ∗ ∃ f22 f23, (arg22.view.loc (c : Thread nD τ) ↦[arg22.view.set]{fullShare} f22)
      ∗ (arg23.view.loc (c : Thread nD τ) ↦[arg23.view.set]{fullShare} f23)
      ∗ ⌜∀ b, b < k → nw (arg22.view.read (Elt F) f22) b = R off (8 * b)⌝ ∗ ⌜∀ b, b < k → nw (arg23.view.read (Elt F) f23) b = SL off b⌝)
  step k acc := by
    have hk : k.val < 192 := off8_lt k
    iintro ⟨%hacc, H25, H24, ⟨%f22, %f23, H22, H23, %hC, %hC'⟩⟩
    have hiv : (Scf.iv 0#32 1#32 k).toNat = k.val := iv_toNat k (le_trans k0_t3_abs.2.1 (by decide))
    have h354 : (Scalar.muli (Scf.iv 0#32 1#32 k) 8#32).toNat = 8 * k.val := by
      rw [muli_toNat _ _ (by rw [hiv]; show k.val * 8 < _; omega), hiv]
      show k.val * 8 = _; omega
    unfold k0_t3_body
    let L4 := loopInv4 (F := F) 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_h1 off X25 (Scalar.muli (Scf.iv 0#32 1#32 k) 8#32) acc (by omega)
      (by rw [h354]; exact fun i hi => hT.le i hi _ (by omega)) hT.start_le (by rw [h354]; exact hacc)
    have h0 : acc.toNat = min (acc.toNat + 0) (R off (Scalar.muli (Scf.iv 0#32 1#32 k) 8#32).toNat) := by rw [h354]; omega
    sl_exec
    rename_i r
    have htr : Scf.trips k0_t4_loop.lb k0_t4_loop.ub k0_t4_loop.st = 24 := by decide +kernel
    have hR := R_le (off := off) (8 * k.val)
    have hr : r.toNat = R off (8 * k.val) := by rw [hL0, htr, h354]; omega
    have hc3 : k0_chk3 i r := chk3_of i r (by omega)
    clear L4 h0
    sl_exec
    sl_step
    isplitr
    · ipureintro
      rw [hr]; exact R_mono (by omega)
    isplitl [H25]; · iexact H25
    isplitl [H24]; · iexact H24
    iexists _, _
    isplitl [H22]; · iexact H22
    isplitl [H23]; · iexact H23
    suffices hF : ∀ b, b < k.val + 1 → _ ∧ _ from by
      isplitr
      · ipureintro; exact fun b hb => (hF b hb).1
      · ipureintro; exact fun b hb => (hF b hb).2
    intro b hb
    rw [nw_writes_cons _ _ _ _ _ (k0_off8_eq k) rfl (by omega), nw_writes_cons _ _ _ _ _ (k0_off10_eq k) rfl (by omega), View.writes_nil, View.writes_nil]
    by_cases e : b = k.val
    · subst e
      rw [if_pos rfl, if_pos rfl]
      refine ⟨hr, ?_⟩
      unfold loopInv3.sl.v364 loopInv3.sl.v363 loopInv3.sl.v362 loopInv3.sl.v354 loopInv3.sl.arg26 loopInv3.sl.r_1
      have h362 : (Scalar.addi (Scalar.muli (Scf.iv 0#32 1#32 k) 8#32) 8#32).toNat = 8 * k.val + 8 := by
        rw [addi_toNat _ _ (by rw [h354]; show _ + 8 < _; omega), h354]; rfl
      have e1 := toNat_readAt (F := F) arg25.view X25 (k0_off9_inb i r hc3 k0_h1) (Shape.Idx.first (numel1_S1.symm ▸ Nat.one_pos)) (off9_of r (by omega)) rfl
      have e2 := hT.start_le (r.toNat + 1) (by omega)
      have e3 := hT.le (r.toNat + 1) (by omega) (8 * k.val + 7) (by omega)
      rw [← e1] at e2 e3
      have e4 := R_mono (off := off) (row := 8 * k.val) (row' := 8 * k.val + 7) (by omega)
      rw [cmpi_sge (lt_of_le_of_lt e2 (by decide)) (by rw [h362]; omega), select_ite, toNat_ite, h362, hr]
      unfold SL
      refine if_congr ?_ rfl rfl
      rw [hr] at e3
      constructor
      · intro h; by_contra hn; have := e3.2 (by omega); omega
      · intro h; by_contra hn; have := e3.1 (by omega); omega
    · rw [if_neg e, if_neg e]; exact ⟨hC b (by omega), hC' b (by omega)⟩

end Trips

end Cert.KernelIdeal.Body

end
-- ==== Proof.KernelIdeal.Ranks.lean ====
/- The loop that finds each row's rank among the tasks that own a row, less its block's first rank. -/
module

public import proofs.«01_k».proof.Proof.KernelIdeal.Blocks
public import Idealize.ShloMosaic.Lib.ValueIdxCore
public import Idealize.ShloMosaic.Lib.Pointwise.Reshape

@[expose] public section

set_option maxRecDepth 16384
set_option maxHeartbeats 4000000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.Words Cert.Rank

variable {F : FTy → Type} [FloatOps F]

/-- The resources of the run: the frame kit's. -/
local notation "𝕄" => MT nD τ sig Unit (Elt F) ℕ (UR sig nD τ) ℕ

open Idealize.ShloMosaic.ValueIdx

open Idealize.ShloMosaic.View

section Trips

variable (𝒱 : Variants) (c : Dev nD) (bd : Option 𝒱.V) (E : Set ℕ) (i : grid0.Coords) (arg1 : Memref sig .tc .smem S25 .i32) (harg1 : arg1.IsWhole) (arg2 : Memref sig .tc .vmem S1536x3584 .bf16) (harg2 : arg2.IsWhole) (arg3 : Memref sig .tc .vmem S1536x512 .fp8e4m3) (harg3 : arg3.IsWhole) (arg4 : Memref sig .tc .vmem S1536x512 .fp8e4m3) (harg4 : arg4.IsWhole) (arg5 : Memref sig .tc .vmem S12x128 .f32) (harg5 : arg5.IsWhole) (arg6 : Memref sig .tc .vmem S12x128 .f32) (harg6 : arg6.IsWhole) (arg7 : Memref sig .tc .vmem S24x512 .f32) (harg7 : arg7.IsWhole) (arg8 : Memref sig .tc .vmem S256x3584 .i8) (harg8 : arg8.IsWhole) (arg9 : Memref sig .tc .vmem S148x3584 .f32) (harg9 : arg9.IsWhole) (arg10 : Memref sig .tc .vmem S24x512 .f32) (harg10 : arg10.IsWhole) (arg11 : Memref sig .tc .vmem S1536x512 .bf16) (harg11 : arg11.IsWhole) (arg12 : Memref sig .tc .vmem S1536x512 .bf16) (harg12 : arg12.IsWhole) (arg13 : Memref sig .tc .vmem S512x3584 .bf16) (harg13 : arg13.IsWhole) (arg14 : Memref sig .tc .vmem S1536x512 .f32) (harg14 : arg14.IsWhole) (arg15 : Memref sig .tc .vmem S1536x512 .f32) (harg15 : arg15.IsWhole) (arg16 : Memref sig .tc .vmem S200x512 .f32) (harg16 : arg16.IsWhole) (arg17 : Memref sig .tc .vmem S4x32x128 .f32) (harg17 : arg17.IsWhole) (arg18 : Memref sig .tc .vmem S32x512 .f32) (harg18 : arg18.IsWhole) (arg19 : Memref sig .tc .vmem S1536x128 .f32) (harg19 : arg19.IsWhole) (arg20 : Memref sig .tc .vmem S1536x128 .f32) (harg20 : arg20.IsWhole) (arg21 : Memref sig .tc .vmem S1536x128 .i32) (harg21 : arg21.IsWhole) (arg22 : Memref sig .tc .smem S192 .i32) (harg22 : arg22.IsWhole) (arg23 : Memref sig .tc .smem S192 .i32) (harg23 : arg23.IsWhole) (arg24 : Memref sig .tc .smem S25 .i32) (harg24 : arg24.IsWhole) (arg25 : Memref sig .tc .smem S26 .i32) (harg25 : arg25.IsWhole)

/-- Each row's rank less its block's first. -/
def RankTab (off : ℕ → ℕ) (x : S1536x128.Idx → BitVec 32) (n : ℕ) : Prop :=
  ∀ j : S1536x128.Idx, (j 0).val < n → (x j).toNat = R off (j 0).val - R off (8 * ((j 0).val / 8))

/-- One comparison of the count: from the first `n` ranks to the first `n + 1`. -/
theorem rank_step (v a : IVec S8x128 32) (w : BitVec 32) (x : S8x128.Idx) {row n r : ℕ} (hrow : (v x).toNat = row) (hr : row < 1536) (hw : w.toNat ≤ 1536)
    (hiff : w.toNat ≤ row ↔ n + 1 ≤ r) (hrr : r ≤ 23) (ha : (a x).toNat = min n r) :
    (addi a (extui 32 (cmpi .sge v (broadcast S8x128 w)) natLt_1_32) x : BitVec 32).toNat = min (n + 1) r := by
  show (Scalar.addi (a x) (Scalar.extui (Scalar.cmpi .sge (v x) w))).toNat = _
  rw [cmpi_sge (by omega) (by omega), hrow, addi_toNat, extui_ite_toNat, ha, if_congr hiff rfl rfl]
  · split <;> omega
  · rw [extui_ite_toNat, ha]; split <;> omega

set_option warn.classDefReducibility false in
/-- THE RANKS. Before trip `k` the rows of the first `k` blocks are done. -/
def loopInv5 (k0_h1 : k0_cond1 i = 1#1) (off : ℕ → ℕ) (X22 : BufTy.Contents (Elt F) arg22.view.ty) (X24 : BufTy.Contents (Elt F) arg24.view.ty) (X25 : BufTy.Contents (Elt F) arg25.view.ty)
    (hS : Sorted off) (hX : ∀ i, i ≤ 24 → ∀ row, row < 1536 → (nw (arg25.view.read (Elt F) X25) i ≤ row ↔ i ≤ R off row))
    (hle : ∀ i, i ≤ 24 → nw (arg25.view.read (Elt F) X25) i ≤ 1536)
    (h22 : ∀ b, b < 192 → nw (arg22.view.read (Elt F) X22) b = R off (8 * b)) (v156 : IVec S8x128 32) (hv : ∀ j, v156 j = BitVec.ofNat 32 (j 0).val) :
    LoopInvTy_k0_t5 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_h1 v156 where
  inv k acc := iprop((arg22.view.loc (c : Thread nD τ) ↦[arg22.view.set]{fullShare} X22)
    ∗ (arg24.view.loc (c : Thread nD τ) ↦[arg24.view.set]{fullShare} X24)
    ∗ (arg25.view.loc (c : Thread nD τ) ↦[arg25.view.set]{fullShare} X25)
    ∗ ∃ f21, (arg21.view.loc (c : Thread nD τ) ↦[arg21.view.set]{fullShare} f21)
      ∗ ⌜RankTab off (arg21.view.read (Elt F) f21) (8 * k)⌝)
  step k acc := by
    have hk : k.val < 192 := Nat.lt_of_lt_of_le k.isLt k0_t5_abs.2.1
    iintro ⟨H22, H24, H25, ⟨%f21, H21, %hC⟩⟩
    unfold k0_t5_body
    sl_exec
    sl_step
    isplitl [H22]; · iexact H22
    isplitl [H24]; · iexact H24
    isplitl [H25]; · iexact H25
    iexists _
    isplitl [H21]; · iexact H21
    ipureintro
    intro j hj
    by_cases e : (j 0).val < 8 * k.val
    · have h := read_writes_cons_rows_of_not_mem arg21.view f21 (k0_off12_inb i k k0_h1) (k0_pay9 (loopInv5.sl.v356 v156 k) (loopInv5.sl.v447 arg25 X25 v156 k) (loopInv5.sl.v451 arg25 X25 v156 k)
            (loopInv5.sl.r_19 arg25 X25) (loopInv5.sl.r_20 arg25 X25) (loopInv5.sl.r_21 arg25 X25)
            (loopInv5.sl.r_22 arg25 X25) (loopInv5.sl.r_23 i arg22 k0_h1 X22 k)) [] j (k0_off12_eq k) (W := 8) rfl (.inl e)
      rw [View.writes_nil] at h
      rw [h]; exact hC j e
    · have hj1 : (j 1).val < 128 := (j 1).isLt
      let x : S8x128.Idx := ValueIdx.ix2 ⟨(j 0).val - 8 * k.val, by omega⟩ ⟨(j 1).val, hj1⟩
      have hx0 : (x 0).val = (j 0).val - 8 * k.val := rfl
      rw [read_writes_cons_rows_of_mem arg21.view f21 (k0_off12_inb i k k0_h1) _ [] j x (k0_off12_eq k) (by rw [hx0]; omega) rfl]
      have hdiv : (j 0).val / 8 = k.val := by omega
      have hrow : (k0_pay4 v156 0#32 1#32 k x).toNat = (j 0).val := by
        unfold k0_pay4
        show (Scalar.addi (v156 x) (Scalar.muli (Scf.iv 0#32 1#32 k) 8#32)).toNat = _
        have hiv : (Scf.iv 0#32 1#32 k).toNat = k.val := iv_toNat k (le_trans k0_t5_abs.2.1 (by decide))
        have h354 : (Scalar.muli (Scf.iv 0#32 1#32 k) 8#32).toNat = 8 * k.val := by
          rw [muli_toNat _ _ (by rw [hiv]; show k.val * 8 < _; omega), hiv]
          show k.val * 8 = _; omega
        have hx : (v156 x).toNat = (j 0).val - 8 * k.val := by
          rw [hv, hx0, BitVec.toNat_ofNat]; omega
        rw [addi_toNat _ _ (by omega), hx, h354]; omega
      generalize hr : R off (j 0).val = r
      have hrr : r ≤ 23 := hr ▸ R_le _
      have hw : ∀ n (inb : ∀ a, (![n] : Fin 1 → ℕ) a + S1.size a ≤ S26.size a), n ≤ 24 →
          (arg25.view.readAt (Elt F) (Rect.unit (s := S26) ![n] S1.size inb).toLoadRect X25 (Shape.Idx.first (numel1_S1.symm ▸ Nat.one_pos)) : BitVec 32).toNat ≤ 1536 := by
        intro n inb hn
        rw [toNat_readAt _ _ _ _ rfl rfl]; exact hle n hn
      have hi : ∀ n (inb : ∀ a, (![n + 1] : Fin 1 → ℕ) a + S1.size a ≤ S26.size a), n < 24 →
          ((arg25.view.readAt (Elt F) (Rect.unit (s := S26) ![n + 1] S1.size inb).toLoadRect X25 (Shape.Idx.first (numel1_S1.symm ▸ Nat.one_pos)) : BitVec 32).toNat ≤ (j 0).val ↔ n + 1 ≤ r) := by
        intro n inb hn
        rw [toNat_readAt _ _ _ _ rfl rfl, ← hr]; exact hX (n + 1) hn _ (by omega)
      have h474 : (loopInv5.sl.r_23 (F := F) i arg22 k0_h1 X22 k : BitVec 32).toNat = R off (8 * ((j 0).val / 8)) := by
        unfold loopInv5.sl.r_23
        rw [toNat_readAt _ _ _ _ (k0_off11_eq k) rfl, h22 _ (by omega), hdiv]
      have hmono : R off (8 * ((j 0).val / 8)) ≤ r := hr ▸ R_mono (by omega)
      rw [← h474] at hmono ⊢
      unfold k0_pay9
      rw [shapeCast_id]
      show (IntOp.subi _ _ : BitVec 32).toNat = _
      have hsub : ∀ a b : BitVec 32, a.toNat = min 23 r → b.toNat ≤ r → (IntOp.subi a b : BitVec 32).toNat = r - b.toNat := by
        intro a b ha hb
        show (a - b).toNat = _
        have := a.isLt; have := b.isLt
        rw [BitVec.toNat_sub]; omega
      refine hsub _ _ ?_ hmono
      unfold loopInv5.sl.v447 loopInv5.sl.v451
      iterate 23 refine rank_step _ _ _ x hrow (by omega) (hw _ _ (by omega)) (hi _ _ (by omega)) hrr ?_
      show (0#32).toNat = _
      simp

end Trips

end Cert.KernelIdeal.Body

end
-- ==== Proof.At.lean ====
/- Arrays of rank two and three read at natural numbers, and what a load and a store of whole rows do to such a reading. -/
module

public import Idealize.ShloMosaic.Lib.Exec
public import Idealize.ShloMosaic.Lib.WritesUnit
public import Idealize.ShloMosaic.Lib.VecWindow
public import Idealize.ShloMosaic.Lib.ValueIdxCore

@[expose] public section

namespace Cert.At

open Idealize.ShloMosaic Idealize.ShloMosaic.View

variable {α : Type} {n0 n1 n2 : ℕ} [NeZero n0] [NeZero n1] [NeZero n2]

/-- The element at row `a` and column `b` (each modulo its extent). -/
def at2 (x : (⟨2, ![n0, n1]⟩ : Shape).Idx → α) (a b : ℕ) : α := x (ValueIdx.ix2 (Fin.ofNat n0 a) (Fin.ofNat n1 b))

/-- The element at `a`, `b`, `c` (each modulo its extent). -/
def at3 (x : (⟨3, ![n0, n1, n2]⟩ : Shape).Idx → α) (a b c : ℕ) : α :=
  x (ValueIdx.ix3 (Fin.ofNat n0 a) (Fin.ofNat n1 b) (Fin.ofNat n2 c))

theorem at2_eq (x : (⟨2, ![n0, n1]⟩ : Shape).Idx → α) (j : (⟨2, ![n0, n1]⟩ : Shape).Idx) {a b : ℕ} (ha : (j 0).val = a) (hb : (j 1).val = b) :
    at2 x a b = x j := by
  subst ha hb
  refine congrArg x ?_
  rw [ValueIdx.eq_ix2 j]
  congr 1
  · exact Fin.ext (Nat.mod_eq_of_lt (j 0).isLt)
  · exact Fin.ext (Nat.mod_eq_of_lt (j 1).isLt)

theorem at2_idx (x : (⟨2, ![n0, n1]⟩ : Shape).Idx → α) (j : (⟨2, ![n0, n1]⟩ : Shape).Idx) : x j = at2 x (j 0).val (j 1).val :=
  (at2_eq x j rfl rfl).symm

theorem at3_eq (x : (⟨3, ![n0, n1, n2]⟩ : Shape).Idx → α) (j : (⟨3, ![n0, n1, n2]⟩ : Shape).Idx) {a b c : ℕ} (ha : (j 0).val = a)
    (hb : (j 1).val = b) (hc : (j 2).val = c) : at3 x a b c = x j := by
  subst ha hb hc
  refine congrArg x ?_
  rw [ValueIdx.eq_ix3 j]
  congr 1
  · exact Fin.ext (Nat.mod_eq_of_lt (j 0).isLt)
  · exact Fin.ext (Nat.mod_eq_of_lt (j 1).isLt)
  · exact Fin.ext (Nat.mod_eq_of_lt (j 2).isLt)

/-- Two arrays of rank two that agree at all numbers within their extents are equal. -/
theorem ext2 (x y : (⟨2, ![n0, n1]⟩ : Shape).Idx → α) (h : ∀ a, a < n0 → ∀ b, b < n1 → at2 x a b = at2 y a b) : x = y := by
  funext j
  rw [at2_idx x, at2_idx y]
  exact h _ (j 0).isLt _ (j 1).isLt

variable {nD : Nat} {sig : RefSig} {κ : Kind} {sp : Space} {e : EltTy} {Val : EltTy → Type}
variable {w0 w1 w2 : ℕ} [NeZero w0] [NeZero w1] [NeZero w2]

/-- A load of a rectangle, at a position within it, reads the array at the position moved by the offset. -/
theorem at2_load (v : View sig κ sp (⟨2, ![n0, n1]⟩ : Shape) e) (f : v.ty.Contents Val) {off : Fin 2 → ℕ}
    (inb : ∀ a, off a + (![w0, w1] : Fin 2 → ℕ) a ≤ (⟨2, ![n0, n1]⟩ : Shape).size a) {o p a b : ℕ} (hoff : off = ![o, p]) (ha : a < w0) (hb : b < w1) :
    at2 (n0 := w0) (n1 := w1) (v.readAt Val (Rect.unit (s := ⟨2, ![n0, n1]⟩) off ![w0, w1] inb).toLoadRect f) a b = at2 (v.read Val f) (o + a) (p + b) := by
  subst hoff
  have h0 : o + w0 ≤ n0 := inb 0
  have h1 : p + w1 ≤ n1 := inb 1
  rw [readAt_unit v f inb rfl inb]
  symm
  refine (at2_eq _ _ ?_ ?_)
  · show o + 1 * (a % w0) = o + a
    rw [Nat.one_mul, Nat.mod_eq_of_lt ha]
  · show p + 1 * (b % w1) = p + b
    rw [Nat.one_mul, Nat.mod_eq_of_lt hb]

theorem at3_load (v : View sig κ sp (⟨3, ![n0, n1, n2]⟩ : Shape) e) (f : v.ty.Contents Val) {off : Fin 3 → ℕ}
    (inb : ∀ a, off a + (![w0, w1, w2] : Fin 3 → ℕ) a ≤ (⟨3, ![n0, n1, n2]⟩ : Shape).size a) {o p q a b c : ℕ} (hoff : off = ![o, p, q]) (ha : a < w0)
    (hb : b < w1) (hc : c < w2) :
    at3 (n0 := w0) (n1 := w1) (n2 := w2) (v.readAt Val (Rect.unit (s := ⟨3, ![n0, n1, n2]⟩) off ![w0, w1, w2] inb).toLoadRect f) a b c
      = at3 (v.read Val f) (o + a) (p + b) (q + c) := by
  subst hoff
  rw [readAt_unit v f inb rfl inb]
  symm
  refine (at3_eq _ _ ?_ ?_ ?_)
  · show o + 1 * (a % w0) = o + a
    rw [Nat.one_mul, Nat.mod_eq_of_lt ha]
  · show p + 1 * (b % w1) = p + b
    rw [Nat.one_mul, Nat.mod_eq_of_lt hb]
  · show q + 1 * (c % w2) = q + c
    rw [Nat.one_mul, Nat.mod_eq_of_lt hc]

/-- Within the rectangle the newest store wrote, the array reads the value stored. -/
theorem at2_store (v : View sig κ sp (⟨2, ![n0, n1]⟩ : Shape) e) (f : v.ty.Contents Val) {off : Fin 2 → ℕ}
    (inb : ∀ a, off a + (![w0, w1] : Fin 2 → ℕ) a ≤ (⟨2, ![n0, n1]⟩ : Shape).size a) (w : (⟨2, ![w0, w1]⟩ : Shape).Idx → Val e)
    (L : List (Piece Val (⟨2, ![n0, n1]⟩ : Shape) e)) {o p a b : ℕ} (hoff : off = ![o, p]) (ha : o ≤ a ∧ a < o + w0) (hb : p ≤ b ∧ b < p + w1) :
    at2 (v.read Val (v.writes Val f ((⟨Rect.unit (s := ⟨2, ![n0, n1]⟩) off ![w0, w1] inb, w⟩ : Piece Val _ e) :: L))) a b = at2 w (a - o) (b - p) := by
  have h0 : o + w0 ≤ n0 := by subst hoff; exact inb 0
  have h1 : p + w1 ≤ n1 := by subst hoff; exact inb 1
  refine read_writes_cons_unit_of_mem v f inb w L _ _ hoff fun x => ?_
  have hx : x = 0 ∨ x = 1 := (by decide : ∀ x : Fin 2, x = 0 ∨ x = 1) x
  rcases hx with rfl | rfl
  · show a % n0 = o + (a - o) % w0
    rw [Nat.mod_eq_of_lt (by omega), Nat.mod_eq_of_lt (by omega)]; omega
  · show b % n1 = p + (b - p) % w1
    rw [Nat.mod_eq_of_lt (by omega), Nat.mod_eq_of_lt (by omega)]; omega

/-- Outside the rectangle the newest store wrote, the array reads what it did before. -/
theorem at2_store_ne (v : View sig κ sp (⟨2, ![n0, n1]⟩ : Shape) e) (f : v.ty.Contents Val) {off : Fin 2 → ℕ}
    (inb : ∀ a, off a + (![w0, w1] : Fin 2 → ℕ) a ≤ (⟨2, ![n0, n1]⟩ : Shape).size a) (w : (⟨2, ![w0, w1]⟩ : Shape).Idx → Val e)
    (L : List (Piece Val (⟨2, ![n0, n1]⟩ : Shape) e)) {o p a b : ℕ} (hoff : off = ![o, p]) (hn : a < n0) (ha : a < o ∨ o + w0 ≤ a) :
    at2 (v.read Val (v.writes Val f ((⟨Rect.unit (s := ⟨2, ![n0, n1]⟩) off ![w0, w1] inb, w⟩ : Piece Val _ e) :: L))) a b
      = at2 (v.read Val (v.writes Val f L)) a b := by
  refine read_writes_cons_unit_of_not_mem v f inb w L _ hoff 0 ?_
  show a % n0 < o ∨ o + w0 ≤ a % n0
  rw [Nat.mod_eq_of_lt hn]; exact ha

theorem at3_store (v : View sig κ sp (⟨3, ![n0, n1, n2]⟩ : Shape) e) (f : v.ty.Contents Val) {off : Fin 3 → ℕ}
    (inb : ∀ a, off a + (![w0, w1, w2] : Fin 3 → ℕ) a ≤ (⟨3, ![n0, n1, n2]⟩ : Shape).size a) (w : (⟨3, ![w0, w1, w2]⟩ : Shape).Idx → Val e)
    (L : List (Piece Val (⟨3, ![n0, n1, n2]⟩ : Shape) e)) {o p q a b c : ℕ} (hoff : off = ![o, p, q]) (ha : o ≤ a ∧ a < o + w0) (hb : p ≤ b ∧ b < p + w1)
    (hc : q ≤ c ∧ c < q + w2) :
    at3 (v.read Val (v.writes Val f ((⟨Rect.unit (s := ⟨3, ![n0, n1, n2]⟩) off ![w0, w1, w2] inb, w⟩ : Piece Val _ e) :: L))) a b c
      = at3 w (a - o) (b - p) (c - q) := by
  have h0 : o + w0 ≤ n0 := by subst hoff; exact inb 0
  have h1 : p + w1 ≤ n1 := by subst hoff; exact inb 1
  have h2 : q + w2 ≤ n2 := by subst hoff; exact inb 2
  refine read_writes_cons_unit_of_mem v f inb w L _ _ hoff fun x => ?_
  have hx : x = 0 ∨ x = 1 ∨ x = 2 := (by decide : ∀ x : Fin 3, x = 0 ∨ x = 1 ∨ x = 2) x
  rcases hx with rfl | rfl | rfl
  · show a % n0 = o + (a - o) % w0
    rw [Nat.mod_eq_of_lt (by omega), Nat.mod_eq_of_lt (by omega)]; omega
  · show b % n1 = p + (b - p) % w1
    rw [Nat.mod_eq_of_lt (by omega), Nat.mod_eq_of_lt (by omega)]; omega
  · show c % n2 = q + (c - q) % w2
    rw [Nat.mod_eq_of_lt (by omega), Nat.mod_eq_of_lt (by omega)]; omega

theorem at3_store_ne (v : View sig κ sp (⟨3, ![n0, n1, n2]⟩ : Shape) e) (f : v.ty.Contents Val) {off : Fin 3 → ℕ}
    (inb : ∀ a, off a + (![w0, w1, w2] : Fin 3 → ℕ) a ≤ (⟨3, ![n0, n1, n2]⟩ : Shape).size a) (w : (⟨3, ![w0, w1, w2]⟩ : Shape).Idx → Val e)
    (L : List (Piece Val (⟨3, ![n0, n1, n2]⟩ : Shape) e)) {o p q a b c : ℕ} (hoff : off = ![o, p, q]) (hn : a < n0) (hn1 : b < n1)
    (h : (a < o ∨ o + w0 ≤ a) ∨ (b < p ∨ p + w1 ≤ b)) :
    at3 (v.read Val (v.writes Val f ((⟨Rect.unit (s := ⟨3, ![n0, n1, n2]⟩) off ![w0, w1, w2] inb, w⟩ : Piece Val _ e) :: L))) a b c
      = at3 (v.read Val (v.writes Val f L)) a b c := by
  rcases h with ha | hb
  · refine read_writes_cons_unit_of_not_mem v f inb w L _ hoff 0 ?_
    show a % n0 < o ∨ o + w0 ≤ a % n0
    rw [Nat.mod_eq_of_lt hn]; exact ha
  · refine read_writes_cons_unit_of_not_mem v f inb w L _ hoff 1 ?_
    show b % n1 < p ∨ p + w1 ≤ b % n1
    rw [Nat.mod_eq_of_lt hn1]; exact hb

end Cert.At
-- ==== Proof.Spec.lean ====
/- What one grid point computes, as functions of natural numbers: the scalar formulas of a row and a column, the running
   sums of the blocks, and the tables between the loops. -/
module

public import proofs.«01_k».proof.Proof.At
public import proofs.«01_k».proof.Proof.Rank

@[expose] public section

noncomputable section

namespace Cert.Spec

open Idealize.ShloMosaic Cert.Rank Cert.At

variable {F : FTy → Type} [FloatOps F]

/-- A code times its row's scale. -/
def deq (code : F .fp8e4m3) (sc : F .f32) : F .f32 := FloatOps.mulf (FloatOps.extf .f32 (by decide) code) sc
/-- The gated value: `g` times its sigmoid. -/
def silu (g : F .f32) : F .f32 := FloatOps.mulf g (FloatOps.logistic g)
/-- The gradient of the linear branch. -/
def duS (dh l g : F .f32) : F .bf16 := FloatOps.truncf .bf16 (by decide) (FloatOps.mulf (FloatOps.mulf dh l) (silu g))
/-- The gradient of the gated branch. -/
def dgS (dh l g u : F .f32) : F .bf16 :=
  FloatOps.truncf .bf16 (by decide) (FloatOps.mulf (FloatOps.mulf (FloatOps.mulf dh l) u)
    (FloatOps.addf (FloatOps.logistic g) (FloatOps.mulf (silu g) (FloatOps.subf (FloatOps.ofBits .f32 0x3F800000#32) (FloatOps.logistic g)))))
/-- A row's part of the gradient of its task's scale. -/
def pS (dh g u : F .f32) : F .f32 := FloatOps.mulf dh (FloatOps.mulf (silu g) u)

/-- The word of zeros as a float. -/
def z0 : F .f32 := FloatOps.ofBits .f32 0x00000000#32

/-- The running sum in one place of the table of slots after `m` blocks. -/
def accS (sl : ℕ → ℕ) (p : ℕ → ℕ → F .f32) (slot sub col : ℕ) : ℕ → F .f32
  | 0 => z0
  | m + 1 => if sl m = slot then FloatOps.addf (accS sl p slot sub col m) (p (8 * m + sub) col) else accS sl p slot sub col m

/-- The scales of the tasks in the order of the ranks, the first `n` of them. -/
def LcTab (task : ℕ → ℕ) (x7 : (⟨2, ![24, 512]⟩ : Shape).Idx → F .f32) (x : (⟨3, ![4, 32, 128]⟩ : Shape).Idx → F .f32) (n : ℕ) : Prop :=
  ∀ c, c < 4 → ∀ r, r < n → ∀ l, l < 128 → at3 x c r l = at2 x7 (min (task r) 23) (128 * c + l)

end Cert.Spec
-- ==== Proof.KernelIdeal.Lc.lean ====
/- The loop that lays the scales of the tasks out in the order of the ranks. -/
module

public import proofs.«01_k».proof.Proof.Gen.KernelIdeal.Loops
public import proofs.«01_k».proof.Proof.Words
public import proofs.«01_k».proof.Proof.Spec
public import Idealize.ShloMosaic.Lib.Pointwise

@[expose] public section

set_option maxRecDepth 16384
set_option maxHeartbeats 4000000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.Words Cert.Rank

variable {F : FTy → Type} [FloatOps F]

/-- The resources of the run: the frame kit's. -/
local notation "𝕄" => MT nD τ sig Unit (Elt F) ℕ (UR sig nD τ) ℕ

open Cert.At Cert.Spec

section Trips

variable (𝒱 : Variants) (c : Dev nD) (bd : Option 𝒱.V) (E : Set ℕ) (i : grid0.Coords) (arg1 : Memref sig .tc .smem S25 .i32) (harg1 : arg1.IsWhole) (arg2 : Memref sig .tc .vmem S1536x3584 .bf16) (harg2 : arg2.IsWhole) (arg3 : Memref sig .tc .vmem S1536x512 .fp8e4m3) (harg3 : arg3.IsWhole) (arg4 : Memref sig .tc .vmem S1536x512 .fp8e4m3) (harg4 : arg4.IsWhole) (arg5 : Memref sig .tc .vmem S12x128 .f32) (harg5 : arg5.IsWhole) (arg6 : Memref sig .tc .vmem S12x128 .f32) (harg6 : arg6.IsWhole) (arg7 : Memref sig .tc .vmem S24x512 .f32) (harg7 : arg7.IsWhole) (arg8 : Memref sig .tc .vmem S256x3584 .i8) (harg8 : arg8.IsWhole) (arg9 : Memref sig .tc .vmem S148x3584 .f32) (harg9 : arg9.IsWhole) (arg10 : Memref sig .tc .vmem S24x512 .f32) (harg10 : arg10.IsWhole) (arg11 : Memref sig .tc .vmem S1536x512 .bf16) (harg11 : arg11.IsWhole) (arg12 : Memref sig .tc .vmem S1536x512 .bf16) (harg12 : arg12.IsWhole) (arg13 : Memref sig .tc .vmem S512x3584 .bf16) (harg13 : arg13.IsWhole) (arg14 : Memref sig .tc .vmem S1536x512 .f32) (harg14 : arg14.IsWhole) (arg15 : Memref sig .tc .vmem S1536x512 .f32) (harg15 : arg15.IsWhole) (arg16 : Memref sig .tc .vmem S200x512 .f32) (harg16 : arg16.IsWhole) (arg17 : Memref sig .tc .vmem S4x32x128 .f32) (harg17 : arg17.IsWhole) (arg18 : Memref sig .tc .vmem S32x512 .f32) (harg18 : arg18.IsWhole) (arg19 : Memref sig .tc .vmem S1536x128 .f32) (harg19 : arg19.IsWhole) (arg20 : Memref sig .tc .vmem S1536x128 .f32) (harg20 : arg20.IsWhole) (arg21 : Memref sig .tc .vmem S1536x128 .i32) (harg21 : arg21.IsWhole) (arg22 : Memref sig .tc .smem S192 .i32) (harg22 : arg22.IsWhole) (arg23 : Memref sig .tc .smem S192 .i32) (harg23 : arg23.IsWhole) (arg24 : Memref sig .tc .smem S25 .i32) (harg24 : arg24.IsWhole) (arg25 : Memref sig .tc .smem S26 .i32) (harg25 : arg25.IsWhole)

theorem minsi_23 (w : BitVec 32) (h : w.toNat ≤ 24) : (Scalar.minsi w 23#32).toNat = min w.toNat 23 := by
  have e1 := toInt_of_lt (by omega : w.toNat < 2 ^ 31)
  have e2 : (23#32).toInt = 23 := by decide
  show (if w.slt 23#32 then w else 23#32).toNat = _
  have e3 : w.slt 23#32 = decide (w.toNat < 23) := by
    rw [BitVec.slt, e1, e2]; simp only [decide_eq_decide]; omega
  rw [e3]
  by_cases h' : w.toNat < 23
  · rw [if_pos (decide_eq_true h')]; omega
  · rw [if_neg (by simpa using h')]
    show 23 = _; omega

theorem off14_of (w : BitVec 32) (h : w.toNat ≤ 24) : k0_off14 w = ![min w.toNat 23, 0] :=
  congrArg (fun n : ℕ => ![n, 0]) (minsi_23 w h)

theorem chk4_of (w : BitVec 32) (h : w.toNat ≤ 24) : k0_chk4 w := by
  show ∀ a, k0_off14 w a + S1x512.size a ≤ S24x512.size a
  rw [off14_of w h]
  refine Fin.forall_fin_two.mpr ⟨?_, ?_⟩
  · show min w.toNat 23 + 1 ≤ 24
    omega
  · show 0 + 512 ≤ 512
    omega

/-- A window of 128 columns of one row, as a slab. -/
theorem slice_row {o : ℕ} (h : S1x512.Slices ![0, o] S1x128) (x : Vec F S1x512 .f32) {l : ℕ} (hl : l < 128) (ho : o ≤ 384) :
    at3 (shapeCast S1x1x128 (extractStridedSlice S1x128 ![0, o] x h) shapeCasts_S1x128_S1x1x128) 0 0 l = at2 x 0 (o + l) := by
  unfold at3 at2
  pointwise
  refine congrArg x (congrArg₂ ValueIdx.ix2 rfl (Fin.ext ?_))
  show o + l % 128 = (o + l) % 512
  omega

set_option warn.classDefReducibility false in
/-- THE SCALES BY RANK. Before trip `k` the first `k` ranks are laid out. -/
def loopInv6 (q : PosShare TreeShare) (X7 : BufTy.Contents (Elt F) arg7.view.ty) (X24 : BufTy.Contents (Elt F) arg24.view.ty) (X25 : BufTy.Contents (Elt F) arg25.view.ty)
    (hT : ∀ r, r < 24 → nw (arg24.view.read (Elt F) X24) r ≤ 24) :
    LoopInvTy_k0_t6 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 where
  inv k acc := iprop((arg7.view.loc (c : Thread nD τ) ↦[arg7.view.set]{q} X7)
    ∗ (arg24.view.loc (c : Thread nD τ) ↦[arg24.view.set]{fullShare} X24)
    ∗ (arg25.view.loc (c : Thread nD τ) ↦[arg25.view.set]{fullShare} X25)
    ∗ ∃ f17, (arg17.view.loc (c : Thread nD τ) ↦[arg17.view.set]{fullShare} f17)
      ∗ ⌜0 < k → LcTab (F := F) (nw (arg24.view.read (Elt F) X24)) (arg7.view.read (Elt F) X7) (arg17.view.read (Elt F) f17) k⌝)
  step k acc := by
    have hk : k.val < 24 := Nat.lt_of_lt_of_le k.isLt k0_t6_abs.2.1
    have e := toNat_readAt (F := F) arg24.view X24 (k0_off13_inb k) (Shape.Idx.first (numel1_S1.symm ▸ Nat.one_pos)) (k0_off13_eq k) rfl
    have hw : (arg24.view.readAt (Elt F) (Rect.unit (s := S25) (k0_off13 k) S1.size (k0_off13_inb k)).toLoadRect X24 (Shape.Idx.first (numel1_S1.symm ▸ Nat.one_pos)) : BitVec 32).toNat ≤ 24 := by
      rw [e]; exact hT k hk
    have hc := chk4_of _ hw
    have ho := off14_of _ hw
    iintro ⟨H7, H24, H25, ⟨%f17, H17, %hC⟩⟩
    unfold k0_t6_body
    sl_exec
    sl_step
    isplitl [H7]; · iexact H7
    isplitl [H24]; · iexact H24
    isplitl [H25]; · iexact H25
    iexists _
    isplitl [H17]; · iexact H17
    ipureintro
    intro _ cc hcc r hr l hl
    have hld : ∀ o, o ≤ 384 → at2 (n0 := 1) (n1 := 512) (arg7.view.readAt (Elt F) (Rect.unit (s := S24x512) (k0_off14 (loopInv6.sl.r arg24 X24 k)) S1x512.size hc).toLoadRect X7) 0 (o + l)
        = at2 (arg7.view.read (Elt F) X7) (min (nw (arg24.view.read (Elt F) X24) k.val) 23) (o + l) := by
      intro o ho'
      refine (at2_load (w0 := 1) (w1 := 512) arg7.view X7 hc ho (by omega) (by omega)).trans ?_
      rw [e, Nat.add_zero, Nat.zero_add]
    by_cases hrk : r < k.val
    · refine (at3_store_ne arg17.view f17 (k0_off18_inb k) _ _ (k0_off18_eq k) hcc (by omega) (.inr (.inl hrk))).trans ?_
      refine (at3_store_ne arg17.view f17 (k0_off17_inb k) _ _ (k0_off17_eq k) hcc (by omega) (.inr (.inl hrk))).trans ?_
      refine (at3_store_ne arg17.view f17 (k0_off16_inb k) _ _ (k0_off16_eq k) hcc (by omega) (.inr (.inl hrk))).trans ?_
      refine (at3_store_ne arg17.view f17 (k0_off15_inb k) _ _ (k0_off15_eq k) hcc (by omega) (.inr (.inl hrk))).trans ?_
      exact hC (by omega) cc hcc r hrk l hl
    · obtain rfl : r = k.val := by omega
      have hm : k.val ≤ k.val ∧ k.val < k.val + 1 := by omega
      have hm2 : 0 ≤ l ∧ l < 0 + 128 := by omega
      obtain rfl | rfl | rfl | rfl : cc = 0 ∨ cc = 1 ∨ cc = 2 ∨ cc = 3 := by omega
      · refine (at3_store_ne arg17.view f17 (k0_off18_inb k) _ _ (k0_off18_eq k) hcc (by omega) (.inl (by omega))).trans ?_
        refine (at3_store_ne arg17.view f17 (k0_off17_inb k) _ _ (k0_off17_eq k) hcc (by omega) (.inl (by omega))).trans ?_
        refine (at3_store_ne arg17.view f17 (k0_off16_inb k) _ _ (k0_off16_eq k) hcc (by omega) (.inl (by omega))).trans ?_
        refine (at3_store arg17.view f17 (k0_off15_inb k) _ _ (k0_off15_eq k) (by omega) hm hm2).trans ?_
        rw [Nat.sub_self, Nat.sub_zero, Nat.sub_self]
        exact (slice_row _ _ hl (by omega)).trans (hld 0 (by omega))
      · refine (at3_store_ne arg17.view f17 (k0_off18_inb k) _ _ (k0_off18_eq k) hcc (by omega) (.inl (by omega))).trans ?_
        refine (at3_store_ne arg17.view f17 (k0_off17_inb k) _ _ (k0_off17_eq k) hcc (by omega) (.inl (by omega))).trans ?_
        refine (at3_store arg17.view f17 (k0_off16_inb k) _ _ (k0_off16_eq k) (by omega) hm hm2).trans ?_
        rw [Nat.sub_self, Nat.sub_zero, Nat.sub_self]
        exact (slice_row _ _ hl (by omega)).trans (hld 128 (by omega))
      · refine (at3_store_ne arg17.view f17 (k0_off18_inb k) _ _ (k0_off18_eq k) hcc (by omega) (.inl (by omega))).trans ?_
        refine (at3_store arg17.view f17 (k0_off17_inb k) _ _ (k0_off17_eq k) (by omega) hm hm2).trans ?_
        rw [Nat.sub_self, Nat.sub_zero, Nat.sub_self]
        exact (slice_row _ _ hl (by omega)).trans (hld 256 (by omega))
      · refine (at3_store arg17.view f17 (k0_off18_inb k) _ _ (k0_off18_eq k) (by omega) hm hm2).trans ?_
        rw [Nat.sub_self, Nat.sub_zero, Nat.sub_self]
        exact (slice_row _ _ hl (by omega)).trans (hld 384 (by omega))

end Trips

end Cert.KernelIdeal.Body

end
-- ==== Proof.Vals.lean ====
/- The vector formulas of one pass over the rows, read at a row and a column. -/
module

public import proofs.«01_k».proof.Proof.Spec
public import proofs.«01_k».proof.Proof.Words
public import Idealize.ShloMosaic.Lib.Pointwise

@[expose] public section

set_option maxRecDepth 16384

noncomputable section

namespace Cert.Vals

open Idealize.ShloMosaic Cert.Rank Cert.At Cert.Words Cert.Spec

variable {F : FTy → Type} [FloatOps F]

abbrev S8 : Shape := ⟨2, ![8, 128]⟩
abbrev S8w : Shape := ⟨2, ![8, 512]⟩
abbrev S32n : Shape := ⟨2, ![32, 128]⟩
abbrev S32w : Shape := ⟨2, ![32, 512]⟩
abbrev S181 : Shape := ⟨3, ![1, 8, 128]⟩
abbrev S8x1 : Shape := ⟨3, ![8, 128, 1]⟩

variable {α : Type}

/-- Four pieces of 128 columns side by side. -/
theorem cat_cols {n : ℕ} [NeZero n] (x0 x1 x2 x3 : (⟨2, ![n, 128]⟩ : Shape).Idx → α)
    (h : Shape.Concatenates [⟨2, ![n, 128]⟩, ⟨2, ![n, 128]⟩, ⟨2, ![n, 128]⟩, ⟨2, ![n, 128]⟩] ⟨2, ![n, 512]⟩ 1) (x : ℕ → ℕ → ℕ → α)
    (h0 : ∀ a, a < n → ∀ b, b < 128 → at2 x0 a b = x 0 a b) (h1 : ∀ a, a < n → ∀ b, b < 128 → at2 x1 a b = x 1 a b)
    (h2 : ∀ a, a < n → ∀ b, b < 128 → at2 x2 a b = x 2 a b) (h3 : ∀ a, a < n → ∀ b, b < 128 → at2 x3 a b = x 3 a b)
    {a b : ℕ} (ha : a < n) (hb : b < 512) :
    at2 (concatenate ⟨2, ![n, 512]⟩ 1 [⟨⟨2, ![n, 128]⟩, x0⟩, ⟨⟨2, ![n, 128]⟩, x1⟩, ⟨⟨2, ![n, 128]⟩, x2⟩, ⟨⟨2, ![n, 128]⟩, x3⟩] h) a b = x (b / 128) a (b % 128) := by
  have hm : b % 128 < 128 := Nat.mod_lt _ (by omega)
  have key : ∀ (k : ℕ) (y : (⟨2, ![n, 128]⟩ : Shape).Idx → α) (hk : k < 4)
      (hy : ([⟨⟨2, ![n, 128]⟩, x0⟩, ⟨⟨2, ![n, 128]⟩, x1⟩, ⟨⟨2, ![n, 128]⟩, x2⟩, ⟨⟨2, ![n, 128]⟩, x3⟩] : List ((s : Shape) × (s.Idx → α)))[k] = ⟨⟨2, ![n, 128]⟩, y⟩)
      (hp : ((([⟨⟨2, ![n, 128]⟩, x0⟩, ⟨⟨2, ![n, 128]⟩, x1⟩, ⟨⟨2, ![n, 128]⟩, x2⟩, ⟨⟨2, ![n, 128]⟩, x3⟩] : List ((s : Shape) × (s.Idx → α))).take k).map (·.1)
        |>.map fun s => if h : s.rank = (⟨2, ![n, 512]⟩ : Shape).rank then s.size ((1 : Fin 2).cast h.symm) else 0).sum = 128 * k), b / 128 = k →
      at2 (concatenate ⟨2, ![n, 512]⟩ 1 [⟨⟨2, ![n, 128]⟩, x0⟩, ⟨⟨2, ![n, 128]⟩, x1⟩, ⟨⟨2, ![n, 128]⟩, x2⟩, ⟨⟨2, ![n, 128]⟩, x3⟩] h) a b = at2 y a (b % 128) := by
    intro k y hk hy hp hbk
    refine concatenate_apply_piece (t := ⟨2, ![n, 512]⟩) 1 [⟨⟨2, ![n, 128]⟩, x0⟩, ⟨⟨2, ![n, 128]⟩, x1⟩, ⟨⟨2, ![n, 128]⟩, x2⟩, ⟨⟨2, ![n, 128]⟩, x3⟩] h _ k hk _ y hy rfl (128 * k) hp _ ?_ ?_
    · intro c hc
      obtain rfl | rfl := (by decide : ∀ c : Fin 2, c = 0 ∨ c = 1) c
      · rfl
      · exact absurd rfl hc
    · show 128 * k + b % 128 % 128 = b % 512
      omega
  obtain hq | hq | hq | hq : b / 128 = 0 ∨ b / 128 = 1 ∨ b / 128 = 2 ∨ b / 128 = 3 := by omega
  · rw [key 0 x0 (by omega) rfl rfl hq, hq, h0 a ha _ hm]
  · rw [key 1 x1 (by omega) rfl rfl hq, hq, h1 a ha _ hm]
  · rw [key 2 x2 (by omega) rfl rfl hq, hq, h2 a ha _ hm]
  · rw [key 3 x3 (by omega) rfl rfl hq, hq, h3 a ha _ hm]

/-- Four pieces of eight rows one under the other. -/
theorem cat_rows (x0 x1 x2 x3 : S8w.Idx → α) (h : Shape.Concatenates [S8w, S8w, S8w, S8w] S32w 0) (x : ℕ → ℕ → ℕ → α)
    (h0 : ∀ a, a < 8 → ∀ b, b < 512 → at2 x0 a b = x 0 a b) (h1 : ∀ a, a < 8 → ∀ b, b < 512 → at2 x1 a b = x 1 a b)
    (h2 : ∀ a, a < 8 → ∀ b, b < 512 → at2 x2 a b = x 2 a b) (h3 : ∀ a, a < 8 → ∀ b, b < 512 → at2 x3 a b = x 3 a b)
    {a b : ℕ} (ha : a < 32) (hb : b < 512) :
    at2 (concatenate S32w 0 [⟨S8w, x0⟩, ⟨S8w, x1⟩, ⟨S8w, x2⟩, ⟨S8w, x3⟩] h) a b = x (a / 8) (a % 8) b := by
  have hm : a % 8 < 8 := Nat.mod_lt _ (by omega)
  have key : ∀ (k : ℕ) (y : S8w.Idx → α) (hk : k < 4)
      (hy : ([⟨S8w, x0⟩, ⟨S8w, x1⟩, ⟨S8w, x2⟩, ⟨S8w, x3⟩] : List ((s : Shape) × (s.Idx → α)))[k] = ⟨S8w, y⟩)
      (hp : ((([⟨S8w, x0⟩, ⟨S8w, x1⟩, ⟨S8w, x2⟩, ⟨S8w, x3⟩] : List ((s : Shape) × (s.Idx → α))).take k).map (·.1)
        |>.map fun s => if h : s.rank = S32w.rank then s.size ((0 : Fin 2).cast h.symm) else 0).sum = 8 * k), a / 8 = k →
      at2 (concatenate S32w 0 [⟨S8w, x0⟩, ⟨S8w, x1⟩, ⟨S8w, x2⟩, ⟨S8w, x3⟩] h) a b = at2 y (a % 8) b := by
    intro k y hk hy hp hbk
    refine concatenate_apply_piece (t := S32w) 0 [⟨S8w, x0⟩, ⟨S8w, x1⟩, ⟨S8w, x2⟩, ⟨S8w, x3⟩] h _ k hk _ y hy rfl (8 * k) hp _ ?_ ?_
    · intro c hc
      obtain rfl | rfl := (by decide : ∀ c : Fin 2, c = 0 ∨ c = 1) c
      · exact absurd rfl hc
      · rfl
    · show 8 * k + a % 8 % 8 = a % 32
      omega
  obtain hq | hq | hq | hq : a / 8 = 0 ∨ a / 8 = 1 ∨ a / 8 = 2 ∨ a / 8 = 3 := by omega
  · rw [key 0 x0 (by omega) rfl rfl hq, hq, h0 _ hm b hb]
  · rw [key 1 x1 (by omega) rfl rfl hq, hq, h1 _ hm b hb]
  · rw [key 2 x2 (by omega) rfl rfl hq, hq, h2 _ hm b hb]
  · rw [key 3 x3 (by omega) rfl rfl hq, hq, h3 _ hm b hb]

/-- The rank words as the gather takes them. -/
def gidx (v : IVec S8 32) : IVec S8 32 :=
  shapeCast S8 (shapeCast S8x1 (select (cmpi .slt v (broadcast S8 0#32)) (addi v (broadcast S8 8#32)) v) (by decide)) (by decide)

theorem gidx_at (v : IVec S8 32) {a b : ℕ} (ha : a < 8) (hb : b < 128) (h : (at2 v a b).toNat < 2 ^ 31) : at2 (gidx v) a b = at2 v a b := by
  unfold gidx
  unfold at2 at h ⊢
  pointwise
  show Scalar.select (Scalar.cmpi .slt _ _) _ _ = _
  rw [cmpi_slt h (by decide), select_ite, if_neg (show ¬ _ < (0#32).toNat from Nat.not_lt_zero _)]

theorem gather_at (v : IVec S8 32) (x : S181.Idx → α) {a b n : ℕ} (ha : a < 8) (hb : b < 128) (h : (at2 v a b).toNat = n) (hn : n < 8) :
    at2 (dynamicGather 0 (shapeCast S8 x (by decide)) (gidx v)) a b = at3 x 0 n b := by
  have e := gidx_at v ha hb (by omega)
  unfold at2 at h e ⊢
  unfold at3
  pointwise
  refine congrArg x (congrArg₂ (ValueIdx.ix3 (Fin.ofNat 1 0)) (Fin.ext ?_) rfl)
  show _ % 8 = n % 8
  rw [e, h]

theorem cat8 : Shape.Concatenates [S8, S8, S8, S8] S8w 1 := by decide

/-- The scales of eight rows: each row's task's scales, gathered by rank. -/
def grp (v : IVec S8 32) (x0 x1 x2 x3 : S181.Idx → α) : S8w.Idx → α :=
  concatenate S8w 1 [⟨S8, dynamicGather 0 (shapeCast S8 x0 (by decide)) (gidx v)⟩, ⟨S8, dynamicGather 0 (shapeCast S8 x1 (by decide)) (gidx v)⟩,
    ⟨S8, dynamicGather 0 (shapeCast S8 x2 (by decide)) (gidx v)⟩, ⟨S8, dynamicGather 0 (shapeCast S8 x3 (by decide)) (gidx v)⟩] cat8

theorem grp_at (v : IVec S8 32) (x0 x1 x2 x3 : S181.Idx → α) (n : ℕ → ℕ) (x : ℕ → ℕ → ℕ → α)
    (hv : ∀ a, a < 8 → ∀ b, b < 128 → (at2 v a b).toNat = n a) (hn : ∀ a, a < 8 → n a < 8)
    (h0 : ∀ a, a < 8 → ∀ b, b < 128 → at3 x0 0 (n a) b = x 0 a b) (h1 : ∀ a, a < 8 → ∀ b, b < 128 → at3 x1 0 (n a) b = x 1 a b)
    (h2 : ∀ a, a < 8 → ∀ b, b < 128 → at3 x2 0 (n a) b = x 2 a b) (h3 : ∀ a, a < 8 → ∀ b, b < 128 → at3 x3 0 (n a) b = x 3 a b)
    {a b : ℕ} (ha : a < 8) (hb : b < 512) : at2 (grp v x0 x1 x2 x3) a b = x (b / 128) a (b % 128) := by
  refine cat_cols _ _ _ _ _ x ?_ ?_ ?_ ?_ ha hb
  · exact fun a ha b hb => (gather_at v x0 ha hb (hv a ha b hb) (hn a ha)).trans (h0 a ha b hb)
  · exact fun a ha b hb => (gather_at v x1 ha hb (hv a ha b hb) (hn a ha)).trans (h1 a ha b hb)
  · exact fun a ha b hb => (gather_at v x2 ha hb (hv a ha b hb) (hn a ha)).trans (h2 a ha b hb)
  · exact fun a ha b hb => (gather_at v x3 ha hb (hv a ha b hb) (hn a ha)).trans (h3 a ha b hb)

end Cert.Vals

end
-- ==== Proof.KernelIdeal.SuperVals.lean ====
/- The values that one trip over a super block of 32 rows stores, at a row and a column. -/
module

public import proofs.«01_k».proof.Proof.Gen.KernelIdeal.Loops
public import proofs.«01_k».proof.Proof.KernelIdeal.Ranks
public import proofs.«01_k».proof.Proof.Vals

@[expose] public section

set_option maxRecDepth 16384
set_option maxHeartbeats 4000000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.Words Cert.Rank

variable {F : FTy → Type} [FloatOps F]

/-- The resources of the run: the frame kit's. -/
local notation "𝕄" => MT nD τ sig Unit (Elt F) ℕ (UR sig nD τ) ℕ

open Cert.At Cert.Spec Cert.Vals

/-- The value of a gated or linear branch at a row and a column: the code times the scale of its row and lane. -/
def gv (x : S1536x512.Idx → F .fp8e4m3) (s : S1536x128.Idx → F .f32) (a b : ℕ) : F .f32 := deq (at2 x a b) (at2 s a (b % 128))
/-- The scale of a row's task, from the table by rank. -/
def lv (off : ℕ → ℕ) (x : S4x32x128.Idx → F .f32) (a b : ℕ) : F .f32 := at3 x (b / 128) (R off a) (b % 128)

/-- The outputs of the first `n` rows. -/
structure Rows (dh g u l : ℕ → ℕ → F .f32) (x11 x12 : S1536x512.Idx → F .bf16) (x15 : S1536x512.Idx → F .f32) (n : ℕ) : Prop where
  du : ∀ a, a < n → ∀ b, b < 512 → at2 x12 a b = duS (dh a b) (l a b) (g a b)
  dg : ∀ a, a < n → ∀ b, b < 512 → at2 x11 a b = dgS (dh a b) (l a b) (g a b) (u a b)
  p : ∀ a, a < n → ∀ b, b < 512 → at2 x15 a b = pS (dh a b) (g a b) (u a b)

/-- The running sums by slot after `n` blocks. -/
def Acc (off : ℕ → ℕ) (p : ℕ → ℕ → F .f32) (x : S200x512.Idx → F .f32) (n : ℕ) : Prop :=
  ∀ r, r < 200 → ∀ b, b < 512 → at2 x r b = accS (SL off) p (r / 8) (r % 8) b n

section

variable {sp : Space}

theorem pay34_at (s : Vec F S32x128 .f32) (x : Vec F S32x512 .fp8e4m3) {a b : ℕ} (ha : a < 32) (hb : b < 512) :
    at2 (k0_pay34 s x) a b = deq (at2 x a b) (at2 s a (b % 128)) := by
  refine Eq.trans (show _ = deq (at2 x a b) (at2 (concatenate S32x512 1 [⟨S32x128, s⟩, ⟨S32x128, s⟩, ⟨S32x128, s⟩, ⟨S32x128, s⟩]
    concatenates_S32x128_S32x128_S32x128_S32x128_S32x512_d1) a b) from rfl) ?_
  refine congrArg (deq _) ?_
  exact cat_cols s s s s _ (fun _ a b => at2 s a b) (fun _ _ _ _ => rfl) (fun _ _ _ _ => rfl) (fun _ _ _ _ => rfl) (fun _ _ _ _ => rfl) ha hb

/-- The value of a branch on a super block, as loaded. -/
theorem gv_load (vs : View sig .tc sp S1536x128 .f32) (vx : View sig .tc sp S1536x512 .fp8e4m3)
    (X : BufTy.Contents (Elt F) vx.ty) (S : BufTy.Contents (Elt F) vs.ty) {os ox : Fin 2 → ℕ} (is) (ix) {n a b : ℕ}
    (hs : os = ![n, 0]) (hx : ox = ![n, 0]) (ha : a < 32) (hb : b < 512) :
    at2 (k0_pay34 (vs.readAt (Elt F) (Rect.unit (s := S1536x128) os S32x128.size is).toLoadRect S)
      (vx.readAt (Elt F) (Rect.unit (s := S1536x512) ox S32x512.size ix).toLoadRect X)) a b = gv (vx.read (Elt F) X) (vs.read (Elt F) S) (n + a) b := by
  rw [pay34_at _ _ ha hb]
  refine congrArg₂ deq ?_ ?_
  · refine (at2_load (w0 := 32) (w1 := 512) vx X ix hx ha hb).trans ?_
    rw [Nat.zero_add]
  · refine (at2_load (w0 := 32) (w1 := 128) vs S is hs ha (Nat.mod_lt _ (by omega))).trans ?_
    rw [Nat.zero_add]

/-- The scales of the tasks of eight rows, as loaded and gathered. -/
theorem lv_load {off : ℕ → ℕ} (hS : Sorted off) (v21 : View sig .tc sp S1536x128 .i32) (v17 : View sig .tc sp S4x32x128 .f32)
    (X21 : BufTy.Contents (Elt F) v21.ty) (X17 : BufTy.Contents (Elt F) v17.ty) (h21 : RankTab off (v21.read (Elt F) X21) 1536)
    {o21 : Fin 2 → ℕ} (i21) {o0 o1 o2 o3 : Fin 3 → ℕ} (i0) (i1) (i2) (i3) {m n : ℕ} (hm : m < 192) (hn : n = R off (8 * m))
    (h : o21 = ![8 * m, 0]) (h0 : o0 = ![0, n, 0]) (h1 : o1 = ![1, n, 0]) (h2 : o2 = ![2, n, 0]) (h3 : o3 = ![3, n, 0]) {a b : ℕ} (ha : a < 8) (hb : b < 512) :
    at2 (grp (v21.readAt (Elt F) (Rect.unit (s := S1536x128) o21 S8x128.size i21).toLoadRect X21)
      (v17.readAt (Elt F) (Rect.unit (s := S4x32x128) o0 S1x8x128.size i0).toLoadRect X17)
      (v17.readAt (Elt F) (Rect.unit (s := S4x32x128) o1 S1x8x128.size i1).toLoadRect X17)
      (v17.readAt (Elt F) (Rect.unit (s := S4x32x128) o2 S1x8x128.size i2).toLoadRect X17)
      (v17.readAt (Elt F) (Rect.unit (s := S4x32x128) o3 S1x8x128.size i3).toLoadRect X17)) a b = lv off (v17.read (Elt F) X17) (8 * m + a) b := by
  have hb' : ∀ a, a < 8 → R off (8 * m) ≤ R off (8 * m + a) ∧ R off (8 * m + a) ≤ R off (8 * m) + a := fun a ha =>
    ⟨R_mono (by omega), R_add_le hS _ _ (by omega)⟩
  have hslab : ∀ (o : Fin 3 → ℕ) (io) (cc : ℕ), o = ![cc, n, 0] → ∀ a, a < 8 → ∀ b, b < 128 →
      at3 (v17.readAt (Elt F) (Rect.unit (s := S4x32x128) o S1x8x128.size io).toLoadRect X17) 0 (R off (8 * m + a) - R off (8 * m)) b
        = at3 (v17.read (Elt F) X17) cc (R off (8 * m + a)) b := by
    intro o io cc ho a ha b hb
    have := hb' a ha
    refine (at3_load (w0 := 1) (w1 := 8) (w2 := 128) v17 X17 io ho (by omega) (by omega) hb).trans ?_
    rw [Nat.add_zero, Nat.zero_add, hn]
    congr 1; omega
  refine grp_at _ _ _ _ _ (fun a => R off (8 * m + a) - R off (8 * m)) (fun cc a b => at3 (v17.read (Elt F) X17) cc (R off (8 * m + a)) b) ?_ ?_
    (hslab _ i0 0 h0) (hslab _ i1 1 h1) (hslab _ i2 2 h2) (hslab _ i3 3 h3) ha hb
  · intro a ha b hb
    rw [at2_load (w0 := 8) (w1 := 128) v21 X21 i21 h ha hb, Nat.zero_add]
    have e := h21 (ValueIdx.ix2 (Fin.ofNat 1536 (8 * m + a)) (Fin.ofNat 128 b)) (Fin.isLt _)
    have e0 : ((ValueIdx.ix2 (Fin.ofNat 1536 (8 * m + a)) (Fin.ofNat 128 b) : S1536x128.Idx) 0).val = 8 * m + a := Nat.mod_eq_of_lt (by omega)
    rw [e0] at e
    refine e.trans ?_
    rw [show 8 * ((8 * m + a) / 8) = 8 * m by omega]
  · intro a ha
    have := hb' a ha
    show R off (8 * m + a) - R off (8 * m) < 8
    omega

/-- The gradient times the scales of the 32 rows. -/
theorem dhl_at (v154 : Vec F S32x512 .f32) (v221 v274 v327 : FVec F S8x512 .f32) (r : Vec F S8x128 .i32) (x0 x1 x2 x3 : Vec F S1x8x128 .f32)
    (l : ℕ → ℕ → F .f32) (h0 : ∀ a, a < 8 → ∀ b, b < 512 → at2 v221 a b = l (8 * 0 + a) b) (h1 : ∀ a, a < 8 → ∀ b, b < 512 → at2 v274 a b = l (8 * 1 + a) b)
    (h2 : ∀ a, a < 8 → ∀ b, b < 512 → at2 v327 a b = l (8 * 2 + a) b) (h3 : ∀ a, a < 8 → ∀ b, b < 512 → at2 (grp r x0 x1 x2 x3) a b = l (8 * 3 + a) b)
    {a b : ℕ} (ha : a < 32) (hb : b < 512) :
    at2 (k0_pay56 v154 v221 v274 v327 r (k0_pay49 r x0) (k0_pay50 r x1) (k0_pay51 x2) (k0_pay52 r) k0_pay53 x3) a b
      = FloatOps.mulf (at2 v154 a b) (l a b) := by
  refine Eq.trans (show _ = FloatOps.mulf (at2 v154 a b) (at2 (concatenate S32x512 0 [⟨S8x512, v221⟩, ⟨S8x512, v274⟩, ⟨S8x512, v327⟩, ⟨S8x512, grp r x0 x1 x2 x3⟩]
    concatenates_S8x512_S8x512_S8x512_S8x512_S32x512_d0) a b) from rfl) ?_
  refine congrArg (FloatOps.mulf _) ?_
  refine (cat_rows v221 v274 v327 (grp r x0 x1 x2 x3) _ (fun m a b => l (8 * m + a) b) h0 h1 h2 h3 ha hb).trans ?_
  show l (8 * (a / 8) + a % 8) b = l a b
  rw [Nat.div_add_mod]

/-- One store of a block's sums. -/
theorem acc_step (v : View sig .tc sp S200x512 .f32) (f : BufTy.Contents (Elt F) v.ty) {off : ℕ → ℕ} {p : ℕ → ℕ → F .f32} {o : Fin 2 → ℕ} (inb)
    (L : List (View.Piece (Elt F) S200x512 .f32)) (w : FVec F S8x512 .f32) {n m : ℕ} (ho : o = ![8 * m, 0]) (hm : m = SL off n)
    (hA : Acc off p (v.read (Elt F) (v.writes (Elt F) f L)) n)
    (hw : ∀ a, a < 8 → ∀ b, b < 512 → at2 w a b = FloatOps.addf (at2 (v.readAt (Elt F) (Rect.unit (s := S200x512) o S8x512.size inb).toLoadRect (v.writes (Elt F) f L)) a b)
      (p (8 * n + a) b)) :
    Acc off p (v.read (Elt F) (v.writes (Elt F) f ((⟨Rect.unit (s := S200x512) o S8x512.size inb, w⟩ : View.Piece (Elt F) S200x512 .f32) :: L))) (n + 1) := by
  intro r hr b hb
  show _ = if SL off n = r / 8 then _ else _
  by_cases h : SL off n = r / 8
  · rw [if_pos h]
    refine (at2_store (w0 := 8) (w1 := 512) v f inb w L ho (by omega) (by omega)).trans ?_
    rw [hw _ (by omega) _ (by omega)]
    refine congrArg₂ FloatOps.addf ?_ (congrArg₂ p (by omega) (by omega))
    refine (at2_load (w0 := 8) (w1 := 512) v (v.writes (Elt F) f L) inb ho (by omega) (by omega)).trans ?_
    rw [show 8 * m + (r - 8 * m) = r by omega, show 0 + (b - 0) = b by omega]
    exact hA r hr b hb
  · rw [if_neg h]
    exact (at2_store_ne (w0 := 8) (w1 := 512) v f inb w L ho hr (by omega)).trans (hA r hr b hb)

/-- The three stores of a super block. -/
theorem rows_step (v11 v12 : View sig .tc sp S1536x512 .bf16) (v15 : View sig .tc sp S1536x512 .f32) (f11 : BufTy.Contents (Elt F) v11.ty)
    (f12 : BufTy.Contents (Elt F) v12.ty) (f15 : BufTy.Contents (Elt F) v15.ty) {dh g u l : ℕ → ℕ → F .f32} {o : Fin 2 → ℕ} (inb) {n : ℕ} (hn : n + 32 ≤ 1536)
    (ho : o = ![n, 0]) (w11 w12 : FVec F S32x512 .bf16) (w15 : FVec F S32x512 .f32)
    (h : Rows dh g u l (v11.read (Elt F) f11) (v12.read (Elt F) f12) (v15.read (Elt F) f15) n)
    (hu : ∀ a, a < 32 → ∀ b, b < 512 → at2 w12 a b = duS (dh (n + a) b) (l (n + a) b) (g (n + a) b))
    (hg : ∀ a, a < 32 → ∀ b, b < 512 → at2 w11 a b = dgS (dh (n + a) b) (l (n + a) b) (g (n + a) b) (u (n + a) b))
    (hp : ∀ a, a < 32 → ∀ b, b < 512 → at2 w15 a b = pS (dh (n + a) b) (g (n + a) b) (u (n + a) b)) :
    Rows dh g u l (v11.read (Elt F) (v11.writes (Elt F) f11 [⟨Rect.unit (s := S1536x512) o S32x512.size inb, w11⟩]))
      (v12.read (Elt F) (v12.writes (Elt F) f12 [⟨Rect.unit (s := S1536x512) o S32x512.size inb, w12⟩]))
      (v15.read (Elt F) (v15.writes (Elt F) f15 [⟨Rect.unit (s := S1536x512) o S32x512.size inb, w15⟩])) (n + 32) := by
  refine ⟨fun a ha b hb => ?_, fun a ha b hb => ?_, fun a ha b hb => ?_⟩
  · by_cases e : a < n
    · exact (at2_store_ne (w0 := 32) (w1 := 512) v12 f12 inb w12 [] ho (by omega) (.inl e)).trans (h.du a e b hb)
    · refine (at2_store (w0 := 32) (w1 := 512) v12 f12 inb w12 [] ho (by omega) (by omega)).trans ?_
      rw [Nat.sub_zero, hu _ (by omega) _ hb, show n + (a - n) = a by omega]
  · by_cases e : a < n
    · exact (at2_store_ne (w0 := 32) (w1 := 512) v11 f11 inb w11 [] ho (by omega) (.inl e)).trans (h.dg a e b hb)
    · refine (at2_store (w0 := 32) (w1 := 512) v11 f11 inb w11 [] ho (by omega) (by omega)).trans ?_
      rw [Nat.sub_zero, hg _ (by omega) _ hb, show n + (a - n) = a by omega]
  · by_cases e : a < n
    · exact (at2_store_ne (w0 := 32) (w1 := 512) v15 f15 inb w15 [] ho (by omega) (.inl e)).trans (h.p a e b hb)
    · refine (at2_store (w0 := 32) (w1 := 512) v15 f15 inb w15 [] ho (by omega) (by omega)).trans ?_
      rw [Nat.sub_zero, hp _ (by omega) _ hb, show n + (a - n) = a by omega]

/-- A block's eight rows of a super block's 32. -/
theorem slice_rows (x : FVec F S32x512 .f32) {o : ℕ} (h : S32x512.Slices ![o, 0] S8x512) {a b : ℕ} (ha : a < 8) (hb : b < 512) (ho : o ≤ 24) :
    at2 (extractStridedSlice S8x512 ![o, 0] x h) a b = at2 x (o + a) b := by
  unfold at2
  refine congrArg x (funext fun d => Fin.ext ?_)
  obtain rfl | rfl := (by decide : ∀ c : Fin 2, c = 0 ∨ c = 1) d
  · show o + a % 8 = (o + a) % 32
    omega
  · show 0 + b % 512 = b % 512
    omega

end

end Cert.KernelIdeal.Body

end
-- ==== Proof.KernelIdeal.Super.lean ====
/- The loop over the super blocks of 32 rows: the gradients of the two branches, each row's part of the gradient of its
   task's scale, and the running sums of those parts by slot. -/
module

public import proofs.«01_k».proof.Proof.Gen.KernelIdeal.Loops
public import proofs.«01_k».proof.Proof.KernelIdeal.SuperVals

@[expose] public section

set_option maxRecDepth 16384
set_option maxHeartbeats 4000000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.Words Cert.Rank

variable {F : FTy → Type} [FloatOps F]

/-- The resources of the run: the frame kit's. -/
local notation "𝕄" => MT nD τ sig Unit (Elt F) ℕ (UR sig nD τ) ℕ

open Cert.At Cert.Spec Cert.Vals

section Trips

variable (𝒱 : Variants) (c : Dev nD) (bd : Option 𝒱.V) (E : Set ℕ) (i : grid0.Coords) (arg1 : Memref sig .tc .smem S25 .i32) (harg1 : arg1.IsWhole) (arg2 : Memref sig .tc .vmem S1536x3584 .bf16) (harg2 : arg2.IsWhole) (arg3 : Memref sig .tc .vmem S1536x512 .fp8e4m3) (harg3 : arg3.IsWhole) (arg4 : Memref sig .tc .vmem S1536x512 .fp8e4m3) (harg4 : arg4.IsWhole) (arg5 : Memref sig .tc .vmem S12x128 .f32) (harg5 : arg5.IsWhole) (arg6 : Memref sig .tc .vmem S12x128 .f32) (harg6 : arg6.IsWhole) (arg7 : Memref sig .tc .vmem S24x512 .f32) (harg7 : arg7.IsWhole) (arg8 : Memref sig .tc .vmem S256x3584 .i8) (harg8 : arg8.IsWhole) (arg9 : Memref sig .tc .vmem S148x3584 .f32) (harg9 : arg9.IsWhole) (arg10 : Memref sig .tc .vmem S24x512 .f32) (harg10 : arg10.IsWhole) (arg11 : Memref sig .tc .vmem S1536x512 .bf16) (harg11 : arg11.IsWhole) (arg12 : Memref sig .tc .vmem S1536x512 .bf16) (harg12 : arg12.IsWhole) (arg13 : Memref sig .tc .vmem S512x3584 .bf16) (harg13 : arg13.IsWhole) (arg14 : Memref sig .tc .vmem S1536x512 .f32) (harg14 : arg14.IsWhole) (arg15 : Memref sig .tc .vmem S1536x512 .f32) (harg15 : arg15.IsWhole) (arg16 : Memref sig .tc .vmem S200x512 .f32) (harg16 : arg16.IsWhole) (arg17 : Memref sig .tc .vmem S4x32x128 .f32) (harg17 : arg17.IsWhole) (arg18 : Memref sig .tc .vmem S32x512 .f32) (harg18 : arg18.IsWhole) (arg19 : Memref sig .tc .vmem S1536x128 .f32) (harg19 : arg19.IsWhole) (arg20 : Memref sig .tc .vmem S1536x128 .f32) (harg20 : arg20.IsWhole) (arg21 : Memref sig .tc .vmem S1536x128 .i32) (harg21 : arg21.IsWhole) (arg22 : Memref sig .tc .smem S192 .i32) (harg22 : arg22.IsWhole) (arg23 : Memref sig .tc .smem S192 .i32) (harg23 : arg23.IsWhole) (arg24 : Memref sig .tc .smem S25 .i32) (harg24 : arg24.IsWhole) (arg25 : Memref sig .tc .smem S26 .i32) (harg25 : arg25.IsWhole)

theorem slab_inb (cc n : ℕ) (hc : cc < 4) (h : n ≤ 24) : ∀ a, (![cc, n, 0] : Fin 3 → ℕ) a + S1x8x128.size a ≤ S4x32x128.size a := by
  intro a
  obtain rfl | rfl | rfl := (by decide : ∀ a : Fin 3, a = 0 ∨ a = 1 ∨ a = 2) a
  · show cc + 1 ≤ 4; omega
  · show n + 8 ≤ 32; omega
  · show 0 + 128 ≤ 128; omega

theorem chk5_of (w : BitVec 32) (h : w.toNat ≤ 24) : k0_chk5 w :=
  ⟨slab_inb 0 _ (by omega) h, slab_inb 1 _ (by omega) h, slab_inb 2 _ (by omega) h, slab_inb 3 _ (by omega) h⟩

theorem slot_toNat (w : BitVec 32) (h : w.toNat ≤ 24) : (Scalar.muli w 8#32).toNat = 8 * w.toNat := by
  rw [muli_toNat _ _ (by show w.toNat * 8 < _; omega)]
  show w.toNat * 8 = _; omega

theorem off48_of (w : BitVec 32) (h : w.toNat ≤ 24) : k0_off48 w = ![8 * w.toNat, 0] :=
  congrArg (fun n : ℕ => ![n, 0]) (slot_toNat w h)

theorem chk9_of (w : BitVec 32) (h : w.toNat ≤ 24) : k0_chk9 w := by
  refine ⟨?_, ?_⟩
  · show 8 ∣ (Scalar.muli w 8#32).toNat
    rw [slot_toNat w h]; exact Dvd.intro _ rfl
  · show ∀ a, k0_off48 w a + S8x512.size a ≤ S200x512.size a
    rw [off48_of w h]
    refine Fin.forall_fin_two.mpr ⟨?_, ?_⟩
    · show 8 * w.toNat + 8 ≤ 200
      omega
    · show 0 + 512 ≤ 512
      omega

set_option warn.classDefReducibility false in
/-- THE SUPER BLOCKS. Before trip `k` the rows of the first `k` super blocks are done. -/
def loopInv7 (off : ℕ → ℕ) (X3 : BufTy.Contents (Elt F) arg3.view.ty) (X4 : BufTy.Contents (Elt F) arg4.view.ty)
    (X14 : BufTy.Contents (Elt F) arg14.view.ty) (X17 : BufTy.Contents (Elt F) arg17.view.ty)
    (X19 : BufTy.Contents (Elt F) arg19.view.ty) (X20 : BufTy.Contents (Elt F) arg20.view.ty)
    (X21 : BufTy.Contents (Elt F) arg21.view.ty) (X22 : BufTy.Contents (Elt F) arg22.view.ty) (X23 : BufTy.Contents (Elt F) arg23.view.ty)
    (hS : Sorted off) (h21 : RankTab off (arg21.view.read (Elt F) X21) 1536)
    (h22 : ∀ b, b < 192 → nw (arg22.view.read (Elt F) X22) b = R off (8 * b))
    (h23 : ∀ b, b < 192 → nw (arg23.view.read (Elt F) X23) b = SL off b) :
    LoopInvTy_k0_t7 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 where
  inv k acc := iprop((arg3.view.loc (c : Thread nD τ) ↦[arg3.view.set]{fullShare} X3)
    ∗ (arg4.view.loc (c : Thread nD τ) ↦[arg4.view.set]{fullShare} X4)
    ∗ (arg14.view.loc (c : Thread nD τ) ↦[arg14.view.set]{fullShare} X14)
    ∗ (arg17.view.loc (c : Thread nD τ) ↦[arg17.view.set]{fullShare} X17)
    ∗ (arg19.view.loc (c : Thread nD τ) ↦[arg19.view.set]{fullShare} X19)
    ∗ (arg20.view.loc (c : Thread nD τ) ↦[arg20.view.set]{fullShare} X20)
    ∗ (arg21.view.loc (c : Thread nD τ) ↦[arg21.view.set]{fullShare} X21)
    ∗ (arg22.view.loc (c : Thread nD τ) ↦[arg22.view.set]{fullShare} X22)
    ∗ (arg23.view.loc (c : Thread nD τ) ↦[arg23.view.set]{fullShare} X23)
    ∗ ∃ f11 f12 f15 f16, (arg11.view.loc (c : Thread nD τ) ↦[arg11.view.set]{fullShare} f11)
      ∗ (arg12.view.loc (c : Thread nD τ) ↦[arg12.view.set]{fullShare} f12)
      ∗ (arg15.view.loc (c : Thread nD τ) ↦[arg15.view.set]{fullShare} f15)
      ∗ (arg16.view.loc (c : Thread nD τ) ↦[arg16.view.set]{fullShare} f16)
      ∗ ⌜Rows (at2 (arg14.view.read (Elt F) X14)) (gv (arg3.view.read (Elt F) X3) (arg19.view.read (Elt F) X19))
            (gv (arg4.view.read (Elt F) X4) (arg20.view.read (Elt F) X20)) (lv off (arg17.view.read (Elt F) X17))
            (arg11.view.read (Elt F) f11) (arg12.view.read (Elt F) f12) (arg15.view.read (Elt F) f15) (32 * k)
          ∧ Acc off (fun a b => pS (at2 (arg14.view.read (Elt F) X14) a b) (gv (arg3.view.read (Elt F) X3) (arg19.view.read (Elt F) X19) a b)
              (gv (arg4.view.read (Elt F) X4) (arg20.view.read (Elt F) X20) a b)) (arg16.view.read (Elt F) f16) (4 * k)⌝)
  step k acc := by
    have hk : k.val < 48 := Nat.lt_of_lt_of_le k.isLt k0_t7_abs.2.1
    have e22 : ∀ (o : Fin 1 → ℕ) (inb : ∀ a, o a + S1.size a ≤ S192.size a) (b : ℕ), o = ![b] → b < 192 →
        (arg22.view.readAt (Elt F) (Rect.unit (s := S192) o S1.size inb).toLoadRect X22 (Shape.Idx.first (numel1_S1.symm ▸ Nat.one_pos)) : BitVec 32).toNat = R off (8 * b) := by
      intro o inb b ho hb
      rw [toNat_readAt _ _ _ _ ho rfl, h22 b hb]
    have e23 : ∀ (o : Fin 1 → ℕ) (inb : ∀ a, o a + S1.size a ≤ S192.size a) (b : ℕ), o = ![b] → b < 192 →
        (arg23.view.readAt (Elt F) (Rect.unit (s := S192) o S1.size inb).toLoadRect X23 (Shape.Idx.first (numel1_S1.symm ▸ Nat.one_pos)) : BitVec 32).toNat = SL off b := by
      intro o inb b ho hb
      rw [toNat_readAt _ _ _ _ ho rfl, h23 b hb]
    have r0 := e22 _ (k0_off22_inb k) _ (k0_off22_eq k) (by omega)
    have r1 := e22 _ (k0_off28_inb k) _ (k0_off28_eq k) (by omega)
    have r2 := e22 _ (k0_off34_inb k) _ (k0_off34_eq k) (by omega)
    have r3 := e22 _ (k0_off40_inb k) _ (k0_off40_eq k) (by omega)
    have s0 := e23 _ (k0_off47_inb k) _ (k0_off47_eq k) (by omega)
    have s1 := e23 _ (k0_off49_inb k) _ (k0_off49_eq k) (by omega)
    have s2 := e23 _ (k0_off51_inb k) _ (k0_off51_eq k) (by omega)
    have s3 := e23 _ (k0_off53_inb k) _ (k0_off53_eq k) (by omega)
    have hR : ∀ n, R off n ≤ 24 := fun n => (R_le n).trans (by omega)
    have c5 : k0_chk5 _ := chk5_of _ (r0.trans_le (hR _))
    have c6 : k0_chk6 _ := chk5_of _ (r1.trans_le (hR _))
    have c7 : k0_chk7 _ := chk5_of _ (r2.trans_le (hR _))
    have c8 : k0_chk8 _ := chk5_of _ (r3.trans_le (hR _))
    have c9 : k0_chk9 _ := chk9_of _ (s0.trans_le (SL_le _))
    have c10 : k0_chk10 _ := chk9_of _ (s1.trans_le (SL_le _))
    have c11 : k0_chk11 _ := chk9_of _ (s2.trans_le (SL_le _))
    have c12 : k0_chk12 _ := chk9_of _ (s3.trans_le (SL_le _))
    iintro ⟨H3, H4, H14, H17, H19, H20, H21, H22, H23, ⟨%f11, %f12, %f15, %f16, H11, H12, H15, H16, %hC⟩⟩
    obtain ⟨hRows, hAcc⟩ := hC
    unfold k0_t7_body
    sl_exec
    sl_step
    isplitl [H3]; · iexact H3
    isplitl [H4]; · iexact H4
    isplitl [H14]; · iexact H14
    isplitl [H17]; · iexact H17
    isplitl [H19]; · iexact H19
    isplitl [H20]; · iexact H20
    isplitl [H21]; · iexact H21
    isplitl [H22]; · iexact H22
    isplitl [H23]; · iexact H23
    iexists _, _, _, _
    isplitl [H11]; · iexact H11
    isplitl [H12]; · iexact H12
    isplitl [H15]; · iexact H15
    isplitl [H16]; · iexact H16
    ipureintro
    have hg : ∀ a, a < 32 → ∀ b, b < 512 → at2 (loopInv7.sl.r_2 arg3 arg19 X3 X19 k) a b
        = gv (arg3.view.read (Elt F) X3) (arg19.view.read (Elt F) X19) (32 * k.val + a) b := fun a ha b hb =>
      gv_load arg19.view arg3.view X3 X19 (k0_off21_inb k) (k0_off20_inb k) (k0_off21_eq k) (k0_off20_eq k) ha hb
    have hu : ∀ a, a < 32 → ∀ b, b < 512 → at2 (loopInv7.sl.r_3 arg4 arg20 X4 X20 k) a b
        = gv (arg4.view.read (Elt F) X4) (arg20.view.read (Elt F) X20) (32 * k.val + a) b := fun a ha b hb =>
      gv_load arg20.view arg4.view X4 X20 (k0_off21_inb k) (k0_off20_inb k) (k0_off21_eq k) (k0_off20_eq k) ha hb
    have hdh : ∀ a, a < 32 → ∀ b, b < 512 → at2 (loopInv7.sl.r_1 arg14 X14 k) a b = at2 (arg14.view.read (Elt F) X14) (32 * k.val + a) b := fun a ha b hb =>
      (at2_load (w0 := 32) (w1 := 512) arg14.view X14 (k0_off20_inb k) (k0_off20_eq k) ha hb).trans (by rw [Nat.zero_add])
    have hl := fun (m : ℕ) (hm : m < 4) (o21 : Fin 2 → ℕ) (i21) (o0 o1 o2 o3 : Fin 3 → ℕ) (i0) (i1) (i2) (i3) (n : ℕ) (hn : n = R off (8 * (4 * k.val + m)))
        (h : o21 = ![32 * k.val + 8 * m, 0]) (h0 : o0 = ![0, n, 0]) (h1 : o1 = ![1, n, 0]) (h2 : o2 = ![2, n, 0]) (h3 : o3 = ![3, n, 0])
        (a : ℕ) (ha : a < 8) (b : ℕ) (hb : b < 512) =>
      (lv_load (F := F) hS arg21.view arg17.view X21 X17 h21 (o21 := o21) i21 (o0 := o0) (o1 := o1) (o2 := o2) (o3 := o3) i0 i1 i2 i3
        (m := 4 * k.val + m) (by omega) hn (by rw [h]; congr 1; omega) h0 h1 h2 h3 ha hb).trans
        (congrArg (lv off (arg17.view.read (Elt F) X17) · b) (by omega : _ = 32 * k.val + (8 * m + a)))
    have hdhl := fun (a : ℕ) (ha : a < 32) (b : ℕ) (hb : b < 512) =>
      dhl_at (loopInv7.sl.r_1 arg14 X14 k) (loopInv7.sl.v221 arg17 arg21 arg22 X17 X21 X22 k c5)
        (loopInv7.sl.v274 arg17 arg21 arg22 X17 X21 X22 k c6) (loopInv7.sl.v327 arg17 arg21 arg22 X17 X21 X22 k c7)
        (loopInv7.sl.r_12 arg21 X21 k) _ _ _ _ (fun a b => lv off (arg17.view.read (Elt F) X17) (32 * k.val + a) b)
        (hl 0 (by omega) _ (k0_off23_inb k) _ _ _ _ (k0_off24_inb _ c5) (k0_off25_inb _ c5) (k0_off26_inb _ c5) (k0_off27_inb _ c5) _ r0 (k0_off23_eq k) rfl rfl rfl rfl)
        (hl 1 (by omega) _ (k0_off29_inb k) _ _ _ _ (k0_off30_inb _ c6) (k0_off31_inb _ c6) (k0_off32_inb _ c6) (k0_off33_inb _ c6) _ r1 (k0_off29_eq k) rfl rfl rfl rfl)
        (hl 2 (by omega) _ (k0_off35_inb k) _ _ _ _ (k0_off36_inb _ c7) (k0_off37_inb _ c7) (k0_off38_inb _ c7) (k0_off39_inb _ c7) _ r2 (k0_off35_eq k) rfl rfl rfl rfl)
        (hl 3 (by omega) _ (k0_off41_inb k) _ _ _ _ (k0_off42_inb _ c8) (k0_off43_inb _ c8) (k0_off44_inb _ c8) (k0_off45_inb _ c8) _ r3 (k0_off41_eq k) rfl rfl rfl rfl)
        ha hb
    have hp : ∀ a, a < 32 → ∀ b, b < 512 → at2 (k0_pay59 (loopInv7.sl.r_1 arg14 X14 k) (loopInv7.sl.r_2 arg3 arg19 X3 X19 k) (loopInv7.sl.r_3 arg4 arg20 X4 X20 k)) a b
        = pS (at2 (arg14.view.read (Elt F) X14) (32 * k.val + a) b) (gv (arg3.view.read (Elt F) X3) (arg19.view.read (Elt F) X19) (32 * k.val + a) b)
          (gv (arg4.view.read (Elt F) X4) (arg20.view.read (Elt F) X20) (32 * k.val + a) b) := by
      intro a ha b hb
      rw [← hdh a ha b hb, ← hg a ha b hb, ← hu a ha b hb]; rfl
    refine ⟨?_, ?_⟩
    · refine rows_step arg11.view arg12.view arg15.view f11 f12 f15 (k0_off46_inb k) (n := 32 * k.val) (by omega) (k0_off46_eq k) _ _ _ hRows ?_ ?_ ?_
      · intro a ha b hb
        rw [← hg a ha b hb]
        exact congrArg (fun z => FloatOps.truncf .bf16 _ (FloatOps.mulf z (silu (at2 (loopInv7.sl.r_2 arg3 arg19 X3 X19 k) a b)))) ((hdhl a ha b hb).trans (congrArg (FloatOps.mulf · _) (hdh a ha b hb)))
      · intro a ha b hb
        rw [← hg a ha b hb, ← hu a ha b hb]
        exact congrArg (fun z => FloatOps.truncf .bf16 _ (FloatOps.mulf (FloatOps.mulf z (at2 (loopInv7.sl.r_3 arg4 arg20 X4 X20 k) a b))
          (FloatOps.addf (FloatOps.logistic (at2 (loopInv7.sl.r_2 arg3 arg19 X3 X19 k) a b)) (FloatOps.mulf (silu (at2 (loopInv7.sl.r_2 arg3 arg19 X3 X19 k) a b))
            (FloatOps.subf (FloatOps.ofBits .f32 0x3F800000#32) (FloatOps.logistic (at2 (loopInv7.sl.r_2 arg3 arg19 X3 X19 k) a b)))))))
          ((hdhl a ha b hb).trans (congrArg (FloatOps.mulf · _) (hdh a ha b hb)))
      · intro a ha b hb
        refine Eq.trans ?_ (hp a ha b hb)
        unfold k0_pay60
        rw [shapeCast_id]
    · have hpay : ∀ (m : ℕ) (hm : m < 4) (h : S32x512.Slices ![8 * m, 0] S8x512) (old : Vec F S8x512 .f32) (a : ℕ), a < 8 → ∀ b, b < 512 →
          at2 (shapeCast S8x512 (addf old (extractStridedSlice S8x512 ![8 * m, 0]
            (k0_pay59 (loopInv7.sl.r_1 arg14 X14 k) (loopInv7.sl.r_2 arg3 arg19 X3 X19 k) (loopInv7.sl.r_3 arg4 arg20 X4 X20 k)) h)) shapeCasts_S8x512_S8x512) a b
          = FloatOps.addf (at2 old a b) (pS (at2 (arg14.view.read (Elt F) X14) (8 * (4 * k.val + m) + a) b)
            (gv (arg3.view.read (Elt F) X3) (arg19.view.read (Elt F) X19) (8 * (4 * k.val + m) + a) b)
            (gv (arg4.view.read (Elt F) X4) (arg20.view.read (Elt F) X20) (8 * (4 * k.val + m) + a) b)) := by
        intro m hm h old a ha b hb
        rw [shapeCast_id]
        refine congrArg (FloatOps.addf _) ((slice_rows _ h ha hb (by omega)).trans ?_)
        rw [hp _ (by omega) _ hb, show 32 * k.val + (8 * m + a) = 8 * (4 * k.val + m) + a by omega]
      show Acc off _ _ (4 * k.val + 3 + 1)
      refine acc_step arg16.view f16 (k0_off54_inb _ c12) _ _ (off48_of _ (s3.trans_le (SL_le _))) s3 ?_ (hpay 3 (by omega) slices_S32x512_o24_0_S8x512 _)
      refine acc_step arg16.view f16 (k0_off52_inb _ c11) _ _ (off48_of _ (s2.trans_le (SL_le _))) s2 ?_ (hpay 2 (by omega) slices_S32x512_o16_0_S8x512 _)
      refine acc_step arg16.view f16 (k0_off50_inb _ c10) _ _ (off48_of _ (s1.trans_le (SL_le _))) s1 ?_ (hpay 1 (by omega) slices_S32x512_o8_0_S8x512 _)
      exact acc_step arg16.view f16 (k0_off48_inb _ c9) [] _ (off48_of _ (s0.trans_le (SL_le _))) s0 hAcc (hpay 0 (by omega) slices_S32x512_o0_0_S8x512 _)

end Trips

end Cert.KernelIdeal.Body

end
-- ==== Proof.Mask.lean ====
/- The rows of a task's first and last block that are its own: the kernel's comparison of words, as a condition on natural
   numbers. -/
module

public import proofs.«01_k».proof.Proof.Words
public import proofs.«01_k».proof.Proof.Spec
public import Idealize.ShloMosaic.Lib.WordCmp

@[expose] public section

noncomputable section

namespace Cert.Mask

open Idealize.ShloMosaic Cert.Words Cert.Spec

/-- The block that holds a task's first row. -/
def fbw (s : ℕ) : ℕ := min (s / 8) 191
/-- The block that holds a task's last row. -/
def lbw (e : ℕ) : ℕ := (e - 1) / 8

theorem shr3_toNat (w : BitVec 32) : (Scalar.shrui w 3#32).toNat = w.toNat / 8 := by
  show (IntOp.shrui _ w 3#32).toNat = _
  rw [IntOp.shrui, if_pos (by decide)]
  show (w >>> 3).toNat = _
  rw [BitVec.toNat_ushiftRight, Nat.shiftRight_eq_div_pow]

theorem fb_toNat (w : BitVec 32) : (Scalar.minsi (Scalar.shrui w 3#32) 191#32).toNat = fbw w.toNat := by
  have e := shr3_toNat w
  have hw := w.isLt
  have e1 := toInt_of_lt (x := Scalar.shrui w 3#32) (by omega)
  have e2 : (191#32).toInt = 191 := by decide
  show (if (Scalar.shrui w 3#32).slt 191#32 then Scalar.shrui w 3#32 else 191#32).toNat = min (w.toNat / 8) 191
  have e3 : (Scalar.shrui w 3#32).slt 191#32 = decide (w.toNat / 8 < 191) := by
    rw [BitVec.slt, e1, e2]; simp only [decide_eq_decide]; omega
  rw [e3]
  by_cases h' : w.toNat / 8 < 191
  · rw [if_pos (decide_eq_true h'), e]; omega
  · rw [if_neg (by simpa using h')]
    show 191 = _; omega

theorem lb_toNat (w : BitVec 32) (h : w.toNat ≤ 1536) : (Scalar.shrui (Scalar.maxsi (Scalar.subi w 1#32) 0#32) 3#32).toNat = lbw w.toNat := by
  rw [shr3_toNat]
  show _ = (w.toNat - 1) / 8
  refine congrArg (· / 8) ?_
  show (if (0#32).slt (w - 1#32) then w - 1#32 else 0#32).toNat = _
  by_cases h0 : w.toNat = 0
  · have : w = 0#32 := BitVec.eq_of_toNat_eq h0
    subst this
    decide
  · have e : (w - 1#32).toNat = w.toNat - 1 := by
      rw [BitVec.toNat_sub]; simp; omega
    have e1 := toInt_of_lt (x := w - 1#32) (by omega)
    have e3 : (0#32).slt (w - 1#32) = decide (0 < w.toNat - 1) := by
      rw [BitVec.slt, e1, e]; simp
    rw [e3]
    by_cases h' : 0 < w.toNat - 1
    · rw [if_pos (decide_eq_true h'), e]
    · rw [if_neg (by simpa using h')]
      show 0 = _; omega

theorem mul8_toNat (w : BitVec 32) (h : w.toNat ≤ 192) : (Scalar.muli w 8#32).toNat = 8 * w.toNat := by
  rw [muli_toNat _ _ (by show w.toNat * 8 < _; omega)]
  show w.toNat * 8 = _; omega

theorem sub_toInt (x y : BitVec 32) (hx : x.toNat ≤ 4096) (hy : y.toNat ≤ 4096) : (x - y).toInt = (x.toNat : Int) - y.toNat := by
  rw [BitVec.toInt_sub, toInt_of_lt (by omega : x.toNat < 2 ^ 31), toInt_of_lt (by omega : y.toNat < 2 ^ 31)]
  rw [Int.bmod_eq_of_le] <;> omega

theorem one_ne : (0#1 : BitVec 1) ≠ 1#1 := by decide

theorem andi_ite (p q : Prop) [Decidable p] [Decidable q] :
    (IntOp.andi (if p then 1#1 else 0#1) (if q then 1#1 else 0#1) : BitVec 1) = if p ∧ q then 1#1 else 0#1 := by
  by_cases hp : p <;> by_cases hq : q <;> simp [hp, hq, IntOp.andi]

/-- The mask of a block's rows: from the first of the task's to before the next task's. -/
theorem mask_eq (x s e b : BitVec 32) (m : Prop) [Decidable m] {sub : ℕ} (hx : x.toNat = sub) (hsub : sub < 8) (hs : s.toNat ≤ 1536) (he : e.toNat ≤ 1536)
    (hb : b.toNat ≤ 191) :
    (IntOp.andi (IntOp.cmpi .sge x (Scalar.subi s (Scalar.muli b 8#32)))
      (IntOp.cmpi .slt x (Scalar.select (if m then 1#1 else 0#1) (Scalar.subi e (Scalar.muli b 8#32)) 4294967295#32)) : BitVec 1)
      = if m ∧ s.toNat ≤ 8 * b.toNat + sub ∧ 8 * b.toNat + sub < e.toNat then 1#1 else 0#1 := by
  have e8 := mul8_toNat b (by omega)
  have es := sub_toInt s (Scalar.muli b 8#32) (by omega) (by omega)
  have ee := sub_toInt e (Scalar.muli b 8#32) (by omega) (by omega)
  have ex := toInt_of_lt (x := x) (by omega)
  rw [select_ite, WordCmp.cmpi_sge_eq, WordCmp.cmpi_slt_eq, WordCmp.ofBool_decide_eq_ite, WordCmp.ofBool_decide_eq_ite, andi_ite]
  refine if_congr ?_ rfl rfl
  rw [show Scalar.subi s (Scalar.muli b 8#32) = s - Scalar.muli b 8#32 from rfl, show Scalar.subi e (Scalar.muli b 8#32) = e - Scalar.muli b 8#32 from rfl, es, ex]
  by_cases hm : m
  · rw [if_pos hm, ee]
    constructor
    · intro h; exact ⟨hm, by omega, by omega⟩
    · intro h; constructor <;> omega
  · rw [if_neg hm]
    have : (4294967295#32).toInt = -1 := by decide
    rw [this]
    constructor
    · intro h; omega
    · intro h; exact absurd h.1 hm

/-- The first block is the task's and mixed. -/
theorem mixed1_eq (s e sl : BitVec 32) (hs : s.toNat ≤ 1536) (he : e.toNat ≤ 1536) :
    Scalar.andi (Scalar.cmpi .sgt e s) (Scalar.cmpi .eq sl 24#32) = if s.toNat < e.toNat ∧ sl.toNat = 24 then 1#1 else 0#1 := by
  rw [cmpi_sgt (by omega) (by omega), cmpi_eq]
  exact andi_ite _ _

/-- The last block is the task's, mixed and not the first. -/
theorem mixed2_eq (s e sl fb lb : BitVec 32) (hs : s.toNat ≤ 1536) (he : e.toNat ≤ 1536) :
    Scalar.andi (Scalar.andi (Scalar.cmpi .sgt e s) (Scalar.cmpi .eq sl 24#32)) (Scalar.cmpi .ne lb fb)
      = if (s.toNat < e.toNat ∧ sl.toNat = 24) ∧ lb.toNat ≠ fb.toNat then 1#1 else 0#1 := by
  rw [mixed1_eq s e sl hs he, cmpi_ne]
  refine Eq.trans ?_ (andi_ite _ _)
  refine congrArg (IntOp.andi _) ?_
  by_cases h : lb.toNat = fb.toNat
  · rw [if_pos h, if_neg (not_not.mpr h)]
  · rw [if_neg h, if_pos h]

variable {F : FTy → Type} [FloatOps F]

/-- One sublane's part of the gradient of the scale of rank `r`: the sum of the full blocks, and the task's own rows of its
first and last block where those are mixed. -/
def tot (start slot : ℕ → ℕ) (acc p : ℕ → ℕ → F .f32) (r sub col : ℕ) : F .f32 :=
  FloatOps.addf (FloatOps.addf (acc (8 * r + sub) col)
    (if (start r < start (r + 1) ∧ slot (fbw (start r)) = 24) ∧ start r ≤ 8 * fbw (start r) + sub ∧ 8 * fbw (start r) + sub < start (r + 1)
      then p (8 * fbw (start r) + sub) col else z0))
    (if ((start r < start (r + 1) ∧ slot (lbw (start (r + 1))) = 24) ∧ lbw (start (r + 1)) ≠ fbw (start r)) ∧ start r ≤ 8 * lbw (start (r + 1)) + sub
        ∧ 8 * lbw (start (r + 1)) + sub < start (r + 1)
      then p (8 * lbw (start (r + 1)) + sub) col else z0)

abbrev S8w : Shape := ⟨2, ![8, 512]⟩
abbrev S1w : Shape := ⟨1, ![512]⟩

theorem red8 : S8w.Reduces [0] S1w := by decide

/-- The gradient of the scale of rank `r`: the sum over the eight sublanes. -/
def dlR (start slot : ℕ → ℕ) (acc p : ℕ → ℕ → F .f32) (r col : ℕ) : F .f32 :=
  multiReduction .add [0] S1w (fun j : S8w.Idx => tot start slot acc p r (j 0).val (j 1).val) 0x00000000#32 red8 (.inl rfl) rfl (ValueIdx.ix1 (Fin.ofNat 512 col))

/-- The table of gradients after the first `k` ranks. -/
def dlT (start slot task : ℕ → ℕ) (acc p : ℕ → ℕ → F .f32) (row col : ℕ) : ℕ → F .f32
  | 0 => z0
  | r + 1 => if task r = row then dlR start slot acc p r col else dlT start slot task acc p row col r

end Cert.Mask

end
-- ==== Proof.KernelIdeal.Finish.lean ====
/- The loop that finishes the gradients of the scales, one rank at a time. -/
module

public import proofs.«01_k».proof.Proof.Gen.KernelIdeal.Loops
public import proofs.«01_k».proof.Proof.Mask
public import Idealize.ShloMosaic.Lib.Pointwise

@[expose] public section

set_option maxRecDepth 16384
set_option maxHeartbeats 4000000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.Words Cert.Rank

variable {F : FTy → Type} [FloatOps F]

/-- The resources of the run: the frame kit's. -/
local notation "𝕄" => MT nD τ sig Unit (Elt F) ℕ (UR sig nD τ) ℕ

open Cert.At Cert.Spec Cert.Mask

section Trips

variable (𝒱 : Variants) (c : Dev nD) (bd : Option 𝒱.V) (E : Set ℕ) (i : grid0.Coords) (arg1 : Memref sig .tc .smem S25 .i32) (harg1 : arg1.IsWhole) (arg2 : Memref sig .tc .vmem S1536x3584 .bf16) (harg2 : arg2.IsWhole) (arg3 : Memref sig .tc .vmem S1536x512 .fp8e4m3) (harg3 : arg3.IsWhole) (arg4 : Memref sig .tc .vmem S1536x512 .fp8e4m3) (harg4 : arg4.IsWhole) (arg5 : Memref sig .tc .vmem S12x128 .f32) (harg5 : arg5.IsWhole) (arg6 : Memref sig .tc .vmem S12x128 .f32) (harg6 : arg6.IsWhole) (arg7 : Memref sig .tc .vmem S24x512 .f32) (harg7 : arg7.IsWhole) (arg8 : Memref sig .tc .vmem S256x3584 .i8) (harg8 : arg8.IsWhole) (arg9 : Memref sig .tc .vmem S148x3584 .f32) (harg9 : arg9.IsWhole) (arg10 : Memref sig .tc .vmem S24x512 .f32) (harg10 : arg10.IsWhole) (arg11 : Memref sig .tc .vmem S1536x512 .bf16) (harg11 : arg11.IsWhole) (arg12 : Memref sig .tc .vmem S1536x512 .bf16) (harg12 : arg12.IsWhole) (arg13 : Memref sig .tc .vmem S512x3584 .bf16) (harg13 : arg13.IsWhole) (arg14 : Memref sig .tc .vmem S1536x512 .f32) (harg14 : arg14.IsWhole) (arg15 : Memref sig .tc .vmem S1536x512 .f32) (harg15 : arg15.IsWhole) (arg16 : Memref sig .tc .vmem S200x512 .f32) (harg16 : arg16.IsWhole) (arg17 : Memref sig .tc .vmem S4x32x128 .f32) (harg17 : arg17.IsWhole) (arg18 : Memref sig .tc .vmem S32x512 .f32) (harg18 : arg18.IsWhole) (arg19 : Memref sig .tc .vmem S1536x128 .f32) (harg19 : arg19.IsWhole) (arg20 : Memref sig .tc .vmem S1536x128 .f32) (harg20 : arg20.IsWhole) (arg21 : Memref sig .tc .vmem S1536x128 .i32) (harg21 : arg21.IsWhole) (arg22 : Memref sig .tc .smem S192 .i32) (harg22 : arg22.IsWhole) (arg23 : Memref sig .tc .smem S192 .i32) (harg23 : arg23.IsWhole) (arg24 : Memref sig .tc .smem S25 .i32) (harg24 : arg24.IsWhole) (arg25 : Memref sig .tc .smem S26 .i32) (harg25 : arg25.IsWhole)

theorem off57_of (w : BitVec 32) : k0_off57 w = ![fbw w.toNat] := congrArg (fun n : ℕ => ![n]) (fb_toNat w)
theorem off58_of (w : BitVec 32) (h : w.toNat ≤ 1536) : k0_off58 w = ![lbw w.toNat] := congrArg (fun n : ℕ => ![n]) (lb_toNat w h)

theorem fbw_le (s : ℕ) : fbw s ≤ 191 := Nat.min_le_right _ _
theorem lbw_le {e : ℕ} (h : e ≤ 1536) : lbw e ≤ 191 := by unfold lbw; omega

theorem mult12_of (w : BitVec 32) : (k0_mult12 w).toNat = 8 * fbw w.toNat := by
  have e := fb_toNat w
  have := fbw_le w.toNat
  show (Scalar.muli (Scalar.minsi (Scalar.shrui w 3#32) 191#32) 8#32).toNat = _
  rw [mul8_toNat _ (by omega), e]
theorem mult13_of (w : BitVec 32) (h : w.toNat ≤ 1536) : (k0_mult13 w).toNat = 8 * lbw w.toNat := by
  have e := lb_toNat w h
  have := lbw_le h
  show (Scalar.muli (Scalar.shrui (Scalar.maxsi (Scalar.subi w 1#32) 0#32) 3#32) 8#32).toNat = _
  rw [mul8_toNat _ (by omega), e]
theorem off60_of (w : BitVec 32) : k0_off60 w = ![8 * fbw w.toNat, 0] := congrArg (fun n : ℕ => ![n, 0]) (mult12_of w)
theorem off61_of (w : BitVec 32) (h : w.toNat ≤ 1536) : k0_off61 w = ![8 * lbw w.toNat, 0] := congrArg (fun n : ℕ => ![n, 0]) (mult13_of w h)

theorem inb192 {n : ℕ} (h : n ≤ 191) : ∀ a, (![n] : Fin 1 → ℕ) a + S1.size a ≤ S192.size a := by
  intro a
  have : a = 0 := Subsingleton.elim _ _
  subst this
  show n + 1 ≤ 192; omega
theorem inb1536 {n : ℕ} (h : n ≤ 191) : ∀ a, (![8 * n, 0] : Fin 2 → ℕ) a + S8x512.size a ≤ S1536x512.size a := by
  refine Fin.forall_fin_two.mpr ⟨?_, ?_⟩
  · show 8 * n + 8 ≤ 1536; omega
  · show 0 + 512 ≤ 512; omega

theorem chk13_of (w : BitVec 32) : k0_chk13 w := by
  refine ⟨?_, ?_, ?_⟩
  · rw [off57_of]; exact inb192 (fbw_le _)
  · rw [mult12_of]; exact Dvd.intro _ rfl
  · rw [off60_of]; exact inb1536 (fbw_le _)
theorem chk14_of (w : BitVec 32) (h : w.toNat ≤ 1536) : k0_chk14 w := by
  refine ⟨?_, ?_, ?_⟩
  · rw [off58_of w h]; exact inb192 (lbw_le h)
  · rw [mult13_of w h]; exact Dvd.intro _ rfl
  · rw [off61_of w h]; exact inb1536 (lbw_le h)
theorem chk15_of (w : BitVec 32) (h : w.toNat ≤ 24) : k0_chk15 w := by
  refine Fin.forall_fin_two.mpr ⟨?_, ?_⟩
  · show w.toNat + 1 ≤ 32; omega
  · show 0 + 512 ≤ 512; omega

/-- What is summed over the sublanes. -/
def pre3 (s e lb : BitVec 32) (m : BitVec 1) (a q p2 : Vec F S8x512 .f32) : FVec F S8x512 .f32 :=
  addf (addf a q) (select
    (andi (cmpi .sge (iota .tc S8x512 32 [0] iota_S8x512_d0_w32) (broadcast S8x512 (Scalar.subi s (Scalar.muli lb 8#32))))
      (cmpi .slt (iota .tc S8x512 32 [0] iota_S8x512_d0_w32) (broadcast S8x512 (Scalar.select m (Scalar.subi e (Scalar.muli lb 8#32)) 4294967295#32))))
    p2 (broadcast S8x512 (Scalar.ofBits .f32 0x00000000#32)))

theorem pay3_eq (s e lb : BitVec 32) (m : BitVec 1) (a q p2 : Vec F S8x512 .f32) :
    k0_pay3 s e lb m a q p2 = shapeCast S1x512 (shapeCast S1x512 (multiReduction .add [0] S512 (pre3 s e lb m a q p2) 0x00000000#32 reduces_S8x512_S512 (.inl rfl) rfl)
      shapeCasts_S512_S1x512) shapeCasts_S1x512_S1x512 := rfl

/-- The sum over the sublanes of the finished parts, as a row. -/
theorem pay3_at (s e sl1 sl2 : BitVec 32) (a p1 p2 : Vec F S8x512 .f32) (start slot : ℕ → ℕ) (acc p : ℕ → ℕ → F .f32) (r : ℕ)
    (hs : s.toNat = start r) (he : e.toNat = start (r + 1)) (hs' : start r ≤ 1536) (he' : start (r + 1) ≤ 1536)
    (h1 : sl1.toNat = slot (fbw (start r))) (h2 : sl2.toNat = slot (lbw (start (r + 1))))
    (ha : ∀ a', a' < 8 → ∀ b, b < 512 → at2 a a' b = acc (8 * r + a') b) (hp1 : ∀ a', a' < 8 → ∀ b, b < 512 → at2 p1 a' b = p (8 * fbw (start r) + a') b)
    (hp2 : ∀ a', a' < 8 → ∀ b, b < 512 → at2 p2 a' b = p (8 * lbw (start (r + 1)) + a') b) {col : ℕ} (hc : col < 512) :
    at2 (k0_pay3 s e (Scalar.shrui (Scalar.maxsi (Scalar.subi e 1#32) 0#32) 3#32)
      (Scalar.andi (Scalar.andi (Scalar.cmpi .sgt e s) (Scalar.cmpi .eq sl2 24#32)) (Scalar.cmpi .ne (Scalar.shrui (Scalar.maxsi (Scalar.subi e 1#32) 0#32) 3#32)
        (Scalar.minsi (Scalar.shrui s 3#32) 191#32))) a (k0_pay64 (iota .tc S8x512 32 [0] iota_S8x512_d0_w32) s e sl1 p1) p2) 0 col
      = dlR start slot acc p r col := by
  have key : pre3 s e (Scalar.shrui (Scalar.maxsi (Scalar.subi e 1#32) 0#32) 3#32)
      (Scalar.andi (Scalar.andi (Scalar.cmpi .sgt e s) (Scalar.cmpi .eq sl2 24#32)) (Scalar.cmpi .ne (Scalar.shrui (Scalar.maxsi (Scalar.subi e 1#32) 0#32) 3#32)
        (Scalar.minsi (Scalar.shrui s 3#32) 191#32))) a (k0_pay64 (iota .tc S8x512 32 [0] iota_S8x512_d0_w32) s e sl1 p1) p2
      = fun j : S8x512.Idx => tot start slot acc p r (j 0).val (j 1).val := by
    funext j
    have hj0 : (j 0).val < 8 := (j 0).isLt
    have hj1 : (j 1).val < 512 := (j 1).isLt
    have hio : (iota .tc S8x512 32 [0] iota_S8x512_d0_w32 j : BitVec 32).toNat = (j 0).val := by
      have : (j 0).val < 2 ^ 32 := by omega
      pointwise
      exact Nat.mod_eq_of_lt this
    have hf := fb_toNat s
    have hl := lb_toNat e (by omega)
    have hfl := fbw_le s.toNat
    have hll := lbw_le (e := e.toNat) (by omega)
    refine congrArg₂ FloatOps.addf (congrArg₂ FloatOps.addf ?_ ?_) ?_
    · rw [at2_idx a j]; exact ha _ hj0 _ hj1
    · show Scalar.select (IntOp.andi (IntOp.cmpi .sge _ _) (IntOp.cmpi .slt _ (Scalar.select (Scalar.andi _ _) _ _))) (p1 j) z0 = _
      rw [mixed1_eq s e sl1 (by omega) (by omega)]
      refine (congrArg (Scalar.select · (p1 j) z0) (mask_eq _ s e (Scalar.minsi (Scalar.shrui s 3#32) 191#32) _ hio hj0 (by omega) (by omega) (by omega))).trans ?_
      rw [select_ite, hf, hs, he, h1]
      refine if_congr Iff.rfl ?_ rfl
      rw [at2_idx p1 j]; exact hp1 _ hj0 _ hj1
    · show Scalar.select (IntOp.andi (IntOp.cmpi .sge _ _) (IntOp.cmpi .slt _ (Scalar.select (Scalar.andi _ _) _ _))) (p2 j) z0 = _
      rw [mixed2_eq s e sl2 _ _ (by omega) (by omega)]
      refine (congrArg (Scalar.select · (p2 j) z0) (mask_eq _ s e (Scalar.shrui (Scalar.maxsi (Scalar.subi e 1#32) 0#32) 3#32) _ hio hj0 (by omega) (by omega) (by omega))).trans ?_
      rw [select_ite, hf, hl, hs, he, h2]
      refine if_congr Iff.rfl ?_ rfl
      rw [at2_idx p2 j]; exact hp2 _ hj0 _ hj1
  rw [pay3_eq, key, shapeCast_id]
  unfold at2 dlR
  pointwise
  rfl

set_option warn.classDefReducibility false in
/-- THE GRADIENTS OF THE SCALES. Before trip `k` the first `k` ranks are done. -/
def loopInv8 (start task slot : ℕ → ℕ) (X15 : BufTy.Contents (Elt F) arg15.view.ty) (X16 : BufTy.Contents (Elt F) arg16.view.ty)
    (X23 : BufTy.Contents (Elt F) arg23.view.ty) (X24 : BufTy.Contents (Elt F) arg24.view.ty) (X25 : BufTy.Contents (Elt F) arg25.view.ty)
    (v147 : IVec S8x512 32) (hv : v147 = iota .tc S8x512 32 [0] iota_S8x512_d0_w32)
    (h23 : ∀ b, b < 192 → nw (arg23.view.read (Elt F) X23) b = slot b)
    (h24 : ∀ r, r < 24 → nw (arg24.view.read (Elt F) X24) r = task r) (h24' : ∀ r, r < 24 → task r ≤ 24)
    (h25 : ∀ r, r ≤ 24 → nw (arg25.view.read (Elt F) X25) r = start r) (h25' : ∀ r, r ≤ 24 → start r ≤ 1536) :
    LoopInvTy_k0_t8 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v147 where
  inv k acc := iprop((arg15.view.loc (c : Thread nD τ) ↦[arg15.view.set]{fullShare} X15)
    ∗ (arg16.view.loc (c : Thread nD τ) ↦[arg16.view.set]{fullShare} X16)
    ∗ (arg23.view.loc (c : Thread nD τ) ↦[arg23.view.set]{fullShare} X23)
    ∗ (arg24.view.loc (c : Thread nD τ) ↦[arg24.view.set]{fullShare} X24)
    ∗ (arg25.view.loc (c : Thread nD τ) ↦[arg25.view.set]{fullShare} X25)
    ∗ ∃ f18, (arg18.view.loc (c : Thread nD τ) ↦[arg18.view.set]{fullShare} f18)
      ∗ ⌜∀ row, row < 24 → ∀ col, col < 512 → at2 (arg18.view.read (Elt F) f18) row col
          = dlT start slot task (at2 (arg16.view.read (Elt F) X16)) (at2 (arg15.view.read (Elt F) X15)) row col k⌝)
  step k acc := by
    subst hv
    have hk : k.val < 24 := Nat.lt_of_lt_of_le k.isLt k0_t8_abs.2.1
    have es := toNat_readAt (F := F) arg25.view X25 (k0_off55_inb k) (Shape.Idx.first (numel1_S1.symm ▸ Nat.one_pos)) (k0_off55_eq k) rfl
    have ee := toNat_readAt (F := F) arg25.view X25 (k0_off56_inb k) (Shape.Idx.first (numel1_S1.symm ▸ Nat.one_pos)) (k0_off56_eq k) rfl
    have et := toNat_readAt (F := F) arg24.view X24 (k0_off62_inb k) (Shape.Idx.first (numel1_S1.symm ▸ Nat.one_pos)) (k0_off62_eq k) rfl
    rw [h25 _ (by omega)] at es ee
    rw [h24 _ hk] at et
    have bs := h25' k.val (by omega)
    have be := h25' (k.val + 1) (by omega)
    have bt := h24' k.val hk
    have c13 := chk13_of (arg25.view.readAt (Elt F) (Rect.unit (s := S26) (k0_off55 k) S1.size (k0_off55_inb k)).toLoadRect X25 (Shape.Idx.first (numel1_S1.symm ▸ Nat.one_pos)))
    have c14 := chk14_of _ (ee.trans_le be)
    have c15 := chk15_of _ (et.trans_le bt)
    have e1 := toNat_readAt (F := F) arg23.view X23 (k0_off57_inb _ c13) (Shape.Idx.first (numel1_S1.symm ▸ Nat.one_pos)) (off57_of _) rfl
    have e2 := toNat_readAt (F := F) arg23.view X23 (k0_off58_inb _ c14) (Shape.Idx.first (numel1_S1.symm ▸ Nat.one_pos)) (off58_of _ (ee.trans_le be)) rfl
    iintro ⟨H15, H16, H23, H24, H25, ⟨%f18, H18, %hC⟩⟩
    unfold k0_t8_body
    sl_exec
    sl_step
    isplitl [H15]; · iexact H15
    isplitl [H16]; · iexact H16
    isplitl [H23]; · iexact H23
    isplitl [H24]; · iexact H24
    isplitl [H25]; · iexact H25
    iexists _
    isplitl [H18]; · iexact H18
    ipureintro
    have ho : k0_off63 (loopInv8.sl.r_6 arg24 X24 k) = ![task k.val, 0] := congrArg (fun n : ℕ => ![n, 0]) et
    intro row hrow col hcol
    show _ = if task k.val = row then _ else _
    have hfl := fbw_le (start k.val)
    have hll := lbw_le be
    by_cases h : task k.val = row
    · rw [if_pos h]
      refine (at2_store (w0 := 1) (w1 := 512) arg18.view f18 (k0_off63_inb _ c15) _ [] ho (by omega) (by omega)).trans ?_
      rw [h, Nat.sub_self, Nat.sub_zero]
      refine pay3_at (loopInv8.sl.r arg25 X25 k) (loopInv8.sl.r_1 arg25 X25 k) _ _ _ _ _ start slot _ _ k.val es ee bs be ?_ ?_ ?_ ?_ ?_ hcol
      · exact e1.trans ((h23 _ (by rw [es]; omega)).trans (congrArg (fun n => slot (fbw n)) es))
      · exact e2.trans ((h23 _ (by rw [ee]; omega)).trans (congrArg (fun n => slot (lbw n)) ee))
      · intro a ha b hb
        refine (at2_load (w0 := 8) (w1 := 512) arg16.view X16 (k0_off59_inb k) (k0_off59_eq k) ha hb).trans ?_
        rw [Nat.zero_add]
      · intro a ha b hb
        refine (at2_load (w0 := 8) (w1 := 512) arg15.view X15 (k0_off60_inb _ c13) (off60_of _) ha hb).trans ?_
        rw [Nat.zero_add, es]
      · intro a ha b hb
        refine (at2_load (w0 := 8) (w1 := 512) arg15.view X15 (k0_off61_inb _ c14) (off61_of _ (ee.trans_le be)) ha hb).trans ?_
        rw [Nat.zero_add, ee]
    · rw [if_neg h]
      exact (at2_store_ne (w0 := 1) (w1 := 512) arg18.view f18 (k0_off63_inb _ c15) _ [] ho (by omega) (by omega)).trans (hC row hrow col hcol)

end Trips

end Cert.KernelIdeal.Body

end
-- ==== Proof.KernelIdeal.Decode.lean ====
/- The values stored before the pass over the rows: the scales spread over the rows, the decoded weights, the product. -/
module

public import proofs.«01_k».proof.Proof.Gen.KernelIdeal.Loops
public import proofs.«01_k».proof.Proof.Spec
public import proofs.«01_k».proof.Proof.Words
public import Idealize.ShloMosaic.Lib.Pointwise

@[expose] public section

set_option maxRecDepth 16384
set_option maxHeartbeats 4000000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.Words Cert.Rank

variable {F : FTy → Type} [FloatOps F]

/-- The resources of the run: the frame kit's. -/
local notation "𝕄" => MT nD τ sig Unit (Elt F) ℕ (UR sig nD τ) ℕ

open Cert.At Cert.Spec

/-- A word's low four bits, as a signed number. -/
def lo4 (x : BitVec 8) : BitVec 32 := IntOp.subi (IntOp.xori (IntOp.andi (x.zeroExtend 32) 15#32) 8#32) 8#32
/-- A word's high four bits, as a signed number. -/
def hi4 (x : BitVec 8) : BitVec 32 := IntOp.subi (IntOp.xori (IntOp.shrsi .vector (x.zeroExtend 32) 4#32) 8#32) 8#32
/-- The decoded weight of a packed word: the code of the given parity times the group's scale. -/
def wt (x : BitVec 8) (par : ℕ) (s : F .f32) : F .bf16 :=
  FloatOps.mulf (FloatOps.sitofp .bf16 (if par = 0 then lo4 x else hi4 x)) (FloatOps.truncf .bf16 (by decide) s)

/-- A row of scales spread over 128 rows, one scale to a row. -/
theorem pay10_at (v : Vec F S1x128 .f32) {a b : ℕ} (ha : a < 128) (hb : b < 128) : at2 (k0_pay10 v) a b = at2 v 0 a := by
  unfold at2
  unfold k0_pay10
  pointwise
  refine congrArg v (congrArg₂ ValueIdx.ix2 rfl (Fin.ext ?_))
  rfl

/-- Two arrays of 64 rows, row by row in turn. -/
def inter (x y : IVec S64x3584 32) : IVec S128x3584 32 :=
  shapeCast S128x3584 (concatenate S64x2x3584 1 [⟨S64x1x3584, shapeCast S64x1x3584 x shapeCasts_S64x3584_S64x1x3584⟩,
    ⟨S64x1x3584, shapeCast S64x1x3584 y shapeCasts_S64x3584_S64x1x3584⟩] concatenates_S64x1x3584_S64x1x3584_S64x2x3584_d1) shapeCasts_S64x2x3584_S128x3584

theorem inter_at (x y : IVec S64x3584 32) {a b : ℕ} (ha : a < 128) (hb : b < 3584) :
    at2 (inter x y) a b = if a % 2 = 0 then at2 x (a / 2) b else at2 y (a / 2) b := by
  have h2 : a / 2 < 64 := by omega
  have e : at2 (inter x y) a b = (concatenate S64x2x3584 1 [⟨S64x1x3584, shapeCast S64x1x3584 x shapeCasts_S64x3584_S64x1x3584⟩,
    ⟨S64x1x3584, shapeCast S64x1x3584 y shapeCasts_S64x3584_S64x1x3584⟩] concatenates_S64x1x3584_S64x1x3584_S64x2x3584_d1)
      (ValueIdx.ix3 (Fin.ofNat 64 (a / 2)) (Fin.ofNat 2 a) (Fin.ofNat 3584 b)) := by
    unfold at2 inter
    refine shapeCast_apply _ _ _ _ ?_
    rw [Shape.rowMajor_val_three, Shape.rowMajor_val_two]
    show (a / 2 % 64 * 2 + a % 2) * 3584 + b % 3584 = a % 128 * 3584 + b % 3584
    omega
  have r : ∀ (z : IVec S64x3584 32), shapeCast S64x1x3584 z shapeCasts_S64x3584_S64x1x3584
      (ValueIdx.ix3 (Fin.ofNat 64 (a / 2)) (0 : Fin 1) (Fin.ofNat 3584 b)) = at2 z (a / 2) b := by
    intro z
    unfold at2
    refine shapeCast_apply _ _ _ _ ?_
    rw [Shape.rowMajor_val_three, Shape.rowMajor_val_two]
    show a / 2 % 64 * 3584 + b % 3584 = (a / 2 % 64 * 1 + 0) * 3584 + b % 3584
    omega
  have key : ∀ (k : ℕ) (hk : k < 2) (z : IVec S64x3584 32)
      (hy : ([⟨S64x1x3584, shapeCast S64x1x3584 x shapeCasts_S64x3584_S64x1x3584⟩,
        ⟨S64x1x3584, shapeCast S64x1x3584 y shapeCasts_S64x3584_S64x1x3584⟩] : List ((s : Shape) × (s.Idx → BitVec 32)))[k]
          = ⟨S64x1x3584, shapeCast S64x1x3584 z shapeCasts_S64x3584_S64x1x3584⟩)
      (hp : ((([⟨S64x1x3584, shapeCast S64x1x3584 x shapeCasts_S64x3584_S64x1x3584⟩,
        ⟨S64x1x3584, shapeCast S64x1x3584 y shapeCasts_S64x3584_S64x1x3584⟩] : List ((s : Shape) × (s.Idx → BitVec 32))).take k).map (·.1)
        |>.map fun s => if h : s.rank = S64x2x3584.rank then s.size ((1 : Fin 3).cast h.symm) else 0).sum = k), a % 2 = k →
      at2 (inter x y) a b = at2 z (a / 2) b := by
    intro k hk z hy hp hak
    rw [e]
    refine (concatenate_apply_piece (t := S64x2x3584) 1 [⟨S64x1x3584, shapeCast S64x1x3584 x shapeCasts_S64x3584_S64x1x3584⟩,
        ⟨S64x1x3584, shapeCast S64x1x3584 y shapeCasts_S64x3584_S64x1x3584⟩] concatenates_S64x1x3584_S64x1x3584_S64x2x3584_d1 _ k hk _
        (shapeCast S64x1x3584 z shapeCasts_S64x3584_S64x1x3584) hy rfl k hp
        (ValueIdx.ix3 (Fin.ofNat 64 (a / 2)) (0 : Fin 1) (Fin.ofNat 3584 b)) ?_ ?_).trans (r z)
    · intro c hc
      obtain rfl | rfl | rfl := (by decide : ∀ c : Fin 3, c = 0 ∨ c = 1 ∨ c = 2) c
      · rfl
      · exact absurd rfl hc
      · rfl
    · show k + 0 = a % 2
      omega
  rcases Nat.mod_two_eq_zero_or_one a with h | h
  · rw [if_pos h]; exact key 0 (by decide) x rfl rfl h
  · rw [if_neg (by omega)]; exact key 1 (by decide) y rfl rfl h

/-- The weights of 128 rows, from 64 rows of packed words. -/
theorem pay77_at (x : Vec F S64x3584 .i8) (s : Vec F S1x3584 .f32) {a b : ℕ} (ha : a < 128) (hb : b < 3584) :
    at2 (k0_pay77 x s) a b = wt (at2 x (a / 2) b) (a % 2) (at2 s 0 b) := by
  have e : k0_pay77 x s = shapeCast S128x3584 (mulf (sitofp .bf16 (inter (fun j => lo4 (x j)) (fun j => hi4 (x j))))
    (broadcastTo S128x3584 (truncf .bf16 s bitsLt_bf16_f32) broadcasts_S1x3584_S128x3584)) shapeCasts_S128x3584_S128x3584 := rfl
  rw [e, shapeCast_id]
  refine congrArg₂ FloatOps.mulf ?_ ?_
  · refine congrArg (FloatOps.sitofp .bf16) ?_
    refine (inter_at _ _ ha hb).trans ?_
    split <;> rfl
  · unfold at2
    pointwise
    rfl

/-- The table of scales after `n` groups of 128 rows: a row's lanes all hold the scale of the row. -/
def ScTab (x : S12x128.Idx → F .f32) (y : S1536x128.Idx → F .f32) (n : ℕ) : Prop :=
  ∀ a, a < 128 * n → ∀ b, b < 128 → at2 y a b = at2 x (a / 128) (a % 128)

section Steps

variable {sp : Space}

/-- The next group of rows stored. -/
theorem scTab_step (vx : View sig .tc sp S12x128 .f32) (vy : View sig .tc sp S1536x128 .f32) (X : BufTy.Contents (Elt F) vx.ty) (f : BufTy.Contents (Elt F) vy.ty)
    (L : List (View.Piece (Elt F) S1536x128 .f32)) (n : ℕ) {ox : Fin 2 → ℕ} {oy : Fin 2 → ℕ} (ix) (iy) (hx : ox = ![n, 0]) (hy : oy = ![128 * n, 0]) (hn : n < 12)
    (h : ScTab (vx.read (Elt F) X) (vy.read (Elt F) (vy.writes (Elt F) f L)) n) :
    ScTab (vx.read (Elt F) X) (vy.read (Elt F) (vy.writes (Elt F) f (⟨Rect.unit (s := S1536x128) oy S128x128.size iy,
      k0_pay10 (vx.readAt (Elt F) (Rect.unit (s := S12x128) ox S1x128.size ix).toLoadRect X)⟩ :: L))) (n + 1) := by
  intro a ha b hb
  rcases Nat.lt_or_ge a (128 * n) with h1 | h1
  · exact (at2_store_ne (w0 := 128) (w1 := 128) vy f iy _ L hy (by omega) (.inl h1)).trans (h a h1 b hb)
  · refine (at2_store (w0 := 128) (w1 := 128) vy f iy _ L hy (by omega) (by omega)).trans ?_
    refine (pay10_at _ (by omega) (by omega)).trans ?_
    refine (at2_load (w0 := 1) (w1 := 128) vx X ix hx (by omega) (by omega)).trans ?_
    refine congrArg₂ (at2 _) (by omega) (by omega)

/-- The decoded weights after `n` groups of 128 rows. -/
def WTab (x8 : S256x3584.Idx → BitVec 8) (x9 : S148x3584.Idx → F .f32) (i0 : ℕ) (y : S512x3584.Idx → F .bf16) (n : ℕ) : Prop :=
  ∀ a, a < 128 * n → ∀ b, b < 3584 → at2 y a b = wt (at2 x8 (a / 2) b) (a % 2) (at2 x9 (4 * i0 + a / 128) b)

/-- The next group of weights stored. -/
theorem wTab_step (v8 : View sig .tc sp S256x3584 .i8) (v9 : View sig .tc sp S148x3584 .f32) (vy : View sig .tc sp S512x3584 .bf16) (X8 : BufTy.Contents (Elt F) v8.ty)
    (X9 : BufTy.Contents (Elt F) v9.ty) (f : BufTy.Contents (Elt F) vy.ty)
    (L : List (View.Piece (Elt F) S512x3584 .bf16)) (i0 n : ℕ) {o8 o9 oy : Fin 2 → ℕ} (i8) (i9) (iy) (h8 : o8 = ![64 * n, 0]) (h9 : o9 = ![4 * i0 + n, 0])
    (hy : oy = ![128 * n, 0]) (hn : n < 4) (h : WTab (v8.read (Elt F) X8) (v9.read (Elt F) X9) i0 (vy.read (Elt F) (vy.writes (Elt F) f L)) n) :
    WTab (v8.read (Elt F) X8) (v9.read (Elt F) X9) i0 (vy.read (Elt F) (vy.writes (Elt F) f (⟨Rect.unit (s := S512x3584) oy S128x3584.size iy,
      k0_pay77 (v8.readAt (Elt F) (Rect.unit (s := S256x3584) o8 S64x3584.size i8).toLoadRect X8)
        (v9.readAt (Elt F) (Rect.unit (s := S148x3584) o9 S1x3584.size i9).toLoadRect X9)⟩ :: L))) (n + 1) := by
  intro a ha b hb
  rcases Nat.lt_or_ge a (128 * n) with h1 | h1
  · exact (at2_store_ne (w0 := 128) (w1 := 3584) vy f iy _ L hy (by omega) (.inl h1)).trans (h a h1 b hb)
  · refine (at2_store (w0 := 128) (w1 := 3584) vy f iy _ L hy (by omega) (by omega)).trans ?_
    refine (pay77_at _ _ (by omega) (by omega)).trans ?_
    refine congr (congr (congrArg wt ?_) (by omega)) ?_
    · refine (at2_load (w0 := 64) (w1 := 3584) v8 X8 i8 h8 (by omega) (by omega)).trans ?_
      exact congrArg₂ (at2 _) (by omega) (by omega)
    · refine (at2_load (w0 := 1) (w1 := 3584) v9 X9 i9 h9 (by omega) (by omega)).trans ?_
      exact congrArg₂ (at2 _) (by omega) (by omega)

/-- The product of the incoming gradient's rows, 512 at a time, and the weights' rows, at a row and a column. -/
def dhF (x w : ℕ → ℕ → F .bf16) (a b : ℕ) : F .f32 :=
  at2 (matmul dot_S512x3584_S512x3584_S512x512_1_1_0_0_n_n none (fun j => x (512 * (a / 512) + (j 0).val) (j 1).val) (fun j => w (j 0).val (j 1).val)
    (constant S512x512 .f32 0x00000000#32)) (a % 512) b

/-- The product after `n` groups of 512 rows. -/
def DhTab (x w : ℕ → ℕ → F .bf16) (y : S1536x512.Idx → F .f32) (n : ℕ) : Prop := ∀ a, a < 512 * n → ∀ b, b < 512 → at2 y a b = dhF x w a b

/-- The next group of products stored. -/
theorem dhTab_step (v2 : View sig .tc sp S1536x3584 .bf16) (v13 : View sig .tc sp S512x3584 .bf16) (vy : View sig .tc sp S1536x512 .f32)
    (X2 : BufTy.Contents (Elt F) v2.ty) (X13 : BufTy.Contents (Elt F) v13.ty) (f : BufTy.Contents (Elt F) vy.ty) (w : ℕ → ℕ → F .bf16)
    (L : List (View.Piece (Elt F) S1536x512 .f32)) (n : ℕ) {o2 o13 oy : Fin 2 → ℕ} (i2) (i13) (iy) (h2 : o2 = ![512 * n, 0]) (h13 : o13 = ![0, 0])
    (hy : oy = ![512 * n, 0]) (hn : n < 3) (hw : ∀ a, a < 512 → ∀ b, b < 3584 → at2 (v13.read (Elt F) X13) a b = w a b)
    (h : DhTab (at2 (v2.read (Elt F) X2)) w (vy.read (Elt F) (vy.writes (Elt F) f L)) n) :
    DhTab (at2 (v2.read (Elt F) X2)) w (vy.read (Elt F) (vy.writes (Elt F) f (⟨Rect.unit (s := S1536x512) oy S512x512.size iy,
      k0_pay84 (v2.readAt (Elt F) (Rect.unit (s := S1536x3584) o2 S512x3584.size i2).toLoadRect X2)
        (v13.readAt (Elt F) (Rect.unit (s := S512x3584) o13 S512x3584.size i13).toLoadRect X13)⟩ :: L))) (n + 1) := by
  intro a ha b hb
  rcases Nat.lt_or_ge a (512 * n) with h1 | h1
  · exact (at2_store_ne (w0 := 512) (w1 := 512) vy f iy _ L hy (by omega) (.inl h1)).trans (h a h1 b hb)
  · refine (at2_store (w0 := 512) (w1 := 512) vy f iy _ L hy (by omega) (by omega)).trans ?_
    have e1 : v2.readAt (Elt F) (Rect.unit (s := S1536x3584) o2 S512x3584.size i2).toLoadRect X2
        = fun j : S512x3584.Idx => at2 (v2.read (Elt F) X2) (512 * (a / 512) + (j 0).val) (j 1).val := by
      funext j
      refine (at2_idx (n0 := 512) (n1 := 3584) _ j).trans ?_
      refine (at2_load (w0 := 512) (w1 := 3584) v2 X2 i2 h2 (j 0).isLt (j 1).isLt).trans ?_
      exact congrArg₂ (at2 _) (by omega) (by omega)
    have e2 : v13.readAt (Elt F) (Rect.unit (s := S512x3584) o13 S512x3584.size i13).toLoadRect X13 = fun j : S512x3584.Idx => w (j 0).val (j 1).val := by
      funext j
      refine (at2_idx (n0 := 512) (n1 := 3584) _ j).trans ?_
      refine (at2_load (w0 := 512) (w1 := 3584) v13 X13 i13 h13 (j 0).isLt (j 1).isLt).trans ?_
      rw [Nat.zero_add, Nat.zero_add]
      exact hw _ (j 0).isLt _ (j 1).isLt
    rw [e1, e2]
    unfold k0_pay84 dhF
    rw [show a - 512 * n = a % 512 by omega, Nat.sub_zero]
    exact congrArg (fun z => at2 z (a % 512) b) (shapeCast_id _ _)

end Steps

end Cert.KernelIdeal.Body

end
-- ==== Proof.Canon.lean ====
/- The two tables of ranks as functions of the offsets alone: `Tab` says enough of them to determine every place read. -/
module

public import proofs.«01_k».proof.Proof.Rank

@[expose] public section

noncomputable section

namespace Cert.Rank

open Classical

/-- The first row whose rank is at least `i`, or the number of rows. -/
def stF (off : ℕ → ℕ) (i : ℕ) : ℕ := if h : ∃ row, row < 1536 ∧ i ≤ R off row then Nat.find h else 1536
/-- The task of the rows of rank `i`, or 24 when no row has it. -/
def tkF (off : ℕ → ℕ) (i : ℕ) : ℕ := if ∃ row, row < 1536 ∧ R off row = i then tsk off (stF off i) else 24

variable {off : ℕ → ℕ}

theorem stF_le_iff (i : ℕ) {row : ℕ} (hr : row < 1536) : stF off i ≤ row ↔ i ≤ R off row := by
  unfold stF
  constructor
  · intro h
    by_cases e : ∃ row, row < 1536 ∧ i ≤ R off row
    · rw [dif_pos e] at h
      exact (Nat.find_spec e).2.trans (R_mono h)
    · rw [dif_neg e] at h; omega
  · intro h
    have e : ∃ row, row < 1536 ∧ i ≤ R off row := ⟨row, hr, h⟩
    rw [dif_pos e]
    exact Nat.find_min' e ⟨hr, h⟩

theorem stF_le (i : ℕ) : stF off i ≤ 1536 := by
  unfold stF
  split
  · rename_i e; exact (Nat.find_spec e).1.le
  · exact le_rfl

/-- The task at a row's rank is the row's. -/
theorem tkF_R (hS : Sorted off) {row : ℕ} (hr : row < 1536) : tkF off (R off row) = tsk off row := by
  have h : stF off (R off row) ≤ row := (stF_le_iff _ hr).2 le_rfl
  have h' : R off row ≤ R off (stF off (R off row)) := (stF_le_iff _ (by omega)).1 le_rfl
  unfold tkF
  rw [if_pos ⟨row, hr, rfl⟩]
  exact ((R_eq_iff hS (by omega) hr).1 (le_antisymm (R_mono h) h'))

theorem tkF_le (i : ℕ) : tkF off i ≤ 24 := by
  unfold tkF; split
  · exact (tsk_le _).trans (by omega)
  · exact le_rfl

theorem Tab.start_eq {start task : ℕ → ℕ} (T : Tab off start task) {i : ℕ} (hi : i ≤ 24) : start i = stF off i := by
  refine le_antisymm ?_ ?_
  · rcases Nat.lt_or_ge (stF off i) 1536 with h | h
    · exact (T.le i hi _ h).2 ((stF_le_iff i h).1 le_rfl)
    · exact (T.start_le i hi).trans h
  · rcases Nat.lt_or_ge (start i) 1536 with h | h
    · exact (stF_le_iff i h).2 ((T.le i hi _ h).1 le_rfl)
    · exact (stF_le i).trans h

theorem Tab.task_eq {start task : ℕ → ℕ} (hS : Sorted off) (T : Tab off start task) {i : ℕ} (hi : i < 24) : task i = tkF off i := by
  by_cases h : ∃ row, row < 1536 ∧ R off row = i
  · obtain ⟨row, hr, rfl⟩ := h
    rw [T.task_R row hr, tkF_R hS hr]
  · unfold tkF
    rw [if_neg h]
    exact (T.dead i hi).resolve_left h

end Cert.Rank

end
-- ==== Proof.KernelIdeal.Out.lean ====
/- What one grid point leaves in its three output blocks, and the tables the points share. -/
module

public import proofs.«01_k».proof.Proof.KernelIdeal.Compact
public import proofs.«01_k».proof.Proof.KernelIdeal.Blocks
public import proofs.«01_k».proof.Proof.KernelIdeal.Ranks
public import proofs.«01_k».proof.Proof.KernelIdeal.Lc
public import proofs.«01_k».proof.Proof.KernelIdeal.Super
public import proofs.«01_k».proof.Proof.KernelIdeal.Finish
public import proofs.«01_k».proof.Proof.KernelIdeal.Decode
public import proofs.«01_k».proof.Proof.Canon

@[expose] public section

set_option maxRecDepth 16384
set_option maxHeartbeats 4000000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.Words Cert.Rank

variable {F : FTy → Type} [FloatOps F]

/-- The resources of the run: the frame kit's. -/
local notation "𝕄" => MT nD τ sig Unit (Elt F) ℕ (UR sig nD τ) ℕ

open Cert.At Cert.Spec Cert.Mask

/-- A branch's value: the code times the scale of its row. -/
def gF (x : S1536x512.Idx → F .fp8e4m3) (s : S12x128.Idx → F .f32) (a b : ℕ) : F .f32 := deq (at2 x a b) (at2 s (a / 128) (a % 128))
/-- The scale of a row's task. -/
def lF (off : ℕ → ℕ) (x : S24x512.Idx → F .f32) (a b : ℕ) : F .f32 := at2 x (tsk off a) b
/-- The weights of a block of columns. -/
def wF (x8 : S256x3584.Idx → BitVec 8) (x9 : S148x3584.Idx → F .f32) (i0 a b : ℕ) : F .bf16 :=
  wt (at2 x8 (a / 2) b) (a % 2) (at2 x9 (4 * i0 + a / 128) b)

section Outs

variable (off : ℕ → ℕ) (i0 : ℕ) (x2 : S1536x3584.Idx → F .bf16) (x3 x4 : S1536x512.Idx → F .fp8e4m3) (x5 x6 : S12x128.Idx → F .f32)
  (x7 : S24x512.Idx → F .f32) (x8 : S256x3584.Idx → BitVec 8) (x9 : S148x3584.Idx → F .f32)

/-- The gradient of the product's columns. -/
def dhO (a b : ℕ) : F .f32 := dhF (at2 x2) (wF x8 x9 i0) a b
/-- A row's part of the gradient of its task's scale. -/
def pO (a b : ℕ) : F .f32 := pS (dhO i0 x2 x8 x9 a b) (gF x3 x5 a b) (gF x4 x6 a b)

/-- The block of the linear branch's gradient. -/
def out12 : S1536x512.Idx → F .bf16 := fun j => duS (dhO i0 x2 x8 x9 (j 0).val (j 1).val) (lF off x7 (j 0).val (j 1).val) (gF x3 x5 (j 0).val (j 1).val)
/-- The block of the gated branch's gradient. -/
def out11 : S1536x512.Idx → F .bf16 := fun j =>
  dgS (dhO i0 x2 x8 x9 (j 0).val (j 1).val) (lF off x7 (j 0).val (j 1).val) (gF x3 x5 (j 0).val (j 1).val) (gF x4 x6 (j 0).val (j 1).val)
/-- The block of the scales' gradient. -/
def out10 : S24x512.Idx → F .f32 := fun j =>
  dlT (stF off) (SL off) (tkF off) (fun r b => accS (SL off) (pO i0 x2 x3 x4 x5 x6 x8 x9) (r / 8) (r % 8) b 192) (pO i0 x2 x3 x4 x5 x6 x8 x9) (j 0).val (j 1).val 24

end Outs

/-- The tables every point after the first finds. -/
structure Tabs (off : ℕ → ℕ) (x5 x6 : S12x128.Idx → F .f32) (d19 d20 : S1536x128.Idx → F .f32) (d21 : S1536x128.Idx → BitVec 32)
    (d22 d23 : S192.Idx → BitVec 32) (d24 : S25.Idx → BitVec 32) (d25 : S26.Idx → BitVec 32) : Prop where
  sc5 : ScTab x5 d19 12
  sc6 : ScTab x6 d20 12
  rk : RankTab off d21 1536
  fr : ∀ b, b < 192 → nw d22 b = R off (8 * b)
  sl : ∀ b, b < 192 → nw d23 b = SL off b
  tab : Tab off (nw d25) (nw d24)

theorem accS_congr {sl : ℕ → ℕ} {p p' : ℕ → ℕ → F .f32} {slot sub col : ℕ} (hs : sub < 8) (m : ℕ)
    (h : ∀ a, a < 8 * m → p a col = p' a col) : accS sl p slot sub col m = accS sl p' slot sub col m := by
  induction m with
  | zero => rfl
  | succ m ih =>
    unfold accS
    rw [ih fun a ha => h a (by omega), h (8 * m + sub) (by omega)]

theorem dlR_congr {start start' slot slot' : ℕ → ℕ} {acc acc' p p' : ℕ → ℕ → F .f32} {r col : ℕ} (hr : r < 24) (hc : col < 512)
    (h0 : start r = start' r) (h1 : start (r + 1) = start' (r + 1)) (hs : ∀ b, b < 192 → slot b = slot' b) (hle : start (r + 1) ≤ 1536)
    (hacc : ∀ a, a < 200 → ∀ b, b < 512 → acc a b = acc' a b) (hp : ∀ a, a < 1536 → ∀ b, b < 512 → p a b = p' a b) :
    dlR start slot acc p r col = dlR start' slot' acc' p' r col := by
  unfold dlR
  refine congrArg (fun z => multiReduction .add [0] _ z _ _ _ _ _) ?_
  funext j
  have hj0 : (j 0).val < 8 := (j 0).isLt
  have hj1 : (j 1).val < 512 := (j 1).isLt
  have b1 := fbw_le (start' r)
  have b2 := lbw_le (h1 ▸ hle)
  unfold tot
  rw [h0, h1, hs _ (by omega), hs _ (by omega), hacc _ (by omega) _ hj1, hp _ (by omega) _ hj1, hp _ (by omega) _ hj1]

theorem dlT_congr {start start' slot slot' task task' : ℕ → ℕ} {acc acc' p p' : ℕ → ℕ → F .f32} {row col : ℕ} (hc : col < 512)
    (h0 : ∀ r, r ≤ 24 → start r = start' r) (ht : ∀ r, r < 24 → task r = task' r) (hs : ∀ b, b < 192 → slot b = slot' b) (hle : ∀ r, r ≤ 24 → start r ≤ 1536)
    (hacc : ∀ a, a < 200 → ∀ b, b < 512 → acc a b = acc' a b) (hp : ∀ a, a < 1536 → ∀ b, b < 512 → p a b = p' a b) (n : ℕ) (hn : n ≤ 24) :
    dlT start slot task acc p row col n = dlT start' slot' task' acc' p' row col n := by
  induction n with
  | zero => rfl
  | succ n ih =>
    unfold dlT
    rw [ih (by omega), ht n (by omega), dlR_congr (by omega) hc (h0 n (by omega)) (h0 (n + 1) (by omega)) hs (hle _ (by omega)) hacc hp]

section Use

variable {off : ℕ → ℕ} {i0 : ℕ} {x2 : S1536x3584.Idx → F .bf16} {x3 x4 : S1536x512.Idx → F .fp8e4m3} {x5 x6 : S12x128.Idx → F .f32}
  {x7 : S24x512.Idx → F .f32} {x8 : S256x3584.Idx → BitVec 8} {x9 : S148x3584.Idx → F .f32}
  {d14 : S1536x512.Idx → F .f32} {d17 : S4x32x128.Idx → F .f32} {d19 d20 : S1536x128.Idx → F .f32} {d11 d12 : S1536x512.Idx → F .bf16} {d15 : S1536x512.Idx → F .f32}
  {d24 : ℕ → ℕ} {d16 : S200x512.Idx → F .f32} {d18 : S32x512.Idx → F .f32} {d25 : ℕ → ℕ}

theorem gv_eq {x : S1536x512.Idx → F .fp8e4m3} {s : S12x128.Idx → F .f32} {d : S1536x128.Idx → F .f32} (h : ScTab s d 12) {a b : ℕ} (ha : a < 1536) :
    gv x d a b = gF x s a b := by
  unfold gv gF
  rw [h a (by omega) _ (Nat.mod_lt _ (by omega))]

theorem lv_eq (hT : Tab off d25 d24) (h : LcTab d24 x7 d17 24) {a b : ℕ} (ha : a < 1536) (hb : b < 512) : lv off d17 a b = lF off x7 a b := by
  have hR := R_le (off := off) a
  have ht := tsk_le (off := off) a
  unfold lv lF
  rw [h _ (by omega) _ (by omega) _ (Nat.mod_lt _ (by omega)), hT.task_R a ha]
  refine congrArg₂ (at2 x7) (by omega) (by omega)

theorem out12_of (hsc5 : ScTab x5 d19 12) (hT : Tab off d25 d24) (hl : LcTab d24 x7 d17 24) (hd : DhTab (at2 x2) (wF x8 x9 i0) d14 3)
    (h : Rows (at2 d14) (gv x3 d19) (gv x4 d20) (lv off d17) d11 d12 d15 1536) : d12 = out12 off i0 x2 x3 x5 x7 x8 x9 := by
  refine ext2 _ _ fun a ha b hb => ?_
  rw [h.du a ha b hb, hd a (by omega) b hb, gv_eq hsc5 ha, lv_eq hT hl ha hb]
  exact (at2_eq (out12 off i0 x2 x3 x5 x7 x8 x9) (ValueIdx.ix2 ⟨a, ha⟩ ⟨b, hb⟩) rfl rfl).symm

theorem out11_of (hsc5 : ScTab x5 d19 12) (hsc6 : ScTab x6 d20 12) (hT : Tab off d25 d24) (hl : LcTab d24 x7 d17 24) (hd : DhTab (at2 x2) (wF x8 x9 i0) d14 3)
    (h : Rows (at2 d14) (gv x3 d19) (gv x4 d20) (lv off d17) d11 d12 d15 1536) : d11 = out11 off i0 x2 x3 x4 x5 x6 x7 x8 x9 := by
  refine ext2 _ _ fun a ha b hb => ?_
  rw [h.dg a ha b hb, hd a (by omega) b hb, gv_eq hsc5 ha, gv_eq hsc6 ha, lv_eq hT hl ha hb]
  exact (at2_eq (out11 off i0 x2 x3 x4 x5 x6 x7 x8 x9) (ValueIdx.ix2 ⟨a, ha⟩ ⟨b, hb⟩) rfl rfl).symm

theorem p_of (hsc5 : ScTab x5 d19 12) (hsc6 : ScTab x6 d20 12) (hd : DhTab (at2 x2) (wF x8 x9 i0) d14 3) {a b : ℕ} (ha : a < 1536) (hb : b < 512) :
    pS (at2 d14 a b) (gv x3 d19 a b) (gv x4 d20 a b) = pO i0 x2 x3 x4 x5 x6 x8 x9 a b := by
  rw [hd a (by omega) b hb, gv_eq hsc5 ha, gv_eq hsc6 ha]
  rfl

theorem out10_of (hS : Sorted off) (hsc5 : ScTab x5 d19 12) (hsc6 : ScTab x6 d20 12) (hT : Tab off d25 d24) (hd : DhTab (at2 x2) (wF x8 x9 i0) d14 3)
    (h : Rows (at2 d14) (gv x3 d19) (gv x4 d20) (lv off d17) d11 d12 d15 1536)
    (hA : Acc off (fun a b => pS (at2 d14 a b) (gv x3 d19 a b) (gv x4 d20 a b)) d16 192) {row col : ℕ} (hc : col < 512) :
    dlT d25 (SL off) d24 (at2 d16) (at2 d15) row col 24
      = dlT (stF off) (SL off) (tkF off) (fun r b => accS (SL off) (pO i0 x2 x3 x4 x5 x6 x8 x9) (r / 8) (r % 8) b 192) (pO i0 x2 x3 x4 x5 x6 x8 x9) row col 24 := by
  refine dlT_congr hc (fun r hr => hT.start_eq hr) (fun r hr => hT.task_eq hS hr) (fun _ _ => rfl) (fun r hr => hT.start_le r hr) ?_ ?_ 24 le_rfl
  · intro a ha b hb
    rw [hA a ha b hb]
    exact accS_congr (Nat.mod_lt _ (by omega)) 192 fun a ha => p_of hsc5 hsc6 hd (by omega) hb
  · intro a ha b hb
    rw [h.p a ha b hb, p_of hsc5 hsc6 hd ha hb]

end Use

end Cert.KernelIdeal.Body

end
-- ==== Proof.KernelIdeal.Front.lean ====
/- The front of the body: the tables of the first point, the weights and the products. -/
module

public import proofs.«01_k».proof.Proof.KernelIdeal.Out
public import Idealize.ShloMosaic.Lib.Pipeline.FrameBody

@[expose] public section

set_option maxRecDepth 16384
set_option maxHeartbeats 4000000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.Words Cert.Rank

variable {F : FTy → Type} [FloatOps F]

/-- The resources of the run: the frame kit's. -/
local notation "𝕄" => MT nD τ sig Unit (Elt F) ℕ (UR sig nD τ) ℕ

open Cert.At Cert.Spec Cert.Mask

theorem trips1 : Scf.trips k0_t1_loop.lb k0_t1_loop.ub k0_t1_loop.st = 25 := by decide +kernel
theorem trips2 : Scf.trips k0_t2_loop.lb k0_t2_loop.ub k0_t2_loop.st = 24 := by decide +kernel
theorem trips3 : Scf.trips k0_t3_loop.lb k0_t3_loop.ub k0_t3_loop.st = 192 := by decide +kernel
theorem trips6 : Scf.trips k0_t6_loop.lb k0_t6_loop.ub k0_t6_loop.st = 24 := by decide +kernel
theorem trips5 : Scf.trips k0_t5_loop.lb k0_t5_loop.ub k0_t5_loop.st = 192 := by decide +kernel

section Trips

variable (c : Dev nD) (E : Set ℕ) (i : grid0.Coords) (arg1 : Memref sig .tc .smem S25 .i32) (harg1 : arg1.IsWhole) (arg2 : Memref sig .tc .vmem S1536x3584 .bf16) (harg2 : arg2.IsWhole) (arg3 : Memref sig .tc .vmem S1536x512 .fp8e4m3) (harg3 : arg3.IsWhole) (arg4 : Memref sig .tc .vmem S1536x512 .fp8e4m3) (harg4 : arg4.IsWhole) (arg5 : Memref sig .tc .vmem S12x128 .f32) (harg5 : arg5.IsWhole) (arg6 : Memref sig .tc .vmem S12x128 .f32) (harg6 : arg6.IsWhole) (arg7 : Memref sig .tc .vmem S24x512 .f32) (harg7 : arg7.IsWhole) (arg8 : Memref sig .tc .vmem S256x3584 .i8) (harg8 : arg8.IsWhole) (arg9 : Memref sig .tc .vmem S148x3584 .f32) (harg9 : arg9.IsWhole) (arg10 : Memref sig .tc .vmem S24x512 .f32) (harg10 : arg10.IsWhole) (arg11 : Memref sig .tc .vmem S1536x512 .bf16) (harg11 : arg11.IsWhole) (arg12 : Memref sig .tc .vmem S1536x512 .bf16) (harg12 : arg12.IsWhole) (arg13 : Memref sig .tc .vmem S512x3584 .bf16) (harg13 : arg13.IsWhole) (arg14 : Memref sig .tc .vmem S1536x512 .f32) (harg14 : arg14.IsWhole) (arg15 : Memref sig .tc .vmem S1536x512 .f32) (harg15 : arg15.IsWhole) (arg16 : Memref sig .tc .vmem S200x512 .f32) (harg16 : arg16.IsWhole) (arg17 : Memref sig .tc .vmem S4x32x128 .f32) (harg17 : arg17.IsWhole) (arg18 : Memref sig .tc .vmem S32x512 .f32) (harg18 : arg18.IsWhole) (arg19 : Memref sig .tc .vmem S1536x128 .f32) (harg19 : arg19.IsWhole) (arg20 : Memref sig .tc .vmem S1536x128 .f32) (harg20 : arg20.IsWhole) (arg21 : Memref sig .tc .vmem S1536x128 .i32) (harg21 : arg21.IsWhole) (arg22 : Memref sig .tc .smem S192 .i32) (harg22 : arg22.IsWhole) (arg23 : Memref sig .tc .smem S192 .i32) (harg23 : arg23.IsWhole) (arg24 : Memref sig .tc .smem S25 .i32) (harg24 : arg24.IsWhole) (arg25 : Memref sig .tc .smem S26 .i32) (harg25 : arg25.IsWhole)

/-- The scratch buffers between the points: anything before the first, the tables after it. -/
def Scr (n : ℕ) (off : ℕ → ℕ) (x5 x6 : S12x128.Idx → F .f32) : sProp 𝕄 :=
  iprop((∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
    ∗ ∃ d19 d20 d21 d22 d23 d24 d25, owns (c : Thread nD τ) arg19 fullShare d19 ∗ owns (c : Thread nD τ) arg20 fullShare d20 ∗ owns (c : Thread nD τ) arg21 fullShare d21 ∗ owns (c : Thread nD τ) arg22 fullShare d22 ∗ owns (c : Thread nD τ) arg23 fullShare d23 ∗ owns (c : Thread nD τ) arg24 fullShare d24 ∗ owns (c : Thread nD τ) arg25 fullShare d25
      ∗ ⌜0 < n → Tabs off x5 x6 d19 d20 d21 d22 d23 d24 d25⌝)

/-- The scratch when the loops over the rows begin: the weights decoded, the products made, the sums cleared. -/
def Mid (off : ℕ → ℕ) (x2 : Vec F S1536x3584 .bf16) (x5 x6 : Vec F S12x128 .f32) (x7 : Vec F S24x512 .f32) (x8 : Vec F S256x3584 .i8) (x9 : Vec F S148x3584 .f32) : sProp 𝕄 :=
  iprop(∃ f13 f14 f15 f16 f17 f18 f19 f20 f21 f22 f23 f24 f25, (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22) ∗ (arg23.view.loc (c : Thread nD τ) ↦[arg23.view.set]{fullShare} f23) ∗ (arg24.view.loc (c : Thread nD τ) ↦[arg24.view.set]{fullShare} f24) ∗ (arg25.view.loc (c : Thread nD τ) ↦[arg25.view.set]{fullShare} f25)
    ∗ ⌜Tabs off x5 x6 (arg19.view.read (Elt F) f19) (arg20.view.read (Elt F) f20) (arg21.view.read (Elt F) f21) (arg22.view.read (Elt F) f22) (arg23.view.read (Elt F) f23) (arg24.view.read (Elt F) f24) (arg25.view.read (Elt F) f25)⌝
    ∗ ⌜DhTab (at2 x2) (wF x8 x9 (i 0).val) (arg14.view.read (Elt F) f14) 3⌝
    ∗ ⌜LcTab (nw (arg24.view.read (Elt F) f24)) x7 (arg17.view.read (Elt F) f17) 24⌝
    ∗ ⌜∀ a, a < 200 → ∀ b, b < 512 → at2 (arg16.view.read (Elt F) f16) a b = z0⌝
    ∗ ⌜∀ a, a < 32 → ∀ b, b < 512 → at2 (arg18.view.read (Elt F) f18) a b = z0⌝)

set_option maxHeartbeats 1500000 in
theorem front (q : PosShare TreeShare) (n : ℕ) (hn : k0_cond1 i ≠ 1#1 → 0 < n) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) (f23 : BufTy.Contents (Elt F) arg23.view.ty) (f24 : BufTy.Contents (Elt F) arg24.view.ty) (f25 : BufTy.Contents (Elt F) arg25.view.ty) (hS : Sorted (offN arg1 f1))
    (hTabs : 0 < n → Tabs (offN arg1 f1) (arg5.view.read (Elt F) f5) (arg6.view.read (Elt F) f6) (arg19.view.read (Elt F) f19) (arg20.view.read (Elt F) f20) (arg21.view.read (Elt F) f21) (arg22.view.read (Elt F) f22) (arg23.view.read (Elt F) f23) (arg24.view.read (Elt F) f24) (arg25.view.read (Elt F) f25))
    (rest : Prog (TpuEff nD τ sig (Elt F) Λ₀ .tc) PUnit) (K : PUnit → sProp 𝕄) :
    iprop((arg1.view.loc (c : Thread nD τ) ↦[arg1.view.set]{q} f1) ∗ (arg2.view.loc (c : Thread nD τ) ↦[arg2.view.set]{fullShare} f2) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22) ∗ (arg23.view.loc (c : Thread nD τ) ↦[arg23.view.set]{fullShare} f23) ∗ (arg24.view.loc (c : Thread nD τ) ↦[arg24.view.set]{fullShare} f24) ∗ (arg25.view.loc (c : Thread nD τ) ↦[arg25.view.set]{fullShare} f25)
        ∗ (iprop((arg1.view.loc (c : Thread nD τ) ↦[arg1.view.set]{q} f1) ∗ (arg2.view.loc (c : Thread nD τ) ↦[arg2.view.set]{fullShare} f2) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9)
            ∗ Mid c i arg13 arg14 arg15 arg16 arg17 arg18 arg19 arg20 arg21 arg22 arg23 arg24 arg25 (offN arg1 f1) (arg2.view.read (Elt F) f2) (arg5.view.read (Elt F) f5) (arg6.view.read (Elt F) f6) (arg7.view.read (Elt F) f7) (arg8.view.read (Elt F) f8) (arg9.view.read (Elt F) f9))
          -∗ wp frame (wpE (defs₀ (F := F)) Variants.none c none) E rest K))
      ⊢ wp frame (wpE (defs₀ (F := F)) Variants.none c none) E (do
          let ⟨arg0, v29⟩ : Σ' (arg0 : BitVec 32), IVec S128x3584 32 ← k0_part16 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25
          let ⟨v71, c15_i32_30⟩ : Σ' (v71 : IVec S64x3584 32), BitVec 32 ← k0_part17 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg0 v29
          let ⟨v106, v112⟩ : Σ' (v106 : IVec S64x3584 32), IVec S64x3584 32 ← k0_part18 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg0 v71 c15_i32_30
          let ⟨v142, v143⟩ : Σ' (v142 : FVec F S512x512 .f32), Vec F S512x512 .f32 ← k0_part19 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg0 v106 v112
          Prog.lift (.store arg14 (Rect.unit (s := S1536x512) ![1024, 0] S512x512.size inb_S1536x512_S512x512_1024_0) (k0_pay1 v142) Finset.univ (View.stores_vmem_bits_univ h_S512x512 rfl) (.inl rfl))
          rest) K := by
  iintro ⟨H1, H2, H5, H6, H7, H8, H9, H13, H14, H15, H16, H17, H18, H19, H20, H21, H22, H23, H24, H25, Hk⟩
  by_cases k0_h1 : k0_cond1 i = 1#1
  · have hS' : Sorted (offN arg1 f1) := hS
    have h0 : ∀ j, j < 0 → nw (arg25.view.read (Elt F) f25) j = 1536 ∧ nw (arg24.view.read (Elt F) f24) j = 24 := fun j h => absurd h (Nat.not_lt_zero j)
    have h1 : 25 ≤ 0 → Comp (offN arg1 f1) 0 (nw (arg25.view.read (Elt F) f25)) (nw (arg24.view.read (Elt F) f24)) := fun h => absurd h (by decide)
    have h3 : (0#32).toNat ≤ R (offN arg1 f1) (8 * 0) := Nat.zero_le _
    have h3a : ∀ b, b < 0 → nw (arg22.view.read (Elt F) f22) b = R (offN arg1 f1) (8 * b) := fun j h => absurd h (Nat.not_lt_zero j)
    have h3b : ∀ b, b < 0 → nw (arg23.view.read (Elt F) f23) b = SL (offN arg1 f1) b := fun j h => absurd h (Nat.not_lt_zero j)
    have h5 : RankTab (offN arg1 f1) (arg21.view.read (Elt F) f21) (8 * 0) := fun j h => absurd h (Nat.not_lt_zero _)
    let L1 := loopInv1 (F := F) Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_h1 (offN arg1 f1)
    let L2 := loopInv2 (F := F) Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_h1 q f1 hS'
    let L3 := fun X24 X25 (hC : 25 ≤ Scf.trips k0_t1_loop.lb k0_t1_loop.ub k0_t1_loop.st → Comp (offN arg1 f1) (Scf.trips k0_t2_loop.lb k0_t2_loop.ub k0_t2_loop.st) (nw (arg25.view.read (Elt F) X25)) (nw (arg24.view.read (Elt F) X24))) =>
      loopInv3 (F := F) Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_h1 (offN arg1 f1) X24 X25 hS' (tab_of_comp hS' (trips2 ▸ hC (by decide +kernel)))
    let L5 := fun X22 X24 X25 (hC : 25 ≤ Scf.trips k0_t1_loop.lb k0_t1_loop.ub k0_t1_loop.st → Comp (offN arg1 f1) (Scf.trips k0_t2_loop.lb k0_t2_loop.ub k0_t2_loop.st) (nw (arg25.view.read (Elt F) X25)) (nw (arg24.view.read (Elt F) X24)))
        (h22 : ∀ b, b < Scf.trips k0_t3_loop.lb k0_t3_loop.ub k0_t3_loop.st → nw (arg22.view.read (Elt F) X22) b = R (offN arg1 f1) (8 * b)) =>
      let hT := tab_of_comp hS' (trips2 ▸ hC (by decide +kernel))
      loopInv5 (F := F) Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_h1 (offN arg1 f1) X22 X24 X25 hS' hT.le hT.start_le (fun b hb => h22 b (trips3 ▸ hb))
        (iota .tc S8x128 32 [0] iota_S8x128_d0_w32) (fun j => iota_single_apply _ _ _ _ _ _)
    let L6 := fun X24 X25 (hC : 25 ≤ Scf.trips k0_t1_loop.lb k0_t1_loop.ub k0_t1_loop.st → Comp (offN arg1 f1) (Scf.trips k0_t2_loop.lb k0_t2_loop.ub k0_t2_loop.st) (nw (arg25.view.read (Elt F) X25)) (nw (arg24.view.read (Elt F) X24))) =>
      let hT := tab_of_comp hS' (trips2 ▸ hC (by decide +kernel))
      loopInv6 (F := F) Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 fullShare f7 X24 X25 (fun r hr => hT.task_le r hr.le)
    sl_exec
    clear L1 L2 L3 L5 L6
    rename_i acc _
    have hT := tab_of_comp hS' (trips2 ▸ hL8 (by decide +kernel))
    have hs5 : ScTab (arg5.view.read (Elt F) f5) (arg19.view.read (Elt F) (arg19.view.writes (Elt F) arg19.view.junk (front.sl.H19_12 arg5 f5))) 12 := by
      unfold front.sl.H19_12
      refine scTab_step arg5.view arg19.view f5 _ _ 11 _ _ rfl rfl (by decide) ?_
      refine scTab_step arg5.view arg19.view f5 _ _ 10 _ _ rfl rfl (by decide) ?_
      refine scTab_step arg5.view arg19.view f5 _ _ 9 _ _ rfl rfl (by decide) ?_
      refine scTab_step arg5.view arg19.view f5 _ _ 8 _ _ rfl rfl (by decide) ?_
      refine scTab_step arg5.view arg19.view f5 _ _ 7 _ _ rfl rfl (by decide) ?_
      refine scTab_step arg5.view arg19.view f5 _ _ 6 _ _ rfl rfl (by decide) ?_
      refine scTab_step arg5.view arg19.view f5 _ _ 5 _ _ rfl rfl (by decide) ?_
      refine scTab_step arg5.view arg19.view f5 _ _ 4 _ _ rfl rfl (by decide) ?_
      refine scTab_step arg5.view arg19.view f5 _ _ 3 _ _ rfl rfl (by decide) ?_
      refine scTab_step arg5.view arg19.view f5 _ _ 2 _ _ rfl rfl (by decide) ?_
      refine scTab_step arg5.view arg19.view f5 _ _ 1 _ _ rfl rfl (by decide) ?_
      refine scTab_step arg5.view arg19.view f5 _ [] 0 _ _ rfl rfl (by decide) ?_
      exact fun a ha => absurd ha (Nat.not_lt_zero _)
    have hs6 : ScTab (arg6.view.read (Elt F) f6) (arg20.view.read (Elt F) (arg20.view.writes (Elt F) arg20.view.junk (front.sl.H20_12 arg6 f6))) 12 := by
      unfold front.sl.H20_12
      refine scTab_step arg6.view arg20.view f6 _ _ 11 _ _ rfl rfl (by decide) ?_
      refine scTab_step arg6.view arg20.view f6 _ _ 10 _ _ rfl rfl (by decide) ?_
      refine scTab_step arg6.view arg20.view f6 _ _ 9 _ _ rfl rfl (by decide) ?_
      refine scTab_step arg6.view arg20.view f6 _ _ 8 _ _ rfl rfl (by decide) ?_
      refine scTab_step arg6.view arg20.view f6 _ _ 7 _ _ rfl rfl (by decide) ?_
      refine scTab_step arg6.view arg20.view f6 _ _ 6 _ _ rfl rfl (by decide) ?_
      refine scTab_step arg6.view arg20.view f6 _ _ 5 _ _ rfl rfl (by decide) ?_
      refine scTab_step arg6.view arg20.view f6 _ _ 4 _ _ rfl rfl (by decide) ?_
      refine scTab_step arg6.view arg20.view f6 _ _ 3 _ _ rfl rfl (by decide) ?_
      refine scTab_step arg6.view arg20.view f6 _ _ 2 _ _ rfl rfl (by decide) ?_
      refine scTab_step arg6.view arg20.view f6 _ _ 1 _ _ rfl rfl (by decide) ?_
      refine scTab_step arg6.view arg20.view f6 _ [] 0 _ _ rfl rfl (by decide) ?_
      exact fun a ha => absurd ha (Nat.not_lt_zero _)
    have hw : WTab (arg8.view.read (Elt F) f8) (arg9.view.read (Elt F) f9) (i 0).val (arg13.view.read (Elt F) (arg13.view.writes (Elt F) arg13.view.junk (front.sl.H13_4 i arg8 arg9 f8 f9))) 4 :=
      wTab_step arg8.view arg9.view arg13.view f8 f9 arg13.view.junk _ _ 3 _ _ _ rfl (k0_off19_eq i 3) rfl (by decide)
        (wTab_step arg8.view arg9.view arg13.view f8 f9 arg13.view.junk _ _ 2 _ _ _ rfl (k0_off19_eq i 2) rfl (by decide)
          (wTab_step arg8.view arg9.view arg13.view f8 f9 arg13.view.junk _ _ 1 _ _ _ rfl (k0_off19_eq i 1) rfl (by decide)
            (wTab_step arg8.view arg9.view arg13.view f8 f9 arg13.view.junk [] _ 0 _ _ _ rfl (k0_off19_eq i 0) rfl (by decide)
              fun a ha => absurd ha (Nat.not_lt_zero _))))
    have hTabs' : Tabs (offN arg1 f1) (arg5.view.read (Elt F) f5) (arg6.view.read (Elt F) f6) _ _ (arg21.view.read (Elt F) f21L6) (arg22.view.read (Elt F) f22L4) (arg23.view.read (Elt F) f23L5) (arg24.view.read (Elt F) f24L2) (arg25.view.read (Elt F) f25L3) :=
      ⟨hs5, hs6, by have := hL20; rw [trips5] at this; exact this, by have := hL14; rw [trips3] at this; exact this, by have := hL15; rw [trips3] at this; exact this, hT⟩
    have hl := hL25
    rw [trips6] at hl
    ispecialize Hk $$ [H1 H2 H5 H6 H7 H8 H9 H13 H14 H15 H16 H17 H18 H19 H20 H21 H22 H23 H24 H25]
    · isplitl [H1]; · iexact H1
      isplitl [H2]; · iexact H2
      isplitl [H5]; · iexact H5
      isplitl [H6]; · iexact H6
      isplitl [H7]; · iexact H7
      isplitl [H8]; · iexact H8
      isplitl [H9]; · iexact H9
      unfold Mid
      iexists _, _, _, _, _, _, _, _, _, _, _, _, _
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitr; · ipureintro; exact hTabs'
      isplitr
      · ipureintro
        unfold front.sl.v129
        refine dhTab_step arg2.view arg13.view arg14.view f2 (arg13.view.writes (Elt F) arg13.view.junk (front.sl.H13_4 i arg8 arg9 f8 f9)) f14 _ _ 2 _ inb_S512x3584_S512x3584_0_0 _ rfl rfl rfl (by decide) hw ?_
        refine dhTab_step arg2.view arg13.view arg14.view f2 (arg13.view.writes (Elt F) arg13.view.junk (front.sl.H13_4 i arg8 arg9 f8 f9)) f14 _ _ 1 _ inb_S512x3584_S512x3584_0_0 _ rfl rfl rfl (by decide) hw ?_
        refine dhTab_step arg2.view arg13.view arg14.view f2 (arg13.view.writes (Elt F) arg13.view.junk (front.sl.H13_4 i arg8 arg9 f8 f9)) f14 _ [] 0 _ inb_S512x3584_S512x3584_0_0 _ rfl rfl rfl (by decide) hw ?_
        exact fun a ha => absurd ha (Nat.not_lt_zero _)
      isplitr; · ipureintro; exact hl (by decide +kernel)
      isplitr; · ipureintro; exact fun a ha b hb => (at2_store (w0 := 200) (w1 := 512) arg16.view f16 inb_S200x512_S200x512_0_0 _ [] rfl (by omega) (by omega)).trans rfl
      ipureintro; exact fun a ha b hb => (at2_store (w0 := 32) (w1 := 512) arg18.view f18 inb_S32x512_S32x512_0_0 _ [] rfl (by omega) (by omega)).trans rfl
    iexact Hk
  · have hT := hTabs (hn k0_h1)
    let L6 := loopInv6 (F := F) Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 fullShare f7 f24 f25 (fun r hr => hT.tab.task_le r hr.le)
    have hl0 := hT.tab
    sl_exec
    clear L6
    have hw : WTab (arg8.view.read (Elt F) f8) (arg9.view.read (Elt F) f9) (i 0).val (arg13.view.read (Elt F) (arg13.view.writes (Elt F) arg13.view.junk (front.sl.H13_4_1 i arg8 arg9 f8 f9))) 4 :=
      wTab_step arg8.view arg9.view arg13.view f8 f9 arg13.view.junk _ _ 3 _ _ _ rfl (k0_off19_eq i 3) rfl (by decide)
        (wTab_step arg8.view arg9.view arg13.view f8 f9 arg13.view.junk _ _ 2 _ _ _ rfl (k0_off19_eq i 2) rfl (by decide)
          (wTab_step arg8.view arg9.view arg13.view f8 f9 arg13.view.junk _ _ 1 _ _ _ rfl (k0_off19_eq i 1) rfl (by decide)
            (wTab_step arg8.view arg9.view arg13.view f8 f9 arg13.view.junk [] _ 0 _ _ _ rfl (k0_off19_eq i 0) rfl (by decide)
              fun a ha => absurd ha (Nat.not_lt_zero _))))
    have hl := hL4
    rw [trips6] at hl
    have hTabs' := hT
    ispecialize Hk $$ [H1 H2 H5 H6 H7 H8 H9 H13 H14 H15 H16 H17 H18 H19 H20 H21 H22 H23 H24 H25]
    · isplitl [H1]; · iexact H1
      isplitl [H2]; · iexact H2
      isplitl [H5]; · iexact H5
      isplitl [H6]; · iexact H6
      isplitl [H7]; · iexact H7
      isplitl [H8]; · iexact H8
      isplitl [H9]; · iexact H9
      unfold Mid
      iexists _, _, _, _, _, _, _, _, _, _, _, _, _
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitr; · ipureintro; exact hTabs'
      isplitr
      · ipureintro
        unfold front.sl.v129_1
        refine dhTab_step arg2.view arg13.view arg14.view f2 (arg13.view.writes (Elt F) arg13.view.junk (front.sl.H13_4_1 i arg8 arg9 f8 f9)) f14 _ _ 2 _ inb_S512x3584_S512x3584_0_0 _ rfl rfl rfl (by decide) hw ?_
        refine dhTab_step arg2.view arg13.view arg14.view f2 (arg13.view.writes (Elt F) arg13.view.junk (front.sl.H13_4_1 i arg8 arg9 f8 f9)) f14 _ _ 1 _ inb_S512x3584_S512x3584_0_0 _ rfl rfl rfl (by decide) hw ?_
        refine dhTab_step arg2.view arg13.view arg14.view f2 (arg13.view.writes (Elt F) arg13.view.junk (front.sl.H13_4_1 i arg8 arg9 f8 f9)) f14 _ [] 0 _ inb_S512x3584_S512x3584_0_0 _ rfl rfl rfl (by decide) hw ?_
        exact fun a ha => absurd ha (Nat.not_lt_zero _)
      isplitr; · ipureintro; exact hl (by decide +kernel)
      isplitr; · ipureintro; exact fun a ha b hb => (at2_store (w0 := 200) (w1 := 512) arg16.view f16 inb_S200x512_S200x512_0_0 _ [] rfl (by omega) (by omega)).trans rfl
      ipureintro; exact fun a ha b hb => (at2_store (w0 := 32) (w1 := 512) arg18.view f18 inb_S32x512_S32x512_0_0 _ [] rfl (by omega) (by omega)).trans rfl
    iexact Hk

end Trips

end Cert.KernelIdeal.Body

end
-- ==== Proof.KernelIdeal.Back.lean ====
/- The rest of the body: the loops over the rows and over the ranks, and the three output blocks. -/
module

public import proofs.«01_k».proof.Proof.KernelIdeal.Front
public import Idealize.ShloMosaic.Lib.Pipeline.FrameBody

@[expose] public section

set_option maxRecDepth 16384
set_option maxHeartbeats 4000000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.Words Cert.Rank

variable {F : FTy → Type} [FloatOps F]

/-- The resources of the run: the frame kit's. -/
local notation "𝕄" => MT nD τ sig Unit (Elt F) ℕ (UR sig nD τ) ℕ

open Cert.At Cert.Spec Cert.Mask

theorem trips7 : Scf.trips k0_t7_loop.lb k0_t7_loop.ub k0_t7_loop.st = 48 := by decide +kernel
theorem trips8 : Scf.trips k0_t8_loop.lb k0_t8_loop.ub k0_t8_loop.st = 24 := by decide +kernel

section Trips

variable (c : Dev nD) (E : Set ℕ) (i : grid0.Coords) (arg1 : Memref sig .tc .smem S25 .i32) (harg1 : arg1.IsWhole) (arg2 : Memref sig .tc .vmem S1536x3584 .bf16) (harg2 : arg2.IsWhole) (arg3 : Memref sig .tc .vmem S1536x512 .fp8e4m3) (harg3 : arg3.IsWhole) (arg4 : Memref sig .tc .vmem S1536x512 .fp8e4m3) (harg4 : arg4.IsWhole) (arg5 : Memref sig .tc .vmem S12x128 .f32) (harg5 : arg5.IsWhole) (arg6 : Memref sig .tc .vmem S12x128 .f32) (harg6 : arg6.IsWhole) (arg7 : Memref sig .tc .vmem S24x512 .f32) (harg7 : arg7.IsWhole) (arg8 : Memref sig .tc .vmem S256x3584 .i8) (harg8 : arg8.IsWhole) (arg9 : Memref sig .tc .vmem S148x3584 .f32) (harg9 : arg9.IsWhole) (arg10 : Memref sig .tc .vmem S24x512 .f32) (harg10 : arg10.IsWhole) (arg11 : Memref sig .tc .vmem S1536x512 .bf16) (harg11 : arg11.IsWhole) (arg12 : Memref sig .tc .vmem S1536x512 .bf16) (harg12 : arg12.IsWhole) (arg13 : Memref sig .tc .vmem S512x3584 .bf16) (harg13 : arg13.IsWhole) (arg14 : Memref sig .tc .vmem S1536x512 .f32) (harg14 : arg14.IsWhole) (arg15 : Memref sig .tc .vmem S1536x512 .f32) (harg15 : arg15.IsWhole) (arg16 : Memref sig .tc .vmem S200x512 .f32) (harg16 : arg16.IsWhole) (arg17 : Memref sig .tc .vmem S4x32x128 .f32) (harg17 : arg17.IsWhole) (arg18 : Memref sig .tc .vmem S32x512 .f32) (harg18 : arg18.IsWhole) (arg19 : Memref sig .tc .vmem S1536x128 .f32) (harg19 : arg19.IsWhole) (arg20 : Memref sig .tc .vmem S1536x128 .f32) (harg20 : arg20.IsWhole) (arg21 : Memref sig .tc .vmem S1536x128 .i32) (harg21 : arg21.IsWhole) (arg22 : Memref sig .tc .smem S192 .i32) (harg22 : arg22.IsWhole) (arg23 : Memref sig .tc .smem S192 .i32) (harg23 : arg23.IsWhole) (arg24 : Memref sig .tc .smem S25 .i32) (harg24 : arg24.IsWhole) (arg25 : Memref sig .tc .smem S26 .i32) (harg25 : arg25.IsWhole)

/-- The three results at a point, the scratch at any contents but for the tables. -/
def Res (off : ℕ → ℕ) (x2 : Vec F S1536x3584 .bf16) (x3 x4 : Vec F S1536x512 .fp8e4m3) (x5 x6 : Vec F S12x128 .f32) (x7 : Vec F S24x512 .f32) (x8 : Vec F S256x3584 .i8)
    (x9 : Vec F S148x3584 .f32) : sProp 𝕄 :=
  iprop(∃ f10 f11 f12 f14 f15 f16 f17 f18, (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18)
    ∗ ⌜(arg10.view.read (Elt F) f10) = out10 off (i 0).val x2 x3 x4 x5 x6 x8 x9⌝ ∗ ⌜(arg11.view.read (Elt F) f11) = out11 off (i 0).val x2 x3 x4 x5 x6 x7 x8 x9⌝ ∗ ⌜(arg12.view.read (Elt F) f12) = out12 off (i 0).val x2 x3 x5 x7 x8 x9⌝)

set_option maxHeartbeats 1500000 in
theorem back (off : ℕ → ℕ) (hS : Sorted off) (f3 : BufTy.Contents (Elt F) arg3.view.ty) (f4 : BufTy.Contents (Elt F) arg4.view.ty) (f10 : BufTy.Contents (Elt F) arg10.view.ty) (f11 : BufTy.Contents (Elt F) arg11.view.ty) (f12 : BufTy.Contents (Elt F) arg12.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) (f23 : BufTy.Contents (Elt F) arg23.view.ty) (f24 : BufTy.Contents (Elt F) arg24.view.ty) (f25 : BufTy.Contents (Elt F) arg25.view.ty)
    (x2 : Vec F S1536x3584 .bf16) (x5 x6 : Vec F S12x128 .f32) (x7 : Vec F S24x512 .f32) (x8 : Vec F S256x3584 .i8) (x9 : Vec F S148x3584 .f32)
    (hT : Tabs off x5 x6 (arg19.view.read (Elt F) f19) (arg20.view.read (Elt F) f20) (arg21.view.read (Elt F) f21) (arg22.view.read (Elt F) f22) (arg23.view.read (Elt F) f23) (arg24.view.read (Elt F) f24) (arg25.view.read (Elt F) f25))
    (hd : DhTab (at2 x2) (wF x8 x9 (i 0).val) (arg14.view.read (Elt F) f14) 3) (hl : LcTab (nw (arg24.view.read (Elt F) f24)) x7 (arg17.view.read (Elt F) f17) 24)
    (h16 : ∀ a, a < 200 → ∀ b, b < 512 → at2 (arg16.view.read (Elt F) f16) a b = z0) (h18 : ∀ a, a < 32 → ∀ b, b < 512 → at2 (arg18.view.read (Elt F) f18) a b = z0) (K : PUnit → sProp 𝕄) :
    iprop((arg3.view.loc (c : Thread nD τ) ↦[arg3.view.set]{fullShare} f3) ∗ (arg4.view.loc (c : Thread nD τ) ↦[arg4.view.set]{fullShare} f4) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22) ∗ (arg23.view.loc (c : Thread nD τ) ↦[arg23.view.set]{fullShare} f23) ∗ (arg24.view.loc (c : Thread nD τ) ↦[arg24.view.set]{fullShare} f24) ∗ (arg25.view.loc (c : Thread nD τ) ↦[arg25.view.set]{fullShare} f25)
        ∗ (iprop((arg3.view.loc (c : Thread nD τ) ↦[arg3.view.set]{fullShare} f3) ∗ (arg4.view.loc (c : Thread nD τ) ↦[arg4.view.set]{fullShare} f4) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22) ∗ (arg23.view.loc (c : Thread nD τ) ↦[arg23.view.set]{fullShare} f23) ∗ (arg24.view.loc (c : Thread nD τ) ↦[arg24.view.set]{fullShare} f24) ∗ (arg25.view.loc (c : Thread nD τ) ↦[arg25.view.set]{fullShare} f25) ∗ Res c i arg10 arg11 arg12 arg14 arg15 arg16 arg17 arg18 off x2 (arg3.view.read (Elt F) f3) (arg4.view.read (Elt F) f4) x5 x6 x7 x8 x9) -∗ K ⟨⟩))
      ⊢ wp frame (wpE (defs₀ (F := F)) Variants.none c none) E (do
          Scf.Loop.for k0_t7_loop k0_t7_ok ⟨⟩ (k0_t7_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25)
          have v147 : IVec S8x512 32 := iota .tc S8x512 32 [0] iota_S8x512_d0_w32
          Scf.Loop.for k0_t8_loop k0_t8_ok ⟨⟩ (k0_t8_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v147)
          let v149 : Vec F S24x512 .f32 ← Prog.lift (.load arg18 (Rect.unit (s := S32x512) ![0, 0] S24x512.size inb_S32x512_S24x512_0_0).toLoadRect (View.loadsAt_vmem h_S24x512))
          let v150 : Vec F S24x512 .f32 ← Prog.lift (.load arg10 (Rect.unit (s := S24x512) ![0, 0] S24x512.size inb_S24x512_S24x512_0_0).toLoadRect (View.loadsAt_vmem h_S24x512))
          Prog.lift (.store arg10 (Rect.unit (s := S24x512) ![0, 0] S24x512.size inb_S24x512_S24x512_0_0) v149 Finset.univ (View.stores_vmem_bits_univ h_S24x512 rfl) (.inl rfl))
          pure ⟨⟩) K := by
  iintro ⟨H3, H4, H10, H11, H12, H14, H15, H16, H17, H18, H19, H20, H21, H22, H23, H24, H25, Hk⟩
  let L7 := loopInv7 (F := F) Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 off f3 f4 f14 f17 f19 f20 f21 f22 f23 hS hT.rk hT.fr hT.sl
  let L8 := fun X15 X16 => loopInv8 (F := F) Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (nw (arg25.view.read (Elt F) f25)) (nw (arg24.view.read (Elt F) f24)) (SL off) X15 X16 f23 f24 f25 (iota .tc S8x512 32 [0] iota_S8x512_d0_w32) rfl
    hT.sl (fun _ _ => rfl) (fun r hr => hT.tab.task_le r hr.le) (fun _ _ => rfl) hT.tab.start_le
  have h7 : Rows (at2 (arg14.view.read (Elt F) f14)) (gv (arg3.view.read (Elt F) f3) (arg19.view.read (Elt F) f19))
            (gv (arg4.view.read (Elt F) f4) (arg20.view.read (Elt F) f20)) (lv off (arg17.view.read (Elt F) f17))
            (arg11.view.read (Elt F) f11) (arg12.view.read (Elt F) f12) (arg15.view.read (Elt F) f15) (32 * 0)
          ∧ Acc off (fun a b => pS (at2 (arg14.view.read (Elt F) f14) a b) (gv (arg3.view.read (Elt F) f3) (arg19.view.read (Elt F) f19) a b)
              (gv (arg4.view.read (Elt F) f4) (arg20.view.read (Elt F) f20) a b)) (arg16.view.read (Elt F) f16) (4 * 0) :=
    ⟨⟨fun _ h => absurd h (Nat.not_lt_zero _), fun _ h => absurd h (Nat.not_lt_zero _), fun _ h => absurd h (Nat.not_lt_zero _)⟩, fun r hr b hb => h16 r hr b hb⟩
  have h8 : ∀ row, row < 24 → ∀ col, col < 512 → at2 (arg18.view.read (Elt F) f18) row col = z0 := fun r hr b hb => h18 r (by omega) b hb
  sl_exec
  clear L7 L8
  sl_step
  rw [trips7] at hL13
  rw [trips8] at hL20
  obtain ⟨hR, hA⟩ := hL13
  ispecialize Hk $$ [H3 H4 H10 H11 H12 H14 H15 H16 H17 H18 H19 H20 H21 H22 H23 H24 H25]
  · isplitl [H3]; · iexact H3
    isplitl [H4]; · iexact H4
    isplitl [H19]; · iexact H19
    isplitl [H20]; · iexact H20
    isplitl [H21]; · iexact H21
    isplitl [H22]; · iexact H22
    isplitl [H23]; · iexact H23
    isplitl [H24]; · iexact H24
    isplitl [H25]; · iexact H25
    unfold Res
    iexists _, _, _, _, _, _, _, _
    isplitl [H10]; · iexact H10
    isplitl [H11]; · iexact H11
    isplitl [H12]; · iexact H12
    isplitl [H14]; · iexact H14
    isplitl [H15]; · iexact H15
    isplitl [H16]; · iexact H16
    isplitl [H17]; · iexact H17
    isplitl [H18]; · iexact H18
    isplitr
    · ipureintro
      refine ext2 _ _ fun a ha b hb => ?_
      refine (at2_store (w0 := 24) (w1 := 512) arg10.view f10 inb_S24x512_S24x512_0_0 _ [] rfl (by omega) (by omega)).trans ?_
      refine (at2_load (w0 := 24) (w1 := 512) arg18.view _ inb_S32x512_S24x512_0_0 rfl (by omega) (by omega)).trans ?_
      rw [Nat.zero_add, Nat.zero_add, Nat.sub_zero, Nat.sub_zero, hL20 a ha b hb]
      refine (out10_of hS hT.sc5 hT.sc6 hT.tab hd hR hA hb).trans ?_
      exact (at2_eq (out10 off (i 0).val x2 _ _ x5 x6 x8 x9) (ValueIdx.ix2 ⟨a, ha⟩ ⟨b, hb⟩) rfl rfl).symm
    isplitr
    · ipureintro; exact out11_of hT.sc5 hT.sc6 hT.tab hl hd hR
    ipureintro; exact out12_of hT.sc5 hT.tab hl hd hR
  iexact Hk

end Trips

end Cert.KernelIdeal.Body

end
-- ==== Proof.KernelIdeal.Body.lean ====
/- The body at one grid point: from the staged blocks and the tables to the three output blocks. -/
module

public import proofs.«01_k».proof.Proof.KernelIdeal.Back
public import Idealize.ShloMosaic.Lib.Pipeline.FrameBody

@[expose] public section

set_option maxRecDepth 16384
set_option maxHeartbeats 4000000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.Words Cert.Rank

variable {F : FTy → Type} [FloatOps F]

/-- The resources of the run: the frame kit's. -/
local notation "𝕄" => MT nD τ sig Unit (Elt F) ℕ (UR sig nD τ) ℕ

open Cert.At Cert.Spec Cert.Mask

section Trips

variable (c : Dev nD) (E : Set ℕ) (i : grid0.Coords) (arg1 : Memref sig .tc .smem S25 .i32) (harg1 : arg1.IsWhole) (arg2 : Memref sig .tc .vmem S1536x3584 .bf16) (harg2 : arg2.IsWhole) (arg3 : Memref sig .tc .vmem S1536x512 .fp8e4m3) (harg3 : arg3.IsWhole) (arg4 : Memref sig .tc .vmem S1536x512 .fp8e4m3) (harg4 : arg4.IsWhole) (arg5 : Memref sig .tc .vmem S12x128 .f32) (harg5 : arg5.IsWhole) (arg6 : Memref sig .tc .vmem S12x128 .f32) (harg6 : arg6.IsWhole) (arg7 : Memref sig .tc .vmem S24x512 .f32) (harg7 : arg7.IsWhole) (arg8 : Memref sig .tc .vmem S256x3584 .i8) (harg8 : arg8.IsWhole) (arg9 : Memref sig .tc .vmem S148x3584 .f32) (harg9 : arg9.IsWhole) (arg10 : Memref sig .tc .vmem S24x512 .f32) (harg10 : arg10.IsWhole) (arg11 : Memref sig .tc .vmem S1536x512 .bf16) (harg11 : arg11.IsWhole) (arg12 : Memref sig .tc .vmem S1536x512 .bf16) (harg12 : arg12.IsWhole) (arg13 : Memref sig .tc .vmem S512x3584 .bf16) (harg13 : arg13.IsWhole) (arg14 : Memref sig .tc .vmem S1536x512 .f32) (harg14 : arg14.IsWhole) (arg15 : Memref sig .tc .vmem S1536x512 .f32) (harg15 : arg15.IsWhole) (arg16 : Memref sig .tc .vmem S200x512 .f32) (harg16 : arg16.IsWhole) (arg17 : Memref sig .tc .vmem S4x32x128 .f32) (harg17 : arg17.IsWhole) (arg18 : Memref sig .tc .vmem S32x512 .f32) (harg18 : arg18.IsWhole) (arg19 : Memref sig .tc .vmem S1536x128 .f32) (harg19 : arg19.IsWhole) (arg20 : Memref sig .tc .vmem S1536x128 .f32) (harg20 : arg20.IsWhole) (arg21 : Memref sig .tc .vmem S1536x128 .i32) (harg21 : arg21.IsWhole) (arg22 : Memref sig .tc .smem S192 .i32) (harg22 : arg22.IsWhole) (arg23 : Memref sig .tc .smem S192 .i32) (harg23 : arg23.IsWhole) (arg24 : Memref sig .tc .smem S25 .i32) (harg24 : arg24.IsWhole) (arg25 : Memref sig .tc .smem S26 .i32) (harg25 : arg25.IsWhole)

/-- What a grid point leaves: its blocks unchanged, the three outputs, and the scratch with the tables. -/
def Post (q : PosShare TreeShare) (n : ℕ) (x1 : Vec F S25 .i32)
    (x2 : Vec F S1536x3584 .bf16) (x3 x4 : Vec F S1536x512 .fp8e4m3) (x5 x6 : Vec F S12x128 .f32) (x7 : Vec F S24x512 .f32) (x8 : Vec F S256x3584 .i8)
    (x9 : Vec F S148x3584 .f32) : sProp 𝕄 :=
  iprop(owns (c : Thread nD τ) arg1 q x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
    ∗ owns (c : Thread nD τ) arg10 fullShare (out10 (nw x1) (i 0).val x2 x3 x4 x5 x6 x8 x9)
    ∗ owns (c : Thread nD τ) arg11 fullShare (out11 (nw x1) (i 0).val x2 x3 x4 x5 x6 x7 x8 x9)
    ∗ owns (c : Thread nD τ) arg12 fullShare (out12 (nw x1) (i 0).val x2 x3 x5 x7 x8 x9) ∗ Scr c arg13 arg14 arg15 arg16 arg17 arg18 arg19 arg20 arg21 arg22 arg23 arg24 arg25 (n + 1) (nw x1) x5 x6)

set_option maxHeartbeats 1500000 in
theorem sound_kernel (q : PosShare TreeShare) (n : ℕ) (hn : k0_cond1 i ≠ 1#1 → 0 < n) (x1 : Vec F S25 .i32) (hS : Sorted (nw x1))
    (x2 : Vec F S1536x3584 .bf16) (x3 x4 : Vec F S1536x512 .fp8e4m3) (x5 x6 : Vec F S12x128 .f32) (x7 : Vec F S24x512 .f32) (x8 : Vec F S256x3584 .i8)
    (x9 : Vec F S148x3584 .f32) (K : PUnit → sProp 𝕄) :
    iprop(owns (c : Thread nD τ) arg1 q x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
        ∗ (∃ d, owns (c : Thread nD τ) arg10 fullShare d) ∗ (∃ d, owns (c : Thread nD τ) arg11 fullShare d) ∗ (∃ d, owns (c : Thread nD τ) arg12 fullShare d) ∗ Scr c arg13 arg14 arg15 arg16 arg17 arg18 arg19 arg20 arg21 arg22 arg23 arg24 arg25 n (nw x1) x5 x6
        ∗ (Post c i arg1 arg2 arg3 arg4 arg5 arg6 arg7 arg8 arg9 arg10 arg11 arg12 arg13 arg14 arg15 arg16 arg17 arg18 arg19 arg20 arg21 arg22 arg23 arg24 arg25 q n x1 x2 x3 x4 x5 x6 x7 x8 x9 -∗ K ⟨⟩))
      ⊢ wp frame (wpE (defs₀ (F := F)) Variants.none c none) E (cc0_ia3_swiglu_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0_ia3_swiglu_bwd_eq_skeleton]; unfold cc0_ia3_swiglu_bwd_skel
  unfold Scr owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩,
    ⟨⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %d20, %d21, %d22, %d23, %d24, %d25, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, %hTabs⟩⟩, Hk⟩
  subst hf1 hf2 hf3 hf4 hf5 hf6 hf7 hf8 hf9 hf19 hf20 hf21 hf22 hf23 hf24 hf25
  iapply (front c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 q n hn f1 f2 f3 f4 f5 f6 f7 f8 f9 f13 f14 f15 f16 f17 f18 f19 f20 f21 f22 f23 f24 f25 hS hTabs)
  isplitl [H1]; · iexact H1
  isplitl [H2]; · iexact H2
  isplitl [H5]; · iexact H5
  isplitl [H6]; · iexact H6
  isplitl [H7]; · iexact H7
  isplitl [H8]; · iexact H8
  isplitl [H9]; · iexact H9
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iintro ⟨H1, H2, H5, H6, H7, H8, H9, HM⟩
  unfold Mid
  icases HM with ⟨%g13, %g14, %g15, %g16, %g17, %g18, %g19, %g20, %g21, %g22, %g23, %g24, %g25, H13, H14, H15, H16, H17, H18, H19, H20, H21, H22, H23, H24, H25, %hT, %hd, %hl, %h16, %h18⟩
  iapply (back c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (offN arg1 f1) hS f3 f4 f10 f11 f12 g14 g15 g16 g17 g18 g19 g20 g21 g22 g23 g24 g25 _ _ _ _ _ _ hT hd hl h16 h18)
  isplitl [H3]; · iexact H3
  isplitl [H4]; · iexact H4
  isplitl [H10]; · iexact H10
  isplitl [H11]; · iexact H11
  isplitl [H12]; · iexact H12
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iintro ⟨H3, H4, H19, H20, H21, H22, H23, H24, H25, HR⟩
  unfold Res
  icases HR with ⟨%e10, %e11, %e12, %e14, %e15, %e16, %e17, %e18, H10, H11, H12, H14, H15, H16, H17, H18, %h10, %h11, %h12⟩
  iapply Hk
  unfold Post Scr owns
  isplitl [H1]
  · iexists f1; isplitr
    · ipureintro; exact rfl
    · iexact H1
  isplitl [H2]
  · iexists f2; isplitr
    · ipureintro; exact rfl
    · iexact H2
  isplitl [H3]
  · iexists f3; isplitr
    · ipureintro; exact rfl
    · iexact H3
  isplitl [H4]
  · iexists f4; isplitr
    · ipureintro; exact rfl
    · iexact H4
  isplitl [H5]
  · iexists f5; isplitr
    · ipureintro; exact rfl
    · iexact H5
  isplitl [H6]
  · iexists f6; isplitr
    · ipureintro; exact rfl
    · iexact H6
  isplitl [H7]
  · iexists f7; isplitr
    · ipureintro; exact rfl
    · iexact H7
  isplitl [H8]
  · iexists f8; isplitr
    · ipureintro; exact rfl
    · iexact H8
  isplitl [H9]
  · iexists f9; isplitr
    · ipureintro; exact rfl
    · iexact H9
  isplitl [H10]
  · iexists e10; isplitr
    · ipureintro; exact h10
    · iexact H10
  isplitl [H11]
  · iexists e11; isplitr
    · ipureintro; exact h11
    · iexact H11
  isplitl [H12]
  · iexists e12; isplitr
    · ipureintro; exact h12
    · iexact H12
  isplitl [H13]
  · iexists (arg13.view.read (Elt F) g13), g13; isplitr
    · ipureintro; rfl
    · iexact H13
  isplitl [H14]
  · iexists (arg14.view.read (Elt F) e14), e14; isplitr
    · ipureintro; rfl
    · iexact H14
  isplitl [H15]
  · iexists (arg15.view.read (Elt F) e15), e15; isplitr
    · ipureintro; rfl
    · iexact H15
  isplitl [H16]
  · iexists (arg16.view.read (Elt F) e16), e16; isplitr
    · ipureintro; rfl
    · iexact H16
  isplitl [H17]
  · iexists (arg17.view.read (Elt F) e17), e17; isplitr
    · ipureintro; rfl
    · iexact H17
  isplitl [H18]
  · iexists (arg18.view.read (Elt F) e18), e18; isplitr
    · ipureintro; rfl
    · iexact H18
  iexists (arg19.view.read (Elt F) g19), (arg20.view.read (Elt F) g20), (arg21.view.read (Elt F) g21), (arg22.view.read (Elt F) g22), (arg23.view.read (Elt F) g23), (arg24.view.read (Elt F) g24), (arg25.view.read (Elt F) g25)
  isplitl [H19]
  · iexists g19; isplitr
    · ipureintro; rfl
    · iexact H19
  isplitl [H20]
  · iexists g20; isplitr
    · ipureintro; rfl
    · iexact H20
  isplitl [H21]
  · iexists g21; isplitr
    · ipureintro; rfl
    · iexact H21
  isplitl [H22]
  · iexists g22; isplitr
    · ipureintro; rfl
    · iexact H22
  isplitl [H23]
  · iexists g23; isplitr
    · ipureintro; rfl
    · iexact H23
  isplitl [H24]
  · iexists g24; isplitr
    · ipureintro; rfl
    · iexact H24
  isplitl [H25]
  · iexists g25; isplitr
    · ipureintro; rfl
    · iexact H25
  ipureintro; exact fun _ => hT

end Trips

end Cert.KernelIdeal.Body

end
-- ==== Proof.KernelIdeal.Launch.lean ====
/- The launch: the pipeline's proof data, the body obligation at every grid point, and the run of the whole program. -/
module

public import proofs.«01_k».proof.Proof.KernelIdeal.Body
public import proofs.«01_k».proof.Proof.Gen.KernelIdeal.Launch
public import Idealize.ShloMosaic.Lib.Pipeline.FrameBody
public import Idealize.ShloMosaic.Lib.Pipeline.FrameSuffix

@[expose] public section

set_option maxRecDepth 16384
set_option maxHeartbeats 4000000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.Words Cert.Rank

variable {F : FTy → Type} [FloatOps F]

/-- The resources of the run: the frame kit's. -/
local notation "𝕄" => MT nD τ sig Unit (Elt F) ℕ (UR sig nD τ) ℕ

open Idealize.ShloMosaic.Pipeline (Dat Cfg Window BodyObligation cellOf)
open Cert.At Cert.Spec Cert.Mask

variable (m : (ℓ : Loc nD τ sig) → Buf (Elt F) ℓ) (ρ : Dev nD → PrngReg)

/-- The buffers' contents when the region is entered: after the two reshapes of the scales. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- A buffer that neither reshape writes is found as launched. -/
theorem V_of (c : Dev nD) (b : Ref sig .tc) (h0 : b ≠ main_v0) (h1 : b ≠ main_v1) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1⟩))

/-- The prefetched table: the offsets as launched. -/
def adm (_ : Fin 1) : (pcfg0 (F := F)).Adm := ⟨fun k => V m 0 (pre0.ref k), trivial⟩

/-- The configuration of the pipeline at the offsets. -/
abbrev cfgm : Cfg sig Λ₀ := Pipeline.pin (pcfgs (F := F)) (adm m) 0

/-- The offsets as numbers. -/
def off0 : ℕ → ℕ := nw (V m 0 main_arg1 : S25.Idx → BitVec 32)

theorem N_eq : (cfgm m).N = 37 := N_0

/-- A window's block at a point, read off its array as the region finds it. -/
def iblk (c : Dev nD) (w : Fin (cfgm m).W) (t : Fin (cfgm m).N) : (((cfgm m).win w).xblock ((cfgm m).grid.coords t)).Idx → Elt F ((cfgm m).win w).elt :=
  (((cfgm m).win w).blk t).view.read (Elt F) (V m c (Pipeline.arrRef spec0 w))

/-- A point's number as the body reads it. -/
abbrev i0 (t : Fin (cfgm m).N) : ℕ := (grid0.coords t 0).val

/-- The three output blocks of a point. -/
def ob8 (c : Dev nD) (t : Fin (cfgm m).N) := out10 (off0 m) (i0 m t) (iblk m c 0 t) (iblk m c 1 t) (iblk m c 2 t) (iblk m c 3 t) (iblk m c 4 t) (iblk m c 6 t) (iblk m c 7 t)
def ob9 (c : Dev nD) (t : Fin (cfgm m).N) := out11 (off0 m) (i0 m t) (iblk m c 0 t) (iblk m c 1 t) (iblk m c 2 t) (iblk m c 3 t) (iblk m c 4 t) (iblk m c 5 t) (iblk m c 6 t) (iblk m c 7 t)
def ob10 (c : Dev nD) (t : Fin (cfgm m).N) := out12 (off0 m) (i0 m t) (iblk m c 0 t) (iblk m c 1 t) (iblk m c 3 t) (iblk m c 5 t) (iblk m c 6 t) (iblk m c 7 t)

/-- The first point. -/
def t0 : Fin (cfgm m).N := ⟨0, by rw [N_eq]; decide⟩

/-- What the body carries from point to point: the scratch buffers, the generator register and the offsets. -/
def Car (c : Dev nD) (n : ℕ) : sProp 𝕄 :=
  iprop(Scr c (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) (Memref.whole cc0_scratch10) (Memref.whole cc0_scratch11) (Memref.whole cc0_scratch12) n (off0 m) (iblk m c 3 (t0 m)) (iblk m c 4 (t0 m)) ∗ (∃ r, prngReg c r) ∗ Pipeline.ΦT pre0 (adm m 0).1 c)

/-- The pipeline's proof data. -/
def dats (_ : Fin 1) (c : Dev nD) : Dat τ (Elt F) Unit ℕ (UR sig nD τ) ℕ (cfgm m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => ob8 m c t
    | ⟨9, _⟩ => ob9 m c t
    | ⟨10, _⟩ => ob10 m c t
  Φ t := Car m c t.val
  q _ := fullShare
  owed _ := 0

theorem A_eq (c : Dev nD) (w : Fin (cfgm m).W) : (dats m 0 c).A w = V m c (Pipeline.arrRef spec0 w) := by
  dsimp only [dats]

theorem after0_0 (c : Dev nD) (t : Fin (cfgm m).N) : (dats m 0 c).after 0 t = iblk m c 0 t := by dsimp only [dats]; rfl
theorem after0_1 (c : Dev nD) (t : Fin (cfgm m).N) : (dats m 0 c).after 1 t = iblk m c 1 t := by dsimp only [dats]; rfl
theorem after0_2 (c : Dev nD) (t : Fin (cfgm m).N) : (dats m 0 c).after 2 t = iblk m c 2 t := by dsimp only [dats]; rfl
theorem after0_3 (c : Dev nD) (t : Fin (cfgm m).N) : (dats m 0 c).after 3 t = iblk m c 3 t := by dsimp only [dats]; rfl
theorem after0_4 (c : Dev nD) (t : Fin (cfgm m).N) : (dats m 0 c).after 4 t = iblk m c 4 t := by dsimp only [dats]; rfl
theorem after0_5 (c : Dev nD) (t : Fin (cfgm m).N) : (dats m 0 c).after 5 t = iblk m c 5 t := by dsimp only [dats]; rfl
theorem after0_6 (c : Dev nD) (t : Fin (cfgm m).N) : (dats m 0 c).after 6 t = iblk m c 6 t := by dsimp only [dats]; rfl
theorem after0_7 (c : Dev nD) (t : Fin (cfgm m).N) : (dats m 0 c).after 7 t = iblk m c 7 t := by dsimp only [dats]; rfl
theorem after0_8 (c : Dev nD) (t : Fin (cfgm m).N) : (dats m 0 c).after 8 t = ob8 m c t := by dsimp only [dats]; rfl
theorem after0_9 (c : Dev nD) (t : Fin (cfgm m).N) : (dats m 0 c).after 9 t = ob9 m c t := by dsimp only [dats]; rfl
theorem after0_10 (c : Dev nD) (t : Fin (cfgm m).N) : (dats m 0 c).after 10 t = ob10 m c t := by dsimp only [dats]; rfl
theorem before0_0 (c : Dev nD) (t : Fin (cfgm m).N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin (cfgm m).N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin (cfgm m).N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin (cfgm m).N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin (cfgm m).N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin (cfgm m).N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin (cfgm m).N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin (cfgm m).N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)

/-- The body at a point, on what the pipeline calls it with. -/
abbrev bodyAt (t : Fin (cfgm m).N) : Prog (TpuEff nD τ sig (Elt F) Λ₀ .tc) PUnit :=
  cc0_ia3_swiglu_bwd (grid0.coords t) (Memref.whole main_arg1) (Memref.isWhole_whole _) (spec0_0.stage ((cfg0 (adm m 0)).slots t 0)) (hstage0_0 (((cfg0 (adm m 0)).slots t 0).cast nbuf0_0)) (spec0_1.stage ((cfg0 (adm m 0)).slots t 1)) (hstage0_1 (((cfg0 (adm m 0)).slots t 1).cast nbuf0_1)) (spec0_2.stage ((cfg0 (adm m 0)).slots t 2)) (hstage0_2 (((cfg0 (adm m 0)).slots t 2).cast nbuf0_2)) (spec0_3.stage ((cfg0 (adm m 0)).slots t 3)) (hstage0_3 (((cfg0 (adm m 0)).slots t 3).cast nbuf0_3)) (spec0_4.stage ((cfg0 (adm m 0)).slots t 4)) (hstage0_4 (((cfg0 (adm m 0)).slots t 4).cast nbuf0_4)) (spec0_5.stage ((cfg0 (adm m 0)).slots t 5)) (hstage0_5 (((cfg0 (adm m 0)).slots t 5).cast nbuf0_5)) (spec0_6.stage ((cfg0 (adm m 0)).slots t 6)) (hstage0_6 (((cfg0 (adm m 0)).slots t 6).cast nbuf0_6)) (spec0_7.stage ((cfg0 (adm m 0)).slots t 7)) (hstage0_7 (((cfg0 (adm m 0)).slots t 7).cast nbuf0_7)) (spec0_8.stage ((cfg0 (adm m 0)).slots t 8)) (hstage0_8 (((cfg0 (adm m 0)).slots t 8).cast nbuf0_8)) (spec0_9.stage ((cfg0 (adm m 0)).slots t 9)) (hstage0_9 (((cfg0 (adm m 0)).slots t 9).cast nbuf0_9)) (spec0_10.stage ((cfg0 (adm m 0)).slots t 10)) (hstage0_10 (((cfg0 (adm m 0)).slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _)

theorem defs₀_row (t : Fin (cfgm m).N) :
    defs₀ (F := F) .tc (cfgm m).body ((cfgm m).bodyArgs t ((cfgm m).slots t)) = bodyAt m t := by
  unfold defs₀; rw [Defs.onTc_tc]

/-- What the body is called with at a point, -/
def bodyPre (c : Dev nD) (t : Fin (cfgm m).N) : sProp 𝕄 :=
  iprop((dats m 0 c).Φ t.castSucc ∗ (dats m 0 c).owesAt () t.castSucc
    ∗ (∃ d, owns (c : Thread nD τ) (((cfgm m).win 0).stage ((cfgm m).slots t 0)) fullShare ((dats m 0 c).before 0 t d))
    ∗ (∃ d, owns (c : Thread nD τ) (((cfgm m).win 1).stage ((cfgm m).slots t 1)) fullShare ((dats m 0 c).before 1 t d))
    ∗ (∃ d, owns (c : Thread nD τ) (((cfgm m).win 2).stage ((cfgm m).slots t 2)) fullShare ((dats m 0 c).before 2 t d))
    ∗ (∃ d, owns (c : Thread nD τ) (((cfgm m).win 3).stage ((cfgm m).slots t 3)) fullShare ((dats m 0 c).before 3 t d))
    ∗ (∃ d, owns (c : Thread nD τ) (((cfgm m).win 4).stage ((cfgm m).slots t 4)) fullShare ((dats m 0 c).before 4 t d))
    ∗ (∃ d, owns (c : Thread nD τ) (((cfgm m).win 5).stage ((cfgm m).slots t 5)) fullShare ((dats m 0 c).before 5 t d))
    ∗ (∃ d, owns (c : Thread nD τ) (((cfgm m).win 6).stage ((cfgm m).slots t 6)) fullShare ((dats m 0 c).before 6 t d))
    ∗ (∃ d, owns (c : Thread nD τ) (((cfgm m).win 7).stage ((cfgm m).slots t 7)) fullShare ((dats m 0 c).before 7 t d))
    ∗ (∃ d, owns (c : Thread nD τ) (((cfgm m).win 8).stage ((cfgm m).slots t 8)) fullShare ((dats m 0 c).before 8 t d))
    ∗ (∃ d, owns (c : Thread nD τ) (((cfgm m).win 9).stage ((cfgm m).slots t 9)) fullShare ((dats m 0 c).before 9 t d))
    ∗ (∃ d, owns (c : Thread nD τ) (((cfgm m).win 10).stage ((cfgm m).slots t 10)) fullShare ((dats m 0 c).before 10 t d)))

/-- and what it returns. -/
def bodyPost (c : Dev nD) (t : Fin (cfgm m).N) : sProp 𝕄 :=
  iprop((dats m 0 c).Φ t.succ ∗ (dats m 0 c).owesAt () t.succ
    ∗ owns (c : Thread nD τ) (((cfgm m).win 0).stage ((cfgm m).slots t 0)) fullShare ((dats m 0 c).after 0 t)
    ∗ owns (c : Thread nD τ) (((cfgm m).win 1).stage ((cfgm m).slots t 1)) fullShare ((dats m 0 c).after 1 t)
    ∗ owns (c : Thread nD τ) (((cfgm m).win 2).stage ((cfgm m).slots t 2)) fullShare ((dats m 0 c).after 2 t)
    ∗ owns (c : Thread nD τ) (((cfgm m).win 3).stage ((cfgm m).slots t 3)) fullShare ((dats m 0 c).after 3 t)
    ∗ owns (c : Thread nD τ) (((cfgm m).win 4).stage ((cfgm m).slots t 4)) fullShare ((dats m 0 c).after 4 t)
    ∗ owns (c : Thread nD τ) (((cfgm m).win 5).stage ((cfgm m).slots t 5)) fullShare ((dats m 0 c).after 5 t)
    ∗ owns (c : Thread nD τ) (((cfgm m).win 6).stage ((cfgm m).slots t 6)) fullShare ((dats m 0 c).after 6 t)
    ∗ owns (c : Thread nD τ) (((cfgm m).win 7).stage ((cfgm m).slots t 7)) fullShare ((dats m 0 c).after 7 t)
    ∗ owns (c : Thread nD τ) (((cfgm m).win 8).stage ((cfgm m).slots t 8)) fullShare ((dats m 0 c).after 8 t)
    ∗ owns (c : Thread nD τ) (((cfgm m).win 9).stage ((cfgm m).slots t 9)) fullShare ((dats m 0 c).after 9 t)
    ∗ owns (c : Thread nD τ) (((cfgm m).win 10).stage ((cfgm m).slots t 10)) fullShare ((dats m 0 c).after 10 t))

theorem i0_eq (t : Fin (cfgm m).N) : i0 m t = t.val :=
  (by decide +kernel : ∀ t : Fin grid0.N, (grid0.coords t 0).val = t.val) t

/-- The first point's branch is taken at the first point. -/
theorem cond_first (t : Fin (cfgm m).N) (h : k0_cond1 (grid0.coords t) ≠ 1#1) : 0 < t.val :=
  (by decide +kernel : ∀ t : Fin grid0.N, k0_cond1 (grid0.coords t) ≠ 1#1 → 0 < t.val) t h

theorem blk3 (c : Dev nD) (t : Fin (cfgm m).N) : iblk m c 3 t = iblk m c 3 (t0 m) := rfl
theorem blk4 (c : Dev nD) (t : Fin (cfgm m).N) : iblk m c 4 t = iblk m c 4 (t0 m) := rfl

/-- The offsets' table, as the pipeline hands it over, is the table owned whole at half the share. -/
theorem tab_in (c : Dev nD) : Pipeline.ΦT pre0 (adm m 0).1 c ⊢ (owns (c : Thread nD τ) (Memref.whole main_arg1) fullShare.right (V m 0 main_arg1) : sProp 𝕄) := by
  rw [owns_whole_eq]; unfold Pipeline.ΦT Pipeline.prefHeld
  rw [bigSep_univ_eq_bigSepL [(0 : Fin 1)] (by decide) (by decide)]
  show iprop(((c : Thread nD τ).loc main_arg1) ↦{fullShare.right} (V m 0 main_arg1)) ⊢ _
  iintro H; iexists (V m 0 main_arg1)
  isplitr; · ipureintro; rfl
  iexact H
theorem tab_out (c : Dev nD) : (owns (c : Thread nD τ) (Memref.whole main_arg1) fullShare.right (V m 0 main_arg1) : sProp 𝕄) ⊢ Pipeline.ΦT pre0 (adm m 0).1 c := by
  rw [owns_whole_eq]; unfold Pipeline.ΦT Pipeline.prefHeld
  rw [bigSep_univ_eq_bigSepL [(0 : Fin 1)] (by decide) (by decide)]
  show _ ⊢ iprop(((c : Thread nD τ).loc main_arg1) ↦{fullShare.right} (V m 0 main_arg1))
  iintro ⟨%f, %hf, H⟩
  subst hf
  iexact H

set_option maxHeartbeats 1000000 in
/-- The body at any point. -/
theorem sound_body (c : Dev nD) (hS : Sorted (off0 m)) (t : Fin (cfgm m).N) :
    bodyPre m c t ⊢ wp frame (wpE (defs₀ (F := F)) Variants.none c none) Set.univ (bodyAt m t) (fun _ => bodyPost m c t) := by
  unfold bodyPre bodyPost bodyAt
  simp only [before0_0, before0_1, before0_2, before0_3, before0_4, before0_5, before0_6, before0_7]
  rw [show (dats m 0 c).Φ t.succ = Car m c (t.val + 1) from rfl, show (dats m 0 c).Φ t.castSucc = Car m c t.val from rfl,
    show (dats m 0 c).owesAt () t.succ = (dats m 0 c).owesAt () t.castSucc from rfl,
    after0_0, after0_1, after0_2, after0_3, after0_4, after0_5, after0_6, after0_7, after0_8, after0_9, after0_10]
  unfold Car
  iintro ⟨⟨HS, Hp, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) (Memref.whole main_arg1) (Memref.isWhole_whole _) (spec0_0.stage ((cfg0 (adm m 0)).slots t 0)) (hstage0_0 (((cfg0 (adm m 0)).slots t 0).cast nbuf0_0)) (spec0_1.stage ((cfg0 (adm m 0)).slots t 1)) (hstage0_1 (((cfg0 (adm m 0)).slots t 1).cast nbuf0_1)) (spec0_2.stage ((cfg0 (adm m 0)).slots t 2)) (hstage0_2 (((cfg0 (adm m 0)).slots t 2).cast nbuf0_2)) (spec0_3.stage ((cfg0 (adm m 0)).slots t 3)) (hstage0_3 (((cfg0 (adm m 0)).slots t 3).cast nbuf0_3)) (spec0_4.stage ((cfg0 (adm m 0)).slots t 4)) (hstage0_4 (((cfg0 (adm m 0)).slots t 4).cast nbuf0_4)) (spec0_5.stage ((cfg0 (adm m 0)).slots t 5)) (hstage0_5 (((cfg0 (adm m 0)).slots t 5).cast nbuf0_5)) (spec0_6.stage ((cfg0 (adm m 0)).slots t 6)) (hstage0_6 (((cfg0 (adm m 0)).slots t 6).cast nbuf0_6)) (spec0_7.stage ((cfg0 (adm m 0)).slots t 7)) (hstage0_7 (((cfg0 (adm m 0)).slots t 7).cast nbuf0_7)) (spec0_8.stage ((cfg0 (adm m 0)).slots t 8)) (hstage0_8 (((cfg0 (adm m 0)).slots t 8).cast nbuf0_8)) (spec0_9.stage ((cfg0 (adm m 0)).slots t 9)) (hstage0_9 (((cfg0 (adm m 0)).slots t 9).cast nbuf0_9)) (spec0_10.stage ((cfg0 (adm m 0)).slots t 10)) (hstage0_10 (((cfg0 (adm m 0)).slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) fullShare.right t.val (cond_first m t) (V m 0 main_arg1) hS
    (iblk m c 0 t) (iblk m c 1 t) (iblk m c 2 t) (iblk m c 3 t) (iblk m c 4 t) (iblk m c 5 t) (iblk m c 6 t) (iblk m c 7 t) _)
  isplitl [HT]; · iapply (tab_in m c); iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [HS]; · rw [blk3 m c t, blk4 m c t]; iexact HS
  unfold Post
  iintro ⟨HT, H0, H1, H2, H3, H4, H5, H6, H7, H8, H9, H10, HS⟩
  isplitl [HS Hp HT]
  · isplitl [HS]; · rw [← blk3 m c t, ← blk4 m c t]; iexact HS
    isplitl [Hp]; · iexact Hp
    iapply (tab_out m c); iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The pipeline's body obligation. -/
theorem body_obligation (hS : Sorted (off0 m)) (c : Dev nD) : BodyObligation (dats (F := F) m 0 c) (defs₀ (F := F)) Variants.none () Set.univ := fun t => by
  rw [bigSep_W0, bigSep_W0, defs₀_row]
  exact Idealize.ShloMosaic.triple_restated (sound_body m c hS t) rfl .rfl fun _ => .rfl

/-- A whole scratch buffer at some contents, in the two spellings. -/
theorem pt_own (c : Dev nD) (b : Ref sig .tc) : (iprop(∃ f : Buf (Elt F) ((c : Thread nD τ).loc b), ((c : Thread nD τ).loc b) ↦{fullShare} f) : sProp 𝕄) ⊢ iprop(∃ d, owns (c : Thread nD τ) (Memref.whole b) fullShare d) := by
  iintro ⟨%f, H⟩; iexists f; rw [owns_whole_eq]; iexists f
  isplitr; · ipureintro; rfl
  iexact H
theorem own_pt (c : Dev nD) (b : Ref sig .tc) (d) : (owns (c : Thread nD τ) (Memref.whole b) fullShare d : sProp 𝕄) ⊢ iprop(∃ f : Buf (Elt F) ((c : Thread nD τ).loc b), ((c : Thread nD τ).loc b) ↦{fullShare} f) := by
  rw [owns_whole_eq]
  iintro ⟨%f, -, H⟩; iexists f; iexact H

theorem car_in (c : Dev nD) : iprop(Pipeline.ΦA spec0 c ∗ Pipeline.ΦT pre0 (adm m 0).1 c) ⊢ Car m c 0 := by
  unfold Pipeline.ΦA Car Scr
  rw [scopedRest0_eq]
  iintro ⟨⟨⟨H0, H1, H2, H3, H4, H5, H6, H7, H8, H9, H10, H11, H12⟩, Hp⟩, HT⟩
  isplitl [H0 H1 H2 H3 H4 H5 H6 H7 H8 H9 H10 H11 H12]
  · isplitl [H0]; · iapply (pt_own c cc0_scratch0); iexact H0
    isplitl [H1]; · iapply (pt_own c cc0_scratch1); iexact H1
    isplitl [H2]; · iapply (pt_own c cc0_scratch2); iexact H2
    isplitl [H3]; · iapply (pt_own c cc0_scratch3); iexact H3
    isplitl [H4]; · iapply (pt_own c cc0_scratch4); iexact H4
    isplitl [H5]; · iapply (pt_own c cc0_scratch5); iexact H5
    icases H6 with ⟨%f6, H6⟩
    icases H7 with ⟨%f7, H7⟩
    icases H8 with ⟨%f8, H8⟩
    icases H9 with ⟨%f9, H9⟩
    icases H10 with ⟨%f10, H10⟩
    icases H11 with ⟨%f11, H11⟩
    icases H12 with ⟨%f12, H12⟩
    iexists f6, f7, f8, f9, f10, f11, f12
    isplitl [H6]; · rw [owns_whole_eq]; iexists f6; isplitr; (ipureintro; rfl); iexact H6
    isplitl [H7]; · rw [owns_whole_eq]; iexists f7; isplitr; (ipureintro; rfl); iexact H7
    isplitl [H8]; · rw [owns_whole_eq]; iexists f8; isplitr; (ipureintro; rfl); iexact H8
    isplitl [H9]; · rw [owns_whole_eq]; iexists f9; isplitr; (ipureintro; rfl); iexact H9
    isplitl [H10]; · rw [owns_whole_eq]; iexists f10; isplitr; (ipureintro; rfl); iexact H10
    isplitl [H11]; · rw [owns_whole_eq]; iexists f11; isplitr; (ipureintro; rfl); iexact H11
    isplitl [H12]; · rw [owns_whole_eq]; iexists f12; isplitr; (ipureintro; rfl); iexact H12
    ipureintro; exact fun h => absurd h (Nat.lt_irrefl 0)
  isplitl [Hp]; · iexact Hp
  iexact HT

theorem car_out (c : Dev nD) (n : ℕ) : Car m c n ⊢ Pipeline.ΦA spec0 c := by
  unfold Pipeline.ΦA Car Scr
  rw [scopedRest0_eq]
  iintro ⟨⟨⟨%d0, H0⟩, ⟨%d1, H1⟩, ⟨%d2, H2⟩, ⟨%d3, H3⟩, ⟨%d4, H4⟩, ⟨%d5, H5⟩, %e6, %e7, %e8, %e9, %e10, %e11, %e12, H6, H7, H8, H9, H10, H11, H12, -⟩, Hp, -⟩
  isplitl [H0 H1 H2 H3 H4 H5 H6 H7 H8 H9 H10 H11 H12]
  · isplitl [H0]; · iapply (own_pt c cc0_scratch0); iexact H0
    isplitl [H1]; · iapply (own_pt c cc0_scratch1); iexact H1
    isplitl [H2]; · iapply (own_pt c cc0_scratch2); iexact H2
    isplitl [H3]; · iapply (own_pt c cc0_scratch3); iexact H3
    isplitl [H4]; · iapply (own_pt c cc0_scratch4); iexact H4
    isplitl [H5]; · iapply (own_pt c cc0_scratch5); iexact H5
    isplitl [H6]; · iapply (own_pt c cc0_scratch6); iexact H6
    isplitl [H7]; · iapply (own_pt c cc0_scratch7); iexact H7
    isplitl [H8]; · iapply (own_pt c cc0_scratch8); iexact H8
    isplitl [H9]; · iapply (own_pt c cc0_scratch9); iexact H9
    isplitl [H10]; · iapply (own_pt c cc0_scratch10); iexact H10
    isplitl [H11]; · iapply (own_pt c cc0_scratch11); iexact H11
    iapply (own_pt c cc0_scratch12); iexact H12
  iexact Hp

set_option backward.isDefEq.respectTransparency.types false in
set_option maxHeartbeats 1000000 in
/-- The run: every fair execution ends, the arrays as the proof data say, every semaphore at zero. -/
theorem run_main_quiescent (hS : Sorted (off0 m)) : θ_run defs (onTc (τ := τ) (main (F := F))) (s₀ m ρ)
    (fun r => Pipeline.FramePost (Pipeline.pin (pcfgs (F := F)) (adm m)) (dats m) 0 (V m) r ∧ r.2.sem = fun _ => 0) :=
  Pipeline.θ_run_frameP_track (Q' := _) (pcfgs (F := F)) (adm m) (dats m) (0 : Fin 1) launch0 defs₀ Variants.none m ρ main
    (hbody := fun c => (body_obligation m hS c).loose) (hshare := fun c => (dats m 0 c).share_full fun _ => rfl)
    (howed := fun _ _ => rfl) (V := V m)
    (hmain := Pipeline.hmainP_prefix _ 0 defs₀ Variants.none m main hostOps0 hostOps0_sub hostOps0_fresh main_chain)
    (hA := A_eq m) (hpf := fun c k => by obtain rfl : c = 0 := Subsingleton.elim _ _; rfl)
    (hin := fun c => car_in m c) (hout := fun c => car_out m c _)

end Cert.KernelIdeal.Body

end
-- ==== Proof.KernelIdeal.Frame.lean ====
/- The frame: every argument array ends as launched. -/
module

public import proofs.«01_k».proof.Proof.KernelIdeal.Launch

@[expose] public section

set_option maxRecDepth 16384
set_option maxHeartbeats 4000000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.Words Cert.Rank

variable {F : FTy → Type} [FloatOps F]

/-- The resources of the run: the frame kit's. -/
local notation "𝕄" => MT nD τ sig Unit (Elt F) ℕ (UR sig nD τ) ℕ

variable (m : (ℓ : Loc nD τ sig) → Buf (Elt F) ℓ) (ρ : Dev nD → PrngReg)

/-- The argument arrays, in a final state of the run. -/
theorem args_of {r : PUnit × MemSt nD τ sig (Elt F)} (h : Pipeline.FramePost (Pipeline.pin (pcfgs (F := F)) (adm m)) (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨((h c).1 0).trans (((dats m 0 c).arrAt_in 0 rfl _).trans ((A_eq m c 0).trans (V_of m c main_arg0 (by decide) (by decide)))),
    ((h c).2 main_arg1 (Pipeline.mem_restRefs_of main_arg1 (by decide) (show ∀ w : Fin 11, (spec0 w).arr.view.ref ≠ main_arg1 by decide))).trans (V_of m c main_arg1 (by decide) (by decide)),
    ((h c).1 1).trans (((dats m 0 c).arrAt_in 1 rfl _).trans ((A_eq m c 1).trans (V_of m c main_arg2 (by decide) (by decide)))),
    ((h c).2 main_arg3 (Pipeline.mem_restRefs_of main_arg3 (by decide) (show ∀ w : Fin 11, (spec0 w).arr.view.ref ≠ main_arg3 by decide))).trans (V_of m c main_arg3 (by decide) (by decide)),
    ((h c).1 2).trans (((dats m 0 c).arrAt_in 2 rfl _).trans ((A_eq m c 2).trans (V_of m c main_arg4 (by decide) (by decide)))),
    ((h c).2 main_arg5 (Pipeline.mem_restRefs_of main_arg5 (by decide) (show ∀ w : Fin 11, (spec0 w).arr.view.ref ≠ main_arg5 by decide))).trans (V_of m c main_arg5 (by decide) (by decide)),
    ((h c).1 5).trans (((dats m 0 c).arrAt_in 5 rfl _).trans ((A_eq m c 5).trans (V_of m c main_arg6 (by decide) (by decide)))),
    ((h c).1 6).trans (((dats m 0 c).arrAt_in 6 rfl _).trans ((A_eq m c 6).trans (V_of m c main_arg7 (by decide) (by decide)))),
    ((h c).1 7).trans (((dats m 0 c).arrAt_in 7 rfl _).trans ((A_eq m c 7).trans (V_of m c main_arg8 (by decide) (by decide))))⟩

/-- The offsets the pipeline holds are the launched ones. -/
theorem off0_eq : off0 m = nw (m (((0 : Dev nD) : Thread nD τ).loc main_arg1) : S25.Idx → BitVec 32) :=
  congrArg (nw (d := 25)) (V_of m 0 main_arg1 (by decide) (by decide))

/-- The frame claim's statement. -/
theorem frame (hS : Sorted (off0 m)) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => args_of m h.1 c, h.2⟩) (run_main_quiescent m ρ hS)

end Cert.KernelIdeal.Body

end
-- ==== Proof.KernelIdeal.Arrays.lean ====
/- The arrays a run leaves: column `512 t + b` of each result is column `b` of point `t`'s block. -/
module

public import proofs.«01_k».proof.Proof.KernelIdeal.Frame
public import Idealize.ShloMosaic.Lib.Pipeline.Value
public import Idealize.ShloMosaic.Lib.Pipeline.ValueKit
public import Idealize.ShloMosaic.Lib.StableHlo.RunRead

@[expose] public section

set_option maxRecDepth 16384
set_option maxHeartbeats 4000000

noncomputable section

namespace Cert.KernelIdeal.Body

open Idealize.ShloMosaic Idealize.ShloMosaic.TcCoe Cert.KernelIdeal.Gen Idealize.SL.Sem
open Idealize.ShloMosaic.Pipeline (Dat)
open Cert.At

variable {F : FTy → Type} [FloatOps F]
variable (m : (ℓ : Loc nD τ sig) → Buf (Elt F) ℓ) (ρ : Dev nD → PrngReg)

theorem flush0_8 (t : Fin (cfgm m).N) : ((cfgm m).win 8).flush t = true :=
  (Pipeline.Window.flush_reads (win0 (adm m 0) 8) rfl 0 (by decide) (show grid0.fixedAfter (spec0 8).reads 0 = true by decide)
    (Pipeline.Window.sep_of_coord cc0_transform_8 0 1 (fun _ => rfl) (by decide)) (P := 1) (m := 0) (by decide) rfl t).mpr (Nat.mod_one _)
theorem flush0_9 (t : Fin (cfgm m).N) : ((cfgm m).win 9).flush t = true :=
  (Pipeline.Window.flush_reads (win0 (adm m 0) 9) rfl 0 (by decide) (show grid0.fixedAfter (spec0 9).reads 0 = true by decide)
    (Pipeline.Window.sep_of_coord cc0_transform_9 0 1 (fun _ => rfl) (by decide)) (P := 1) (m := 0) (by decide) rfl t).mpr (Nat.mod_one _)
theorem flush0_10 (t : Fin (cfgm m).N) : ((cfgm m).win 10).flush t = true :=
  (Pipeline.Window.flush_reads (win0 (adm m 0) 10) rfl 0 (by decide) (show grid0.fixedAfter (spec0 10).reads 0 = true by decide)
    (Pipeline.Window.sep_of_coord cc0_transform_10 0 1 (fun _ => rfl) (by decide)) (P := 1) (m := 0) (by decide) rfl t).mpr (Nat.mod_one _)

/-! ## Where a block's elements lie in the array -/

theorem emb1 (t : Fin (cfgm m).N) (y : S1536x512.Idx) :
    (((win0 (adm m 0) 1).rect t).emb y 0 : ℕ) = (y 0).val ∧ (((win0 (adm m 0) 1).rect t).emb y 1 : ℕ) = 512 * t.val + (y 1).val := by
  have h := (by decide +kernel : ∀ t : Fin grid0.N, cc0_transform_1 (grid0.coords t) 0 = 0 ∧ cc0_transform_1 (grid0.coords t) 1 = t.val) t
  refine ⟨(win0 (adm m 0) 1).rect_emb_val_of_index_zero t 0 h.1 y, ((win0 (adm m 0) 1).rect_emb_val t y 1).trans ?_⟩
  show cc0_transform_1 (grid0.coords t) 1 * 512 + (y 1).val = _
  rw [h.2, Nat.mul_comm]
theorem emb2 (t : Fin (cfgm m).N) (y : S1536x512.Idx) :
    (((win0 (adm m 0) 2).rect t).emb y 0 : ℕ) = (y 0).val ∧ (((win0 (adm m 0) 2).rect t).emb y 1 : ℕ) = 512 * t.val + (y 1).val := by
  have h := (by decide +kernel : ∀ t : Fin grid0.N, cc0_transform_2 (grid0.coords t) 0 = 0 ∧ cc0_transform_2 (grid0.coords t) 1 = t.val) t
  refine ⟨(win0 (adm m 0) 2).rect_emb_val_of_index_zero t 0 h.1 y, ((win0 (adm m 0) 2).rect_emb_val t y 1).trans ?_⟩
  show cc0_transform_2 (grid0.coords t) 1 * 512 + (y 1).val = _
  rw [h.2, Nat.mul_comm]
theorem emb5 (t : Fin (cfgm m).N) (y : S24x512.Idx) :
    (((win0 (adm m 0) 5).rect t).emb y 0 : ℕ) = (y 0).val ∧ (((win0 (adm m 0) 5).rect t).emb y 1 : ℕ) = 512 * t.val + (y 1).val := by
  have h := (by decide +kernel : ∀ t : Fin grid0.N, cc0_transform_5 (grid0.coords t) 0 = 0 ∧ cc0_transform_5 (grid0.coords t) 1 = t.val) t
  refine ⟨(win0 (adm m 0) 5).rect_emb_val_of_index_zero t 0 h.1 y, ((win0 (adm m 0) 5).rect_emb_val t y 1).trans ?_⟩
  show cc0_transform_5 (grid0.coords t) 1 * 512 + (y 1).val = _
  rw [h.2, Nat.mul_comm]
theorem emb8 (t : Fin (cfgm m).N) (y : S24x512.Idx) :
    (((win0 (adm m 0) 8).rect t).emb y 0 : ℕ) = (y 0).val ∧ (((win0 (adm m 0) 8).rect t).emb y 1 : ℕ) = 512 * t.val + (y 1).val := by
  have h := (by decide +kernel : ∀ t : Fin grid0.N, cc0_transform_8 (grid0.coords t) 0 = 0 ∧ cc0_transform_8 (grid0.coords t) 1 = t.val) t
  refine ⟨(win0 (adm m 0) 8).rect_emb_val_of_index_zero t 0 h.1 y, ((win0 (adm m 0) 8).rect_emb_val t y 1).trans ?_⟩
  show cc0_transform_8 (grid0.coords t) 1 * 512 + (y 1).val = _
  rw [h.2, Nat.mul_comm]
theorem emb9 (t : Fin (cfgm m).N) (y : S1536x512.Idx) :
    (((win0 (adm m 0) 9).rect t).emb y 0 : ℕ) = (y 0).val ∧ (((win0 (adm m 0) 9).rect t).emb y 1 : ℕ) = 512 * t.val + (y 1).val := by
  have h := (by decide +kernel : ∀ t : Fin grid0.N, cc0_transform_9 (grid0.coords t) 0 = 0 ∧ cc0_transform_9 (grid0.coords t) 1 = t.val) t
  refine ⟨(win0 (adm m 0) 9).rect_emb_val_of_index_zero t 0 h.1 y, ((win0 (adm m 0) 9).rect_emb_val t y 1).trans ?_⟩
  show cc0_transform_9 (grid0.coords t) 1 * 512 + (y 1).val = _
  rw [h.2, Nat.mul_comm]
theorem emb10 (t : Fin (cfgm m).N) (y : S1536x512.Idx) :
    (((win0 (adm m 0) 10).rect t).emb y 0 : ℕ) = (y 0).val ∧ (((win0 (adm m 0) 10).rect t).emb y 1 : ℕ) = 512 * t.val + (y 1).val := by
  have h := (by decide +kernel : ∀ t : Fin grid0.N, cc0_transform_10 (grid0.coords t) 0 = 0 ∧ cc0_transform_10 (grid0.coords t) 1 = t.val) t
  refine ⟨(win0 (adm m 0) 10).rect_emb_val_of_index_zero t 0 h.1 y, ((win0 (adm m 0) 10).rect_emb_val t y 1).trans ?_⟩
  show cc0_transform_10 (grid0.coords t) 1 * 512 + (y 1).val = _
  rw [h.2, Nat.mul_comm]
theorem emb6 (t : Fin (cfgm m).N) (y : S256x3584.Idx) :
    (((win0 (adm m 0) 6).rect t).emb y 0 : ℕ) = 256 * t.val + (y 0).val ∧ (((win0 (adm m 0) 6).rect t).emb y 1 : ℕ) = (y 1).val := by
  have h := (by decide +kernel : ∀ t : Fin grid0.N, cc0_transform_6 (grid0.coords t) 1 = 0 ∧ cc0_transform_6 (grid0.coords t) 0 = t.val) t
  refine ⟨((win0 (adm m 0) 6).rect_emb_val t y 0).trans ?_, (win0 (adm m 0) 6).rect_emb_val_of_index_zero t 1 h.1 y⟩
  show cc0_transform_6 (grid0.coords t) 0 * 256 + (y 0).val = _
  rw [h.2, Nat.mul_comm]

/-! ## The input blocks -/

theorem blk1_at (c : Dev nD) (t : Fin (cfgm m).N) {a b : ℕ} (ha : a < 1536) (hb : b < 512) :
    at2 (iblk m c 1 t : S1536x512.Idx → _) a b = at2 (m ((c : Thread nD τ).loc main_arg2) : S1536x18944.Idx → _) a (512 * t.val + b) := by
  have ht : t.val < 37 := (N_eq m) ▸ t.isLt
  have e : iblk m c 1 t = fun y : S1536x512.Idx => (m ((c : Thread nD τ).loc main_arg2) : S1536x18944.Idx → _) (((win0 (adm m 0) 1).rect t).emb y) := by
    unfold iblk; exact congrArg (fun X => ((((cfgm m).win 1).blk t).view.read (Elt F) X)) (V_of m c main_arg2 (by decide) (by decide))
  rw [e]
  refine (at2_eq _ _ ?_ ?_).symm
  · rw [(emb1 m t _).1]; exact Nat.mod_eq_of_lt ha
  · rw [(emb1 m t _).2]; exact congrArg (512 * t.val + ·) (Nat.mod_eq_of_lt hb)
theorem blk2_at (c : Dev nD) (t : Fin (cfgm m).N) {a b : ℕ} (ha : a < 1536) (hb : b < 512) :
    at2 (iblk m c 2 t : S1536x512.Idx → _) a b = at2 (m ((c : Thread nD τ).loc main_arg4) : S1536x18944.Idx → _) a (512 * t.val + b) := by
  have ht : t.val < 37 := (N_eq m) ▸ t.isLt
  have e : iblk m c 2 t = fun y : S1536x512.Idx => (m ((c : Thread nD τ).loc main_arg4) : S1536x18944.Idx → _) (((win0 (adm m 0) 2).rect t).emb y) := by
    unfold iblk; exact congrArg (fun X => ((((cfgm m).win 2).blk t).view.read (Elt F) X)) (V_of m c main_arg4 (by decide) (by decide))
  rw [e]
  refine (at2_eq _ _ ?_ ?_).symm
  · rw [(emb2 m t _).1]; exact Nat.mod_eq_of_lt ha
  · rw [(emb2 m t _).2]; exact congrArg (512 * t.val + ·) (Nat.mod_eq_of_lt hb)
theorem blk5_at (c : Dev nD) (t : Fin (cfgm m).N) {a b : ℕ} (ha : a < 24) (hb : b < 512) :
    at2 (iblk m c 5 t : S24x512.Idx → _) a b = at2 (m ((c : Thread nD τ).loc main_arg6) : S24x18944.Idx → _) a (512 * t.val + b) := by
  have ht : t.val < 37 := (N_eq m) ▸ t.isLt
  have e : iblk m c 5 t = fun y : S24x512.Idx => (m ((c : Thread nD τ).loc main_arg6) : S24x18944.Idx → _) (((win0 (adm m 0) 5).rect t).emb y) := by
    unfold iblk; exact congrArg (fun X => ((((cfgm m).win 5).blk t).view.read (Elt F) X)) (V_of m c main_arg6 (by decide) (by decide))
  rw [e]
  refine (at2_eq _ _ ?_ ?_).symm
  · rw [(emb5 m t _).1]; exact Nat.mod_eq_of_lt ha
  · rw [(emb5 m t _).2]; exact congrArg (512 * t.val + ·) (Nat.mod_eq_of_lt hb)
theorem blk6_at (c : Dev nD) (t : Fin (cfgm m).N) {a b : ℕ} (ha : a < 256) (hb : b < 3584) :
    at2 (iblk m c 6 t : S256x3584.Idx → _) a b = at2 (m ((c : Thread nD τ).loc main_arg7) : S9472x3584.Idx → _) (256 * t.val + a) b := by
  have ht : t.val < 37 := (N_eq m) ▸ t.isLt
  have e : iblk m c 6 t = fun y : S256x3584.Idx => (m ((c : Thread nD τ).loc main_arg7) : S9472x3584.Idx → _) (((win0 (adm m 0) 6).rect t).emb y) := by
    unfold iblk; exact congrArg (fun X => ((((cfgm m).win 6).blk t).view.read (Elt F) X)) (V_of m c main_arg7 (by decide) (by decide))
  rw [e]
  refine (at2_eq _ _ ?_ ?_).symm
  · rw [(emb6 m t _).1]; exact congrArg (256 * t.val + ·) (Nat.mod_eq_of_lt ha)
  · rw [(emb6 m t _).2]; exact Nat.mod_eq_of_lt hb
theorem blk0_eq (c : Dev nD) (t : Fin (cfgm m).N) : (iblk m c 0 t : S1536x3584.Idx → _) = m ((c : Thread nD τ).loc main_arg0) := by
  funext y
  have e : iblk m c 0 t y = (m ((c : Thread nD τ).loc main_arg0) : S1536x3584.Idx → _) (((win0 (adm m 0) 0).rect t).emb y) := by
    unfold iblk; exact congrArg (fun X => ((((cfgm m).win 0).blk t).view.read (Elt F) X) y) (V_of m c main_arg0 (by decide) (by decide))
  exact e.trans (congrArg _ (funext fun a => Fin.ext ((win0 (adm m 0) 0).rect_emb_val_of_index_zero t a (by match a with | ⟨0, _⟩ => rfl | ⟨1, _⟩ => rfl) y)))
theorem blk7_eq (c : Dev nD) (t : Fin (cfgm m).N) : (iblk m c 7 t : S148x3584.Idx → _) = m ((c : Thread nD τ).loc main_arg8) := by
  funext y
  have e : iblk m c 7 t y = (m ((c : Thread nD τ).loc main_arg8) : S148x3584.Idx → _) (((win0 (adm m 0) 7).rect t).emb y) := by
    unfold iblk; exact congrArg (fun X => ((((cfgm m).win 7).blk t).view.read (Elt F) X) y) (V_of m c main_arg8 (by decide) (by decide))
  exact e.trans (congrArg _ (funext fun a => Fin.ext ((win0 (adm m 0) 7).rect_emb_val_of_index_zero t a (by match a with | ⟨0, _⟩ => rfl | ⟨1, _⟩ => rfl) y)))
theorem V_main_v0 (c : Dev nD) : V m c main_v0 = shapeCast S12x128 (m ((c : Thread nD τ).loc main_arg3) : S1536.Idx → _) shapeCasts_S1536_S12x128 := by
  after_reads_simp; rfl
theorem blk3_at (c : Dev nD) (t : Fin (cfgm m).N) {a : ℕ} (ha : a < 1536) :
    at2 (iblk m c 3 t : S12x128.Idx → _) (a / 128) (a % 128) = (m ((c : Thread nD τ).loc main_arg3) : S1536.Idx → _) (ValueIdx.ix1 ⟨a, ha⟩) := by
  have e : iblk m c 3 t = fun y : S12x128.Idx => (V m c main_v0 : S12x128.Idx → _) (((win0 (adm m 0) 3).rect t).emb y) := rfl
  rw [e, V_main_v0]
  unfold at2
  refine shapeCast_apply _ _ _ _ ?_
  have e0 : (((win0 (adm m 0) 3).rect t).emb (ValueIdx.ix2 (Fin.ofNat 12 (a / 128)) (Fin.ofNat 128 (a % 128))) 0 : ℕ) = a / 128 :=
    ((win0 (adm m 0) 3).rect_emb_val_of_index_zero t 0 rfl _).trans (Nat.mod_eq_of_lt (by omega))
  have e1 : (((win0 (adm m 0) 3).rect t).emb (ValueIdx.ix2 (Fin.ofNat 12 (a / 128)) (Fin.ofNat 128 (a % 128))) 1 : ℕ) = a % 128 :=
    ((win0 (adm m 0) 3).rect_emb_val_of_index_zero t 1 rfl _).trans (Nat.mod_eq_of_lt (by omega))
  refine (Shape.rowMajor_val_one (d := ![1536]) _).trans (Eq.trans ?_ (Shape.rowMajor_val_two (d := ![12, 128]) _).symm)
  rw [e0, e1]
  exact (Nat.div_add_mod' a 128).symm
theorem V_main_v1 (c : Dev nD) : V m c main_v1 = shapeCast S12x128 (m ((c : Thread nD τ).loc main_arg5) : S1536.Idx → _) shapeCasts_S1536_S12x128 := by
  after_reads_simp; rfl
theorem blk4_at (c : Dev nD) (t : Fin (cfgm m).N) {a : ℕ} (ha : a < 1536) :
    at2 (iblk m c 4 t : S12x128.Idx → _) (a / 128) (a % 128) = (m ((c : Thread nD τ).loc main_arg5) : S1536.Idx → _) (ValueIdx.ix1 ⟨a, ha⟩) := by
  have e : iblk m c 4 t = fun y : S12x128.Idx => (V m c main_v1 : S12x128.Idx → _) (((win0 (adm m 0) 4).rect t).emb y) := rfl
  rw [e, V_main_v1]
  unfold at2
  refine shapeCast_apply _ _ _ _ ?_
  have e0 : (((win0 (adm m 0) 4).rect t).emb (ValueIdx.ix2 (Fin.ofNat 12 (a / 128)) (Fin.ofNat 128 (a % 128))) 0 : ℕ) = a / 128 :=
    ((win0 (adm m 0) 4).rect_emb_val_of_index_zero t 0 rfl _).trans (Nat.mod_eq_of_lt (by omega))
  have e1 : (((win0 (adm m 0) 4).rect t).emb (ValueIdx.ix2 (Fin.ofNat 12 (a / 128)) (Fin.ofNat 128 (a % 128))) 1 : ℕ) = a % 128 :=
    ((win0 (adm m 0) 4).rect_emb_val_of_index_zero t 1 rfl _).trans (Nat.mod_eq_of_lt (by omega))
  refine (Shape.rowMajor_val_one (d := ![1536]) _).trans (Eq.trans ?_ (Shape.rowMajor_val_two (d := ![12, 128]) _).symm)
  rw [e0, e1]
  exact (Nat.div_add_mod' a 128).symm

/-! ## The results -/

/-- The point that writes a column. -/
def ptOf (j : ℕ) (hj : j < 18944) : Fin (cfgm m).N := ⟨j / 512, by rw [N_eq]; omega⟩

/-- What the run leaves in `main_v2_0`. -/
def arr8 (c : Dev nD) : Vec F S24x18944 .f32 := fun j => at2 (ob8 m c (ptOf m (j 1).val (j 1).isLt) : S24x512.Idx → _) (j 0).val ((j 1).val % 512)
theorem arr8_emb (c : Dev nD) (t : Fin (cfgm m).N) (y : S24x512.Idx) : (ob8 m c t : S24x512.Idx → _) y = arr8 m c (((win0 (adm m 0) 8).rect t).emb y) := by
  have hy : (y 1).val < 512 := (y 1).isLt
  have h1 := (emb8 m t y).2
  have e : ptOf m (((win0 (adm m 0) 8).rect t).emb y 1).val (((win0 (adm m 0) 8).rect t).emb y 1).isLt = t := Fin.ext (by
    show (((win0 (adm m 0) 8).rect t).emb y 1).val / 512 = t.val
    rw [h1]; omega)
  unfold arr8
  rw [e]
  refine (at2_eq _ y ?_ ?_).symm
  · exact (emb8 m t y).1.symm
  · rw [h1]; omega
theorem cov8 (i : S24x18944.Idx) : i ∈ ((win0 (adm m 0) 8).rect (ptOf m (i 1).val (i 1).isLt)).set := by
  let y : S24x512.Idx := ValueIdx.ix2 (i 0) ⟨(i 1).val % 512, Nat.mod_lt _ (by decide)⟩
  have e : ((win0 (adm m 0) 8).rect (ptOf m (i 1).val (i 1).isLt)).idx y = i := by
    funext a; refine Fin.ext ?_
    match a with
    | ⟨0, _⟩ => exact (emb8 m _ y).1
    | ⟨1, _⟩ => exact (emb8 m _ y).2.trans (Nat.div_add_mod _ _)
  have h := ((win0 (adm m 0) 8).rect (ptOf m (i 1).val (i 1).isLt)).idx_mem y
  rw [e] at h
  exact h
theorem final8 (c : Dev nD) : (dats m 0 c).arrAt 8 (cfgm m).N = arr8 m c := by
  refine (dats m 0 c).arrAt_eq_of_cover 8 (arr8 m c) (fun t _ => ?_) (fun (i : S24x18944.Idx) => ⟨ptOf m (i 1).val (i 1).isLt, flush0_8 m _, ?_⟩)
  · show ((cfgm m).win 8).cut (grid0.coords t) ((dats m 0 c).after 8 t) = _
    rw [after0_8]
    funext y
    exact arr8_emb m c t y
  · show i ∈ ((View.whole main_v2_0).slice ((win0 (adm m 0) 8).rect (ptOf m (i 1).val (i 1).isLt))).set
    rw [View.set_slice_whole]
    exact cov8 m i
/-- What the run leaves in `main_v2_1`. -/
def arr9 (c : Dev nD) : Vec F S1536x18944 .bf16 := fun j => at2 (ob9 m c (ptOf m (j 1).val (j 1).isLt) : S1536x512.Idx → _) (j 0).val ((j 1).val % 512)
theorem arr9_emb (c : Dev nD) (t : Fin (cfgm m).N) (y : S1536x512.Idx) : (ob9 m c t : S1536x512.Idx → _) y = arr9 m c (((win0 (adm m 0) 9).rect t).emb y) := by
  have hy : (y 1).val < 512 := (y 1).isLt
  have h1 := (emb9 m t y).2
  have e : ptOf m (((win0 (adm m 0) 9).rect t).emb y 1).val (((win0 (adm m 0) 9).rect t).emb y 1).isLt = t := Fin.ext (by
    show (((win0 (adm m 0) 9).rect t).emb y 1).val / 512 = t.val
    rw [h1]; omega)
  unfold arr9
  rw [e]
  refine (at2_eq _ y ?_ ?_).symm
  · exact (emb9 m t y).1.symm
  · rw [h1]; omega
theorem cov9 (i : S1536x18944.Idx) : i ∈ ((win0 (adm m 0) 9).rect (ptOf m (i 1).val (i 1).isLt)).set := by
  let y : S1536x512.Idx := ValueIdx.ix2 (i 0) ⟨(i 1).val % 512, Nat.mod_lt _ (by decide)⟩
  have e : ((win0 (adm m 0) 9).rect (ptOf m (i 1).val (i 1).isLt)).idx y = i := by
    funext a; refine Fin.ext ?_
    match a with
    | ⟨0, _⟩ => exact (emb9 m _ y).1
    | ⟨1, _⟩ => exact (emb9 m _ y).2.trans (Nat.div_add_mod _ _)
  have h := ((win0 (adm m 0) 9).rect (ptOf m (i 1).val (i 1).isLt)).idx_mem y
  rw [e] at h
  exact h
theorem final9 (c : Dev nD) : (dats m 0 c).arrAt 9 (cfgm m).N = arr9 m c := by
  refine (dats m 0 c).arrAt_eq_of_cover 9 (arr9 m c) (fun t _ => ?_) (fun (i : S1536x18944.Idx) => ⟨ptOf m (i 1).val (i 1).isLt, flush0_9 m _, ?_⟩)
  · show ((cfgm m).win 9).cut (grid0.coords t) ((dats m 0 c).after 9 t) = _
    rw [after0_9]
    funext y
    exact arr9_emb m c t y
  · show i ∈ ((View.whole main_v2_1).slice ((win0 (adm m 0) 9).rect (ptOf m (i 1).val (i 1).isLt))).set
    rw [View.set_slice_whole]
    exact cov9 m i
/-- What the run leaves in `main_v2_2`. -/
def arr10 (c : Dev nD) : Vec F S1536x18944 .bf16 := fun j => at2 (ob10 m c (ptOf m (j 1).val (j 1).isLt) : S1536x512.Idx → _) (j 0).val ((j 1).val % 512)
theorem arr10_emb (c : Dev nD) (t : Fin (cfgm m).N) (y : S1536x512.Idx) : (ob10 m c t : S1536x512.Idx → _) y = arr10 m c (((win0 (adm m 0) 10).rect t).emb y) := by
  have hy : (y 1).val < 512 := (y 1).isLt
  have h1 := (emb10 m t y).2
  have e : ptOf m (((win0 (adm m 0) 10).rect t).emb y 1).val (((win0 (adm m 0) 10).rect t).emb y 1).isLt = t := Fin.ext (by
    show (((win0 (adm m 0) 10).rect t).emb y 1).val / 512 = t.val
    rw [h1]; omega)
  unfold arr10
  rw [e]
  refine (at2_eq _ y ?_ ?_).symm
  · exact (emb10 m t y).1.symm
  · rw [h1]; omega
theorem cov10 (i : S1536x18944.Idx) : i ∈ ((win0 (adm m 0) 10).rect (ptOf m (i 1).val (i 1).isLt)).set := by
  let y : S1536x512.Idx := ValueIdx.ix2 (i 0) ⟨(i 1).val % 512, Nat.mod_lt _ (by decide)⟩
  have e : ((win0 (adm m 0) 10).rect (ptOf m (i 1).val (i 1).isLt)).idx y = i := by
    funext a; refine Fin.ext ?_
    match a with
    | ⟨0, _⟩ => exact (emb10 m _ y).1
    | ⟨1, _⟩ => exact (emb10 m _ y).2.trans (Nat.div_add_mod _ _)
  have h := ((win0 (adm m 0) 10).rect (ptOf m (i 1).val (i 1).isLt)).idx_mem y
  rw [e] at h
  exact h
theorem final10 (c : Dev nD) : (dats m 0 c).arrAt 10 (cfgm m).N = arr10 m c := by
  refine (dats m 0 c).arrAt_eq_of_cover 10 (arr10 m c) (fun t _ => ?_) (fun (i : S1536x18944.Idx) => ⟨ptOf m (i 1).val (i 1).isLt, flush0_10 m _, ?_⟩)
  · show ((cfgm m).win 10).cut (grid0.coords t) ((dats m 0 c).after 10 t) = _
    rw [after0_10]
    funext y
    exact arr10_emb m c t y
  · show i ∈ ((View.whole main_v2_2).slice ((win0 (adm m 0) 10).rect (ptOf m (i 1).val (i 1).isLt))).set
    rw [View.set_slice_whole]
    exact cov10 m i

/-- The kernel's run: every device ends with the three arrays and its arguments as launched. -/
theorem run_results (hS : Cert.Rank.Sorted (off0 m)) : θ_run defs (onTc (τ := τ) (main (F := F))) ⟨m, fun _ => 0, ρ⟩ (fun r => ∀ c : Dev nD,
      r.2.mem ((c.tc : Thread nD τ).loc main_v2_0) = arr8 m c
      ∧ r.2.mem ((c.tc : Thread nD τ).loc main_v2_1) = arr9 m c
      ∧ r.2.mem ((c.tc : Thread nD τ).loc main_v2_2) = arr10 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h.1 c).1 8).trans (final8 m c), ((h.1 c).1 9).trans (final9 m c), ((h.1 c).1 10).trans (final10 m c), args_of m h.1 c⟩)
    (run_main_quiescent m ρ hS)

end Cert.KernelIdeal.Body

end
-- ==== Proof.KernelIdeal.Dh.lean ====
/- The kernel's gradient at the hidden layer over the reals: a sum over the model's width. -/
module

public import proofs.«01_k».proof.Proof.KernelIdeal.Out
public import Idealize.ShloMosaic.Lib.MatmulPlain
public import Idealize.ShloMosaic.Lib.Pointwise

@[expose] public section

set_option maxRecDepth 16384

noncomputable section

namespace Cert.KernelIdeal.Body

open Idealize.ShloMosaic Cert.KernelIdeal.Gen
open Cert.At Cert.Spec

theorem dhF_eq (x w : ℕ → ℕ → Ideal .bf16) (a b : ℕ) (hb : b < 512) :
    dhF x w a b = (∑ k : Fin 3584, (x a k.val : EReal) * w b k.val) := by
  unfold dhF at2
  refine (Ideal.matmul_transposedRhs_apply (M := 512) (K := 3584) (N := 512) none _ _ _ _ _).trans ?_
  have e : (constant S512x512 .f32 0x00000000#32 : FVec Ideal S512x512 .f32) (ValueIdx.ix2 (Fin.ofNat 512 (a % 512)) (Fin.ofNat 512 b)) = (0 : EReal) := by
    pointwise
  have ea : 512 * (a / 512) + a % 512 % 512 = a := by omega
  have eb : b % 512 = b := Nat.mod_eq_of_lt hb
  refine (congrArg (· + _) e).trans ((zero_add (M := EReal) _).trans (Finset.sum_congr rfl fun k _ => ?_))
  show (x (512 * (a / 512) + a % 512 % 512) k.val : EReal) * w (b % 512) k.val = _
  rw [ea, eb]

theorem dhO_eq (i0 : ℕ) (x2 : S1536x3584.Idx → Ideal .bf16) (x8 : S256x3584.Idx → BitVec 8) (x9 : S148x3584.Idx → Ideal .f32) (a b : ℕ) (hb : b < 512) :
    dhO i0 x2 x8 x9 a b = (∑ k : Fin 3584, (at2 x2 a k.val : EReal) * wt (F := Ideal) (at2 x8 (b / 2) k.val) (b % 2) (at2 x9 (4 * i0 + b / 128) k.val)) :=
  dhF_eq _ _ _ _ hb

end Cert.KernelIdeal.Body

end
-- ==== Proof.ReferenceIdeal.Terms.lean ====
/- The reference's results as plain terms of its arguments. -/
module

public import proofs.«01_k».proof.Proof.Gen.ReferenceIdeal.Launch
public import Idealize.ShloMosaic.Lib.StableHlo.RunRead

@[expose] public section

set_option maxRecDepth 16384
set_option maxHeartbeats 4000000

noncomputable section

namespace Cert.ReferenceIdeal.Val

open Idealize.ShloMosaic Idealize.ShloMosaic.TcCoe Cert.ReferenceIdeal.Gen

variable {F : FTy → Type} [FloatOps F]

/-- The codes in the low halves of the packed words. -/
def nibLo (x : IVec S9472x3584 8) : IVec S9472x3584 32 :=
  subi (xori (andi (extui 32 x natLt_8_32) (broadcastInDim S9472x3584 ![] bcast_S_S9472x3584 (constantI S_ 32 15#32)))
    (broadcastInDim S9472x3584 ![] bcast_S_S9472x3584 (constantI S_ 32 8#32))) (broadcastInDim S9472x3584 ![] bcast_S_S9472x3584 (constantI S_ 32 8#32))

/-- The codes in the high halves. -/
def nibHi (x : IVec S9472x3584 8) : IVec S9472x3584 32 :=
  subi (xori (Host.shrsi (extui 32 x natLt_8_32) (broadcastInDim S9472x3584 ![] bcast_S_S9472x3584 (constantI S_ 32 4#32)))
    (broadcastInDim S9472x3584 ![] bcast_S_S9472x3584 (constantI S_ 32 8#32))) (broadcastInDim S9472x3584 ![] bcast_S_S9472x3584 (constantI S_ 32 8#32))

/-- The weights of one half: the codes times their groups' scales. -/
def wPart (n : IVec S9472x3584 32) (s : FVec F S148x3584 .f32) : FVec F S148x64x3584 .bf16 :=
  mulf (shapeCast S148x64x3584 (sitofp .bf16 n) shapeCasts_S9472x3584_S148x64x3584)
    (broadcastInDim S148x64x3584 ![0, 1, 2] bcast_S148x1x3584_S148x64x3584_0_1_2
      (broadcastInDim S148x1x3584 ![0, 2] bcast_S148x3584_S148x1x3584_0_2 (truncf .bf16 s bitsLt_bf16_f32)))

/-- The gradient at the hidden layer, half by half. -/
def half (x : FVec F S1536x3584 .bf16) (w : FVec F S148x64x3584 .bf16) : FVec F S1536x148x64x1 .f32 :=
  broadcastInDim S1536x148x64x1 ![0, 1, 2] bcast_S1536x148x64_S1536x148x64x1_0_1_2
    (Host.dotGeneral dot_S1536x3584_S148x64x3584_S1536x148x64_1_2_0_01_n_n none x w)

/-- The gradient at the hidden layer. -/
def dhR (x : FVec F S1536x3584 .bf16) (q : IVec S9472x3584 8) (s : FVec F S148x3584 .f32) : FVec F S1536x18944 .f32 :=
  shapeCast S1536x18944 (concatenate S1536x148x64x2 3 [⟨S1536x148x64x1, half x (wPart (nibLo q) s)⟩, ⟨S1536x148x64x1, half x (wPart (nibHi q) s)⟩]
    concatenates_S1536x148x64x1_S1536x148x64x1_S1536x148x64x2_d3) shapeCasts_S1536x148x64x2_S1536x18944

/-- The task of each row. -/
def tidR (o : IVec S25 32) : IVec S1536 32 :=
  Host.reduce IntOp.addi (extui 32 (cmpi .sle
      (broadcastInDim S1536x23 ![0, 1] bcast_S1x23_S1536x23_0_1 (broadcastInDim S1x23 ![1] bcast_S23_S1x23_1 (extractStridedSlice S23 ![1] o slices_S25_S23_1)))
      (broadcastInDim S1536x23 ![0, 1] bcast_S1536x1_S1536x23_0_1 (broadcastInDim S1536x1 ![0] bcast_S1536_S1536x1_0 (iotaInDim S1536 32 0)))) natLt_1_32)
    (constantI S_ 32 0#32) reducesTo_S1536x23_S1536_d1 h_S_

/-- Each row's task's scales. -/
def lR (l : FVec F S24x18944 .f32) (t : IVec S1536 32) : FVec F S1536x18944 .f32 :=
  Host.gather gather_S24x18944_S1536x1_S1536x18944_1_0_n_n_0_1_118944 l (broadcastInDim S1536x1 ![0] bcast_S1536_S1536x1_0
    (select (cmpi .slt t (broadcastInDim S1536 ![] bcast_S_S1536 (constantI S_ 32 0#32)))
      (addi t (broadcastInDim S1536 ![] bcast_S_S1536 (constantI S_ 32 24#32))) t))

/-- A column of scales. -/
def colR (s : FVec F S1536 .f32) : FVec F S1536x1 .f32 := broadcastInDim S1536x1 ![0] bcast_S1536_S1536x1_0 s

/-- The array of ones. -/
def oneR : FVec F S1536x18944 .f32 := broadcastInDim S1536x18944 ![] bcast_S_S1536x18944 (constant S_ .f32 0x3F800000#32)
/-- The sigmoid. -/
def sigR (g : FVec F S1536x18944 .f32) : FVec F S1536x18944 .f32 := Host.divf oneR (addf oneR (Host.exp (Host.negf g)))
/-- The gradient of the gated branch. -/
def dgR (dh l g u : FVec F S1536x18944 .f32) : FVec F S1536x18944 .bf16 :=
  truncf .bf16 (mulf (mulf (mulf dh l) u) (mulf (sigR g) (addf oneR (mulf g (subf oneR (sigR g)))))) bitsLt_bf16_f32
/-- The gradient of the linear branch. -/
def duR (dh l g : FVec F S1536x18944 .f32) : FVec F S1536x18944 .bf16 :=
  truncf .bf16 (mulf (mulf dh l) (mulf g (sigR g))) bitsLt_bf16_f32
/-- Each row's part, kept for its own task alone. -/
def partR (t : IVec S1536 32) (dh g u : FVec F S1536x18944 .f32) : FVec F S24x1536x18944 .f32 :=
  select (broadcastInDim S24x1536x18944 ![0, 1, 2] bcast_S24x1536x1_S24x1536x18944_0_1_2 (broadcastInDim S24x1536x1 ![0, 1] bcast_S24x1536_S24x1536x1_0_1
      (cmpi .eq (broadcastInDim S24x1536 ![0, 1] bcast_S1x1536_S24x1536_0_1 (broadcastInDim S1x1536 ![1] bcast_S1536_S1x1536_1 t))
        (broadcastInDim S24x1536 ![0, 1] bcast_S24x1_S24x1536_0_1 (broadcastInDim S24x1 ![0] bcast_S24_S24x1_0 (iotaInDim S24 32 0))))))
    (broadcastInDim S24x1536x18944 ![0, 1, 2] bcast_S1x1536x18944_S24x1536x18944_0_1_2
      (broadcastInDim S1x1536x18944 ![1, 2] bcast_S1536x18944_S1x1536x18944_1_2 (mulf (mulf dh (mulf g (sigR g))) u)))
    (broadcastInDim S24x1536x18944 ![] bcast_S_S24x1536x18944 (constant S_ .f32 0x00000000#32))
/-- The gradient of the tasks' scales. -/
def dlR (t : IVec S1536 32) (dh g u : FVec F S1536x18944 .f32) : FVec F S24x18944 .f32 :=
  Host.reduceAdd (partR t dh g u) (constant S_ .f32 0x00000000#32) reducesTo_S24x1536x18944_S24x18944_d1 h_S_

/-! ## What the host operations leave -/

variable (V : Valuation τ sig (Elt F))

theorem after_v28 : StableHlo.after hostOps0 V main_v28 = dhR (V main_arg0) (V main_arg7) (V main_arg8) := by
  after_reads_simp; rfl
theorem after_v37 : StableHlo.after hostOps0 V main_v37 = tidR (V main_arg1) := by
  after_reads_simp; rfl
theorem after_v44 : StableHlo.after hostOps0 V main_v44 = lR (V main_arg6) (tidR (V main_arg1)) := by
  after_reads_simp; rfl
theorem after_v45 : StableHlo.after hostOps0 V main_v45 = colR (V main_arg3) := by
  after_reads_simp; rfl
theorem after_v46 : StableHlo.after hostOps0 V main_v46 = colR (V main_arg5) := by
  after_reads_simp; rfl

theorem after_v64 : StableHlo.after (List.flatten [hostOps1, hostOps1_1, hostOps1_2]) V main_v64
    = dgR (V main_v28) (V main_v44) (V main_v47_0) (V main_v47_1) := by
  simp only [List.flatten_cons, List.flatten_nil, List.append_nil, List.cons_append, List.nil_append]
  after_reads_simp; rfl
theorem after_v66 : StableHlo.after (List.flatten [hostOps1, hostOps1_1, hostOps1_2]) V main_v66
    = duR (V main_v28) (V main_v44) (V main_v47_0) := by
  simp only [List.flatten_cons, List.flatten_nil, List.append_nil, List.cons_append, List.nil_append]
  after_reads_simp; rfl
theorem after_v78 : StableHlo.after (List.flatten [hostOps1, hostOps1_1, hostOps1_2]) V main_v78
    = dlR (V main_v37) (V main_v28) (V main_v47_0) (V main_v47_1) := by
  simp only [List.flatten_cons, List.flatten_nil, List.append_nil, List.cons_append, List.nil_append]
  after_reads_simp
  simp only [StableHlo.TRef.toBuf, StableHlo.TRef.ofBuf, cast_cast, cast_eq]
  rfl

end Cert.ReferenceIdeal.Val

end
-- ==== Proof.ReferenceIdeal.Dh.lean ====
/- The reference's gradient at the hidden layer, one element at a time. -/
module

public import proofs.«01_k».proof.Proof.ReferenceIdeal.Terms
public import proofs.«01_k».proof.Proof.KernelIdeal.Decode
public import Idealize.ShloMosaic.Lib.Pointwise
public import Idealize.ShloMosaic.Lib.KernelVsHost

@[expose] public section

set_option maxRecDepth 16384

noncomputable section

namespace Cert.ReferenceIdeal.Val

open Idealize.ShloMosaic Idealize.ShloMosaic.TcCoe Idealize.ShloMosaic.Pipeline Cert.ReferenceIdeal.Gen
open Cert.At Cert.KernelIdeal.Body

theorem nibLo_apply (x : IVec S9472x3584 8) (j : S9472x3584.Idx) : nibLo x j = lo4 (x j) := rfl

theorem nibHi_apply (x : IVec S9472x3584 8) (j : S9472x3584.Idx) : nibHi x j = hi4 (x j) := by
  show IntOp.subi (IntOp.xori (IntOp.shrsi .host _ _) _) _ = _
  rw [shrsi_unit .host .vector]
  rfl

/-- One weight of a half. -/
theorem wPart_apply (n : IVec S9472x3584 32) (s : FVec Ideal S148x3584 .f32) (g : Fin 148) (i : Fin 64) (k : Fin 3584) (h : 64 * g.val + i.val < 9472) :
    wPart n s (ValueIdx.ix3 g i k) = FloatOps.mulf (F := Ideal) (φ := .bf16) (FloatOps.sitofp .bf16 (n (ValueIdx.ix2 ⟨64 * g.val + i.val, h⟩ k))) (FloatOps.truncf .bf16 (by decide) (s (ValueIdx.ix2 g k))) := by
  show FloatOps.mulf (shapeCast S148x64x3584 (sitofp .bf16 n) shapeCasts_S9472x3584_S148x64x3584 (ValueIdx.ix3 g i k)) (broadcastInDim S148x64x3584 _ _ _ (ValueIdx.ix3 g i k)) = _
  rw [shapeCast_apply (sitofp .bf16 n) shapeCasts_S9472x3584_S148x64x3584 (ValueIdx.ix3 g i k) (ValueIdx.ix2 ⟨64 * g.val + i.val, h⟩ k)]
  · rw [broadcastInDim_apply _ _ _ (ValueIdx.ix3 g i k) (ValueIdx.ix3 g (0 : Fin 1) k)]
    · rw [broadcastInDim_apply _ _ _ (ValueIdx.ix3 g (0 : Fin 1) k) (ValueIdx.ix2 g k)]
      · rfl
      · intro a
        match a with
        | ⟨0, _⟩ => rfl
        | ⟨1, _⟩ => rfl
    · intro a
      match a with
      | ⟨0, _⟩ => rfl
      | ⟨1, _⟩ => rfl
      | ⟨2, _⟩ => rfl
  · refine (Shape.rowMajor_val_two (d := ![9472, 3584]) _).trans (Eq.trans ?_ (Shape.rowMajor_val_three (d := ![148, 64, 3584]) _).symm)
    show (64 * g.val + i.val) * 3584 + k.val = (g.val * 64 + i.val) * 3584 + k.val
    omega

/-- The host's product at a row, a group and a place in the group. -/
theorem half_apply (x : FVec Ideal S1536x3584 .bf16) (w : FVec Ideal S148x64x3584 .bf16) (a : Fin 1536) (g : Fin 148) (i : Fin 64) :
    half x w (ValueIdx.ix4 a g i (0 : Fin 1)) = (∑ k : Fin 3584, x (ValueIdx.ix2 a k) * w (ValueIdx.ix3 g i k) : EReal) := by
  unfold half
  rw [broadcastInDim_apply _ _ _ (ValueIdx.ix4 a g i (0 : Fin 1)) (ValueIdx.ix3 a g i)]
  · show Host.dotGeneral (F := Ideal) dot_S1536x3584_S148x64x3584_S1536x148x64_1_2_0_01_n_n none x w (ValueIdx.ix3 a g i) = _
    pointwise
    rfl
  · intro b
    match b with
    | ⟨0, _⟩ => rfl
    | ⟨1, _⟩ => rfl
    | ⟨2, _⟩ => rfl

/-- The gradient at the hidden layer: a sum over the model's width. -/
def dhN (x : FVec Ideal S1536x3584 .bf16) (q : IVec S9472x3584 8) (s : FVec Ideal S148x3584 .f32) (a j : ℕ) : EReal :=
  ∑ k : Fin 3584, (at2 x a k.val : EReal) * wt (F := Ideal) (at2 q (j / 2) k.val) (j % 2) (at2 s (j / 128) k.val)

theorem half_sum (x : FVec Ideal S1536x3584 .bf16) (q : IVec S9472x3584 8) (s : FVec Ideal S148x3584 .f32) (a : Fin 1536) (j : Fin 18944)
    (n : IVec S9472x3584 32) (hn : ∀ y, n y = if j.val % 2 = 0 then lo4 (q y) else hi4 (q y)) :
    half x (wPart n s) (ValueIdx.ix4 a (⟨j.val / 128, by omega⟩ : Fin 148) (⟨j.val % 128 / 2, by omega⟩ : Fin 64) (0 : Fin 1)) = dhN x q s a.val j.val := by
  rw [half_apply]
  unfold dhN
  refine Finset.sum_congr rfl fun k _ => ?_
  have e : 64 * (j.val / 128) + j.val % 128 / 2 = j.val / 2 := by omega
  rw [wPart_apply n s ⟨j.val / 128, by omega⟩ ⟨j.val % 128 / 2, by omega⟩ k (by show 64 * (j.val / 128) + j.val % 128 / 2 < 9472; omega), hn,
    at2_eq x (ValueIdx.ix2 a k) rfl rfl, at2_eq s (ValueIdx.ix2 (⟨j.val / 128, by omega⟩ : Fin 148) k) rfl rfl,
    at2_eq q (ValueIdx.ix2 (⟨64 * (j.val / 128) + j.val % 128 / 2, by omega⟩ : Fin 9472) k) e rfl]
  rfl

theorem dhR_apply (x : FVec Ideal S1536x3584 .bf16) (q : IVec S9472x3584 8) (s : FVec Ideal S148x3584 .f32) (a : Fin 1536) (j : Fin 18944) :
    dhR x q s (ValueIdx.ix2 a j) = dhN x q s a.val j.val := by
  unfold dhR
  rw [shapeCast_apply _ _ (ValueIdx.ix2 a j) (ValueIdx.ix4 a (⟨j.val / 128, by omega⟩ : Fin 148) (⟨j.val % 128 / 2, by omega⟩ : Fin 64) (⟨j.val % 2, by omega⟩ : Fin 2))]
  · rcases Nat.mod_two_eq_zero_or_one j.val with h | h
    · rw [concatenate_pair_apply_left (t := S1536x148x64x2) (s₁ := S1536x148x64x1) (s₂ := S1536x148x64x1) 3 _ _ _ _ rfl
        (ValueIdx.ix4 a (⟨j.val / 128, by omega⟩ : Fin 148) (⟨j.val % 128 / 2, by omega⟩ : Fin 64) (0 : Fin 1))]
      · exact half_sum x q s a j _ fun y => by rw [nibLo_apply, if_pos h]
      · intro b
        match b with
        | ⟨0, _⟩ => rfl
        | ⟨1, _⟩ => rfl
        | ⟨2, _⟩ => rfl
        | ⟨3, _⟩ => exact h.symm
    · rw [concatenate_pair_apply_right (t := S1536x148x64x2) (s₁ := S1536x148x64x1) (s₂ := S1536x148x64x1) 3 _ _ _ _ rfl rfl
        (ValueIdx.ix4 a (⟨j.val / 128, by omega⟩ : Fin 148) (⟨j.val % 128 / 2, by omega⟩ : Fin 64) (0 : Fin 1))]
      · exact half_sum x q s a j _ fun y => by rw [nibHi_apply, if_neg (by omega)]
      · intro b hb
        match b with
        | ⟨0, _⟩ => rfl
        | ⟨1, _⟩ => rfl
        | ⟨2, _⟩ => rfl
        | ⟨3, _⟩ => exact absurd rfl hb
      · exact h.symm
  · refine (Shape.rowMajor_val_four (d := ![1536, 148, 64, 2]) _).trans (Eq.trans ?_ (Shape.rowMajor_val_two (d := ![1536, 18944]) _).symm)
    show ((a.val * 148 + j.val / 128) * 64 + j.val % 128 / 2) * 2 + j.val % 2 = a.val * 18944 + j.val
    omega

end Cert.ReferenceIdeal.Val

end
-- ==== Proof.ReferenceIdeal.Task.lean ====
/- The reference's task of a row, and its row's task's scales. -/
module

public import proofs.«01_k».proof.Proof.ReferenceIdeal.Terms
public import proofs.«01_k».proof.Proof.Words
public import proofs.«01_k».proof.Proof.Rank
public import proofs.«01_k».proof.Proof.At
public import Idealize.ShloMosaic.Lib.Pointwise
public import Idealize.ShloMosaic.Lib.IndicatorCount
public import Idealize.ShloMosaic.Lib.WordCmp

@[expose] public section

set_option maxRecDepth 16384

noncomputable section

namespace Cert.ReferenceIdeal.Val

open Idealize.ShloMosaic Idealize.ShloMosaic.TcCoe Idealize.ShloMosaic.Pipeline Cert.ReferenceIdeal.Gen
open Cert.At Cert.Words Cert.Rank

/-- The comparison of an inner offset with a row. -/
def leR (o : IVec S25 32) : IVec S1536x23 1 :=
  cmpi .sle (broadcastInDim S1536x23 ![0, 1] bcast_S1x23_S1536x23_0_1 (broadcastInDim S1x23 ![1] bcast_S23_S1x23_1 (extractStridedSlice S23 ![1] o slices_S25_S23_1)))
      (broadcastInDim S1536x23 ![0, 1] bcast_S1536x1_S1536x23_0_1 (broadcastInDim S1536x1 ![0] bcast_S1536_S1536x1_0 (iotaInDim S1536 32 0)))

theorem leR_apply (o : IVec S25 32) (a : Fin 1536) (k : Fin 23) :
    leR o (ValueIdx.ix2 a k) = Scalar.cmpi .sle (o (ValueIdx.ix1 (⟨k.val + 1, by omega⟩ : Fin 25))) (BitVec.ofNat 32 a.val) := by
  show IntOp.cmpi .sle (broadcastInDim S1536x23 _ _ _ (ValueIdx.ix2 a k)) (broadcastInDim S1536x23 _ _ _ (ValueIdx.ix2 a k)) = _
  rw [broadcastInDim_apply _ _ _ (ValueIdx.ix2 a k) (ValueIdx.ix2 (0 : Fin 1) k), broadcastInDim_apply _ _ _ (ValueIdx.ix2 (0 : Fin 1) k) (ValueIdx.ix1 k),
    extractStridedSlice_apply _ _ _ (ValueIdx.ix1 k) (ValueIdx.ix1 (⟨k.val + 1, by omega⟩ : Fin 25)),
    broadcastInDim_apply _ _ _ (ValueIdx.ix2 a k) (ValueIdx.ix2 a (0 : Fin 1)), broadcastInDim_apply _ _ _ (ValueIdx.ix2 a (0 : Fin 1)) (ValueIdx.ix1 a)]
  · rfl
  · intro b
    match b with
    | ⟨0, _⟩ => rfl
  · intro b
    match b with
    | ⟨0, _⟩ => rfl
    | ⟨1, _⟩ => rfl
  · intro b
    match b with
    | ⟨0, _⟩ => exact Nat.add_comm _ _
  · intro b
    match b with
    | ⟨0, _⟩ => rfl
  · intro b
    match b with
    | ⟨0, _⟩ => rfl
    | ⟨1, _⟩ => rfl

theorem tidR_apply (o : IVec S25 32) (hS : Sorted (nw o)) (a : Fin 1536) : tidR o (ValueIdx.ix1 a) = BitVec.ofNat 32 (tsk (nw o) a.val) := by
  show Host.reduce IntOp.addi (extui 32 (leR o) natLt_1_32) (constantI S_ 32 0#32) reducesTo_S1536x23_S1536_d1 h_S_ (ValueIdx.ix1 a) = _
  rw [Host.reduce_eq_fold, Shape.ReducesTo.fold_fiber_r2_a1 reducesTo_S1536x23_S1536_d1 (ValueIdx.ix1 a) IntOp.addi]
  refine (IndicatorCount.fold_addi_setWidth_eq_card (fun k : Fin 23 => leR o (ValueIdx.ix2 a k)) Finset.univ).trans (congrArg _ ?_)
  unfold tsk
  rw [Finset.card_filter, Finset.card_filter, ← Fin.sum_univ_eq_sum_range fun i => if nw o (i + 1) ≤ a.val then 1 else 0]
  refine Finset.sum_congr rfl fun k _ => ?_
  have e : (o (ValueIdx.ix1 (⟨k.val + 1, by omega⟩ : Fin 25))).toNat = nw o (k.val + 1) := by
    unfold nw
    rw [dif_pos (show k.val + 1 < 25 by omega)]
    refine congrArg (fun i => (o i).toNat) ?_
    funext b
    match b with
    | ⟨0, _⟩ => rfl
  have h1 : nw o (k.val + 1) ≤ 1536 := off_le hS (by omega) (by omega)
  have ea : (BitVec.ofNat 32 a.val).toNat = a.val := Nat.mod_eq_of_lt (by omega)
  rw [leR_apply, cmpi_sle (by omega) (by omega), e, ea]
  by_cases h : nw o (k.val + 1) ≤ a.val
  · rw [if_pos h, if_pos h, if_pos rfl]
  · rw [if_neg h, if_neg h, if_neg (by decide)]

/-- The gather of rows at a row and a column: the row the index names. -/
theorem gather_rows (l : FVec Ideal S24x18944 .f32) (idx : IVec S1536x1 32) (a : Fin 1536) (j : Fin 18944) (r : Fin 24)
    (h : (idx (ValueIdx.ix2 a (0 : Fin 1))).toInt.toNat = r.val) :
    Host.gather gather_S24x18944_S1536x1_S1536x18944_1_0_n_n_0_1_118944 l idx (ValueIdx.ix2 a j) = l (ValueIdx.ix2 r j) := by
  unfold Host.gather
  congr 1
  funext b
  refine Fin.ext ?_
  show GatherDims.start _ (ValueIdx.ix2 a j) idx b + GatherDims.batchCoord _ (ValueIdx.ix2 a j) b + GatherDims.offCoord _ (ValueIdx.ix2 a j) b = _
  have hb : b = 0 ∨ b = 1 := by
    match b with
    | ⟨0, _⟩ => exact Or.inl rfl
    | ⟨1, _⟩ => exact Or.inr rfl
  rcases hb with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S24x18944_S1536x1_S1536x18944_1_0_n_n_0_1_118944.startIndexMap from List.mem_singleton.mpr rfl)]
    have hsi : gather_S24x18944_S1536x1_S1536x18944_1_0_n_n_0_1_118944.siIdx (ValueIdx.ix2 a j) ⟨List.idxOf (0 : Fin 2) gather_S24x18944_S1536x1_S1536x18944_1_0_n_n_0_1_118944.startIndexMap,
        List.idxOf_lt_length_iff.2 (List.mem_singleton.mpr rfl)⟩ = ValueIdx.ix2 a (0 : Fin 1) := by
      funext b; refine Fin.ext ?_
      match b with
      | ⟨0, _⟩ => rfl
      | ⟨1, _⟩ => rfl
    rw [hsi]
    show min (idx (ValueIdx.ix2 a (0 : Fin 1))).toInt.toNat 23 = r.val
    omega
  · rw [GatherDims.batchCoord_eq_zero _ _ _ List.not_mem_nil]
    unfold GatherDims.start
    rw [dif_neg (by decide)]
    exact (Nat.zero_add _).trans rfl

theorem lR_apply (l : FVec Ideal S24x18944 .f32) (o : IVec S25 32) (hS : Sorted (nw o)) (a : Fin 1536) (j : Fin 18944) :
    lR l (tidR o) (ValueIdx.ix2 a j) = at2 l (tsk (nw o) a.val) j.val := by
  have hr := tsk_le (off := nw o) a.val
  unfold lR
  rw [gather_rows l _ a j ⟨tsk (nw o) a.val, by omega⟩, at2_eq l (ValueIdx.ix2 (⟨tsk (nw o) a.val, by omega⟩ : Fin 24) j) rfl rfl]
  rw [broadcastInDim_apply _ _ _ (ValueIdx.ix2 a (0 : Fin 1)) (ValueIdx.ix1 a)]
  · show (Scalar.select (Scalar.cmpi .slt (tidR o (ValueIdx.ix1 a)) 0#32) (IntOp.addi (tidR o (ValueIdx.ix1 a)) 24#32) (tidR o (ValueIdx.ix1 a))).toInt.toNat = _
    have e : (BitVec.ofNat 32 (tsk (nw o) a.val)).toNat = tsk (nw o) a.val := Nat.mod_eq_of_lt (by omega)
    rw [tidR_apply o hS, cmpi_slt (by omega) (by decide), select_ite, if_neg (by show ¬ _ < 0; omega), toInt_of_lt (by omega), e]
    rfl
  · intro b
    match b with
    | ⟨0, _⟩ => rfl

end Cert.ReferenceIdeal.Val

end
-- ==== Proof.ReferenceIdeal.Region.lean ====
/- The reference's run: the two dequantised arrays its region writes, and the results, as terms of the arguments. -/
module

public import proofs.«01_k».proof.Proof.ReferenceIdeal.Terms
public import proofs.«01_k».proof.Proof.Gen.ReferenceIdeal.Frame
public import Idealize.ShloMosaic.Lib.Pipeline.Value
public import Idealize.ShloMosaic.Lib.Pipeline.ValueKit

@[expose] public section

set_option maxRecDepth 16384
set_option maxHeartbeats 4000000

noncomputable section

namespace Cert.ReferenceIdeal.Val

open Idealize.ShloMosaic Idealize.ShloMosaic.TcCoe Cert.ReferenceIdeal.Gen Idealize.SL.Sem
open Idealize.ShloMosaic.Pipeline (Dat)

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- The dequantised values of the gate. -/
abbrev gT (c : Dev nD) : FVec F S1536x18944 .f32 := k0_pay1 (m ((c : Thread nD τ).loc main_arg2)) (colR (m ((c : Thread nD τ).loc main_arg3)))
/-- The dequantised values of the linear branch. -/
abbrev uT (c : Dev nD) : FVec F S1536x18944 .f32 := k0_pay2 (m ((c : Thread nD τ).loc main_arg4)) (colR (m ((c : Thread nD τ).loc main_arg5)))

theorem V_v45 (c : Dev nD) : V m c main_v45 = colR (m ((c : Thread nD τ).loc main_arg3)) :=
  (congrFun (congrArg (fun l => StableHlo.after l _) (List.append_nil _)) _).trans (after_v45 _)
theorem V_v46 (c : Dev nD) : V m c main_v46 = colR (m ((c : Thread nD τ).loc main_arg5)) :=
  (congrFun (congrArg (fun l => StableHlo.after l _) (List.append_nil _)) _).trans (after_v46 _)

theorem iblk0 (c : Dev nD) (t : Fin cfg0.N) : iblk m c 0 t = V m c main_arg2 := by
  funext i
  show V m c main_arg2 ((win0_0.rect t).emb i) = _
  exact congrArg _ (funext fun a => Fin.ext (win0_0.rect_emb_val_of_index_zero t a rfl i))
theorem iblk1 (c : Dev nD) (t : Fin cfg0.N) : iblk m c 1 t = V m c main_v45 := by
  funext i
  show V m c main_v45 ((win0_1.rect t).emb i) = _
  exact congrArg _ (funext fun a => Fin.ext (win0_1.rect_emb_val_of_index_zero t a rfl i))
theorem iblk2 (c : Dev nD) (t : Fin cfg0.N) : iblk m c 2 t = V m c main_arg4 := by
  funext i
  show V m c main_arg4 ((win0_2.rect t).emb i) = _
  exact congrArg _ (funext fun a => Fin.ext (win0_2.rect_emb_val_of_index_zero t a rfl i))
theorem iblk3 (c : Dev nD) (t : Fin cfg0.N) : iblk m c 3 t = V m c main_v46 := by
  funext i
  show V m c main_v46 ((win0_3.rect t).emb i) = _
  exact congrArg _ (funext fun a => Fin.ext (win0_3.rect_emb_val_of_index_zero t a rfl i))

/-- What the region leaves in its array of gates. -/
theorem final4 (c : Dev nD) : (dats m 0 c).arrAt 4 cfg0.N = gT m c := by
  refine (dats m 0 c).arrAt_eq_of_cover 4 (gT m c) (fun t _ => ?_) (fun i => ⟨t0_0, flush0_4 _, ?_⟩)
  · show (cfg0.win 4).cut (grid0.coords t) ((dats m 0 c).after 4 t) = _
    rw [after0_4]
    unfold out0_4
    rw [View.canon_unit_zero hz, View.ld_unit_zero hz, View.ld_unit_zero hz, iblk0, iblk1, V_main_arg2, V_v45]
    funext i
    show _ = gT m c ((win0_4.rect t).emb i)
    refine congrArg (gT m c) ?_
    exact (funext fun a => Fin.ext (win0_4.rect_emb_val_of_index_zero t a rfl i)).symm
  · show i ∈ ((View.whole main_v47_0).slice (win0_4.rect t0_0)).set
    rw [View.set_slice_whole]
    have e : (win0_4.rect t0_0).idx i = i := funext fun a => Fin.ext (win0_4.rect_emb_val_of_index_zero t0_0 a rfl i)
    have h := (win0_4.rect t0_0).idx_mem i
    rw [e] at h
    exact h

/-- What the region leaves in its array of linear values. -/
theorem final5 (c : Dev nD) : (dats m 0 c).arrAt 5 cfg0.N = uT m c := by
  refine (dats m 0 c).arrAt_eq_of_cover 5 (uT m c) (fun t _ => ?_) (fun i => ⟨t0_0, flush0_5 _, ?_⟩)
  · show (cfg0.win 5).cut (grid0.coords t) ((dats m 0 c).after 5 t) = _
    rw [after0_5]
    unfold out0_5
    rw [View.canon_unit_zero hz, View.ld_unit_zero hz, View.ld_unit_zero hz, iblk2, iblk3, V_main_arg4, V_v46]
    funext i
    show _ = uT m c ((win0_5.rect t).emb i)
    refine congrArg (uT m c) ?_
    exact (funext fun a => Fin.ext (win0_5.rect_emb_val_of_index_zero t a rfl i)).symm
  · show i ∈ ((View.whole main_v47_1).slice (win0_5.rect t0_0)).set
    rw [View.set_slice_whole]
    have e : (win0_5.rect t0_0).idx i = i := funext fun a => Fin.ext (win0_5.rect_emb_val_of_index_zero t0_0 a rfl i)
    have h := (win0_5.rect t0_0).idx_mem i
    rw [e] at h
    exact h

/-- The contents the tail of host operations starts from. -/
abbrev W (c : Dev nD) : Valuation τ sig (Elt F) := Pipeline.withArrays spec0 c (V0 m c) fun w => (dats m 0 c).arrAt w cfg0.N

theorem arr_inj : Function.Injective (Pipeline.arrRef spec0) := by decide

theorem W_v47_0 (c : Dev nD) : W m c main_v47_0 = gT m c := (Pipeline.withArrays_arr spec0 arr_inj c _ _ 4).trans (final4 m c)
theorem W_v47_1 (c : Dev nD) : W m c main_v47_1 = uT m c := (Pipeline.withArrays_arr spec0 arr_inj c _ _ 5).trans (final5 m c)

/-- The gradient at the hidden layer, of the launched arguments. -/
abbrev dhM (c : Dev nD) : FVec F S1536x18944 .f32 := dhR (m ((c : Thread nD τ).loc main_arg0)) (m ((c : Thread nD τ).loc main_arg7)) (m ((c : Thread nD τ).loc main_arg8))
/-- The tasks of the rows, of the launched offsets. -/
abbrev tidM (c : Dev nD) : IVec S1536 32 := tidR (m ((c : Thread nD τ).loc main_arg1))

theorem W_v28 (c : Dev nD) : W m c main_v28 = dhM m c :=
  (Pipeline.withArrays_of_ne spec0 c _ _ main_v28 (by decide)).trans
    ((congrFun (congrArg (fun l => StableHlo.after l _) (List.append_nil _)) _).trans (after_v28 _))
theorem W_v37 (c : Dev nD) : W m c main_v37 = tidM m c :=
  (Pipeline.withArrays_of_ne spec0 c _ _ main_v37 (by decide)).trans
    ((congrFun (congrArg (fun l => StableHlo.after l _) (List.append_nil _)) _).trans (after_v37 _))
theorem W_v44 (c : Dev nD) : W m c main_v44 = lR (m ((c : Thread nD τ).loc main_arg6)) (tidM m c) :=
  (Pipeline.withArrays_of_ne spec0 c _ _ main_v44 (by decide)).trans
    ((congrFun (congrArg (fun l => StableHlo.after l _) (List.append_nil _)) _).trans (after_v44 _))

/-- The three results of a device, as terms of the launched arguments. -/
abbrev res78 (c : Dev nD) : FVec F S24x18944 .f32 := dlR (tidM m c) (dhM m c) (gT m c) (uT m c)
abbrev res64 (c : Dev nD) : FVec F S1536x18944 .bf16 := dgR (dhM m c) (lR (m ((c : Thread nD τ).loc main_arg6)) (tidM m c)) (gT m c) (uT m c)
abbrev res66 (c : Dev nD) : FVec F S1536x18944 .bf16 := duR (dhM m c) (lR (m ((c : Thread nD τ).loc main_arg6)) (tidM m c)) (gT m c)

/-- The reference's run: every device ends with the three results and its arguments as launched. -/
theorem run_results : θ_run defs (onTc (τ := τ) (main (F := F))) ⟨m, fun _ => 0, ρ⟩ (fun r => ∀ c : Dev nD,
      r.2.mem ((c.tc : Thread nD τ).loc main_v78) = res78 m c
      ∧ r.2.mem ((c.tc : Thread nD τ).loc main_v64) = res64 m c
      ∧ r.2.mem ((c.tc : Thread nD τ).loc main_v66) = res66 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨((h c).2 main_v78 (Pipeline.mem_restRefs_of main_v78 (by decide) (by decide))).trans
        ((after_v78 (W m c)).trans (by rw [W_v37, W_v28, W_v47_0, W_v47_1])),
      ((h c).2 main_v64 (Pipeline.mem_restRefs_of main_v64 (by decide) (by decide))).trans
        ((after_v64 (W m c)).trans (by rw [W_v28, W_v44, W_v47_0, W_v47_1])),
      ((h c).2 main_v66 (Pipeline.mem_restRefs_of main_v66 (by decide) (by decide))).trans
        ((after_v66 (W m c)).trans (by rw [W_v28, W_v44, W_v47_0])),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 0).trans (((dats m 0 c).arrAt_in 0 rfl _).trans ((A_eq m c 0).trans (V_main_arg2 m c))),
      (((h c).2 main_arg3 (Pipeline.mem_restRefs_of main_arg3 (by decide) (by decide))).trans (W_main_arg3 m (dats m) c)),
      ((h c).1 2).trans (((dats m 0 c).arrAt_in 2 rfl _).trans ((A_eq m c 2).trans (V_main_arg4 m c))),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c))⟩) (run_main m ρ)

end Cert.ReferenceIdeal.Val

end
-- ==== Proof.Segment.lean ====
/- The kernel's table of gradients over the reals: each task's entry is the sum over the rows of that task. -/
module

public import proofs.«01_k».proof.Proof.Canon
public import proofs.«01_k».proof.Proof.Mask
public import Idealize.ShloMosaic.Lib.Pointwise

@[expose] public section

noncomputable section

namespace Cert.Segment

open Idealize.ShloMosaic Cert.Rank Cert.Mask Cert.Spec

theorem z0_ideal : (z0 : Ideal .f32) = (0 : EReal) := by
  show FloatOps.ofBits (F := Ideal) .f32 0x00000000#32 = (0 : EReal)
  pointwise

variable {off : ℕ → ℕ} {p : ℕ → ℕ → Ideal .f32}

/-- The running sum is the sum over the blocks of its slot. -/
theorem accS_eq (sl : ℕ → ℕ) (slot sub col n : ℕ) :
    accS sl p slot sub col n = (∑ m ∈ Finset.range n, if sl m = slot then p (8 * m + sub) col else 0 : EReal) := by
  induction n with
  | zero => rw [Finset.range_zero, Finset.sum_empty]; exact z0_ideal
  | succ n ih =>
    rw [Finset.sum_range_succ, ← ih]
    show (if sl n = slot then FloatOps.addf (accS sl p slot sub col n) (p (8 * n + sub) col) else accS sl p slot sub col n) = _
    by_cases h : sl n = slot
    · rw [if_pos h, if_pos h]; rfl
    · rw [if_neg h, if_neg h]; exact (add_zero (M := EReal) _).symm

/-- One value under a condition, as a sum over the blocks in which only its own block counts. -/
theorem sum_one {b : ℕ} (hb : b < 192) (c : Prop) [Decidable c] (f : ℕ → EReal) :
    (if c then f b else 0) = ∑ m ∈ Finset.range 192, if m = b ∧ c then f m else 0 := by
  rw [Finset.sum_eq_single b]
  · by_cases h : c
    · rw [if_pos h, if_pos ⟨rfl, h⟩]
    · rw [if_neg h, if_neg (fun x => h x.2)]
  · intro m _ hm
    exact if_neg fun x => hm x.1
  · intro h
    exact absurd (Finset.mem_range.mpr hb) h

/-- A row has rank `r` exactly when it lies between the first row of rank `r` and that of the next. -/
theorem R_eq_iff_st {r row : ℕ} (hr : row < 1536) : R off row = r ↔ stF off r ≤ row ∧ row < stF off (r + 1) := by
  have h1 := stF_le_iff (off := off) r hr
  have h2 := stF_le_iff (off := off) (r + 1) hr
  omega

/-- In one block, a row of rank `r` is counted once: in the block's slot, or in the first or the last block. -/
theorem block_once {r m sub : ℕ} (hr : r < 24) (hm : m < 192) (hs : sub < 8) (x : EReal) :
    ((if SL off m = r then x else 0)
      + (if m = fbw (stF off r) ∧ ((stF off r < stF off (r + 1) ∧ SL off (fbw (stF off r)) = 24) ∧ stF off r ≤ 8 * fbw (stF off r) + sub
          ∧ 8 * fbw (stF off r) + sub < stF off (r + 1)) then x else 0))
      + (if m = lbw (stF off (r + 1)) ∧ (((stF off r < stF off (r + 1) ∧ SL off (lbw (stF off (r + 1))) = 24) ∧ lbw (stF off (r + 1)) ≠ fbw (stF off r))
          ∧ stF off r ≤ 8 * lbw (stF off (r + 1)) + sub ∧ 8 * lbw (stF off (r + 1)) + sub < stF off (r + 1)) then x else 0)
      = if R off (8 * m + sub) = r then x else 0 := by
  have hrow := R_eq_iff_st (off := off) (r := r) (row := 8 * m + sub) (by omega)
  have h0 := R_eq_iff_st (off := off) (r := r) (row := 8 * m) (by omega)
  have h7 := R_eq_iff_st (off := off) (r := r) (row := 8 * m + 7) (by omega)
  have m0 : R off (8 * m) ≤ R off (8 * m + sub) := R_mono (by omega)
  have m7 : R off (8 * m + sub) ≤ R off (8 * m + 7) := R_mono (by omega)
  by_cases hS : SL off m = r
  · have e : R off (8 * m + 7) = R off (8 * m) ∧ R off (8 * m) = r := by
      unfold SL at hS
      split at hS
      · exact ⟨by assumption, hS⟩
      · omega
    rw [if_pos hS, if_neg, if_neg, if_pos (by omega), add_zero, add_zero]
    · rintro ⟨a, b, -⟩
      rw [← a] at b
      omega
    · rintro ⟨a, b, -⟩
      rw [← a] at b
      omega
  · rw [if_neg hS]
    by_cases hR : R off (8 * m + sub) = r
    · obtain ⟨g1, g2⟩ := hrow.mp hR
      have hmix : R off (8 * m + 7) ≠ R off (8 * m) ∧ SL off m = 24 := by
        unfold SL at hS ⊢
        by_cases e : R off (8 * m + 7) = R off (8 * m)
        · rw [if_pos e] at hS; omega
        · exact ⟨e, if_neg e⟩
      have f1 : stF off r / 8 ≤ m := by omega
      have l1 : m ≤ lbw (stF off (r + 1)) := by unfold lbw; omega
      have fe : fbw (stF off r) = stF off r / 8 := by unfold fbw; omega
      by_cases hf : m = fbw (stF off r)
      · rw [if_pos, if_neg, if_pos hR, zero_add, add_zero]
        · rintro ⟨a, ⟨-, b⟩, -⟩
          exact b (a.symm.trans hf)
        · refine ⟨hf, ⟨by omega, by rw [← hf]; exact hmix.2⟩, ?_⟩
          rw [← hf]; omega
      · have hl : m = lbw (stF off (r + 1)) := by
          by_contra hl
          unfold lbw at l1 hl
          have : stF off r ≤ 8 * m := by omega
          have : 8 * m + 7 < stF off (r + 1) := by omega
          omega
        rw [if_neg, if_pos, if_pos hR, zero_add, zero_add]
        · refine ⟨hl, ⟨⟨by omega, by rw [← hl]; exact hmix.2⟩, by rw [← hl]; exact hf⟩, ?_⟩
          rw [← hl]; omega
        · exact fun x => hf x.1
    · rw [if_neg, if_neg, if_neg hR, add_zero, add_zero]
      · rintro ⟨a, -, b⟩
        rw [← a] at b
        exact hR (hrow.mpr b)
      · rintro ⟨a, -, b⟩
        rw [← a] at b
        exact hR (hrow.mpr b)

/-- One sublane's part is the sum over its rows of rank `r`. -/
theorem tot_eq {r sub : ℕ} (hr : r < 24) (hs : sub < 8) (col : ℕ) :
    tot (stF off) (SL off) (fun r b => accS (SL off) p (r / 8) (r % 8) b 192) p r sub col
      = (∑ m ∈ Finset.range 192, if R off (8 * m + sub) = r then p (8 * m + sub) col else 0 : EReal) := by
  have hf : fbw (stF off r) < 192 := by unfold fbw; omega
  have hl : lbw (stF off (r + 1)) < 192 := by
    have := stF_le (off := off) (r + 1)
    unfold lbw; omega
  have key : ∀ m ∈ Finset.range 192, (if R off (8 * m + sub) = r then p (8 * m + sub) col else (0 : EReal)) = _ :=
    fun m hm => (block_once (off := off) hr (Finset.mem_range.mp hm) hs (p (8 * m + sub) col)).symm
  rw [Finset.sum_congr rfl key, Finset.sum_add_distrib, Finset.sum_add_distrib, ← sum_one hf _ (fun m => p (8 * m + sub) col),
    ← sum_one hl _ (fun m => p (8 * m + sub) col), ← accS_eq]
  unfold tot
  rw [z0_ideal]
  have e1 : (8 * r + sub) / 8 = r := by omega
  have e2 : (8 * r + sub) % 8 = sub := by omega
  show (accS (SL off) p ((8 * r + sub) / 8) ((8 * r + sub) % 8) col 192 + _ + _ : EReal) = _
  rw [e1, e2]

/-- A sum over the blocks and their eight rows is the sum over the rows. -/
theorem sum_rows (f : ℕ → EReal) : (∑ s : Fin 8, ∑ m ∈ Finset.range 192, f (8 * m + s.val)) = ∑ i : Fin 1536, f i.val := by
  rw [Finset.sum_comm, Fin.sum_univ_eq_sum_range (n := 1536) f]
  have : ∀ n, (∑ m ∈ Finset.range n, ∑ s : Fin 8, f (8 * m + s.val)) = ∑ i ∈ Finset.range (8 * n), f i := by
    intro n
    induction n with
    | zero => rfl
    | succ n ih =>
      rw [Finset.sum_range_succ, ih, Nat.mul_succ, Finset.sum_range_add, Fin.sum_univ_eq_sum_range (n := 8) fun s => f (8 * n + s)]
  exact this 192

theorem multiReduction_rows (x : S8w.Idx → Ideal .f32) (j : S1w.Idx) :
    (multiReduction (F := Ideal) (φ := .f32) .add [0] S1w x 0x00000000#32 red8 (.inl rfl) rfl j : EReal) = ∑ s : Fin 8, x (ValueIdx.ix2 s (j 0)) := by
  exact Ideal.reduceAdd_r2_a0 red8 x j

/-- The gradient of the scale of rank `r` is the sum over the rows of that rank. -/
theorem dlR_eq {r : ℕ} (hr : r < 24) {col : ℕ} (hc : col < 512) :
    dlR (stF off) (SL off) (fun r b => accS (SL off) p (r / 8) (r % 8) b 192) p r col
      = (∑ i : Fin 1536, if R off i.val = r then p i.val col else 0 : EReal) := by
  unfold dlR
  rw [multiReduction_rows, ← sum_rows fun i => if R off i = r then p i col else 0]
  refine Finset.sum_congr rfl fun s _ => ?_
  have e : (Fin.ofNat 512 col).val = col := Nat.mod_eq_of_lt hc
  show tot _ _ _ _ r s.val (Fin.ofNat 512 col).val = _
  rw [e]
  exact tot_eq hr s.isLt col

theorem dlT_const {start slot task : ℕ → ℕ} {acc : ℕ → ℕ → Ideal .f32} {row col : ℕ} {S : Ideal .f32} {n : ℕ} (h : ∀ r, r < n → task r = row → dlR start slot acc p r col = S) :
    dlT start slot task acc p row col n = if ∃ r, r < n ∧ task r = row then S else z0 := by
  induction n with
  | zero => rw [if_neg (by rintro ⟨r, h, -⟩; omega)]; rfl
  | succ n ih =>
    show (if task n = row then dlR start slot acc p n col else dlT start slot task acc p row col n) = _
    by_cases e : task n = row
    · rw [if_pos e, if_pos ⟨n, by omega, e⟩]; exact h n (by omega) e
    · rw [if_neg e, ih fun r hr => h r (by omega)]
      refine if_congr ⟨?_, ?_⟩ rfl rfl
      · rintro ⟨r, h, h'⟩; exact ⟨r, by omega, h'⟩
      · rintro ⟨r, h, h'⟩
        refine ⟨r, ?_, h'⟩
        by_contra hn
        have : r = n := by omega
        subst this
        exact e h'

/-- The kernel's table of gradients: each task's sum over its rows. -/
theorem dlT_eq (hS : Sorted off) {a col : ℕ} (ha : a < 24) (hc : col < 512) :
    dlT (stF off) (SL off) (tkF off) (fun r b => accS (SL off) p (r / 8) (r % 8) b 192) p a col 24
      = (∑ i : Fin 1536, if tsk off i.val = a then p i.val col else 0 : EReal) := by
  rw [dlT_const (S := (∑ i : Fin 1536, if tsk off i.val = a then p i.val col else 0 : EReal))]
  · by_cases h : ∃ r, r < 24 ∧ tkF off r = a
    · rw [if_pos h]
    · rw [if_neg h, z0_ideal]
      refine (Finset.sum_eq_zero fun i _ => if_neg fun e => h ?_).symm
      exact ⟨R off i.val, by have := R_le (off := off) i.val; omega, (tkF_R hS i.isLt).trans e⟩
  · intro r hr e
    rw [dlR_eq hr hc]
    refine Finset.sum_congr rfl fun i _ => if_congr ⟨fun h => ?_, fun h => ?_⟩ rfl rfl
    · rw [← tkF_R hS i.isLt, h, e]
    · have hx : ∃ row, row < 1536 ∧ R off row = r := by
        by_contra hx
        unfold tkF at e
        rw [if_neg hx] at e
        omega
      obtain ⟨row, h1, h2⟩ := hx
      rw [← h2, tkF_R hS h1] at e
      rw [← h2]
      unfold R
      rw [h, e]

end Cert.Segment

end
-- ==== Proof.ReferenceIdeal.Values.lean ====
/- The reference's results over the reals, one element at a time. -/
module

public import proofs.«01_k».proof.Proof.ReferenceIdeal.Dh
public import proofs.«01_k».proof.Proof.ReferenceIdeal.Task
public import proofs.«01_k».proof.Proof.ReferenceIdeal.Region
public import proofs.«01_k».proof.Proof.Segment

@[expose] public section

set_option maxRecDepth 16384

noncomputable section

namespace Cert.ReferenceIdeal.Val

open Idealize.ShloMosaic Idealize.ShloMosaic.TcCoe Idealize.ShloMosaic.Pipeline Cert.ReferenceIdeal.Gen
open Cert.At Cert.Words Cert.Rank Cert.Spec

theorem one_ideal : (FloatOps.ofBits .f32 0x3F800000#32 : Ideal .f32) = (1 : EReal) := by
  pointwise

/-- The two ways to write the slope of `g` times its sigmoid agree, at the infinities too. -/
theorem slope (g : EReal) :
    Ideal.logistic g + g * Ideal.logistic g * (1 - Ideal.logistic g) = Ideal.logistic g * (1 + g * (1 - Ideal.logistic g)) := by
  induction g with
  | bot =>
    rw [Ideal.logistic_bot, mul_zero, zero_mul, zero_mul, add_zero]
  | top =>
    have e : (1 : EReal) - 1 = 0 := by
      rw [← EReal.coe_one, ← EReal.coe_sub, sub_self, EReal.coe_zero]
    rw [Ideal.logistic_top, e, mul_zero, mul_zero, add_zero, mul_one]
  | coe x =>
    rw [Ideal.logistic_coe, ← EReal.coe_one]
    simp only [← EReal.coe_mul, ← EReal.coe_sub, ← EReal.coe_add]
    refine congrArg _ ?_
    rw [mul_add, mul_one, mul_comm x, mul_assoc]

theorem sigR_apply (g : FVec Ideal S1536x18944 .f32) (j : S1536x18944.Idx) : sigR g j = Ideal.logistic (g j) := by
  show Ideal.div (FloatOps.ofBits (F := Ideal) .f32 0x3F800000#32) (FloatOps.ofBits (F := Ideal) .f32 0x3F800000#32 + Ideal.exp (-(g j) : EReal) : EReal) = _
  rw [one_ideal]
  rfl

theorem dgR_apply (dh l g u : FVec Ideal S1536x18944 .f32) (j : S1536x18944.Idx) : dgR dh l g u j = dgS (dh j) (l j) (g j) (u j) := by
  show ((dh j * l j * u j) * (sigR g j * (FloatOps.ofBits (F := Ideal) .f32 0x3F800000#32 + g j * (FloatOps.ofBits (F := Ideal) .f32 0x3F800000#32 - sigR g j))) : EReal)
    = (dh j * l j * u j) * (Ideal.logistic (g j) + g j * Ideal.logistic (g j) * (FloatOps.ofBits (F := Ideal) .f32 0x3F800000#32 - Ideal.logistic (g j)))
  rw [sigR_apply, one_ideal, slope]

theorem duR_apply (dh l g : FVec Ideal S1536x18944 .f32) (j : S1536x18944.Idx) : duR dh l g j = duS (dh j) (l j) (g j) := by
  show ((dh j * l j) * (g j * sigR g j) : EReal) = (dh j * l j) * (g j * Ideal.logistic (g j))
  rw [sigR_apply]

theorem partR_apply (t : IVec S1536 32) (dh g u : FVec Ideal S1536x18944 .f32) (a : Fin 24) (i : Fin 1536) (j : Fin 18944) :
    partR t dh g u (ValueIdx.ix3 a i j) = (if (t (ValueIdx.ix1 i)).toNat = a.val then pS (dh (ValueIdx.ix2 i j)) (g (ValueIdx.ix2 i j)) (u (ValueIdx.ix2 i j)) else 0 : EReal) := by
  show Scalar.select (broadcastInDim S24x1536x18944 _ _ _ (ValueIdx.ix3 a i j)) (broadcastInDim S24x1536x18944 _ _ _ (ValueIdx.ix3 a i j)) (z0 : Ideal .f32) = _
  rw [broadcastInDim_apply _ bcast_S24x1536x1_S24x1536x18944_0_1_2 _ (ValueIdx.ix3 a i j) (ValueIdx.ix3 a i (0 : Fin 1)),
    broadcastInDim_apply _ bcast_S24x1536_S24x1536x1_0_1 _ (ValueIdx.ix3 a i (0 : Fin 1)) (ValueIdx.ix2 a i),
    broadcastInDim_apply _ bcast_S1x1536x18944_S24x1536x18944_0_1_2 _ (ValueIdx.ix3 a i j) (ValueIdx.ix3 (0 : Fin 1) i j),
    broadcastInDim_apply _ bcast_S1536x18944_S1x1536x18944_1_2 _ (ValueIdx.ix3 (0 : Fin 1) i j) (ValueIdx.ix2 i j)]
  · show Scalar.select (Scalar.cmpi .eq (broadcastInDim S24x1536 _ _ _ (ValueIdx.ix2 a i)) (broadcastInDim S24x1536 _ _ _ (ValueIdx.ix2 a i))) _ _ = _
    rw [broadcastInDim_apply _ bcast_S1x1536_S24x1536_0_1 _ (ValueIdx.ix2 a i) (ValueIdx.ix2 (0 : Fin 1) i),
      broadcastInDim_apply _ bcast_S1536_S1x1536_1 _ (ValueIdx.ix2 (0 : Fin 1) i) (ValueIdx.ix1 i),
      broadcastInDim_apply _ bcast_S24x1_S24x1536_0_1 _ (ValueIdx.ix2 a i) (ValueIdx.ix2 a (0 : Fin 1)),
      broadcastInDim_apply _ bcast_S24_S24x1_0 _ (ValueIdx.ix2 a (0 : Fin 1)) (ValueIdx.ix1 a)]
    · have ea : (BitVec.ofNat 32 a.val).toNat = a.val := Nat.mod_eq_of_lt (by omega)
      show Scalar.select (Scalar.cmpi .eq (t (ValueIdx.ix1 i)) (BitVec.ofNat 32 a.val)) _ _ = _
      rw [cmpi_eq, ea, select_ite, Segment.z0_ideal]
      refine if_congr Iff.rfl ?_ rfl
      show (dh _ * (g _ * sigR g _) * u _ : EReal) = dh _ * (g _ * Ideal.logistic (g _) * u _)
      rw [sigR_apply, mul_assoc]
    · intro b
      match b with
      | ⟨0, _⟩ => rfl
    · intro b
      match b with
      | ⟨0, _⟩ => rfl
      | ⟨1, _⟩ => rfl
    · intro b
      match b with
      | ⟨0, _⟩ => rfl
    · intro b
      match b with
      | ⟨0, _⟩ => rfl
      | ⟨1, _⟩ => rfl
  · intro b
    match b with
    | ⟨0, _⟩ => rfl
    | ⟨1, _⟩ => rfl
  · intro b
    match b with
    | ⟨0, _⟩ => rfl
    | ⟨1, _⟩ => rfl
    | ⟨2, _⟩ => rfl
  · intro b
    match b with
    | ⟨0, _⟩ => rfl
    | ⟨1, _⟩ => rfl
  · intro b
    match b with
    | ⟨0, _⟩ => rfl
    | ⟨1, _⟩ => rfl
    | ⟨2, _⟩ => rfl

theorem dlR_apply (t : IVec S1536 32) (dh g u : FVec Ideal S1536x18944 .f32) (a : Fin 24) (j : Fin 18944) :
    dlR t dh g u (ValueIdx.ix2 a j)
      = (∑ i : Fin 1536, if (t (ValueIdx.ix1 i)).toNat = a.val then pS (dh (ValueIdx.ix2 i j)) (g (ValueIdx.ix2 i j)) (u (ValueIdx.ix2 i j)) else 0 : EReal) := by
  unfold dlR
  refine (Ideal.hostReduceAdd_r3_a1 reducesTo_S24x1536x18944_S24x18944_d1 (partR t dh g u) (z0 : Ideal .f32) (ValueIdx.ix2 a j)).trans ?_
  refine (congrArg (· + _) Segment.z0_ideal).trans ((zero_add (M := EReal) _).trans (Finset.sum_congr rfl fun i _ => ?_))
  exact partR_apply t dh g u a i j

/-- A branch's value: the code times the scale of its row. -/
def gN (x : FVec Ideal S1536x18944 .fp8e4m3) (s : FVec Ideal S1536 .f32) (a j : ℕ) : Ideal .f32 := deq (at2 x a j) (s (ValueIdx.ix1 (Fin.ofNat 1536 a)))

theorem pay_apply (x : FVec Ideal S1536x18944 .fp8e4m3) (s : FVec Ideal S1536 .f32) (a : Fin 1536) (j : Fin 18944) :
    mulf (extf .f32 x bitsLt_fp8e4m3_f32) (broadcastTo S1536x18944 (shapeCast S1536x1 (colR s) shapeCasts_S1536x1_S1536x1) broadcasts_S1536x1_S1536x18944) (ValueIdx.ix2 a j)
      = gN x s a.val j.val := by
  have hs : s (ValueIdx.ix1 (Fin.ofNat 1536 a.val)) = s (ValueIdx.ix1 a) := congrArg (fun i => s (ValueIdx.ix1 i)) (Fin.ext (Nat.mod_eq_of_lt a.isLt))
  unfold gN
  rw [at2_eq x (ValueIdx.ix2 a j) rfl rfl, hs]
  show FloatOps.mulf _ (broadcastTo S1536x18944 _ _ (ValueIdx.ix2 a j)) = FloatOps.mulf _ _
  rw [broadcastTo_apply _ _ (ValueIdx.ix2 a j) (ValueIdx.ix2 a (0 : Fin 1)), shapeCast_apply _ _ (ValueIdx.ix2 a (0 : Fin 1)) (ValueIdx.ix2 a (0 : Fin 1)) rfl]
  · unfold colR
    rw [broadcastInDim_apply _ _ _ (ValueIdx.ix2 a (0 : Fin 1)) (ValueIdx.ix1 a)]
    · rfl
    · intro b
      match b with
      | ⟨0, _⟩ => rfl
  · intro b
    match b with
    | ⟨0, _⟩ => rfl
    | ⟨1, _⟩ => rfl

section Results

variable (m : (ℓ : Loc nD τ sig) → Buf (Elt Ideal) ℓ) (c : Dev nD)

theorem gT_apply (a : Fin 1536) (j : Fin 18944) : gT m c (ValueIdx.ix2 a j) = gN (m ((c : Thread nD τ).loc main_arg2)) (m ((c : Thread nD τ).loc main_arg3)) a.val j.val :=
  pay_apply _ _ a j
theorem uT_apply (a : Fin 1536) (j : Fin 18944) : uT m c (ValueIdx.ix2 a j) = gN (m ((c : Thread nD τ).loc main_arg4)) (m ((c : Thread nD τ).loc main_arg5)) a.val j.val :=
  pay_apply _ _ a j

theorem dhM_apply (a : Fin 1536) (j : Fin 18944) : dhM m c (ValueIdx.ix2 a j) = dhN (m ((c : Thread nD τ).loc main_arg0)) (m ((c : Thread nD τ).loc main_arg7)) (m ((c : Thread nD τ).loc main_arg8)) a.val j.val :=
  dhR_apply _ _ _ a j
theorem tidM_apply (hS : Sorted (nw (d := 25) (m ((c : Thread nD τ).loc main_arg1)))) (a : Fin 1536) : tidM m c (ValueIdx.ix1 a) = BitVec.ofNat 32 (tsk (nw (d := 25) (m ((c : Thread nD τ).loc main_arg1))) a.val) :=
  tidR_apply _ hS a
theorem lM_apply (hS : Sorted (nw (d := 25) (m ((c : Thread nD τ).loc main_arg1)))) (a : Fin 1536) (j : Fin 18944) :
    lR (F := Ideal) (m ((c : Thread nD τ).loc main_arg6)) (tidM m c) (ValueIdx.ix2 a j)
      = at2 (α := Ideal .f32) (n0 := 24) (n1 := 18944) (m ((c : Thread nD τ).loc main_arg6)) (tsk (nw (d := 25) (m ((c : Thread nD τ).loc main_arg1))) a.val) j.val :=
  lR_apply _ _ hS a j

/-- The reference's gradient of the linear branch. -/
theorem res66_apply (hS : Sorted (nw (d := 25) (m ((c : Thread nD τ).loc main_arg1)))) (a : Fin 1536) (j : Fin 18944) : res66 m c (ValueIdx.ix2 a j)
    = duS (dhN (m ((c : Thread nD τ).loc main_arg0)) (m ((c : Thread nD τ).loc main_arg7)) (m ((c : Thread nD τ).loc main_arg8)) a.val j.val)
        (at2 (n0 := 24) (n1 := 18944) (m ((c : Thread nD τ).loc main_arg6)) (tsk (nw (d := 25) (m ((c : Thread nD τ).loc main_arg1))) a.val) j.val)
        (gN (m ((c : Thread nD τ).loc main_arg2)) (m ((c : Thread nD τ).loc main_arg3)) a.val j.val) := by
  refine (duR_apply _ _ _ (ValueIdx.ix2 a j)).trans ?_
  rw [gT_apply, dhM_apply, lM_apply m c hS]

/-- The reference's gradient of the gated branch. -/
theorem res64_apply (hS : Sorted (nw (d := 25) (m ((c : Thread nD τ).loc main_arg1)))) (a : Fin 1536) (j : Fin 18944) : res64 m c (ValueIdx.ix2 a j)
    = dgS (dhN (m ((c : Thread nD τ).loc main_arg0)) (m ((c : Thread nD τ).loc main_arg7)) (m ((c : Thread nD τ).loc main_arg8)) a.val j.val)
        (at2 (n0 := 24) (n1 := 18944) (m ((c : Thread nD τ).loc main_arg6)) (tsk (nw (d := 25) (m ((c : Thread nD τ).loc main_arg1))) a.val) j.val)
        (gN (m ((c : Thread nD τ).loc main_arg2)) (m ((c : Thread nD τ).loc main_arg3)) a.val j.val) (gN (m ((c : Thread nD τ).loc main_arg4)) (m ((c : Thread nD τ).loc main_arg5)) a.val j.val) := by
  refine (dgR_apply _ _ _ _ (ValueIdx.ix2 a j)).trans ?_
  rw [gT_apply, uT_apply, dhM_apply, lM_apply m c hS]

/-- The reference's gradient of the scales. -/
theorem res78_apply (hS : Sorted (nw (d := 25) (m ((c : Thread nD τ).loc main_arg1)))) (a : Fin 24) (j : Fin 18944) : res78 m c (ValueIdx.ix2 a j)
    = (∑ i : Fin 1536, if tsk (nw (d := 25) (m ((c : Thread nD τ).loc main_arg1))) i.val = a.val
        then pS (dhN (m ((c : Thread nD τ).loc main_arg0)) (m ((c : Thread nD τ).loc main_arg7)) (m ((c : Thread nD τ).loc main_arg8)) i.val j.val)
          (gN (m ((c : Thread nD τ).loc main_arg2)) (m ((c : Thread nD τ).loc main_arg3)) i.val j.val) (gN (m ((c : Thread nD τ).loc main_arg4)) (m ((c : Thread nD τ).loc main_arg5)) i.val j.val) else 0 : EReal) := by
  refine (dlR_apply _ _ _ _ a j).trans (Finset.sum_congr rfl fun i _ => ?_)
  have ht := tsk_le (off := nw (d := 25) (m ((c : Thread nD τ).loc main_arg1))) i.val
  have e : (BitVec.ofNat 32 (tsk (nw (d := 25) (m ((c : Thread nD τ).loc main_arg1))) i.val)).toNat = tsk (nw (d := 25) (m ((c : Thread nD τ).loc main_arg1))) i.val := Nat.mod_eq_of_lt (by omega)
  rw [gT_apply, uT_apply, dhM_apply, tidM_apply m c hS, e]

end Results

end Cert.ReferenceIdeal.Val

end
-- ==== Proof.Alg.lean ====
/- Over the reals, the kernel's three results are the reference's. -/
module

public import proofs.«01_k».proof.Proof.KernelIdeal.Arrays
public import proofs.«01_k».proof.Proof.KernelIdeal.Dh
public import proofs.«01_k».proof.Proof.ReferenceIdeal.Values

@[expose] public section

set_option maxRecDepth 16384

noncomputable section

namespace Cert.Alg

open Idealize.ShloMosaic Idealize.ShloMosaic.TcCoe
open Cert.At Cert.Words Cert.Rank Cert.Spec Cert.KernelIdeal.Body Cert.KernelIdeal.Gen
open Cert.ReferenceIdeal.Val (dhN gN)

variable (m : (ℓ : Loc Cert.KernelIdeal.nD Cert.KernelIdeal.τ Cert.KernelIdeal.sig) → Buf (Elt Ideal) ℓ) (c : Dev Cert.KernelIdeal.nD)

/-- The launched arguments as arrays. -/
abbrev A0 : FVec Ideal Cert.ReferenceIdeal.S1536x3584 .bf16 := m ((c : Thread Cert.KernelIdeal.nD Cert.KernelIdeal.τ).loc Cert.KernelIdeal.main_arg0)
abbrev A1 : IVec Cert.ReferenceIdeal.S25 32 := m ((c : Thread Cert.KernelIdeal.nD Cert.KernelIdeal.τ).loc Cert.KernelIdeal.main_arg1)
abbrev A2 : FVec Ideal Cert.ReferenceIdeal.S1536x18944 .fp8e4m3 := m ((c : Thread Cert.KernelIdeal.nD Cert.KernelIdeal.τ).loc Cert.KernelIdeal.main_arg2)
abbrev A3 : FVec Ideal Cert.ReferenceIdeal.S1536 .f32 := m ((c : Thread Cert.KernelIdeal.nD Cert.KernelIdeal.τ).loc Cert.KernelIdeal.main_arg3)
abbrev A4 : FVec Ideal Cert.ReferenceIdeal.S1536x18944 .fp8e4m3 := m ((c : Thread Cert.KernelIdeal.nD Cert.KernelIdeal.τ).loc Cert.KernelIdeal.main_arg4)
abbrev A5 : FVec Ideal Cert.ReferenceIdeal.S1536 .f32 := m ((c : Thread Cert.KernelIdeal.nD Cert.KernelIdeal.τ).loc Cert.KernelIdeal.main_arg5)
abbrev A6 : FVec Ideal Cert.ReferenceIdeal.S24x18944 .f32 := m ((c : Thread Cert.KernelIdeal.nD Cert.KernelIdeal.τ).loc Cert.KernelIdeal.main_arg6)
abbrev A7 : IVec Cert.ReferenceIdeal.S9472x3584 8 := m ((c : Thread Cert.KernelIdeal.nD Cert.KernelIdeal.τ).loc Cert.KernelIdeal.main_arg7)
abbrev A8 : FVec Ideal Cert.ReferenceIdeal.S148x3584 .f32 := m ((c : Thread Cert.KernelIdeal.nD Cert.KernelIdeal.τ).loc Cert.KernelIdeal.main_arg8)

theorem off0_A1 : off0 m = nw (A1 m c) := by
  obtain rfl : c = 0 := Subsingleton.elim _ _
  exact off0_eq m

/-- The blocks a grid point reads, as arrays. -/
def bk0 (t : Fin (cfgm m).N) : Cert.KernelIdeal.S1536x3584.Idx → Ideal .bf16 := iblk m c 0 t
def bk1 (t : Fin (cfgm m).N) : Cert.KernelIdeal.S1536x512.Idx → Ideal .fp8e4m3 := iblk m c 1 t
def bk2 (t : Fin (cfgm m).N) : Cert.KernelIdeal.S1536x512.Idx → Ideal .fp8e4m3 := iblk m c 2 t
def bk3 (t : Fin (cfgm m).N) : Cert.KernelIdeal.S12x128.Idx → Ideal .f32 := iblk m c 3 t
def bk4 (t : Fin (cfgm m).N) : Cert.KernelIdeal.S12x128.Idx → Ideal .f32 := iblk m c 4 t
def bk5 (t : Fin (cfgm m).N) : Cert.KernelIdeal.S24x512.Idx → Ideal .f32 := iblk m c 5 t
def bk6 (t : Fin (cfgm m).N) : Cert.KernelIdeal.S256x3584.Idx → BitVec 8 := iblk m c 6 t
def bk7 (t : Fin (cfgm m).N) : Cert.KernelIdeal.S148x3584.Idx → Ideal .f32 := iblk m c 7 t

variable (t : Fin (cfgm m).N) {a b : ℕ}

theorem bk1_at (ha : a < 1536) (hb : b < 512) : at2 (bk1 m c t) a b = at2 (A2 m c) a (512 * t.val + b) := blk1_at m c t ha hb
theorem bk2_at (ha : a < 1536) (hb : b < 512) : at2 (bk2 m c t) a b = at2 (A4 m c) a (512 * t.val + b) := blk2_at m c t ha hb
theorem bk3_at (ha : a < 1536) : at2 (bk3 m c t) (a / 128) (a % 128) = A3 m c (ValueIdx.ix1 ⟨a, ha⟩) := blk3_at m c t ha
theorem bk4_at (ha : a < 1536) : at2 (bk4 m c t) (a / 128) (a % 128) = A5 m c (ValueIdx.ix1 ⟨a, ha⟩) := blk4_at m c t ha
theorem bk5_at (ha : a < 24) (hb : b < 512) : at2 (bk5 m c t) a b = at2 (A6 m c) a (512 * t.val + b) := blk5_at m c t ha hb
theorem bk6_at (ha : a < 256) (hb : b < 3584) : at2 (bk6 m c t) a b = at2 (A7 m c) (256 * t.val + a) b := blk6_at m c t ha hb
theorem bk0_eq : bk0 m c t = A0 m c := blk0_eq m c t
theorem bk7_eq : bk7 m c t = A8 m c := blk7_eq m c t

/-- The kernel's gradient at the hidden layer, in the columns of the whole array. -/
theorem dh_at (hb : b < 512) : dhO (i0 m t) (bk0 m c t) (bk6 m c t) (bk7 m c t) a b = dhN (A0 m c) (A7 m c) (A8 m c) a (512 * t.val + b) := by
  rw [dhO_eq _ _ _ _ _ _ hb, i0_eq, bk0_eq, bk7_eq]
  unfold dhN
  have e1 : (512 * t.val + b) / 2 = 256 * t.val + b / 2 := by omega
  have e2 : (512 * t.val + b) % 2 = b % 2 := by omega
  have e3 : (512 * t.val + b) / 128 = 4 * t.val + b / 128 := by omega
  rw [e1, e2, e3]
  refine Finset.sum_congr rfl fun k _ => ?_
  rw [bk6_at m c t (by omega) k.isLt]

theorem g_at (ha : a < 1536) (hb : b < 512) : gF (bk1 m c t) (bk3 m c t) a b = gN (A2 m c) (A3 m c) a (512 * t.val + b) := by
  unfold gF gN
  rw [bk1_at m c t ha hb, bk3_at m c t ha]
  exact congrArg (fun i => deq _ (A3 m c (ValueIdx.ix1 i))) (Fin.ext (Nat.mod_eq_of_lt ha).symm)

theorem u_at (ha : a < 1536) (hb : b < 512) : gF (bk2 m c t) (bk4 m c t) a b = gN (A4 m c) (A5 m c) a (512 * t.val + b) := by
  unfold gF gN
  rw [bk2_at m c t ha hb, bk4_at m c t ha]
  exact congrArg (fun i => deq _ (A5 m c (ValueIdx.ix1 i))) (Fin.ext (Nat.mod_eq_of_lt ha).symm)

theorem l_at (hb : b < 512) : lF (off0 m) (bk5 m c t) a b = at2 (A6 m c) (tsk (off0 m) a) (512 * t.val + b) :=
  bk5_at m c t (Nat.lt_succ_of_le (tsk_le (off := off0 m) a)) hb

theorem p_at (ha : a < 1536) (hb : b < 512) :
    pO (i0 m t) (bk0 m c t) (bk1 m c t) (bk2 m c t) (bk3 m c t) (bk4 m c t) (bk6 m c t) (bk7 m c t) a b
      = pS (dhN (A0 m c) (A7 m c) (A8 m c) a (512 * t.val + b)) (gN (A2 m c) (A3 m c) a (512 * t.val + b)) (gN (A4 m c) (A5 m c) a (512 * t.val + b)) := by
  unfold pO
  rw [dh_at m c t hb, g_at m c t ha hb, u_at m c t ha hb]

theorem col (j : Fin 18944) : 512 * (ptOf m j.val j.isLt).val + j.val % 512 = j.val := Nat.div_add_mod j.val 512

/-- The kernel's gradient of the linear branch. -/
theorem arr10_apply (a : Fin 1536) (j : Fin 18944) : arr10 m c (ValueIdx.ix2 a j)
    = duS (dhN (A0 m c) (A7 m c) (A8 m c) a.val j.val) (at2 (A6 m c) (tsk (off0 m) a.val) j.val) (gN (A2 m c) (A3 m c) a.val j.val) := by
  have hb : j.val % 512 < 512 := Nat.mod_lt _ (by decide)
  refine (at2_eq (n0 := 1536) (n1 := 512) (ob10 m c (ptOf m j.val j.isLt)) (ValueIdx.ix2 a (⟨j.val % 512, hb⟩ : Fin 512)) rfl rfl).trans ?_
  show duS (dhO (i0 m (ptOf m j.val j.isLt)) (bk0 m c _) (bk6 m c _) (bk7 m c _) a.val (j.val % 512)) (lF (off0 m) (bk5 m c _) a.val (j.val % 512))
    (gF (bk1 m c _) (bk3 m c _) a.val (j.val % 512)) = _
  rw [dh_at m c _ hb, l_at m c _ hb, g_at m c _ a.isLt hb, col]

/-- The kernel's gradient of the gated branch. -/
theorem arr9_apply (a : Fin 1536) (j : Fin 18944) : arr9 m c (ValueIdx.ix2 a j)
    = dgS (dhN (A0 m c) (A7 m c) (A8 m c) a.val j.val) (at2 (A6 m c) (tsk (off0 m) a.val) j.val) (gN (A2 m c) (A3 m c) a.val j.val) (gN (A4 m c) (A5 m c) a.val j.val) := by
  have hb : j.val % 512 < 512 := Nat.mod_lt _ (by decide)
  refine (at2_eq (n0 := 1536) (n1 := 512) (ob9 m c (ptOf m j.val j.isLt)) (ValueIdx.ix2 a (⟨j.val % 512, hb⟩ : Fin 512)) rfl rfl).trans ?_
  show dgS (dhO (i0 m (ptOf m j.val j.isLt)) (bk0 m c _) (bk6 m c _) (bk7 m c _) a.val (j.val % 512)) (lF (off0 m) (bk5 m c _) a.val (j.val % 512))
    (gF (bk1 m c _) (bk3 m c _) a.val (j.val % 512)) (gF (bk2 m c _) (bk4 m c _) a.val (j.val % 512)) = _
  rw [dh_at m c _ hb, l_at m c _ hb, g_at m c _ a.isLt hb, u_at m c _ a.isLt hb, col]

/-- The kernel's gradient of the scales. -/
theorem arr8_apply (hS : Sorted (off0 m)) (a : Fin 24) (j : Fin 18944) : arr8 m c (ValueIdx.ix2 a j)
    = (∑ i : Fin 1536, if tsk (off0 m) i.val = a.val
        then pS (dhN (A0 m c) (A7 m c) (A8 m c) i.val j.val) (gN (A2 m c) (A3 m c) i.val j.val) (gN (A4 m c) (A5 m c) i.val j.val) else 0 : EReal) := by
  have hb : j.val % 512 < 512 := Nat.mod_lt _ (by decide)
  refine (at2_eq (n0 := 24) (n1 := 512) (ob8 m c (ptOf m j.val j.isLt)) (ValueIdx.ix2 a (⟨j.val % 512, hb⟩ : Fin 512)) rfl rfl).trans ?_
  refine (Segment.dlT_eq hS a.isLt hb).trans (Finset.sum_congr rfl fun i _ => ?_)
  exact if_congr Iff.rfl ((p_at m c _ i.isLt hb).trans (by rw [col])) rfl

/-! ## Against the reference -/

theorem ext_ix2 {α : Type} {n0 n1 : ℕ} {f g : (⟨2, ![n0, n1]⟩ : Shape).Idx → α} (h : ∀ (a : Fin n0) (j : Fin n1), f (ValueIdx.ix2 a j) = g (ValueIdx.ix2 a j)) : f = g := by
  funext y
  rw [ValueIdx.eq_ix2 y]
  exact h _ _

/-- The reference's three results are the kernel's three arrays. -/
theorem results_eq (m' : (ℓ : Loc Cert.ReferenceIdeal.nD Cert.ReferenceIdeal.τ Cert.ReferenceIdeal.sig) → Buf (Elt Ideal) ℓ) (hS : Sorted (off0 m))
    (h : m' ((c.tc : Thread Cert.ReferenceIdeal.nD Cert.ReferenceIdeal.τ).loc Cert.ReferenceIdeal.main_arg0) = A0 m c
      ∧ m' ((c.tc : Thread Cert.ReferenceIdeal.nD Cert.ReferenceIdeal.τ).loc Cert.ReferenceIdeal.main_arg1) = A1 m c
      ∧ m' ((c.tc : Thread Cert.ReferenceIdeal.nD Cert.ReferenceIdeal.τ).loc Cert.ReferenceIdeal.main_arg2) = A2 m c
      ∧ m' ((c.tc : Thread Cert.ReferenceIdeal.nD Cert.ReferenceIdeal.τ).loc Cert.ReferenceIdeal.main_arg3) = A3 m c
      ∧ m' ((c.tc : Thread Cert.ReferenceIdeal.nD Cert.ReferenceIdeal.τ).loc Cert.ReferenceIdeal.main_arg4) = A4 m c
      ∧ m' ((c.tc : Thread Cert.ReferenceIdeal.nD Cert.ReferenceIdeal.τ).loc Cert.ReferenceIdeal.main_arg5) = A5 m c
      ∧ m' ((c.tc : Thread Cert.ReferenceIdeal.nD Cert.ReferenceIdeal.τ).loc Cert.ReferenceIdeal.main_arg6) = A6 m c
      ∧ m' ((c.tc : Thread Cert.ReferenceIdeal.nD Cert.ReferenceIdeal.τ).loc Cert.ReferenceIdeal.main_arg7) = A7 m c
      ∧ m' ((c.tc : Thread Cert.ReferenceIdeal.nD Cert.ReferenceIdeal.τ).loc Cert.ReferenceIdeal.main_arg8) = A8 m c) :
    Cert.ReferenceIdeal.Val.res78 m' c = arr8 m c ∧ Cert.ReferenceIdeal.Val.res64 m' c = arr9 m c ∧ Cert.ReferenceIdeal.Val.res66 m' c = arr10 m c := by
  obtain ⟨h0, h1, h2, h3, h4, h5, h6, h7, h8⟩ := h
  have hS' : Sorted (nw (A1 m c)) := off0_A1 m c ▸ hS
  have hR : Sorted (nw (d := 25) (m' ((c.tc : Thread Cert.ReferenceIdeal.nD Cert.ReferenceIdeal.τ).loc Cert.ReferenceIdeal.main_arg1))) := h1.symm ▸ hS'
  refine ⟨ext_ix2 fun a j => ?_, ext_ix2 fun a j => ?_, ext_ix2 fun a j => ?_⟩
  · refine (Cert.ReferenceIdeal.Val.res78_apply m' c hR a j).trans (Eq.trans ?_ (arr8_apply m c hS a j).symm)
    rw [h0, h1, h2, h3, h4, h5, h7, h8, off0_A1 m c]
  · refine (Cert.ReferenceIdeal.Val.res64_apply m' c hR a j).trans (Eq.trans ?_ (arr9_apply m c a j).symm)
    rw [h0, h1, h2, h3, h4, h5, h6, h7, h8, off0_A1 m c]
  · refine (Cert.ReferenceIdeal.Val.res66_apply m' c hR a j).trans (Eq.trans ?_ (arr10_apply m c a j).symm)
    rw [h0, h1, h2, h3, h6, h7, h8, off0_A1 m c]

end Cert.Alg

end
-- ==== Proof.Kernel.Compact.lean ====
/- The two loops that fill the tables of tasks: every place cleared, then the tasks that own a row written one after
   another. -/
module

public import proofs.«01_k».proof.Proof.Gen.Kernel.Loops
public import proofs.«01_k».proof.Proof.Words
public import proofs.«01_k».proof.Proof.Rank

@[expose] public section

set_option maxRecDepth 16384
set_option maxHeartbeats 4000000

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen Cert.Words Cert.Rank

variable {F : FTy → Type} [FloatOps F]

/-- The resources of the run: the frame kit's. -/
local notation "𝕄" => MT nD τ sig Unit (Elt F) ℕ (UR sig nD τ) ℕ

section Trips

variable (𝒱 : Variants) (c : Dev nD) (bd : Option 𝒱.V) (E : Set ℕ) (i : grid0.Coords) (arg1 : Memref sig .tc .smem S25 .i32) (harg1 : arg1.IsWhole) (arg2 : Memref sig .tc .vmem S1536x3584 .bf16) (harg2 : arg2.IsWhole) (arg3 : Memref sig .tc .vmem S1536x512 .fp8e4m3) (harg3 : arg3.IsWhole) (arg4 : Memref sig .tc .vmem S1536x512 .fp8e4m3) (harg4 : arg4.IsWhole) (arg5 : Memref sig .tc .vmem S12x128 .f32) (harg5 : arg5.IsWhole) (arg6 : Memref sig .tc .vmem S12x128 .f32) (harg6 : arg6.IsWhole) (arg7 : Memref sig .tc .vmem S24x512 .f32) (harg7 : arg7.IsWhole) (arg8 : Memref sig .tc .vmem S256x3584 .i8) (harg8 : arg8.IsWhole) (arg9 : Memref sig .tc .vmem S148x3584 .f32) (harg9 : arg9.IsWhole) (arg10 : Memref sig .tc .vmem S24x512 .f32) (harg10 : arg10.IsWhole) (arg11 : Memref sig .tc .vmem S1536x512 .bf16) (harg11 : arg11.IsWhole) (arg12 : Memref sig .tc .vmem S1536x512 .bf16) (harg12 : arg12.IsWhole) (arg13 : Memref sig .tc .vmem S512x3584 .bf16) (harg13 : arg13.IsWhole) (arg14 : Memref sig .tc .vmem S1536x512 .f32) (harg14 : arg14.IsWhole) (arg15 : Memref sig .tc .vmem S1536x512 .f32) (harg15 : arg15.IsWhole) (arg16 : Memref sig .tc .vmem S200x512 .f32) (harg16 : arg16.IsWhole) (arg17 : Memref sig .tc .vmem S4x32x128 .f32) (harg17 : arg17.IsWhole) (arg18 : Memref sig .tc .vmem S32x512 .f32) (harg18 : arg18.IsWhole) (arg19 : Memref sig .tc .vmem S1536x128 .f32) (harg19 : arg19.IsWhole) (arg20 : Memref sig .tc .vmem S1536x128 .f32) (harg20 : arg20.IsWhole) (arg21 : Memref sig .tc .vmem S1536x128 .i32) (harg21 : arg21.IsWhole) (arg22 : Memref sig .tc .smem S192 .i32) (harg22 : arg22.IsWhole) (arg23 : Memref sig .tc .smem S192 .i32) (harg23 : arg23.IsWhole) (arg24 : Memref sig .tc .smem S25 .i32) (harg24 : arg24.IsWhole) (arg25 : Memref sig .tc .smem S26 .i32) (harg25 : arg25.IsWhole)

/-- The table of the offsets. -/
abbrev offN (X1 : BufTy.Contents (Elt F) arg1.view.ty) : ℕ → ℕ := nw (arg1.view.read (Elt F) X1)

theorem chk1_of (i : grid0.Coords) (w : BitVec 32) (h : w.toNat ≤ 24) : k0_chk1 i w := by
  constructor
  all_goals
    intro _ a
    have : a = 0 := Subsingleton.elim _ _
    subst this
    show w.toNat + 1 ≤ _
    simp; omega

set_option warn.classDefReducibility false in
/-- THE COMPACTION. Before trip `k` the tables are those after `k` tasks, and the value carried is the count. -/
def loopInv2 (k0_h1 : k0_cond1 i = 1#1) (q : PosShare TreeShare) (X1 : BufTy.Contents (Elt F) arg1.view.ty) (hS : Sorted (offN arg1 X1)) :
    LoopInvTy_k0_t2 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_h1 0#32 where
  inv k acc := iprop(⌜acc.toNat = cnt (offN arg1 X1) k⌝
    ∗ (arg1.view.loc (c : Thread nD τ) ↦[arg1.view.set]{q} X1)
    ∗ ∃ f24 f25, (arg24.view.loc (c : Thread nD τ) ↦[arg24.view.set]{fullShare} f24)
      ∗ (arg25.view.loc (c : Thread nD τ) ↦[arg25.view.set]{fullShare} f25)
      ∗ ⌜25 ≤ Scf.trips k0_t1_loop.lb k0_t1_loop.ub k0_t1_loop.st → Comp (offN arg1 X1) k (nw (arg25.view.read (Elt F) f25)) (nw (arg24.view.read (Elt F) f24))⌝)
  step k acc := by
    have hk : k.val < 24 := Nat.lt_of_lt_of_le k.isLt k0_t2_abs.2.1
    iintro ⟨%hacc, H1, ⟨%f24, %f25, H24, H25, %hC⟩⟩
    replace hC := hC (by decide +kernel)
    have hc : k0_chk1 i acc := chk1_of i acc (by rw [hacc]; exact (cnt_le _).trans hk.le)
    unfold k0_t2_body
    sl_exec
    sl_step
    have hiv : (loopInv2.sl.arg26 k).toNat = k.val := iv_toNat k (by have := k0_t2_abs.2.1; exact le_trans this (by decide))
    have h357 : (loopInv2.sl.v357 i arg1 k0_h1 X1 k).toNat = sOf (offN arg1 X1) k := by
      unfold loopInv2.sl.v357 loopInv2.sl.v356 loopInv2.sl.r
      rw [cmpi_eq, select_ite, toNat_ite, hiv, toNat_readAt _ _ _ _ (k0_off3_eq k) rfl]
      rfl
    have h362 : (loopInv2.sl.v362 i arg1 k0_h1 X1 k).toNat = eOf (offN arg1 X1) k := by
      unfold loopInv2.sl.v362 loopInv2.sl.v358 loopInv2.sl.r_1
      rw [cmpi_eq, select_ite, toNat_ite, hiv, toNat_readAt _ _ _ _ (k0_off4_eq k) rfl]
      rfl
    have hs : sOf (offN arg1 X1) k ≤ 1536 := by
      unfold sOf; split
      · omega
      · exact off_le hS (by omega) (by omega)
    have h363 : loopInv2.sl.v363 i arg1 k0_h1 X1 k = if Live (offN arg1 X1) k then 1#1 else 0#1 := by
      have he := eOf_le hS (t := k) (by omega)
      unfold loopInv2.sl.v363
      rw [cmpi_sgt (by rw [h362]; omega) (by rw [h357]; omega), h357, h362]
      rfl
    isplitr
    · ipureintro
      unfold loopInv2.sl.v375 loopInv2.sl.v374
      rw [h363, addi_toNat, extui_ite_toNat, hacc]
      · rfl
      · rw [extui_ite_toNat, hacc]; have := cnt_le (off := offN arg1 X1) k; split <;> omega
    isplitl [H1]; · iexact H1
    iexists _, _
    isplitl [H24]; · iexact H24
    isplitl [H25]; · iexact H25
    ipureintro
    intro _
    refine comp_step hC ?_ ?_ hk
    · intro j hj
      rw [nw_writes_cons _ _ _ _ _ (n := cnt (offN arg1 X1) k) (show k0_off5 acc = ![cnt (offN arg1 X1) k] from congrArg (![·]) hacc) rfl (by omega)]
      try rw [View.writes_nil]
      unfold loopInv2.sl.v366 loopInv2.sl.r_2
      rw [h363, select_ite, toNat_ite, h357, toNat_readAt _ _ _ _ (show k0_off5 acc = ![cnt (offN arg1 X1) k] from congrArg (![·]) hacc) rfl]
      by_cases e : j = cnt (offN arg1 X1) k
      · rw [if_pos e, if_pos e, e]
      · rw [if_neg e, if_neg e]
    · intro j hj
      rw [nw_writes_cons _ _ _ _ _ (n := cnt (offN arg1 X1) k) (show k0_off6 acc = ![cnt (offN arg1 X1) k] from congrArg (![·]) hacc) rfl (by omega), View.writes_nil]
      unfold loopInv2.sl.v371 loopInv2.sl.r_3
      rw [h363, select_ite, toNat_ite, hiv, toNat_readAt _ _ _ _ (show k0_off6 acc = ![cnt (offN arg1 X1) k] from congrArg (![·]) hacc) rfl]
      by_cases e : j = cnt (offN arg1 X1) k
      · rw [if_pos e, if_pos e, e]
      · rw [if_neg e, if_neg e]

set_option warn.classDefReducibility false in
/-- THE FILL. Before trip `k` the first `k` places are cleared. -/
def loopInv1 (k0_h1 : k0_cond1 i = 1#1) (off : ℕ → ℕ) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_h1 where
  inv k acc := iprop(∃ f24 f25, (arg24.view.loc (c : Thread nD τ) ↦[arg24.view.set]{fullShare} f24)
      ∗ (arg25.view.loc (c : Thread nD τ) ↦[arg25.view.set]{fullShare} f25)
      ∗ ⌜∀ j, j < k → nw (arg25.view.read (Elt F) f25) j = 1536 ∧ nw (arg24.view.read (Elt F) f24) j = 24⌝
      ∗ ⌜25 ≤ k → Comp off 0 (nw (arg25.view.read (Elt F) f25)) (nw (arg24.view.read (Elt F) f24))⌝)
  step k acc := by
    have hk : k.val < 25 := Nat.lt_of_lt_of_le k.isLt k0_t1_abs.2.1
    iintro ⟨%f24, %f25, H24, H25, %hC, -⟩
    unfold k0_t1_body
    sl_exec
    sl_step
    iexists _, _
    isplitl [H24]; · iexact H24
    isplitl [H25]; · iexact H25
    suffices hF : _ from by
      isplitr
      · ipureintro; exact hF
      · ipureintro; exact fun h => comp_zero fun j hj => hF j (by omega)
    intro j hj
    rw [nw_writes_cons _ _ _ _ _ (k0_off1_eq k) rfl (by omega), nw_writes_cons _ _ _ _ _ (k0_off2_eq k) rfl (by omega), View.writes_nil, View.writes_nil]
    by_cases e : j = k.val
    · rw [if_pos e, if_pos e]; exact ⟨rfl, rfl⟩
    · rw [if_neg e, if_neg e]; exact hC j (by omega)

end Trips

end Cert.Kernel.Body

end
-- ==== Proof.Kernel.Blocks.lean ====
/- The loop that finds each block's first rank and its slot: the rank of its first row by counting on from the rank
   before, and the slot by the start of the next rank. -/
module

public import proofs.«01_k».proof.Proof.Kernel.Compact

@[expose] public section

set_option maxRecDepth 16384
set_option maxHeartbeats 4000000

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen Cert.Words Cert.Rank

variable {F : FTy → Type} [FloatOps F]

/-- The resources of the run: the frame kit's. -/
local notation "𝕄" => MT nD τ sig Unit (Elt F) ℕ (UR sig nD τ) ℕ

section Trips

variable (𝒱 : Variants) (c : Dev nD) (bd : Option 𝒱.V) (E : Set ℕ) (i : grid0.Coords) (arg1 : Memref sig .tc .smem S25 .i32) (harg1 : arg1.IsWhole) (arg2 : Memref sig .tc .vmem S1536x3584 .bf16) (harg2 : arg2.IsWhole) (arg3 : Memref sig .tc .vmem S1536x512 .fp8e4m3) (harg3 : arg3.IsWhole) (arg4 : Memref sig .tc .vmem S1536x512 .fp8e4m3) (harg4 : arg4.IsWhole) (arg5 : Memref sig .tc .vmem S12x128 .f32) (harg5 : arg5.IsWhole) (arg6 : Memref sig .tc .vmem S12x128 .f32) (harg6 : arg6.IsWhole) (arg7 : Memref sig .tc .vmem S24x512 .f32) (harg7 : arg7.IsWhole) (arg8 : Memref sig .tc .vmem S256x3584 .i8) (harg8 : arg8.IsWhole) (arg9 : Memref sig .tc .vmem S148x3584 .f32) (harg9 : arg9.IsWhole) (arg10 : Memref sig .tc .vmem S24x512 .f32) (harg10 : arg10.IsWhole) (arg11 : Memref sig .tc .vmem S1536x512 .bf16) (harg11 : arg11.IsWhole) (arg12 : Memref sig .tc .vmem S1536x512 .bf16) (harg12 : arg12.IsWhole) (arg13 : Memref sig .tc .vmem S512x3584 .bf16) (harg13 : arg13.IsWhole) (arg14 : Memref sig .tc .vmem S1536x512 .f32) (harg14 : arg14.IsWhole) (arg15 : Memref sig .tc .vmem S1536x512 .f32) (harg15 : arg15.IsWhole) (arg16 : Memref sig .tc .vmem S200x512 .f32) (harg16 : arg16.IsWhole) (arg17 : Memref sig .tc .vmem S4x32x128 .f32) (harg17 : arg17.IsWhole) (arg18 : Memref sig .tc .vmem S32x512 .f32) (harg18 : arg18.IsWhole) (arg19 : Memref sig .tc .vmem S1536x128 .f32) (harg19 : arg19.IsWhole) (arg20 : Memref sig .tc .vmem S1536x128 .f32) (harg20 : arg20.IsWhole) (arg21 : Memref sig .tc .vmem S1536x128 .i32) (harg21 : arg21.IsWhole) (arg22 : Memref sig .tc .smem S192 .i32) (harg22 : arg22.IsWhole) (arg23 : Memref sig .tc .smem S192 .i32) (harg23 : arg23.IsWhole) (arg24 : Memref sig .tc .smem S25 .i32) (harg24 : arg24.IsWhole) (arg25 : Memref sig .tc .smem S26 .i32) (harg25 : arg25.IsWhole)

theorem chk2_of (i : grid0.Coords) (w : BitVec 32) (h : w.toNat ≤ 24) : k0_chk2 i w := by
  intro _ a
  have : a = 0 := Subsingleton.elim _ _
  subst this
  show (w + 1#32).toNat + 1 ≤ 26
  rw [BitVec.toNat_add]; simp; omega

theorem off7_of (w : BitVec 32) (h : w.toNat ≤ 24) : k0_off7 w = ![w.toNat + 1] := by
  refine congrArg (![·]) ?_
  show (w + 1#32).toNat = _
  rw [BitVec.toNat_add]; simp; omega

theorem off9_of (w : BitVec 32) (h : w.toNat ≤ 24) : k0_off9 w = ![w.toNat + 1] := off7_of w h

theorem chk3_of (i : grid0.Coords) (w : BitVec 32) (h : w.toNat ≤ 24) : k0_chk3 i w := chk2_of i w h

set_option warn.classDefReducibility false in
/-- COUNTING ON. From a rank at most the row's, each of the 24 trips moves one rank on until the row's is reached. -/
def loopInv4 (k0_h1 : k0_cond1 i = 1#1) (off : ℕ → ℕ) (X25 : BufTy.Contents (Elt F) arg25.view.ty) (v354 init : BitVec 32)
    (hrow : v354.toNat < 1536) (hX : ∀ i, i ≤ 24 → (nw (arg25.view.read (Elt F) X25) i ≤ v354.toNat ↔ i ≤ R off v354.toNat))
    (hle : ∀ i, i ≤ 24 → nw (arg25.view.read (Elt F) X25) i ≤ 1536) (hinit : init.toNat ≤ R off v354.toNat) :
    LoopInvTy_k0_t4 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_h1 v354 init where
  inv k acc := iprop(⌜acc.toNat = min (init.toNat + k) (R off v354.toNat)⌝
    ∗ (arg25.view.loc (c : Thread nD τ) ↦[arg25.view.set]{fullShare} X25))
  step k acc := by
    have hR := R_le (off := off) v354.toNat
    iintro ⟨%hacc, H25⟩
    have hc : k0_chk2 i acc := chk2_of i acc (by omega)
    unfold k0_t4_body
    sl_exec
    sl_step
    isplitr
    · ipureintro
      unfold loopInv4.sl.v372 loopInv4.sl.v371 loopInv4.sl.v370 loopInv4.sl.r
      have e := toNat_readAt (F := F) arg25.view X25 (k0_off7_inb i acc hc k0_h1) (Shape.Idx.first (numel1_S1.symm ▸ Nat.one_pos)) (off7_of acc (by omega)) rfl
      have e2 := hle (acc.toNat + 1) (by omega)
      have e3 := hX (acc.toNat + 1) (by omega)
      have e1 := e
      rw [← e] at e2 e3
      rw [cmpi_sle (lt_of_le_of_lt e2 (by decide)) (by omega), addi_toNat, extui_ite_toNat]
      · rw [if_congr e3 rfl rfl]
        split <;> omega
      · rw [extui_ite_toNat]; split <;> omega
    iexact H25

theorem off8_lt (k : Fin k0_t3_loop.trips) : k.val < 192 := Nat.lt_of_lt_of_le k.isLt k0_t3_abs.2.1

set_option warn.classDefReducibility false in
/-- THE BLOCKS. Before trip `k` the first `k` blocks have their rank and slot, and the rank carried is at most the next
block's. -/
def loopInv3 (k0_h1 : k0_cond1 i = 1#1) (off : ℕ → ℕ) (X24 : BufTy.Contents (Elt F) arg24.view.ty) (X25 : BufTy.Contents (Elt F) arg25.view.ty)
    (hS : Sorted off) (hT : Tab off (nw (arg25.view.read (Elt F) X25)) (nw (arg24.view.read (Elt F) X24))) :
    LoopInvTy_k0_t3 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_h1 0#32 where
  inv k acc := iprop(⌜acc.toNat ≤ R off (8 * k)⌝
    ∗ (arg25.view.loc (c : Thread nD τ) ↦[arg25.view.set]{fullShare} X25)
    ∗ (arg24.view.loc (c : Thread nD τ) ↦[arg24.view.set]{fullShare} X24)
    ∗ ∃ f22 f23, (arg22.view.loc (c : Thread nD τ) ↦[arg22.view.set]{fullShare} f22)
      ∗ (arg23.view.loc (c : Thread nD τ) ↦[arg23.view.set]{fullShare} f23)
      ∗ ⌜∀ b, b < k → nw (arg22.view.read (Elt F) f22) b = R off (8 * b)⌝ ∗ ⌜∀ b, b < k → nw (arg23.view.read (Elt F) f23) b = SL off b⌝)
  step k acc := by
    have hk : k.val < 192 := off8_lt k
    iintro ⟨%hacc, H25, H24, ⟨%f22, %f23, H22, H23, %hC, %hC'⟩⟩
    have hiv : (Scf.iv 0#32 1#32 k).toNat = k.val := iv_toNat k (le_trans k0_t3_abs.2.1 (by decide))
    have h354 : (Scalar.muli (Scf.iv 0#32 1#32 k) 8#32).toNat = 8 * k.val := by
      rw [muli_toNat _ _ (by rw [hiv]; show k.val * 8 < _; omega), hiv]
      show k.val * 8 = _; omega
    unfold k0_t3_body
    let L4 := loopInv4 (F := F) 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_h1 off X25 (Scalar.muli (Scf.iv 0#32 1#32 k) 8#32) acc (by omega)
      (by rw [h354]; exact fun i hi => hT.le i hi _ (by omega)) hT.start_le (by rw [h354]; exact hacc)
    have h0 : acc.toNat = min (acc.toNat + 0) (R off (Scalar.muli (Scf.iv 0#32 1#32 k) 8#32).toNat) := by rw [h354]; omega
    sl_exec
    rename_i r
    have htr : Scf.trips k0_t4_loop.lb k0_t4_loop.ub k0_t4_loop.st = 24 := by decide +kernel
    have hR := R_le (off := off) (8 * k.val)
    have hr : r.toNat = R off (8 * k.val) := by rw [hL0, htr, h354]; omega
    have hc3 : k0_chk3 i r := chk3_of i r (by omega)
    clear L4 h0
    sl_exec
    sl_step
    isplitr
    · ipureintro
      rw [hr]; exact R_mono (by omega)
    isplitl [H25]; · iexact H25
    isplitl [H24]; · iexact H24
    iexists _, _
    isplitl [H22]; · iexact H22
    isplitl [H23]; · iexact H23
    suffices hF : ∀ b, b < k.val + 1 → _ ∧ _ from by
      isplitr
      · ipureintro; exact fun b hb => (hF b hb).1
      · ipureintro; exact fun b hb => (hF b hb).2
    intro b hb
    rw [nw_writes_cons _ _ _ _ _ (k0_off8_eq k) rfl (by omega), nw_writes_cons _ _ _ _ _ (k0_off10_eq k) rfl (by omega), View.writes_nil, View.writes_nil]
    by_cases e : b = k.val
    · subst e
      rw [if_pos rfl, if_pos rfl]
      refine ⟨hr, ?_⟩
      unfold loopInv3.sl.v364 loopInv3.sl.v363 loopInv3.sl.v362 loopInv3.sl.v354 loopInv3.sl.arg26 loopInv3.sl.r_1
      have h362 : (Scalar.addi (Scalar.muli (Scf.iv 0#32 1#32 k) 8#32) 8#32).toNat = 8 * k.val + 8 := by
        rw [addi_toNat _ _ (by rw [h354]; show _ + 8 < _; omega), h354]; rfl
      have e1 := toNat_readAt (F := F) arg25.view X25 (k0_off9_inb i r hc3 k0_h1) (Shape.Idx.first (numel1_S1.symm ▸ Nat.one_pos)) (off9_of r (by omega)) rfl
      have e2 := hT.start_le (r.toNat + 1) (by omega)
      have e3 := hT.le (r.toNat + 1) (by omega) (8 * k.val + 7) (by omega)
      rw [← e1] at e2 e3
      have e4 := R_mono (off := off) (row := 8 * k.val) (row' := 8 * k.val + 7) (by omega)
      rw [cmpi_sge (lt_of_le_of_lt e2 (by decide)) (by rw [h362]; omega), select_ite, toNat_ite, h362, hr]
      unfold SL
      refine if_congr ?_ rfl rfl
      rw [hr] at e3
      constructor
      · intro h; by_contra hn; have := e3.2 (by omega); omega
      · intro h; by_contra hn; have := e3.1 (by omega); omega
    · rw [if_neg e, if_neg e]; exact ⟨hC b (by omega), hC' b (by omega)⟩

end Trips

end Cert.Kernel.Body

end
-- ==== Proof.Kernel.Ranks.lean ====
/- The loop that finds each row's rank among the tasks that own a row, less its block's first rank. -/
module

public import proofs.«01_k».proof.Proof.Kernel.Blocks
public import Idealize.ShloMosaic.Lib.ValueIdxCore
public import Idealize.ShloMosaic.Lib.Pointwise.Reshape

@[expose] public section

set_option maxRecDepth 16384
set_option maxHeartbeats 4000000

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen Cert.Words Cert.Rank

variable {F : FTy → Type} [FloatOps F]

/-- The resources of the run: the frame kit's. -/
local notation "𝕄" => MT nD τ sig Unit (Elt F) ℕ (UR sig nD τ) ℕ

open Idealize.ShloMosaic.ValueIdx

open Idealize.ShloMosaic.View

section Trips

variable (𝒱 : Variants) (c : Dev nD) (bd : Option 𝒱.V) (E : Set ℕ) (i : grid0.Coords) (arg1 : Memref sig .tc .smem S25 .i32) (harg1 : arg1.IsWhole) (arg2 : Memref sig .tc .vmem S1536x3584 .bf16) (harg2 : arg2.IsWhole) (arg3 : Memref sig .tc .vmem S1536x512 .fp8e4m3) (harg3 : arg3.IsWhole) (arg4 : Memref sig .tc .vmem S1536x512 .fp8e4m3) (harg4 : arg4.IsWhole) (arg5 : Memref sig .tc .vmem S12x128 .f32) (harg5 : arg5.IsWhole) (arg6 : Memref sig .tc .vmem S12x128 .f32) (harg6 : arg6.IsWhole) (arg7 : Memref sig .tc .vmem S24x512 .f32) (harg7 : arg7.IsWhole) (arg8 : Memref sig .tc .vmem S256x3584 .i8) (harg8 : arg8.IsWhole) (arg9 : Memref sig .tc .vmem S148x3584 .f32) (harg9 : arg9.IsWhole) (arg10 : Memref sig .tc .vmem S24x512 .f32) (harg10 : arg10.IsWhole) (arg11 : Memref sig .tc .vmem S1536x512 .bf16) (harg11 : arg11.IsWhole) (arg12 : Memref sig .tc .vmem S1536x512 .bf16) (harg12 : arg12.IsWhole) (arg13 : Memref sig .tc .vmem S512x3584 .bf16) (harg13 : arg13.IsWhole) (arg14 : Memref sig .tc .vmem S1536x512 .f32) (harg14 : arg14.IsWhole) (arg15 : Memref sig .tc .vmem S1536x512 .f32) (harg15 : arg15.IsWhole) (arg16 : Memref sig .tc .vmem S200x512 .f32) (harg16 : arg16.IsWhole) (arg17 : Memref sig .tc .vmem S4x32x128 .f32) (harg17 : arg17.IsWhole) (arg18 : Memref sig .tc .vmem S32x512 .f32) (harg18 : arg18.IsWhole) (arg19 : Memref sig .tc .vmem S1536x128 .f32) (harg19 : arg19.IsWhole) (arg20 : Memref sig .tc .vmem S1536x128 .f32) (harg20 : arg20.IsWhole) (arg21 : Memref sig .tc .vmem S1536x128 .i32) (harg21 : arg21.IsWhole) (arg22 : Memref sig .tc .smem S192 .i32) (harg22 : arg22.IsWhole) (arg23 : Memref sig .tc .smem S192 .i32) (harg23 : arg23.IsWhole) (arg24 : Memref sig .tc .smem S25 .i32) (harg24 : arg24.IsWhole) (arg25 : Memref sig .tc .smem S26 .i32) (harg25 : arg25.IsWhole)

/-- Each row's rank less its block's first. -/
def RankTab (off : ℕ → ℕ) (x : S1536x128.Idx → BitVec 32) (n : ℕ) : Prop :=
  ∀ j : S1536x128.Idx, (j 0).val < n → (x j).toNat = R off (j 0).val - R off (8 * ((j 0).val / 8))

/-- One comparison of the count: from the first `n` ranks to the first `n + 1`. -/
theorem rank_step (v a : IVec S8x128 32) (w : BitVec 32) (x : S8x128.Idx) {row n r : ℕ} (hrow : (v x).toNat = row) (hr : row < 1536) (hw : w.toNat ≤ 1536)
    (hiff : w.toNat ≤ row ↔ n + 1 ≤ r) (hrr : r ≤ 23) (ha : (a x).toNat = min n r) :
    (addi a (extui 32 (cmpi .sge v (broadcast S8x128 w)) natLt_1_32) x : BitVec 32).toNat = min (n + 1) r := by
  show (Scalar.addi (a x) (Scalar.extui (Scalar.cmpi .sge (v x) w))).toNat = _
  rw [cmpi_sge (by omega) (by omega), hrow, addi_toNat, extui_ite_toNat, ha, if_congr hiff rfl rfl]
  · split <;> omega
  · rw [extui_ite_toNat, ha]; split <;> omega

set_option warn.classDefReducibility false in
/-- THE RANKS. Before trip `k` the rows of the first `k` blocks are done. -/
def loopInv5 (k0_h1 : k0_cond1 i = 1#1) (off : ℕ → ℕ) (X22 : BufTy.Contents (Elt F) arg22.view.ty) (X24 : BufTy.Contents (Elt F) arg24.view.ty) (X25 : BufTy.Contents (Elt F) arg25.view.ty)
    (hS : Sorted off) (hX : ∀ i, i ≤ 24 → ∀ row, row < 1536 → (nw (arg25.view.read (Elt F) X25) i ≤ row ↔ i ≤ R off row))
    (hle : ∀ i, i ≤ 24 → nw (arg25.view.read (Elt F) X25) i ≤ 1536)
    (h22 : ∀ b, b < 192 → nw (arg22.view.read (Elt F) X22) b = R off (8 * b)) (v156 : IVec S8x128 32) (hv : ∀ j, v156 j = BitVec.ofNat 32 (j 0).val) :
    LoopInvTy_k0_t5 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_h1 v156 where
  inv k acc := iprop((arg22.view.loc (c : Thread nD τ) ↦[arg22.view.set]{fullShare} X22)
    ∗ (arg24.view.loc (c : Thread nD τ) ↦[arg24.view.set]{fullShare} X24)
    ∗ (arg25.view.loc (c : Thread nD τ) ↦[arg25.view.set]{fullShare} X25)
    ∗ ∃ f21, (arg21.view.loc (c : Thread nD τ) ↦[arg21.view.set]{fullShare} f21)
      ∗ ⌜RankTab off (arg21.view.read (Elt F) f21) (8 * k)⌝)
  step k acc := by
    have hk : k.val < 192 := Nat.lt_of_lt_of_le k.isLt k0_t5_abs.2.1
    iintro ⟨H22, H24, H25, ⟨%f21, H21, %hC⟩⟩
    unfold k0_t5_body
    sl_exec
    sl_step
    isplitl [H22]; · iexact H22
    isplitl [H24]; · iexact H24
    isplitl [H25]; · iexact H25
    iexists _
    isplitl [H21]; · iexact H21
    ipureintro
    intro j hj
    by_cases e : (j 0).val < 8 * k.val
    · have h := read_writes_cons_rows_of_not_mem arg21.view f21 (k0_off12_inb i k k0_h1) (k0_pay9 (loopInv5.sl.v356 v156 k) (loopInv5.sl.v447 arg25 X25 v156 k) (loopInv5.sl.v451 arg25 X25 v156 k)
            (loopInv5.sl.r_19 arg25 X25) (loopInv5.sl.r_20 arg25 X25) (loopInv5.sl.r_21 arg25 X25)
            (loopInv5.sl.r_22 arg25 X25) (loopInv5.sl.r_23 i arg22 k0_h1 X22 k)) [] j (k0_off12_eq k) (W := 8) rfl (.inl e)
      rw [View.writes_nil] at h
      rw [h]; exact hC j e
    · have hj1 : (j 1).val < 128 := (j 1).isLt
      let x : S8x128.Idx := ValueIdx.ix2 ⟨(j 0).val - 8 * k.val, by omega⟩ ⟨(j 1).val, hj1⟩
      have hx0 : (x 0).val = (j 0).val - 8 * k.val := rfl
      rw [read_writes_cons_rows_of_mem arg21.view f21 (k0_off12_inb i k k0_h1) _ [] j x (k0_off12_eq k) (by rw [hx0]; omega) rfl]
      have hdiv : (j 0).val / 8 = k.val := by omega
      have hrow : (k0_pay4 v156 0#32 1#32 k x).toNat = (j 0).val := by
        unfold k0_pay4
        show (Scalar.addi (v156 x) (Scalar.muli (Scf.iv 0#32 1#32 k) 8#32)).toNat = _
        have hiv : (Scf.iv 0#32 1#32 k).toNat = k.val := iv_toNat k (le_trans k0_t5_abs.2.1 (by decide))
        have h354 : (Scalar.muli (Scf.iv 0#32 1#32 k) 8#32).toNat = 8 * k.val := by
          rw [muli_toNat _ _ (by rw [hiv]; show k.val * 8 < _; omega), hiv]
          show k.val * 8 = _; omega
        have hx : (v156 x).toNat = (j 0).val - 8 * k.val := by
          rw [hv, hx0, BitVec.toNat_ofNat]; omega
        rw [addi_toNat _ _ (by omega), hx, h354]; omega
      generalize hr : R off (j 0).val = r
      have hrr : r ≤ 23 := hr ▸ R_le _
      have hw : ∀ n (inb : ∀ a, (![n] : Fin 1 → ℕ) a + S1.size a ≤ S26.size a), n ≤ 24 →
          (arg25.view.readAt (Elt F) (Rect.unit (s := S26) ![n] S1.size inb).toLoadRect X25 (Shape.Idx.first (numel1_S1.symm ▸ Nat.one_pos)) : BitVec 32).toNat ≤ 1536 := by
        intro n inb hn
        rw [toNat_readAt _ _ _ _ rfl rfl]; exact hle n hn
      have hi : ∀ n (inb : ∀ a, (![n + 1] : Fin 1 → ℕ) a + S1.size a ≤ S26.size a), n < 24 →
          ((arg25.view.readAt (Elt F) (Rect.unit (s := S26) ![n + 1] S1.size inb).toLoadRect X25 (Shape.Idx.first (numel1_S1.symm ▸ Nat.one_pos)) : BitVec 32).toNat ≤ (j 0).val ↔ n + 1 ≤ r) := by
        intro n inb hn
        rw [toNat_readAt _ _ _ _ rfl rfl, ← hr]; exact hX (n + 1) hn _ (by omega)
      have h474 : (loopInv5.sl.r_23 (F := F) i arg22 k0_h1 X22 k : BitVec 32).toNat = R off (8 * ((j 0).val / 8)) := by
        unfold loopInv5.sl.r_23
        rw [toNat_readAt _ _ _ _ (k0_off11_eq k) rfl, h22 _ (by omega), hdiv]
      have hmono : R off (8 * ((j 0).val / 8)) ≤ r := hr ▸ R_mono (by omega)
      rw [← h474] at hmono ⊢
      unfold k0_pay9
      rw [shapeCast_id]
      show (IntOp.subi _ _ : BitVec 32).toNat = _
      have hsub : ∀ a b : BitVec 32, a.toNat = min 23 r → b.toNat ≤ r → (IntOp.subi a b : BitVec 32).toNat = r - b.toNat := by
        intro a b ha hb
        show (a - b).toNat = _
        have := a.isLt; have := b.isLt
        rw [BitVec.toNat_sub]; omega
      refine hsub _ _ ?_ hmono
      unfold loopInv5.sl.v447 loopInv5.sl.v451
      iterate 23 refine rank_step _ _ _ x hrow (by omega) (hw _ _ (by omega)) (hi _ _ (by omega)) hrr ?_
      show (0#32).toNat = _
      simp

end Trips

end Cert.Kernel.Body

end
-- ==== Proof.Kernel.Lc.lean ====
/- The loop that lays the scales of the tasks out in the order of the ranks. -/
module

public import proofs.«01_k».proof.Proof.Gen.Kernel.Loops
public import proofs.«01_k».proof.Proof.Words
public import proofs.«01_k».proof.Proof.Spec
public import Idealize.ShloMosaic.Lib.Pointwise

@[expose] public section

set_option maxRecDepth 16384
set_option maxHeartbeats 4000000

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen Cert.Words Cert.Rank

variable {F : FTy → Type} [FloatOps F]

/-- The resources of the run: the frame kit's. -/
local notation "𝕄" => MT nD τ sig Unit (Elt F) ℕ (UR sig nD τ) ℕ

open Cert.At Cert.Spec

section Trips

variable (𝒱 : Variants) (c : Dev nD) (bd : Option 𝒱.V) (E : Set ℕ) (i : grid0.Coords) (arg1 : Memref sig .tc .smem S25 .i32) (harg1 : arg1.IsWhole) (arg2 : Memref sig .tc .vmem S1536x3584 .bf16) (harg2 : arg2.IsWhole) (arg3 : Memref sig .tc .vmem S1536x512 .fp8e4m3) (harg3 : arg3.IsWhole) (arg4 : Memref sig .tc .vmem S1536x512 .fp8e4m3) (harg4 : arg4.IsWhole) (arg5 : Memref sig .tc .vmem S12x128 .f32) (harg5 : arg5.IsWhole) (arg6 : Memref sig .tc .vmem S12x128 .f32) (harg6 : arg6.IsWhole) (arg7 : Memref sig .tc .vmem S24x512 .f32) (harg7 : arg7.IsWhole) (arg8 : Memref sig .tc .vmem S256x3584 .i8) (harg8 : arg8.IsWhole) (arg9 : Memref sig .tc .vmem S148x3584 .f32) (harg9 : arg9.IsWhole) (arg10 : Memref sig .tc .vmem S24x512 .f32) (harg10 : arg10.IsWhole) (arg11 : Memref sig .tc .vmem S1536x512 .bf16) (harg11 : arg11.IsWhole) (arg12 : Memref sig .tc .vmem S1536x512 .bf16) (harg12 : arg12.IsWhole) (arg13 : Memref sig .tc .vmem S512x3584 .bf16) (harg13 : arg13.IsWhole) (arg14 : Memref sig .tc .vmem S1536x512 .f32) (harg14 : arg14.IsWhole) (arg15 : Memref sig .tc .vmem S1536x512 .f32) (harg15 : arg15.IsWhole) (arg16 : Memref sig .tc .vmem S200x512 .f32) (harg16 : arg16.IsWhole) (arg17 : Memref sig .tc .vmem S4x32x128 .f32) (harg17 : arg17.IsWhole) (arg18 : Memref sig .tc .vmem S32x512 .f32) (harg18 : arg18.IsWhole) (arg19 : Memref sig .tc .vmem S1536x128 .f32) (harg19 : arg19.IsWhole) (arg20 : Memref sig .tc .vmem S1536x128 .f32) (harg20 : arg20.IsWhole) (arg21 : Memref sig .tc .vmem S1536x128 .i32) (harg21 : arg21.IsWhole) (arg22 : Memref sig .tc .smem S192 .i32) (harg22 : arg22.IsWhole) (arg23 : Memref sig .tc .smem S192 .i32) (harg23 : arg23.IsWhole) (arg24 : Memref sig .tc .smem S25 .i32) (harg24 : arg24.IsWhole) (arg25 : Memref sig .tc .smem S26 .i32) (harg25 : arg25.IsWhole)

theorem minsi_23 (w : BitVec 32) (h : w.toNat ≤ 24) : (Scalar.minsi w 23#32).toNat = min w.toNat 23 := by
  have e1 := toInt_of_lt (by omega : w.toNat < 2 ^ 31)
  have e2 : (23#32).toInt = 23 := by decide
  show (if w.slt 23#32 then w else 23#32).toNat = _
  have e3 : w.slt 23#32 = decide (w.toNat < 23) := by
    rw [BitVec.slt, e1, e2]; simp only [decide_eq_decide]; omega
  rw [e3]
  by_cases h' : w.toNat < 23
  · rw [if_pos (decide_eq_true h')]; omega
  · rw [if_neg (by simpa using h')]
    show 23 = _; omega

theorem off14_of (w : BitVec 32) (h : w.toNat ≤ 24) : k0_off14 w = ![min w.toNat 23, 0] :=
  congrArg (fun n : ℕ => ![n, 0]) (minsi_23 w h)

theorem chk4_of (w : BitVec 32) (h : w.toNat ≤ 24) : k0_chk4 w := by
  show ∀ a, k0_off14 w a + S1x512.size a ≤ S24x512.size a
  rw [off14_of w h]
  refine Fin.forall_fin_two.mpr ⟨?_, ?_⟩
  · show min w.toNat 23 + 1 ≤ 24
    omega
  · show 0 + 512 ≤ 512
    omega

/-- A window of 128 columns of one row, as a slab. -/
theorem slice_row {o : ℕ} (h : S1x512.Slices ![0, o] S1x128) (x : Vec F S1x512 .f32) {l : ℕ} (hl : l < 128) (ho : o ≤ 384) :
    at3 (shapeCast S1x1x128 (extractStridedSlice S1x128 ![0, o] x h) shapeCasts_S1x128_S1x1x128) 0 0 l = at2 x 0 (o + l) := by
  unfold at3 at2
  pointwise
  refine congrArg x (congrArg₂ ValueIdx.ix2 rfl (Fin.ext ?_))
  show o + l % 128 = (o + l) % 512
  omega

set_option warn.classDefReducibility false in
/-- THE SCALES BY RANK. Before trip `k` the first `k` ranks are laid out. -/
def loopInv6 (q : PosShare TreeShare) (X7 : BufTy.Contents (Elt F) arg7.view.ty) (X24 : BufTy.Contents (Elt F) arg24.view.ty) (X25 : BufTy.Contents (Elt F) arg25.view.ty)
    (hT : ∀ r, r < 24 → nw (arg24.view.read (Elt F) X24) r ≤ 24) :
    LoopInvTy_k0_t6 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 where
  inv k acc := iprop((arg7.view.loc (c : Thread nD τ) ↦[arg7.view.set]{q} X7)
    ∗ (arg24.view.loc (c : Thread nD τ) ↦[arg24.view.set]{fullShare} X24)
    ∗ (arg25.view.loc (c : Thread nD τ) ↦[arg25.view.set]{fullShare} X25)
    ∗ ∃ f17, (arg17.view.loc (c : Thread nD τ) ↦[arg17.view.set]{fullShare} f17)
      ∗ ⌜0 < k → LcTab (F := F) (nw (arg24.view.read (Elt F) X24)) (arg7.view.read (Elt F) X7) (arg17.view.read (Elt F) f17) k⌝)
  step k acc := by
    have hk : k.val < 24 := Nat.lt_of_lt_of_le k.isLt k0_t6_abs.2.1
    have e := toNat_readAt (F := F) arg24.view X24 (k0_off13_inb k) (Shape.Idx.first (numel1_S1.symm ▸ Nat.one_pos)) (k0_off13_eq k) rfl
    have hw : (arg24.view.readAt (Elt F) (Rect.unit (s := S25) (k0_off13 k) S1.size (k0_off13_inb k)).toLoadRect X24 (Shape.Idx.first (numel1_S1.symm ▸ Nat.one_pos)) : BitVec 32).toNat ≤ 24 := by
      rw [e]; exact hT k hk
    have hc := chk4_of _ hw
    have ho := off14_of _ hw
    iintro ⟨H7, H24, H25, ⟨%f17, H17, %hC⟩⟩
    unfold k0_t6_body
    sl_exec
    sl_step
    isplitl [H7]; · iexact H7
    isplitl [H24]; · iexact H24
    isplitl [H25]; · iexact H25
    iexists _
    isplitl [H17]; · iexact H17
    ipureintro
    intro _ cc hcc r hr l hl
    have hld : ∀ o, o ≤ 384 → at2 (n0 := 1) (n1 := 512) (arg7.view.readAt (Elt F) (Rect.unit (s := S24x512) (k0_off14 (loopInv6.sl.r arg24 X24 k)) S1x512.size hc).toLoadRect X7) 0 (o + l)
        = at2 (arg7.view.read (Elt F) X7) (min (nw (arg24.view.read (Elt F) X24) k.val) 23) (o + l) := by
      intro o ho'
      refine (at2_load (w0 := 1) (w1 := 512) arg7.view X7 hc ho (by omega) (by omega)).trans ?_
      rw [e, Nat.add_zero, Nat.zero_add]
    by_cases hrk : r < k.val
    · refine (at3_store_ne arg17.view f17 (k0_off18_inb k) _ _ (k0_off18_eq k) hcc (by omega) (.inr (.inl hrk))).trans ?_
      refine (at3_store_ne arg17.view f17 (k0_off17_inb k) _ _ (k0_off17_eq k) hcc (by omega) (.inr (.inl hrk))).trans ?_
      refine (at3_store_ne arg17.view f17 (k0_off16_inb k) _ _ (k0_off16_eq k) hcc (by omega) (.inr (.inl hrk))).trans ?_
      refine (at3_store_ne arg17.view f17 (k0_off15_inb k) _ _ (k0_off15_eq k) hcc (by omega) (.inr (.inl hrk))).trans ?_
      exact hC (by omega) cc hcc r hrk l hl
    · obtain rfl : r = k.val := by omega
      have hm : k.val ≤ k.val ∧ k.val < k.val + 1 := by omega
      have hm2 : 0 ≤ l ∧ l < 0 + 128 := by omega
      obtain rfl | rfl | rfl | rfl : cc = 0 ∨ cc = 1 ∨ cc = 2 ∨ cc = 3 := by omega
      · refine (at3_store_ne arg17.view f17 (k0_off18_inb k) _ _ (k0_off18_eq k) hcc (by omega) (.inl (by omega))).trans ?_
        refine (at3_store_ne arg17.view f17 (k0_off17_inb k) _ _ (k0_off17_eq k) hcc (by omega) (.inl (by omega))).trans ?_
        refine (at3_store_ne arg17.view f17 (k0_off16_inb k) _ _ (k0_off16_eq k) hcc (by omega) (.inl (by omega))).trans ?_
        refine (at3_store arg17.view f17 (k0_off15_inb k) _ _ (k0_off15_eq k) (by omega) hm hm2).trans ?_
        rw [Nat.sub_self, Nat.sub_zero, Nat.sub_self]
        exact (slice_row _ _ hl (by omega)).trans (hld 0 (by omega))
      · refine (at3_store_ne arg17.view f17 (k0_off18_inb k) _ _ (k0_off18_eq k) hcc (by omega) (.inl (by omega))).trans ?_
        refine (at3_store_ne arg17.view f17 (k0_off17_inb k) _ _ (k0_off17_eq k) hcc (by omega) (.inl (by omega))).trans ?_
        refine (at3_store arg17.view f17 (k0_off16_inb k) _ _ (k0_off16_eq k) (by omega) hm hm2).trans ?_
        rw [Nat.sub_self, Nat.sub_zero, Nat.sub_self]
        exact (slice_row _ _ hl (by omega)).trans (hld 128 (by omega))
      · refine (at3_store_ne arg17.view f17 (k0_off18_inb k) _ _ (k0_off18_eq k) hcc (by omega) (.inl (by omega))).trans ?_
        refine (at3_store arg17.view f17 (k0_off17_inb k) _ _ (k0_off17_eq k) (by omega) hm hm2).trans ?_
        rw [Nat.sub_self, Nat.sub_zero, Nat.sub_self]
        exact (slice_row _ _ hl (by omega)).trans (hld 256 (by omega))
      · refine (at3_store arg17.view f17 (k0_off18_inb k) _ _ (k0_off18_eq k) (by omega) hm hm2).trans ?_
        rw [Nat.sub_self, Nat.sub_zero, Nat.sub_self]
        exact (slice_row _ _ hl (by omega)).trans (hld 384 (by omega))

end Trips

end Cert.Kernel.Body

end
-- ==== Proof.Kernel.SuperVals.lean ====
/- The values that one trip over a super block of 32 rows stores, at a row and a column. -/
module

public import proofs.«01_k».proof.Proof.Gen.Kernel.Loops
public import proofs.«01_k».proof.Proof.Kernel.Ranks
public import proofs.«01_k».proof.Proof.Vals

@[expose] public section

set_option maxRecDepth 16384
set_option maxHeartbeats 4000000

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen Cert.Words Cert.Rank

variable {F : FTy → Type} [FloatOps F]

/-- The resources of the run: the frame kit's. -/
local notation "𝕄" => MT nD τ sig Unit (Elt F) ℕ (UR sig nD τ) ℕ

open Cert.At Cert.Spec Cert.Vals

/-- The value of a gated or linear branch at a row and a column: the code times the scale of its row and lane. -/
def gv (x : S1536x512.Idx → F .fp8e4m3) (s : S1536x128.Idx → F .f32) (a b : ℕ) : F .f32 := deq (at2 x a b) (at2 s a (b % 128))
/-- The scale of a row's task, from the table by rank. -/
def lv (off : ℕ → ℕ) (x : S4x32x128.Idx → F .f32) (a b : ℕ) : F .f32 := at3 x (b / 128) (R off a) (b % 128)

/-- The outputs of the first `n` rows. -/
structure Rows (dh g u l : ℕ → ℕ → F .f32) (x11 x12 : S1536x512.Idx → F .bf16) (x15 : S1536x512.Idx → F .f32) (n : ℕ) : Prop where
  du : ∀ a, a < n → ∀ b, b < 512 → at2 x12 a b = duS (dh a b) (l a b) (g a b)
  dg : ∀ a, a < n → ∀ b, b < 512 → at2 x11 a b = dgS (dh a b) (l a b) (g a b) (u a b)
  p : ∀ a, a < n → ∀ b, b < 512 → at2 x15 a b = pS (dh a b) (g a b) (u a b)

/-- The running sums by slot after `n` blocks. -/
def Acc (off : ℕ → ℕ) (p : ℕ → ℕ → F .f32) (x : S200x512.Idx → F .f32) (n : ℕ) : Prop :=
  ∀ r, r < 200 → ∀ b, b < 512 → at2 x r b = accS (SL off) p (r / 8) (r % 8) b n

section

variable {sp : Space}

theorem pay34_at (s : Vec F S32x128 .f32) (x : Vec F S32x512 .fp8e4m3) {a b : ℕ} (ha : a < 32) (hb : b < 512) :
    at2 (k0_pay34 s x) a b = deq (at2 x a b) (at2 s a (b % 128)) := by
  refine Eq.trans (show _ = deq (at2 x a b) (at2 (concatenate S32x512 1 [⟨S32x128, s⟩, ⟨S32x128, s⟩, ⟨S32x128, s⟩, ⟨S32x128, s⟩]
    concatenates_S32x128_S32x128_S32x128_S32x128_S32x512_d1) a b) from rfl) ?_
  refine congrArg (deq _) ?_
  exact cat_cols s s s s _ (fun _ a b => at2 s a b) (fun _ _ _ _ => rfl) (fun _ _ _ _ => rfl) (fun _ _ _ _ => rfl) (fun _ _ _ _ => rfl) ha hb

/-- The value of a branch on a super block, as loaded. -/
theorem gv_load (vs : View sig .tc sp S1536x128 .f32) (vx : View sig .tc sp S1536x512 .fp8e4m3)
    (X : BufTy.Contents (Elt F) vx.ty) (S : BufTy.Contents (Elt F) vs.ty) {os ox : Fin 2 → ℕ} (is) (ix) {n a b : ℕ}
    (hs : os = ![n, 0]) (hx : ox = ![n, 0]) (ha : a < 32) (hb : b < 512) :
    at2 (k0_pay34 (vs.readAt (Elt F) (Rect.unit (s := S1536x128) os S32x128.size is).toLoadRect S)
      (vx.readAt (Elt F) (Rect.unit (s := S1536x512) ox S32x512.size ix).toLoadRect X)) a b = gv (vx.read (Elt F) X) (vs.read (Elt F) S) (n + a) b := by
  rw [pay34_at _ _ ha hb]
  refine congrArg₂ deq ?_ ?_
  · refine (at2_load (w0 := 32) (w1 := 512) vx X ix hx ha hb).trans ?_
    rw [Nat.zero_add]
  · refine (at2_load (w0 := 32) (w1 := 128) vs S is hs ha (Nat.mod_lt _ (by omega))).trans ?_
    rw [Nat.zero_add]

/-- The scales of the tasks of eight rows, as loaded and gathered. -/
theorem lv_load {off : ℕ → ℕ} (hS : Sorted off) (v21 : View sig .tc sp S1536x128 .i32) (v17 : View sig .tc sp S4x32x128 .f32)
    (X21 : BufTy.Contents (Elt F) v21.ty) (X17 : BufTy.Contents (Elt F) v17.ty) (h21 : RankTab off (v21.read (Elt F) X21) 1536)
    {o21 : Fin 2 → ℕ} (i21) {o0 o1 o2 o3 : Fin 3 → ℕ} (i0) (i1) (i2) (i3) {m n : ℕ} (hm : m < 192) (hn : n = R off (8 * m))
    (h : o21 = ![8 * m, 0]) (h0 : o0 = ![0, n, 0]) (h1 : o1 = ![1, n, 0]) (h2 : o2 = ![2, n, 0]) (h3 : o3 = ![3, n, 0]) {a b : ℕ} (ha : a < 8) (hb : b < 512) :
    at2 (grp (v21.readAt (Elt F) (Rect.unit (s := S1536x128) o21 S8x128.size i21).toLoadRect X21)
      (v17.readAt (Elt F) (Rect.unit (s := S4x32x128) o0 S1x8x128.size i0).toLoadRect X17)
      (v17.readAt (Elt F) (Rect.unit (s := S4x32x128) o1 S1x8x128.size i1).toLoadRect X17)
      (v17.readAt (Elt F) (Rect.unit (s := S4x32x128) o2 S1x8x128.size i2).toLoadRect X17)
      (v17.readAt (Elt F) (Rect.unit (s := S4x32x128) o3 S1x8x128.size i3).toLoadRect X17)) a b = lv off (v17.read (Elt F) X17) (8 * m + a) b := by
  have hb' : ∀ a, a < 8 → R off (8 * m) ≤ R off (8 * m + a) ∧ R off (8 * m + a) ≤ R off (8 * m) + a := fun a ha =>
    ⟨R_mono (by omega), R_add_le hS _ _ (by omega)⟩
  have hslab : ∀ (o : Fin 3 → ℕ) (io) (cc : ℕ), o = ![cc, n, 0] → ∀ a, a < 8 → ∀ b, b < 128 →
      at3 (v17.readAt (Elt F) (Rect.unit (s := S4x32x128) o S1x8x128.size io).toLoadRect X17) 0 (R off (8 * m + a) - R off (8 * m)) b
        = at3 (v17.read (Elt F) X17) cc (R off (8 * m + a)) b := by
    intro o io cc ho a ha b hb
    have := hb' a ha
    refine (at3_load (w0 := 1) (w1 := 8) (w2 := 128) v17 X17 io ho (by omega) (by omega) hb).trans ?_
    rw [Nat.add_zero, Nat.zero_add, hn]
    congr 1; omega
  refine grp_at _ _ _ _ _ (fun a => R off (8 * m + a) - R off (8 * m)) (fun cc a b => at3 (v17.read (Elt F) X17) cc (R off (8 * m + a)) b) ?_ ?_
    (hslab _ i0 0 h0) (hslab _ i1 1 h1) (hslab _ i2 2 h2) (hslab _ i3 3 h3) ha hb
  · intro a ha b hb
    rw [at2_load (w0 := 8) (w1 := 128) v21 X21 i21 h ha hb, Nat.zero_add]
    have e := h21 (ValueIdx.ix2 (Fin.ofNat 1536 (8 * m + a)) (Fin.ofNat 128 b)) (Fin.isLt _)
    have e0 : ((ValueIdx.ix2 (Fin.ofNat 1536 (8 * m + a)) (Fin.ofNat 128 b) : S1536x128.Idx) 0).val = 8 * m + a := Nat.mod_eq_of_lt (by omega)
    rw [e0] at e
    refine e.trans ?_
    rw [show 8 * ((8 * m + a) / 8) = 8 * m by omega]
  · intro a ha
    have := hb' a ha
    show R off (8 * m + a) - R off (8 * m) < 8
    omega

/-- The gradient times the scales of the 32 rows. -/
theorem dhl_at (v154 : Vec F S32x512 .f32) (v221 v274 v327 : FVec F S8x512 .f32) (r : Vec F S8x128 .i32) (x0 x1 x2 x3 : Vec F S1x8x128 .f32)
    (l : ℕ → ℕ → F .f32) (h0 : ∀ a, a < 8 → ∀ b, b < 512 → at2 v221 a b = l (8 * 0 + a) b) (h1 : ∀ a, a < 8 → ∀ b, b < 512 → at2 v274 a b = l (8 * 1 + a) b)
    (h2 : ∀ a, a < 8 → ∀ b, b < 512 → at2 v327 a b = l (8 * 2 + a) b) (h3 : ∀ a, a < 8 → ∀ b, b < 512 → at2 (grp r x0 x1 x2 x3) a b = l (8 * 3 + a) b)
    {a b : ℕ} (ha : a < 32) (hb : b < 512) :
    at2 (k0_pay56 v154 v221 v274 v327 r (k0_pay49 r x0) (k0_pay50 r x1) (k0_pay51 x2) (k0_pay52 r) k0_pay53 x3) a b
      = FloatOps.mulf (at2 v154 a b) (l a b) := by
  refine Eq.trans (show _ = FloatOps.mulf (at2 v154 a b) (at2 (concatenate S32x512 0 [⟨S8x512, v221⟩, ⟨S8x512, v274⟩, ⟨S8x512, v327⟩, ⟨S8x512, grp r x0 x1 x2 x3⟩]
    concatenates_S8x512_S8x512_S8x512_S8x512_S32x512_d0) a b) from rfl) ?_
  refine congrArg (FloatOps.mulf _) ?_
  refine (cat_rows v221 v274 v327 (grp r x0 x1 x2 x3) _ (fun m a b => l (8 * m + a) b) h0 h1 h2 h3 ha hb).trans ?_
  show l (8 * (a / 8) + a % 8) b = l a b
  rw [Nat.div_add_mod]

/-- One store of a block's sums. -/
theorem acc_step (v : View sig .tc sp S200x512 .f32) (f : BufTy.Contents (Elt F) v.ty) {off : ℕ → ℕ} {p : ℕ → ℕ → F .f32} {o : Fin 2 → ℕ} (inb)
    (L : List (View.Piece (Elt F) S200x512 .f32)) (w : FVec F S8x512 .f32) {n m : ℕ} (ho : o = ![8 * m, 0]) (hm : m = SL off n)
    (hA : Acc off p (v.read (Elt F) (v.writes (Elt F) f L)) n)
    (hw : ∀ a, a < 8 → ∀ b, b < 512 → at2 w a b = FloatOps.addf (at2 (v.readAt (Elt F) (Rect.unit (s := S200x512) o S8x512.size inb).toLoadRect (v.writes (Elt F) f L)) a b)
      (p (8 * n + a) b)) :
    Acc off p (v.read (Elt F) (v.writes (Elt F) f ((⟨Rect.unit (s := S200x512) o S8x512.size inb, w⟩ : View.Piece (Elt F) S200x512 .f32) :: L))) (n + 1) := by
  intro r hr b hb
  show _ = if SL off n = r / 8 then _ else _
  by_cases h : SL off n = r / 8
  · rw [if_pos h]
    refine (at2_store (w0 := 8) (w1 := 512) v f inb w L ho (by omega) (by omega)).trans ?_
    rw [hw _ (by omega) _ (by omega)]
    refine congrArg₂ FloatOps.addf ?_ (congrArg₂ p (by omega) (by omega))
    refine (at2_load (w0 := 8) (w1 := 512) v (v.writes (Elt F) f L) inb ho (by omega) (by omega)).trans ?_
    rw [show 8 * m + (r - 8 * m) = r by omega, show 0 + (b - 0) = b by omega]
    exact hA r hr b hb
  · rw [if_neg h]
    exact (at2_store_ne (w0 := 8) (w1 := 512) v f inb w L ho hr (by omega)).trans (hA r hr b hb)

/-- The three stores of a super block. -/
theorem rows_step (v11 v12 : View sig .tc sp S1536x512 .bf16) (v15 : View sig .tc sp S1536x512 .f32) (f11 : BufTy.Contents (Elt F) v11.ty)
    (f12 : BufTy.Contents (Elt F) v12.ty) (f15 : BufTy.Contents (Elt F) v15.ty) {dh g u l : ℕ → ℕ → F .f32} {o : Fin 2 → ℕ} (inb) {n : ℕ} (hn : n + 32 ≤ 1536)
    (ho : o = ![n, 0]) (w11 w12 : FVec F S32x512 .bf16) (w15 : FVec F S32x512 .f32)
    (h : Rows dh g u l (v11.read (Elt F) f11) (v12.read (Elt F) f12) (v15.read (Elt F) f15) n)
    (hu : ∀ a, a < 32 → ∀ b, b < 512 → at2 w12 a b = duS (dh (n + a) b) (l (n + a) b) (g (n + a) b))
    (hg : ∀ a, a < 32 → ∀ b, b < 512 → at2 w11 a b = dgS (dh (n + a) b) (l (n + a) b) (g (n + a) b) (u (n + a) b))
    (hp : ∀ a, a < 32 → ∀ b, b < 512 → at2 w15 a b = pS (dh (n + a) b) (g (n + a) b) (u (n + a) b)) :
    Rows dh g u l (v11.read (Elt F) (v11.writes (Elt F) f11 [⟨Rect.unit (s := S1536x512) o S32x512.size inb, w11⟩]))
      (v12.read (Elt F) (v12.writes (Elt F) f12 [⟨Rect.unit (s := S1536x512) o S32x512.size inb, w12⟩]))
      (v15.read (Elt F) (v15.writes (Elt F) f15 [⟨Rect.unit (s := S1536x512) o S32x512.size inb, w15⟩])) (n + 32) := by
  refine ⟨fun a ha b hb => ?_, fun a ha b hb => ?_, fun a ha b hb => ?_⟩
  · by_cases e : a < n
    · exact (at2_store_ne (w0 := 32) (w1 := 512) v12 f12 inb w12 [] ho (by omega) (.inl e)).trans (h.du a e b hb)
    · refine (at2_store (w0 := 32) (w1 := 512) v12 f12 inb w12 [] ho (by omega) (by omega)).trans ?_
      rw [Nat.sub_zero, hu _ (by omega) _ hb, show n + (a - n) = a by omega]
  · by_cases e : a < n
    · exact (at2_store_ne (w0 := 32) (w1 := 512) v11 f11 inb w11 [] ho (by omega) (.inl e)).trans (h.dg a e b hb)
    · refine (at2_store (w0 := 32) (w1 := 512) v11 f11 inb w11 [] ho (by omega) (by omega)).trans ?_
      rw [Nat.sub_zero, hg _ (by omega) _ hb, show n + (a - n) = a by omega]
  · by_cases e : a < n
    · exact (at2_store_ne (w0 := 32) (w1 := 512) v15 f15 inb w15 [] ho (by omega) (.inl e)).trans (h.p a e b hb)
    · refine (at2_store (w0 := 32) (w1 := 512) v15 f15 inb w15 [] ho (by omega) (by omega)).trans ?_
      rw [Nat.sub_zero, hp _ (by omega) _ hb, show n + (a - n) = a by omega]

/-- A block's eight rows of a super block's 32. -/
theorem slice_rows (x : FVec F S32x512 .f32) {o : ℕ} (h : S32x512.Slices ![o, 0] S8x512) {a b : ℕ} (ha : a < 8) (hb : b < 512) (ho : o ≤ 24) :
    at2 (extractStridedSlice S8x512 ![o, 0] x h) a b = at2 x (o + a) b := by
  unfold at2
  refine congrArg x (funext fun d => Fin.ext ?_)
  obtain rfl | rfl := (by decide : ∀ c : Fin 2, c = 0 ∨ c = 1) d
  · show o + a % 8 = (o + a) % 32
    omega
  · show 0 + b % 512 = b % 512
    omega

end

end Cert.Kernel.Body

end
-- ==== Proof.Kernel.Super.lean ====
/- The loop over the super blocks of 32 rows: the gradients of the two branches, each row's part of the gradient of its
   task's scale, and the running sums of those parts by slot. -/
module

public import proofs.«01_k».proof.Proof.Gen.Kernel.Loops
public import proofs.«01_k».proof.Proof.Kernel.SuperVals

@[expose] public section

set_option maxRecDepth 16384
set_option maxHeartbeats 4000000

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen Cert.Words Cert.Rank

variable {F : FTy → Type} [FloatOps F]

/-- The resources of the run: the frame kit's. -/
local notation "𝕄" => MT nD τ sig Unit (Elt F) ℕ (UR sig nD τ) ℕ

open Cert.At Cert.Spec Cert.Vals

section Trips

variable (𝒱 : Variants) (c : Dev nD) (bd : Option 𝒱.V) (E : Set ℕ) (i : grid0.Coords) (arg1 : Memref sig .tc .smem S25 .i32) (harg1 : arg1.IsWhole) (arg2 : Memref sig .tc .vmem S1536x3584 .bf16) (harg2 : arg2.IsWhole) (arg3 : Memref sig .tc .vmem S1536x512 .fp8e4m3) (harg3 : arg3.IsWhole) (arg4 : Memref sig .tc .vmem S1536x512 .fp8e4m3) (harg4 : arg4.IsWhole) (arg5 : Memref sig .tc .vmem S12x128 .f32) (harg5 : arg5.IsWhole) (arg6 : Memref sig .tc .vmem S12x128 .f32) (harg6 : arg6.IsWhole) (arg7 : Memref sig .tc .vmem S24x512 .f32) (harg7 : arg7.IsWhole) (arg8 : Memref sig .tc .vmem S256x3584 .i8) (harg8 : arg8.IsWhole) (arg9 : Memref sig .tc .vmem S148x3584 .f32) (harg9 : arg9.IsWhole) (arg10 : Memref sig .tc .vmem S24x512 .f32) (harg10 : arg10.IsWhole) (arg11 : Memref sig .tc .vmem S1536x512 .bf16) (harg11 : arg11.IsWhole) (arg12 : Memref sig .tc .vmem S1536x512 .bf16) (harg12 : arg12.IsWhole) (arg13 : Memref sig .tc .vmem S512x3584 .bf16) (harg13 : arg13.IsWhole) (arg14 : Memref sig .tc .vmem S1536x512 .f32) (harg14 : arg14.IsWhole) (arg15 : Memref sig .tc .vmem S1536x512 .f32) (harg15 : arg15.IsWhole) (arg16 : Memref sig .tc .vmem S200x512 .f32) (harg16 : arg16.IsWhole) (arg17 : Memref sig .tc .vmem S4x32x128 .f32) (harg17 : arg17.IsWhole) (arg18 : Memref sig .tc .vmem S32x512 .f32) (harg18 : arg18.IsWhole) (arg19 : Memref sig .tc .vmem S1536x128 .f32) (harg19 : arg19.IsWhole) (arg20 : Memref sig .tc .vmem S1536x128 .f32) (harg20 : arg20.IsWhole) (arg21 : Memref sig .tc .vmem S1536x128 .i32) (harg21 : arg21.IsWhole) (arg22 : Memref sig .tc .smem S192 .i32) (harg22 : arg22.IsWhole) (arg23 : Memref sig .tc .smem S192 .i32) (harg23 : arg23.IsWhole) (arg24 : Memref sig .tc .smem S25 .i32) (harg24 : arg24.IsWhole) (arg25 : Memref sig .tc .smem S26 .i32) (harg25 : arg25.IsWhole)

theorem slab_inb (cc n : ℕ) (hc : cc < 4) (h : n ≤ 24) : ∀ a, (![cc, n, 0] : Fin 3 → ℕ) a + S1x8x128.size a ≤ S4x32x128.size a := by
  intro a
  obtain rfl | rfl | rfl := (by decide : ∀ a : Fin 3, a = 0 ∨ a = 1 ∨ a = 2) a
  · show cc + 1 ≤ 4; omega
  · show n + 8 ≤ 32; omega
  · show 0 + 128 ≤ 128; omega

theorem chk5_of (w : BitVec 32) (h : w.toNat ≤ 24) : k0_chk5 w :=
  ⟨slab_inb 0 _ (by omega) h, slab_inb 1 _ (by omega) h, slab_inb 2 _ (by omega) h, slab_inb 3 _ (by omega) h⟩

theorem slot_toNat (w : BitVec 32) (h : w.toNat ≤ 24) : (Scalar.muli w 8#32).toNat = 8 * w.toNat := by
  rw [muli_toNat _ _ (by show w.toNat * 8 < _; omega)]
  show w.toNat * 8 = _; omega

theorem off48_of (w : BitVec 32) (h : w.toNat ≤ 24) : k0_off48 w = ![8 * w.toNat, 0] :=
  congrArg (fun n : ℕ => ![n, 0]) (slot_toNat w h)

theorem chk9_of (w : BitVec 32) (h : w.toNat ≤ 24) : k0_chk9 w := by
  refine ⟨?_, ?_⟩
  · show 8 ∣ (Scalar.muli w 8#32).toNat
    rw [slot_toNat w h]; exact Dvd.intro _ rfl
  · show ∀ a, k0_off48 w a + S8x512.size a ≤ S200x512.size a
    rw [off48_of w h]
    refine Fin.forall_fin_two.mpr ⟨?_, ?_⟩
    · show 8 * w.toNat + 8 ≤ 200
      omega
    · show 0 + 512 ≤ 512
      omega

set_option warn.classDefReducibility false in
/-- THE SUPER BLOCKS. Before trip `k` the rows of the first `k` super blocks are done. -/
def loopInv7 (off : ℕ → ℕ) (X3 : BufTy.Contents (Elt F) arg3.view.ty) (X4 : BufTy.Contents (Elt F) arg4.view.ty)
    (X14 : BufTy.Contents (Elt F) arg14.view.ty) (X17 : BufTy.Contents (Elt F) arg17.view.ty)
    (X19 : BufTy.Contents (Elt F) arg19.view.ty) (X20 : BufTy.Contents (Elt F) arg20.view.ty)
    (X21 : BufTy.Contents (Elt F) arg21.view.ty) (X22 : BufTy.Contents (Elt F) arg22.view.ty) (X23 : BufTy.Contents (Elt F) arg23.view.ty)
    (hS : Sorted off) (h21 : RankTab off (arg21.view.read (Elt F) X21) 1536)
    (h22 : ∀ b, b < 192 → nw (arg22.view.read (Elt F) X22) b = R off (8 * b))
    (h23 : ∀ b, b < 192 → nw (arg23.view.read (Elt F) X23) b = SL off b) :
    LoopInvTy_k0_t7 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 where
  inv k acc := iprop((arg3.view.loc (c : Thread nD τ) ↦[arg3.view.set]{fullShare} X3)
    ∗ (arg4.view.loc (c : Thread nD τ) ↦[arg4.view.set]{fullShare} X4)
    ∗ (arg14.view.loc (c : Thread nD τ) ↦[arg14.view.set]{fullShare} X14)
    ∗ (arg17.view.loc (c : Thread nD τ) ↦[arg17.view.set]{fullShare} X17)
    ∗ (arg19.view.loc (c : Thread nD τ) ↦[arg19.view.set]{fullShare} X19)
    ∗ (arg20.view.loc (c : Thread nD τ) ↦[arg20.view.set]{fullShare} X20)
    ∗ (arg21.view.loc (c : Thread nD τ) ↦[arg21.view.set]{fullShare} X21)
    ∗ (arg22.view.loc (c : Thread nD τ) ↦[arg22.view.set]{fullShare} X22)
    ∗ (arg23.view.loc (c : Thread nD τ) ↦[arg23.view.set]{fullShare} X23)
    ∗ ∃ f11 f12 f15 f16, (arg11.view.loc (c : Thread nD τ) ↦[arg11.view.set]{fullShare} f11)
      ∗ (arg12.view.loc (c : Thread nD τ) ↦[arg12.view.set]{fullShare} f12)
      ∗ (arg15.view.loc (c : Thread nD τ) ↦[arg15.view.set]{fullShare} f15)
      ∗ (arg16.view.loc (c : Thread nD τ) ↦[arg16.view.set]{fullShare} f16)
      ∗ ⌜Rows (at2 (arg14.view.read (Elt F) X14)) (gv (arg3.view.read (Elt F) X3) (arg19.view.read (Elt F) X19))
            (gv (arg4.view.read (Elt F) X4) (arg20.view.read (Elt F) X20)) (lv off (arg17.view.read (Elt F) X17))
            (arg11.view.read (Elt F) f11) (arg12.view.read (Elt F) f12) (arg15.view.read (Elt F) f15) (32 * k)
          ∧ Acc off (fun a b => pS (at2 (arg14.view.read (Elt F) X14) a b) (gv (arg3.view.read (Elt F) X3) (arg19.view.read (Elt F) X19) a b)
              (gv (arg4.view.read (Elt F) X4) (arg20.view.read (Elt F) X20) a b)) (arg16.view.read (Elt F) f16) (4 * k)⌝)
  step k acc := by
    have hk : k.val < 48 := Nat.lt_of_lt_of_le k.isLt k0_t7_abs.2.1
    have e22 : ∀ (o : Fin 1 → ℕ) (inb : ∀ a, o a + S1.size a ≤ S192.size a) (b : ℕ), o = ![b] → b < 192 →
        (arg22.view.readAt (Elt F) (Rect.unit (s := S192) o S1.size inb).toLoadRect X22 (Shape.Idx.first (numel1_S1.symm ▸ Nat.one_pos)) : BitVec 32).toNat = R off (8 * b) := by
      intro o inb b ho hb
      rw [toNat_readAt _ _ _ _ ho rfl, h22 b hb]
    have e23 : ∀ (o : Fin 1 → ℕ) (inb : ∀ a, o a + S1.size a ≤ S192.size a) (b : ℕ), o = ![b] → b < 192 →
        (arg23.view.readAt (Elt F) (Rect.unit (s := S192) o S1.size inb).toLoadRect X23 (Shape.Idx.first (numel1_S1.symm ▸ Nat.one_pos)) : BitVec 32).toNat = SL off b := by
      intro o inb b ho hb
      rw [toNat_readAt _ _ _ _ ho rfl, h23 b hb]
    have r0 := e22 _ (k0_off22_inb k) _ (k0_off22_eq k) (by omega)
    have r1 := e22 _ (k0_off28_inb k) _ (k0_off28_eq k) (by omega)
    have r2 := e22 _ (k0_off34_inb k) _ (k0_off34_eq k) (by omega)
    have r3 := e22 _ (k0_off40_inb k) _ (k0_off40_eq k) (by omega)
    have s0 := e23 _ (k0_off47_inb k) _ (k0_off47_eq k) (by omega)
    have s1 := e23 _ (k0_off49_inb k) _ (k0_off49_eq k) (by omega)
    have s2 := e23 _ (k0_off51_inb k) _ (k0_off51_eq k) (by omega)
    have s3 := e23 _ (k0_off53_inb k) _ (k0_off53_eq k) (by omega)
    have hR : ∀ n, R off n ≤ 24 := fun n => (R_le n).trans (by omega)
    have c5 : k0_chk5 _ := chk5_of _ (r0.trans_le (hR _))
    have c6 : k0_chk6 _ := chk5_of _ (r1.trans_le (hR _))
    have c7 : k0_chk7 _ := chk5_of _ (r2.trans_le (hR _))
    have c8 : k0_chk8 _ := chk5_of _ (r3.trans_le (hR _))
    have c9 : k0_chk9 _ := chk9_of _ (s0.trans_le (SL_le _))
    have c10 : k0_chk10 _ := chk9_of _ (s1.trans_le (SL_le _))
    have c11 : k0_chk11 _ := chk9_of _ (s2.trans_le (SL_le _))
    have c12 : k0_chk12 _ := chk9_of _ (s3.trans_le (SL_le _))
    iintro ⟨H3, H4, H14, H17, H19, H20, H21, H22, H23, ⟨%f11, %f12, %f15, %f16, H11, H12, H15, H16, %hC⟩⟩
    obtain ⟨hRows, hAcc⟩ := hC
    unfold k0_t7_body
    sl_exec
    sl_step
    isplitl [H3]; · iexact H3
    isplitl [H4]; · iexact H4
    isplitl [H14]; · iexact H14
    isplitl [H17]; · iexact H17
    isplitl [H19]; · iexact H19
    isplitl [H20]; · iexact H20
    isplitl [H21]; · iexact H21
    isplitl [H22]; · iexact H22
    isplitl [H23]; · iexact H23
    iexists _, _, _, _
    isplitl [H11]; · iexact H11
    isplitl [H12]; · iexact H12
    isplitl [H15]; · iexact H15
    isplitl [H16]; · iexact H16
    ipureintro
    have hg : ∀ a, a < 32 → ∀ b, b < 512 → at2 (loopInv7.sl.r_2 arg3 arg19 X3 X19 k) a b
        = gv (arg3.view.read (Elt F) X3) (arg19.view.read (Elt F) X19) (32 * k.val + a) b := fun a ha b hb =>
      gv_load arg19.view arg3.view X3 X19 (k0_off21_inb k) (k0_off20_inb k) (k0_off21_eq k) (k0_off20_eq k) ha hb
    have hu : ∀ a, a < 32 → ∀ b, b < 512 → at2 (loopInv7.sl.r_3 arg4 arg20 X4 X20 k) a b
        = gv (arg4.view.read (Elt F) X4) (arg20.view.read (Elt F) X20) (32 * k.val + a) b := fun a ha b hb =>
      gv_load arg20.view arg4.view X4 X20 (k0_off21_inb k) (k0_off20_inb k) (k0_off21_eq k) (k0_off20_eq k) ha hb
    have hdh : ∀ a, a < 32 → ∀ b, b < 512 → at2 (loopInv7.sl.r_1 arg14 X14 k) a b = at2 (arg14.view.read (Elt F) X14) (32 * k.val + a) b := fun a ha b hb =>
      (at2_load (w0 := 32) (w1 := 512) arg14.view X14 (k0_off20_inb k) (k0_off20_eq k) ha hb).trans (by rw [Nat.zero_add])
    have hl := fun (m : ℕ) (hm : m < 4) (o21 : Fin 2 → ℕ) (i21) (o0 o1 o2 o3 : Fin 3 → ℕ) (i0) (i1) (i2) (i3) (n : ℕ) (hn : n = R off (8 * (4 * k.val + m)))
        (h : o21 = ![32 * k.val + 8 * m, 0]) (h0 : o0 = ![0, n, 0]) (h1 : o1 = ![1, n, 0]) (h2 : o2 = ![2, n, 0]) (h3 : o3 = ![3, n, 0])
        (a : ℕ) (ha : a < 8) (b : ℕ) (hb : b < 512) =>
      (lv_load (F := F) hS arg21.view arg17.view X21 X17 h21 (o21 := o21) i21 (o0 := o0) (o1 := o1) (o2 := o2) (o3 := o3) i0 i1 i2 i3
        (m := 4 * k.val + m) (by omega) hn (by rw [h]; congr 1; omega) h0 h1 h2 h3 ha hb).trans
        (congrArg (lv off (arg17.view.read (Elt F) X17) · b) (by omega : _ = 32 * k.val + (8 * m + a)))
    have hdhl := fun (a : ℕ) (ha : a < 32) (b : ℕ) (hb : b < 512) =>
      dhl_at (loopInv7.sl.r_1 arg14 X14 k) (loopInv7.sl.v221 arg17 arg21 arg22 X17 X21 X22 k c5)
        (loopInv7.sl.v274 arg17 arg21 arg22 X17 X21 X22 k c6) (loopInv7.sl.v327 arg17 arg21 arg22 X17 X21 X22 k c7)
        (loopInv7.sl.r_12 arg21 X21 k) _ _ _ _ (fun a b => lv off (arg17.view.read (Elt F) X17) (32 * k.val + a) b)
        (hl 0 (by omega) _ (k0_off23_inb k) _ _ _ _ (k0_off24_inb _ c5) (k0_off25_inb _ c5) (k0_off26_inb _ c5) (k0_off27_inb _ c5) _ r0 (k0_off23_eq k) rfl rfl rfl rfl)
        (hl 1 (by omega) _ (k0_off29_inb k) _ _ _ _ (k0_off30_inb _ c6) (k0_off31_inb _ c6) (k0_off32_inb _ c6) (k0_off33_inb _ c6) _ r1 (k0_off29_eq k) rfl rfl rfl rfl)
        (hl 2 (by omega) _ (k0_off35_inb k) _ _ _ _ (k0_off36_inb _ c7) (k0_off37_inb _ c7) (k0_off38_inb _ c7) (k0_off39_inb _ c7) _ r2 (k0_off35_eq k) rfl rfl rfl rfl)
        (hl 3 (by omega) _ (k0_off41_inb k) _ _ _ _ (k0_off42_inb _ c8) (k0_off43_inb _ c8) (k0_off44_inb _ c8) (k0_off45_inb _ c8) _ r3 (k0_off41_eq k) rfl rfl rfl rfl)
        ha hb
    have hp : ∀ a, a < 32 → ∀ b, b < 512 → at2 (k0_pay59 (loopInv7.sl.r_1 arg14 X14 k) (loopInv7.sl.r_2 arg3 arg19 X3 X19 k) (loopInv7.sl.r_3 arg4 arg20 X4 X20 k)) a b
        = pS (at2 (arg14.view.read (Elt F) X14) (32 * k.val + a) b) (gv (arg3.view.read (Elt F) X3) (arg19.view.read (Elt F) X19) (32 * k.val + a) b)
          (gv (arg4.view.read (Elt F) X4) (arg20.view.read (Elt F) X20) (32 * k.val + a) b) := by
      intro a ha b hb
      rw [← hdh a ha b hb, ← hg a ha b hb, ← hu a ha b hb]; rfl
    refine ⟨?_, ?_⟩
    · refine rows_step arg11.view arg12.view arg15.view f11 f12 f15 (k0_off46_inb k) (n := 32 * k.val) (by omega) (k0_off46_eq k) _ _ _ hRows ?_ ?_ ?_
      · intro a ha b hb
        rw [← hg a ha b hb]
        exact congrArg (fun z => FloatOps.truncf .bf16 _ (FloatOps.mulf z (silu (at2 (loopInv7.sl.r_2 arg3 arg19 X3 X19 k) a b)))) ((hdhl a ha b hb).trans (congrArg (FloatOps.mulf · _) (hdh a ha b hb)))
      · intro a ha b hb
        rw [← hg a ha b hb, ← hu a ha b hb]
        exact congrArg (fun z => FloatOps.truncf .bf16 _ (FloatOps.mulf (FloatOps.mulf z (at2 (loopInv7.sl.r_3 arg4 arg20 X4 X20 k) a b))
          (FloatOps.addf (FloatOps.logistic (at2 (loopInv7.sl.r_2 arg3 arg19 X3 X19 k) a b)) (FloatOps.mulf (silu (at2 (loopInv7.sl.r_2 arg3 arg19 X3 X19 k) a b))
            (FloatOps.subf (FloatOps.ofBits .f32 0x3F800000#32) (FloatOps.logistic (at2 (loopInv7.sl.r_2 arg3 arg19 X3 X19 k) a b)))))))
          ((hdhl a ha b hb).trans (congrArg (FloatOps.mulf · _) (hdh a ha b hb)))
      · intro a ha b hb
        refine Eq.trans ?_ (hp a ha b hb)
        unfold k0_pay60
        rw [shapeCast_id]
    · have hpay : ∀ (m : ℕ) (hm : m < 4) (h : S32x512.Slices ![8 * m, 0] S8x512) (old : Vec F S8x512 .f32) (a : ℕ), a < 8 → ∀ b, b < 512 →
          at2 (shapeCast S8x512 (addf old (extractStridedSlice S8x512 ![8 * m, 0]
            (k0_pay59 (loopInv7.sl.r_1 arg14 X14 k) (loopInv7.sl.r_2 arg3 arg19 X3 X19 k) (loopInv7.sl.r_3 arg4 arg20 X4 X20 k)) h)) shapeCasts_S8x512_S8x512) a b
          = FloatOps.addf (at2 old a b) (pS (at2 (arg14.view.read (Elt F) X14) (8 * (4 * k.val + m) + a) b)
            (gv (arg3.view.read (Elt F) X3) (arg19.view.read (Elt F) X19) (8 * (4 * k.val + m) + a) b)
            (gv (arg4.view.read (Elt F) X4) (arg20.view.read (Elt F) X20) (8 * (4 * k.val + m) + a) b)) := by
        intro m hm h old a ha b hb
        rw [shapeCast_id]
        refine congrArg (FloatOps.addf _) ((slice_rows _ h ha hb (by omega)).trans ?_)
        rw [hp _ (by omega) _ hb, show 32 * k.val + (8 * m + a) = 8 * (4 * k.val + m) + a by omega]
      show Acc off _ _ (4 * k.val + 3 + 1)
      refine acc_step arg16.view f16 (k0_off54_inb _ c12) _ _ (off48_of _ (s3.trans_le (SL_le _))) s3 ?_ (hpay 3 (by omega) slices_S32x512_o24_0_S8x512 _)
      refine acc_step arg16.view f16 (k0_off52_inb _ c11) _ _ (off48_of _ (s2.trans_le (SL_le _))) s2 ?_ (hpay 2 (by omega) slices_S32x512_o16_0_S8x512 _)
      refine acc_step arg16.view f16 (k0_off50_inb _ c10) _ _ (off48_of _ (s1.trans_le (SL_le _))) s1 ?_ (hpay 1 (by omega) slices_S32x512_o8_0_S8x512 _)
      exact acc_step arg16.view f16 (k0_off48_inb _ c9) [] _ (off48_of _ (s0.trans_le (SL_le _))) s0 hAcc (hpay 0 (by omega) slices_S32x512_o0_0_S8x512 _)

end Trips

end Cert.Kernel.Body

end
-- ==== Proof.Kernel.Finish.lean ====
/- The loop that finishes the gradients of the scales, one rank at a time. -/
module

public import proofs.«01_k».proof.Proof.Gen.Kernel.Loops
public import proofs.«01_k».proof.Proof.Mask
public import Idealize.ShloMosaic.Lib.Pointwise

@[expose] public section

set_option maxRecDepth 16384
set_option maxHeartbeats 4000000

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen Cert.Words Cert.Rank

variable {F : FTy → Type} [FloatOps F]

/-- The resources of the run: the frame kit's. -/
local notation "𝕄" => MT nD τ sig Unit (Elt F) ℕ (UR sig nD τ) ℕ

open Cert.At Cert.Spec Cert.Mask

section Trips

variable (𝒱 : Variants) (c : Dev nD) (bd : Option 𝒱.V) (E : Set ℕ) (i : grid0.Coords) (arg1 : Memref sig .tc .smem S25 .i32) (harg1 : arg1.IsWhole) (arg2 : Memref sig .tc .vmem S1536x3584 .bf16) (harg2 : arg2.IsWhole) (arg3 : Memref sig .tc .vmem S1536x512 .fp8e4m3) (harg3 : arg3.IsWhole) (arg4 : Memref sig .tc .vmem S1536x512 .fp8e4m3) (harg4 : arg4.IsWhole) (arg5 : Memref sig .tc .vmem S12x128 .f32) (harg5 : arg5.IsWhole) (arg6 : Memref sig .tc .vmem S12x128 .f32) (harg6 : arg6.IsWhole) (arg7 : Memref sig .tc .vmem S24x512 .f32) (harg7 : arg7.IsWhole) (arg8 : Memref sig .tc .vmem S256x3584 .i8) (harg8 : arg8.IsWhole) (arg9 : Memref sig .tc .vmem S148x3584 .f32) (harg9 : arg9.IsWhole) (arg10 : Memref sig .tc .vmem S24x512 .f32) (harg10 : arg10.IsWhole) (arg11 : Memref sig .tc .vmem S1536x512 .bf16) (harg11 : arg11.IsWhole) (arg12 : Memref sig .tc .vmem S1536x512 .bf16) (harg12 : arg12.IsWhole) (arg13 : Memref sig .tc .vmem S512x3584 .bf16) (harg13 : arg13.IsWhole) (arg14 : Memref sig .tc .vmem S1536x512 .f32) (harg14 : arg14.IsWhole) (arg15 : Memref sig .tc .vmem S1536x512 .f32) (harg15 : arg15.IsWhole) (arg16 : Memref sig .tc .vmem S200x512 .f32) (harg16 : arg16.IsWhole) (arg17 : Memref sig .tc .vmem S4x32x128 .f32) (harg17 : arg17.IsWhole) (arg18 : Memref sig .tc .vmem S32x512 .f32) (harg18 : arg18.IsWhole) (arg19 : Memref sig .tc .vmem S1536x128 .f32) (harg19 : arg19.IsWhole) (arg20 : Memref sig .tc .vmem S1536x128 .f32) (harg20 : arg20.IsWhole) (arg21 : Memref sig .tc .vmem S1536x128 .i32) (harg21 : arg21.IsWhole) (arg22 : Memref sig .tc .smem S192 .i32) (harg22 : arg22.IsWhole) (arg23 : Memref sig .tc .smem S192 .i32) (harg23 : arg23.IsWhole) (arg24 : Memref sig .tc .smem S25 .i32) (harg24 : arg24.IsWhole) (arg25 : Memref sig .tc .smem S26 .i32) (harg25 : arg25.IsWhole)

theorem off57_of (w : BitVec 32) : k0_off57 w = ![fbw w.toNat] := congrArg (fun n : ℕ => ![n]) (fb_toNat w)
theorem off58_of (w : BitVec 32) (h : w.toNat ≤ 1536) : k0_off58 w = ![lbw w.toNat] := congrArg (fun n : ℕ => ![n]) (lb_toNat w h)

theorem fbw_le (s : ℕ) : fbw s ≤ 191 := Nat.min_le_right _ _
theorem lbw_le {e : ℕ} (h : e ≤ 1536) : lbw e ≤ 191 := by unfold lbw; omega

theorem mult12_of (w : BitVec 32) : (k0_mult12 w).toNat = 8 * fbw w.toNat := by
  have e := fb_toNat w
  have := fbw_le w.toNat
  show (Scalar.muli (Scalar.minsi (Scalar.shrui w 3#32) 191#32) 8#32).toNat = _
  rw [mul8_toNat _ (by omega), e]
theorem mult13_of (w : BitVec 32) (h : w.toNat ≤ 1536) : (k0_mult13 w).toNat = 8 * lbw w.toNat := by
  have e := lb_toNat w h
  have := lbw_le h
  show (Scalar.muli (Scalar.shrui (Scalar.maxsi (Scalar.subi w 1#32) 0#32) 3#32) 8#32).toNat = _
  rw [mul8_toNat _ (by omega), e]
theorem off60_of (w : BitVec 32) : k0_off60 w = ![8 * fbw w.toNat, 0] := congrArg (fun n : ℕ => ![n, 0]) (mult12_of w)
theorem off61_of (w : BitVec 32) (h : w.toNat ≤ 1536) : k0_off61 w = ![8 * lbw w.toNat, 0] := congrArg (fun n : ℕ => ![n, 0]) (mult13_of w h)

theorem inb192 {n : ℕ} (h : n ≤ 191) : ∀ a, (![n] : Fin 1 → ℕ) a + S1.size a ≤ S192.size a := by
  intro a
  have : a = 0 := Subsingleton.elim _ _
  subst this
  show n + 1 ≤ 192; omega
theorem inb1536 {n : ℕ} (h : n ≤ 191) : ∀ a, (![8 * n, 0] : Fin 2 → ℕ) a + S8x512.size a ≤ S1536x512.size a := by
  refine Fin.forall_fin_two.mpr ⟨?_, ?_⟩
  · show 8 * n + 8 ≤ 1536; omega
  · show 0 + 512 ≤ 512; omega

theorem chk13_of (w : BitVec 32) : k0_chk13 w := by
  refine ⟨?_, ?_, ?_⟩
  · rw [off57_of]; exact inb192 (fbw_le _)
  · rw [mult12_of]; exact Dvd.intro _ rfl
  · rw [off60_of]; exact inb1536 (fbw_le _)
theorem chk14_of (w : BitVec 32) (h : w.toNat ≤ 1536) : k0_chk14 w := by
  refine ⟨?_, ?_, ?_⟩
  · rw [off58_of w h]; exact inb192 (lbw_le h)
  · rw [mult13_of w h]; exact Dvd.intro _ rfl
  · rw [off61_of w h]; exact inb1536 (lbw_le h)
theorem chk15_of (w : BitVec 32) (h : w.toNat ≤ 24) : k0_chk15 w := by
  refine Fin.forall_fin_two.mpr ⟨?_, ?_⟩
  · show w.toNat + 1 ≤ 32; omega
  · show 0 + 512 ≤ 512; omega

/-- What is summed over the sublanes. -/
def pre3 (s e lb : BitVec 32) (m : BitVec 1) (a q p2 : Vec F S8x512 .f32) : FVec F S8x512 .f32 :=
  addf (addf a q) (select
    (andi (cmpi .sge (iota .tc S8x512 32 [0] iota_S8x512_d0_w32) (broadcast S8x512 (Scalar.subi s (Scalar.muli lb 8#32))))
      (cmpi .slt (iota .tc S8x512 32 [0] iota_S8x512_d0_w32) (broadcast S8x512 (Scalar.select m (Scalar.subi e (Scalar.muli lb 8#32)) 4294967295#32))))
    p2 (broadcast S8x512 (Scalar.ofBits .f32 0x00000000#32)))

theorem pay3_eq (s e lb : BitVec 32) (m : BitVec 1) (a q p2 : Vec F S8x512 .f32) :
    k0_pay3 s e lb m a q p2 = shapeCast S1x512 (shapeCast S1x512 (multiReduction .add [0] S512 (pre3 s e lb m a q p2) 0x00000000#32 reduces_S8x512_S512 (.inl rfl) rfl)
      shapeCasts_S512_S1x512) shapeCasts_S1x512_S1x512 := rfl

/-- The sum over the sublanes of the finished parts, as a row. -/
theorem pay3_at (s e sl1 sl2 : BitVec 32) (a p1 p2 : Vec F S8x512 .f32) (start slot : ℕ → ℕ) (acc p : ℕ → ℕ → F .f32) (r : ℕ)
    (hs : s.toNat = start r) (he : e.toNat = start (r + 1)) (hs' : start r ≤ 1536) (he' : start (r + 1) ≤ 1536)
    (h1 : sl1.toNat = slot (fbw (start r))) (h2 : sl2.toNat = slot (lbw (start (r + 1))))
    (ha : ∀ a', a' < 8 → ∀ b, b < 512 → at2 a a' b = acc (8 * r + a') b) (hp1 : ∀ a', a' < 8 → ∀ b, b < 512 → at2 p1 a' b = p (8 * fbw (start r) + a') b)
    (hp2 : ∀ a', a' < 8 → ∀ b, b < 512 → at2 p2 a' b = p (8 * lbw (start (r + 1)) + a') b) {col : ℕ} (hc : col < 512) :
    at2 (k0_pay3 s e (Scalar.shrui (Scalar.maxsi (Scalar.subi e 1#32) 0#32) 3#32)
      (Scalar.andi (Scalar.andi (Scalar.cmpi .sgt e s) (Scalar.cmpi .eq sl2 24#32)) (Scalar.cmpi .ne (Scalar.shrui (Scalar.maxsi (Scalar.subi e 1#32) 0#32) 3#32)
        (Scalar.minsi (Scalar.shrui s 3#32) 191#32))) a (k0_pay64 (iota .tc S8x512 32 [0] iota_S8x512_d0_w32) s e sl1 p1) p2) 0 col
      = dlR start slot acc p r col := by
  have key : pre3 s e (Scalar.shrui (Scalar.maxsi (Scalar.subi e 1#32) 0#32) 3#32)
      (Scalar.andi (Scalar.andi (Scalar.cmpi .sgt e s) (Scalar.cmpi .eq sl2 24#32)) (Scalar.cmpi .ne (Scalar.shrui (Scalar.maxsi (Scalar.subi e 1#32) 0#32) 3#32)
        (Scalar.minsi (Scalar.shrui s 3#32) 191#32))) a (k0_pay64 (iota .tc S8x512 32 [0] iota_S8x512_d0_w32) s e sl1 p1) p2
      = fun j : S8x512.Idx => tot start slot acc p r (j 0).val (j 1).val := by
    funext j
    have hj0 : (j 0).val < 8 := (j 0).isLt
    have hj1 : (j 1).val < 512 := (j 1).isLt
    have hio : (iota .tc S8x512 32 [0] iota_S8x512_d0_w32 j : BitVec 32).toNat = (j 0).val := by
      have : (j 0).val < 2 ^ 32 := by omega
      pointwise
      exact Nat.mod_eq_of_lt this
    have hf := fb_toNat s
    have hl := lb_toNat e (by omega)
    have hfl := fbw_le s.toNat
    have hll := lbw_le (e := e.toNat) (by omega)
    refine congrArg₂ FloatOps.addf (congrArg₂ FloatOps.addf ?_ ?_) ?_
    · rw [at2_idx a j]; exact ha _ hj0 _ hj1
    · show Scalar.select (IntOp.andi (IntOp.cmpi .sge _ _) (IntOp.cmpi .slt _ (Scalar.select (Scalar.andi _ _) _ _))) (p1 j) z0 = _
      rw [mixed1_eq s e sl1 (by omega) (by omega)]
      refine (congrArg (Scalar.select · (p1 j) z0) (mask_eq _ s e (Scalar.minsi (Scalar.shrui s 3#32) 191#32) _ hio hj0 (by omega) (by omega) (by omega))).trans ?_
      rw [select_ite, hf, hs, he, h1]
      refine if_congr Iff.rfl ?_ rfl
      rw [at2_idx p1 j]; exact hp1 _ hj0 _ hj1
    · show Scalar.select (IntOp.andi (IntOp.cmpi .sge _ _) (IntOp.cmpi .slt _ (Scalar.select (Scalar.andi _ _) _ _))) (p2 j) z0 = _
      rw [mixed2_eq s e sl2 _ _ (by omega) (by omega)]
      refine (congrArg (Scalar.select · (p2 j) z0) (mask_eq _ s e (Scalar.shrui (Scalar.maxsi (Scalar.subi e 1#32) 0#32) 3#32) _ hio hj0 (by omega) (by omega) (by omega))).trans ?_
      rw [select_ite, hf, hl, hs, he, h2]
      refine if_congr Iff.rfl ?_ rfl
      rw [at2_idx p2 j]; exact hp2 _ hj0 _ hj1
  rw [pay3_eq, key, shapeCast_id]
  unfold at2 dlR
  pointwise
  rfl

set_option warn.classDefReducibility false in
/-- THE GRADIENTS OF THE SCALES. Before trip `k` the first `k` ranks are done. -/
def loopInv8 (start task slot : ℕ → ℕ) (X15 : BufTy.Contents (Elt F) arg15.view.ty) (X16 : BufTy.Contents (Elt F) arg16.view.ty)
    (X23 : BufTy.Contents (Elt F) arg23.view.ty) (X24 : BufTy.Contents (Elt F) arg24.view.ty) (X25 : BufTy.Contents (Elt F) arg25.view.ty)
    (v147 : IVec S8x512 32) (hv : v147 = iota .tc S8x512 32 [0] iota_S8x512_d0_w32)
    (h23 : ∀ b, b < 192 → nw (arg23.view.read (Elt F) X23) b = slot b)
    (h24 : ∀ r, r < 24 → nw (arg24.view.read (Elt F) X24) r = task r) (h24' : ∀ r, r < 24 → task r ≤ 24)
    (h25 : ∀ r, r ≤ 24 → nw (arg25.view.read (Elt F) X25) r = start r) (h25' : ∀ r, r ≤ 24 → start r ≤ 1536) :
    LoopInvTy_k0_t8 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v147 where
  inv k acc := iprop((arg15.view.loc (c : Thread nD τ) ↦[arg15.view.set]{fullShare} X15)
    ∗ (arg16.view.loc (c : Thread nD τ) ↦[arg16.view.set]{fullShare} X16)
    ∗ (arg23.view.loc (c : Thread nD τ) ↦[arg23.view.set]{fullShare} X23)
    ∗ (arg24.view.loc (c : Thread nD τ) ↦[arg24.view.set]{fullShare} X24)
    ∗ (arg25.view.loc (c : Thread nD τ) ↦[arg25.view.set]{fullShare} X25)
    ∗ ∃ f18, (arg18.view.loc (c : Thread nD τ) ↦[arg18.view.set]{fullShare} f18)
      ∗ ⌜∀ row, row < 24 → ∀ col, col < 512 → at2 (arg18.view.read (Elt F) f18) row col
          = dlT start slot task (at2 (arg16.view.read (Elt F) X16)) (at2 (arg15.view.read (Elt F) X15)) row col k⌝)
  step k acc := by
    subst hv
    have hk : k.val < 24 := Nat.lt_of_lt_of_le k.isLt k0_t8_abs.2.1
    have es := toNat_readAt (F := F) arg25.view X25 (k0_off55_inb k) (Shape.Idx.first (numel1_S1.symm ▸ Nat.one_pos)) (k0_off55_eq k) rfl
    have ee := toNat_readAt (F := F) arg25.view X25 (k0_off56_inb k) (Shape.Idx.first (numel1_S1.symm ▸ Nat.one_pos)) (k0_off56_eq k) rfl
    have et := toNat_readAt (F := F) arg24.view X24 (k0_off62_inb k) (Shape.Idx.first (numel1_S1.symm ▸ Nat.one_pos)) (k0_off62_eq k) rfl
    rw [h25 _ (by omega)] at es ee
    rw [h24 _ hk] at et
    have bs := h25' k.val (by omega)
    have be := h25' (k.val + 1) (by omega)
    have bt := h24' k.val hk
    have c13 := chk13_of (arg25.view.readAt (Elt F) (Rect.unit (s := S26) (k0_off55 k) S1.size (k0_off55_inb k)).toLoadRect X25 (Shape.Idx.first (numel1_S1.symm ▸ Nat.one_pos)))
    have c14 := chk14_of _ (ee.trans_le be)
    have c15 := chk15_of _ (et.trans_le bt)
    have e1 := toNat_readAt (F := F) arg23.view X23 (k0_off57_inb _ c13) (Shape.Idx.first (numel1_S1.symm ▸ Nat.one_pos)) (off57_of _) rfl
    have e2 := toNat_readAt (F := F) arg23.view X23 (k0_off58_inb _ c14) (Shape.Idx.first (numel1_S1.symm ▸ Nat.one_pos)) (off58_of _ (ee.trans_le be)) rfl
    iintro ⟨H15, H16, H23, H24, H25, ⟨%f18, H18, %hC⟩⟩
    unfold k0_t8_body
    sl_exec
    sl_step
    isplitl [H15]; · iexact H15
    isplitl [H16]; · iexact H16
    isplitl [H23]; · iexact H23
    isplitl [H24]; · iexact H24
    isplitl [H25]; · iexact H25
    iexists _
    isplitl [H18]; · iexact H18
    ipureintro
    have ho : k0_off63 (loopInv8.sl.r_6 arg24 X24 k) = ![task k.val, 0] := congrArg (fun n : ℕ => ![n, 0]) et
    intro row hrow col hcol
    show _ = if task k.val = row then _ else _
    have hfl := fbw_le (start k.val)
    have hll := lbw_le be
    by_cases h : task k.val = row
    · rw [if_pos h]
      refine (at2_store (w0 := 1) (w1 := 512) arg18.view f18 (k0_off63_inb _ c15) _ [] ho (by omega) (by omega)).trans ?_
      rw [h, Nat.sub_self, Nat.sub_zero]
      refine pay3_at (loopInv8.sl.r arg25 X25 k) (loopInv8.sl.r_1 arg25 X25 k) _ _ _ _ _ start slot _ _ k.val es ee bs be ?_ ?_ ?_ ?_ ?_ hcol
      · exact e1.trans ((h23 _ (by rw [es]; omega)).trans (congrArg (fun n => slot (fbw n)) es))
      · exact e2.trans ((h23 _ (by rw [ee]; omega)).trans (congrArg (fun n => slot (lbw n)) ee))
      · intro a ha b hb
        refine (at2_load (w0 := 8) (w1 := 512) arg16.view X16 (k0_off59_inb k) (k0_off59_eq k) ha hb).trans ?_
        rw [Nat.zero_add]
      · intro a ha b hb
        refine (at2_load (w0 := 8) (w1 := 512) arg15.view X15 (k0_off60_inb _ c13) (off60_of _) ha hb).trans ?_
        rw [Nat.zero_add, es]
      · intro a ha b hb
        refine (at2_load (w0 := 8) (w1 := 512) arg15.view X15 (k0_off61_inb _ c14) (off61_of _ (ee.trans_le be)) ha hb).trans ?_
        rw [Nat.zero_add, ee]
    · rw [if_neg h]
      exact (at2_store_ne (w0 := 1) (w1 := 512) arg18.view f18 (k0_off63_inb _ c15) _ [] ho (by omega) (by omega)).trans (hC row hrow col hcol)

end Trips

end Cert.Kernel.Body

end
-- ==== Proof.Kernel.Decode.lean ====
/- The values stored before the pass over the rows: the scales spread over the rows, the decoded weights, the product. -/
module

public import proofs.«01_k».proof.Proof.Gen.Kernel.Loops
public import proofs.«01_k».proof.Proof.Spec
public import proofs.«01_k».proof.Proof.Words
public import Idealize.ShloMosaic.Lib.Pointwise

@[expose] public section

set_option maxRecDepth 16384
set_option maxHeartbeats 4000000

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen Cert.Words Cert.Rank

variable {F : FTy → Type} [FloatOps F]

/-- The resources of the run: the frame kit's. -/
local notation "𝕄" => MT nD τ sig Unit (Elt F) ℕ (UR sig nD τ) ℕ

open Cert.At Cert.Spec

/-- A word's low four bits, as a signed number. -/
def lo4 (x : BitVec 8) : BitVec 32 := IntOp.subi (IntOp.xori (IntOp.andi (x.zeroExtend 32) 15#32) 8#32) 8#32
/-- A word's high four bits, as a signed number. -/
def hi4 (x : BitVec 8) : BitVec 32 := IntOp.subi (IntOp.xori (IntOp.shrsi .vector (x.zeroExtend 32) 4#32) 8#32) 8#32
/-- The decoded weight of a packed word: the code of the given parity times the group's scale. -/
def wt (x : BitVec 8) (par : ℕ) (s : F .f32) : F .bf16 :=
  FloatOps.mulf (FloatOps.sitofp .bf16 (if par = 0 then lo4 x else hi4 x)) (FloatOps.truncf .bf16 (by decide) s)

/-- A row of scales spread over 128 rows, one scale to a row. -/
theorem pay10_at (v : Vec F S1x128 .f32) {a b : ℕ} (ha : a < 128) (hb : b < 128) : at2 (k0_pay10 v) a b = at2 v 0 a := by
  unfold at2
  unfold k0_pay10
  pointwise
  refine congrArg v (congrArg₂ ValueIdx.ix2 rfl (Fin.ext ?_))
  rfl

/-- Two arrays of 64 rows, row by row in turn. -/
def inter (x y : IVec S64x3584 32) : IVec S128x3584 32 :=
  shapeCast S128x3584 (concatenate S64x2x3584 1 [⟨S64x1x3584, shapeCast S64x1x3584 x shapeCasts_S64x3584_S64x1x3584⟩,
    ⟨S64x1x3584, shapeCast S64x1x3584 y shapeCasts_S64x3584_S64x1x3584⟩] concatenates_S64x1x3584_S64x1x3584_S64x2x3584_d1) shapeCasts_S64x2x3584_S128x3584

theorem inter_at (x y : IVec S64x3584 32) {a b : ℕ} (ha : a < 128) (hb : b < 3584) :
    at2 (inter x y) a b = if a % 2 = 0 then at2 x (a / 2) b else at2 y (a / 2) b := by
  have h2 : a / 2 < 64 := by omega
  have e : at2 (inter x y) a b = (concatenate S64x2x3584 1 [⟨S64x1x3584, shapeCast S64x1x3584 x shapeCasts_S64x3584_S64x1x3584⟩,
    ⟨S64x1x3584, shapeCast S64x1x3584 y shapeCasts_S64x3584_S64x1x3584⟩] concatenates_S64x1x3584_S64x1x3584_S64x2x3584_d1)
      (ValueIdx.ix3 (Fin.ofNat 64 (a / 2)) (Fin.ofNat 2 a) (Fin.ofNat 3584 b)) := by
    unfold at2 inter
    refine shapeCast_apply _ _ _ _ ?_
    rw [Shape.rowMajor_val_three, Shape.rowMajor_val_two]
    show (a / 2 % 64 * 2 + a % 2) * 3584 + b % 3584 = a % 128 * 3584 + b % 3584
    omega
  have r : ∀ (z : IVec S64x3584 32), shapeCast S64x1x3584 z shapeCasts_S64x3584_S64x1x3584
      (ValueIdx.ix3 (Fin.ofNat 64 (a / 2)) (0 : Fin 1) (Fin.ofNat 3584 b)) = at2 z (a / 2) b := by
    intro z
    unfold at2
    refine shapeCast_apply _ _ _ _ ?_
    rw [Shape.rowMajor_val_three, Shape.rowMajor_val_two]
    show a / 2 % 64 * 3584 + b % 3584 = (a / 2 % 64 * 1 + 0) * 3584 + b % 3584
    omega
  have key : ∀ (k : ℕ) (hk : k < 2) (z : IVec S64x3584 32)
      (hy : ([⟨S64x1x3584, shapeCast S64x1x3584 x shapeCasts_S64x3584_S64x1x3584⟩,
        ⟨S64x1x3584, shapeCast S64x1x3584 y shapeCasts_S64x3584_S64x1x3584⟩] : List ((s : Shape) × (s.Idx → BitVec 32)))[k]
          = ⟨S64x1x3584, shapeCast S64x1x3584 z shapeCasts_S64x3584_S64x1x3584⟩)
      (hp : ((([⟨S64x1x3584, shapeCast S64x1x3584 x shapeCasts_S64x3584_S64x1x3584⟩,
        ⟨S64x1x3584, shapeCast S64x1x3584 y shapeCasts_S64x3584_S64x1x3584⟩] : List ((s : Shape) × (s.Idx → BitVec 32))).take k).map (·.1)
        |>.map fun s => if h : s.rank = S64x2x3584.rank then s.size ((1 : Fin 3).cast h.symm) else 0).sum = k), a % 2 = k →
      at2 (inter x y) a b = at2 z (a / 2) b := by
    intro k hk z hy hp hak
    rw [e]
    refine (concatenate_apply_piece (t := S64x2x3584) 1 [⟨S64x1x3584, shapeCast S64x1x3584 x shapeCasts_S64x3584_S64x1x3584⟩,
        ⟨S64x1x3584, shapeCast S64x1x3584 y shapeCasts_S64x3584_S64x1x3584⟩] concatenates_S64x1x3584_S64x1x3584_S64x2x3584_d1 _ k hk _
        (shapeCast S64x1x3584 z shapeCasts_S64x3584_S64x1x3584) hy rfl k hp
        (ValueIdx.ix3 (Fin.ofNat 64 (a / 2)) (0 : Fin 1) (Fin.ofNat 3584 b)) ?_ ?_).trans (r z)
    · intro c hc
      obtain rfl | rfl | rfl := (by decide : ∀ c : Fin 3, c = 0 ∨ c = 1 ∨ c = 2) c
      · rfl
      · exact absurd rfl hc
      · rfl
    · show k + 0 = a % 2
      omega
  rcases Nat.mod_two_eq_zero_or_one a with h | h
  · rw [if_pos h]; exact key 0 (by decide) x rfl rfl h
  · rw [if_neg (by omega)]; exact key 1 (by decide) y rfl rfl h

/-- The weights of 128 rows, from 64 rows of packed words. -/
theorem pay77_at (x : Vec F S64x3584 .i8) (s : Vec F S1x3584 .f32) {a b : ℕ} (ha : a < 128) (hb : b < 3584) :
    at2 (k0_pay77 x s) a b = wt (at2 x (a / 2) b) (a % 2) (at2 s 0 b) := by
  have e : k0_pay77 x s = shapeCast S128x3584 (mulf (sitofp .bf16 (inter (fun j => lo4 (x j)) (fun j => hi4 (x j))))
    (broadcastTo S128x3584 (truncf .bf16 s bitsLt_bf16_f32) broadcasts_S1x3584_S128x3584)) shapeCasts_S128x3584_S128x3584 := rfl
  rw [e, shapeCast_id]
  refine congrArg₂ FloatOps.mulf ?_ ?_
  · refine congrArg (FloatOps.sitofp .bf16) ?_
    refine (inter_at _ _ ha hb).trans ?_
    split <;> rfl
  · unfold at2
    pointwise
    rfl

/-- The table of scales after `n` groups of 128 rows: a row's lanes all hold the scale of the row. -/
def ScTab (x : S12x128.Idx → F .f32) (y : S1536x128.Idx → F .f32) (n : ℕ) : Prop :=
  ∀ a, a < 128 * n → ∀ b, b < 128 → at2 y a b = at2 x (a / 128) (a % 128)

section Steps

variable {sp : Space}

/-- The next group of rows stored. -/
theorem scTab_step (vx : View sig .tc sp S12x128 .f32) (vy : View sig .tc sp S1536x128 .f32) (X : BufTy.Contents (Elt F) vx.ty) (f : BufTy.Contents (Elt F) vy.ty)
    (L : List (View.Piece (Elt F) S1536x128 .f32)) (n : ℕ) {ox : Fin 2 → ℕ} {oy : Fin 2 → ℕ} (ix) (iy) (hx : ox = ![n, 0]) (hy : oy = ![128 * n, 0]) (hn : n < 12)
    (h : ScTab (vx.read (Elt F) X) (vy.read (Elt F) (vy.writes (Elt F) f L)) n) :
    ScTab (vx.read (Elt F) X) (vy.read (Elt F) (vy.writes (Elt F) f (⟨Rect.unit (s := S1536x128) oy S128x128.size iy,
      k0_pay10 (vx.readAt (Elt F) (Rect.unit (s := S12x128) ox S1x128.size ix).toLoadRect X)⟩ :: L))) (n + 1) := by
  intro a ha b hb
  rcases Nat.lt_or_ge a (128 * n) with h1 | h1
  · exact (at2_store_ne (w0 := 128) (w1 := 128) vy f iy _ L hy (by omega) (.inl h1)).trans (h a h1 b hb)
  · refine (at2_store (w0 := 128) (w1 := 128) vy f iy _ L hy (by omega) (by omega)).trans ?_
    refine (pay10_at _ (by omega) (by omega)).trans ?_
    refine (at2_load (w0 := 1) (w1 := 128) vx X ix hx (by omega) (by omega)).trans ?_
    refine congrArg₂ (at2 _) (by omega) (by omega)

/-- The decoded weights after `n` groups of 128 rows. -/
def WTab (x8 : S256x3584.Idx → BitVec 8) (x9 : S148x3584.Idx → F .f32) (i0 : ℕ) (y : S512x3584.Idx → F .bf16) (n : ℕ) : Prop :=
  ∀ a, a < 128 * n → ∀ b, b < 3584 → at2 y a b = wt (at2 x8 (a / 2) b) (a % 2) (at2 x9 (4 * i0 + a / 128) b)

/-- The next group of weights stored. -/
theorem wTab_step (v8 : View sig .tc sp S256x3584 .i8) (v9 : View sig .tc sp S148x3584 .f32) (vy : View sig .tc sp S512x3584 .bf16) (X8 : BufTy.Contents (Elt F) v8.ty)
    (X9 : BufTy.Contents (Elt F) v9.ty) (f : BufTy.Contents (Elt F) vy.ty)
    (L : List (View.Piece (Elt F) S512x3584 .bf16)) (i0 n : ℕ) {o8 o9 oy : Fin 2 → ℕ} (i8) (i9) (iy) (h8 : o8 = ![64 * n, 0]) (h9 : o9 = ![4 * i0 + n, 0])
    (hy : oy = ![128 * n, 0]) (hn : n < 4) (h : WTab (v8.read (Elt F) X8) (v9.read (Elt F) X9) i0 (vy.read (Elt F) (vy.writes (Elt F) f L)) n) :
    WTab (v8.read (Elt F) X8) (v9.read (Elt F) X9) i0 (vy.read (Elt F) (vy.writes (Elt F) f (⟨Rect.unit (s := S512x3584) oy S128x3584.size iy,
      k0_pay77 (v8.readAt (Elt F) (Rect.unit (s := S256x3584) o8 S64x3584.size i8).toLoadRect X8)
        (v9.readAt (Elt F) (Rect.unit (s := S148x3584) o9 S1x3584.size i9).toLoadRect X9)⟩ :: L))) (n + 1) := by
  intro a ha b hb
  rcases Nat.lt_or_ge a (128 * n) with h1 | h1
  · exact (at2_store_ne (w0 := 128) (w1 := 3584) vy f iy _ L hy (by omega) (.inl h1)).trans (h a h1 b hb)
  · refine (at2_store (w0 := 128) (w1 := 3584) vy f iy _ L hy (by omega) (by omega)).trans ?_
    refine (pay77_at _ _ (by omega) (by omega)).trans ?_
    refine congr (congr (congrArg wt ?_) (by omega)) ?_
    · refine (at2_load (w0 := 64) (w1 := 3584) v8 X8 i8 h8 (by omega) (by omega)).trans ?_
      exact congrArg₂ (at2 _) (by omega) (by omega)
    · refine (at2_load (w0 := 1) (w1 := 3584) v9 X9 i9 h9 (by omega) (by omega)).trans ?_
      exact congrArg₂ (at2 _) (by omega) (by omega)

/-- The product of the incoming gradient's rows, 512 at a time, and the weights' rows, at a row and a column. -/
def dhF (x w : ℕ → ℕ → F .bf16) (a b : ℕ) : F .f32 :=
  at2 (matmul dot_S512x3584_S512x3584_S512x512_1_1_0_0_n_n none (fun j => x (512 * (a / 512) + (j 0).val) (j 1).val) (fun j => w (j 0).val (j 1).val)
    (constant S512x512 .f32 0x00000000#32)) (a % 512) b

/-- The product after `n` groups of 512 rows. -/
def DhTab (x w : ℕ → ℕ → F .bf16) (y : S1536x512.Idx → F .f32) (n : ℕ) : Prop := ∀ a, a < 512 * n → ∀ b, b < 512 → at2 y a b = dhF x w a b

/-- The next group of products stored. -/
theorem dhTab_step (v2 : View sig .tc sp S1536x3584 .bf16) (v13 : View sig .tc sp S512x3584 .bf16) (vy : View sig .tc sp S1536x512 .f32)
    (X2 : BufTy.Contents (Elt F) v2.ty) (X13 : BufTy.Contents (Elt F) v13.ty) (f : BufTy.Contents (Elt F) vy.ty) (w : ℕ → ℕ → F .bf16)
    (L : List (View.Piece (Elt F) S1536x512 .f32)) (n : ℕ) {o2 o13 oy : Fin 2 → ℕ} (i2) (i13) (iy) (h2 : o2 = ![512 * n, 0]) (h13 : o13 = ![0, 0])
    (hy : oy = ![512 * n, 0]) (hn : n < 3) (hw : ∀ a, a < 512 → ∀ b, b < 3584 → at2 (v13.read (Elt F) X13) a b = w a b)
    (h : DhTab (at2 (v2.read (Elt F) X2)) w (vy.read (Elt F) (vy.writes (Elt F) f L)) n) :
    DhTab (at2 (v2.read (Elt F) X2)) w (vy.read (Elt F) (vy.writes (Elt F) f (⟨Rect.unit (s := S1536x512) oy S512x512.size iy,
      k0_pay84 (v2.readAt (Elt F) (Rect.unit (s := S1536x3584) o2 S512x3584.size i2).toLoadRect X2)
        (v13.readAt (Elt F) (Rect.unit (s := S512x3584) o13 S512x3584.size i13).toLoadRect X13)⟩ :: L))) (n + 1) := by
  intro a ha b hb
  rcases Nat.lt_or_ge a (512 * n) with h1 | h1
  · exact (at2_store_ne (w0 := 512) (w1 := 512) vy f iy _ L hy (by omega) (.inl h1)).trans (h a h1 b hb)
  · refine (at2_store (w0 := 512) (w1 := 512) vy f iy _ L hy (by omega) (by omega)).trans ?_
    have e1 : v2.readAt (Elt F) (Rect.unit (s := S1536x3584) o2 S512x3584.size i2).toLoadRect X2
        = fun j : S512x3584.Idx => at2 (v2.read (Elt F) X2) (512 * (a / 512) + (j 0).val) (j 1).val := by
      funext j
      refine (at2_idx (n0 := 512) (n1 := 3584) _ j).trans ?_
      refine (at2_load (w0 := 512) (w1 := 3584) v2 X2 i2 h2 (j 0).isLt (j 1).isLt).trans ?_
      exact congrArg₂ (at2 _) (by omega) (by omega)
    have e2 : v13.readAt (Elt F) (Rect.unit (s := S512x3584) o13 S512x3584.size i13).toLoadRect X13 = fun j : S512x3584.Idx => w (j 0).val (j 1).val := by
      funext j
      refine (at2_idx (n0 := 512) (n1 := 3584) _ j).trans ?_
      refine (at2_load (w0 := 512) (w1 := 3584) v13 X13 i13 h13 (j 0).isLt (j 1).isLt).trans ?_
      rw [Nat.zero_add, Nat.zero_add]
      exact hw _ (j 0).isLt _ (j 1).isLt
    rw [e1, e2]
    unfold k0_pay84 dhF
    rw [show a - 512 * n = a % 512 by omega, Nat.sub_zero]
    exact congrArg (fun z => at2 z (a % 512) b) (shapeCast_id _ _)

end Steps

end Cert.Kernel.Body

end
-- ==== Proof.Kernel.Out.lean ====
/- What one grid point leaves in its three output blocks, and the tables the points share. -/
module

public import proofs.«01_k».proof.Proof.Kernel.Compact
public import proofs.«01_k».proof.Proof.Kernel.Blocks
public import proofs.«01_k».proof.Proof.Kernel.Ranks
public import proofs.«01_k».proof.Proof.Kernel.Lc
public import proofs.«01_k».proof.Proof.Kernel.Super
public import proofs.«01_k».proof.Proof.Kernel.Finish
public import proofs.«01_k».proof.Proof.Kernel.Decode
public import proofs.«01_k».proof.Proof.Canon

@[expose] public section

set_option maxRecDepth 16384
set_option maxHeartbeats 4000000

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen Cert.Words Cert.Rank

variable {F : FTy → Type} [FloatOps F]

/-- The resources of the run: the frame kit's. -/
local notation "𝕄" => MT nD τ sig Unit (Elt F) ℕ (UR sig nD τ) ℕ

open Cert.At Cert.Spec Cert.Mask

/-- A branch's value: the code times the scale of its row. -/
def gF (x : S1536x512.Idx → F .fp8e4m3) (s : S12x128.Idx → F .f32) (a b : ℕ) : F .f32 := deq (at2 x a b) (at2 s (a / 128) (a % 128))
/-- The scale of a row's task. -/
def lF (off : ℕ → ℕ) (x : S24x512.Idx → F .f32) (a b : ℕ) : F .f32 := at2 x (tsk off a) b
/-- The weights of a block of columns. -/
def wF (x8 : S256x3584.Idx → BitVec 8) (x9 : S148x3584.Idx → F .f32) (i0 a b : ℕ) : F .bf16 :=
  wt (at2 x8 (a / 2) b) (a % 2) (at2 x9 (4 * i0 + a / 128) b)

section Outs

variable (off : ℕ → ℕ) (i0 : ℕ) (x2 : S1536x3584.Idx → F .bf16) (x3 x4 : S1536x512.Idx → F .fp8e4m3) (x5 x6 : S12x128.Idx → F .f32)
  (x7 : S24x512.Idx → F .f32) (x8 : S256x3584.Idx → BitVec 8) (x9 : S148x3584.Idx → F .f32)

/-- The gradient of the product's columns. -/
def dhO (a b : ℕ) : F .f32 := dhF (at2 x2) (wF x8 x9 i0) a b
/-- A row's part of the gradient of its task's scale. -/
def pO (a b : ℕ) : F .f32 := pS (dhO i0 x2 x8 x9 a b) (gF x3 x5 a b) (gF x4 x6 a b)

/-- The block of the linear branch's gradient. -/
def out12 : S1536x512.Idx → F .bf16 := fun j => duS (dhO i0 x2 x8 x9 (j 0).val (j 1).val) (lF off x7 (j 0).val (j 1).val) (gF x3 x5 (j 0).val (j 1).val)
/-- The block of the gated branch's gradient. -/
def out11 : S1536x512.Idx → F .bf16 := fun j =>
  dgS (dhO i0 x2 x8 x9 (j 0).val (j 1).val) (lF off x7 (j 0).val (j 1).val) (gF x3 x5 (j 0).val (j 1).val) (gF x4 x6 (j 0).val (j 1).val)
/-- The block of the scales' gradient. -/
def out10 : S24x512.Idx → F .f32 := fun j =>
  dlT (stF off) (SL off) (tkF off) (fun r b => accS (SL off) (pO i0 x2 x3 x4 x5 x6 x8 x9) (r / 8) (r % 8) b 192) (pO i0 x2 x3 x4 x5 x6 x8 x9) (j 0).val (j 1).val 24

end Outs

/-- The tables every point after the first finds. -/
structure Tabs (off : ℕ → ℕ) (x5 x6 : S12x128.Idx → F .f32) (d19 d20 : S1536x128.Idx → F .f32) (d21 : S1536x128.Idx → BitVec 32)
    (d22 d23 : S192.Idx → BitVec 32) (d24 : S25.Idx → BitVec 32) (d25 : S26.Idx → BitVec 32) : Prop where
  sc5 : ScTab x5 d19 12
  sc6 : ScTab x6 d20 12
  rk : RankTab off d21 1536
  fr : ∀ b, b < 192 → nw d22 b = R off (8 * b)
  sl : ∀ b, b < 192 → nw d23 b = SL off b
  tab : Tab off (nw d25) (nw d24)

theorem accS_congr {sl : ℕ → ℕ} {p p' : ℕ → ℕ → F .f32} {slot sub col : ℕ} (hs : sub < 8) (m : ℕ)
    (h : ∀ a, a < 8 * m → p a col = p' a col) : accS sl p slot sub col m = accS sl p' slot sub col m := by
  induction m with
  | zero => rfl
  | succ m ih =>
    unfold accS
    rw [ih fun a ha => h a (by omega), h (8 * m + sub) (by omega)]

theorem dlR_congr {start start' slot slot' : ℕ → ℕ} {acc acc' p p' : ℕ → ℕ → F .f32} {r col : ℕ} (hr : r < 24) (hc : col < 512)
    (h0 : start r = start' r) (h1 : start (r + 1) = start' (r + 1)) (hs : ∀ b, b < 192 → slot b = slot' b) (hle : start (r + 1) ≤ 1536)
    (hacc : ∀ a, a < 200 → ∀ b, b < 512 → acc a b = acc' a b) (hp : ∀ a, a < 1536 → ∀ b, b < 512 → p a b = p' a b) :
    dlR start slot acc p r col = dlR start' slot' acc' p' r col := by
  unfold dlR
  refine congrArg (fun z => multiReduction .add [0] _ z _ _ _ _ _) ?_
  funext j
  have hj0 : (j 0).val < 8 := (j 0).isLt
  have hj1 : (j 1).val < 512 := (j 1).isLt
  have b1 := fbw_le (start' r)
  have b2 := lbw_le (h1 ▸ hle)
  unfold tot
  rw [h0, h1, hs _ (by omega), hs _ (by omega), hacc _ (by omega) _ hj1, hp _ (by omega) _ hj1, hp _ (by omega) _ hj1]

theorem dlT_congr {start start' slot slot' task task' : ℕ → ℕ} {acc acc' p p' : ℕ → ℕ → F .f32} {row col : ℕ} (hc : col < 512)
    (h0 : ∀ r, r ≤ 24 → start r = start' r) (ht : ∀ r, r < 24 → task r = task' r) (hs : ∀ b, b < 192 → slot b = slot' b) (hle : ∀ r, r ≤ 24 → start r ≤ 1536)
    (hacc : ∀ a, a < 200 → ∀ b, b < 512 → acc a b = acc' a b) (hp : ∀ a, a < 1536 → ∀ b, b < 512 → p a b = p' a b) (n : ℕ) (hn : n ≤ 24) :
    dlT start slot task acc p row col n = dlT start' slot' task' acc' p' row col n := by
  induction n with
  | zero => rfl
  | succ n ih =>
    unfold dlT
    rw [ih (by omega), ht n (by omega), dlR_congr (by omega) hc (h0 n (by omega)) (h0 (n + 1) (by omega)) hs (hle _ (by omega)) hacc hp]

section Use

variable {off : ℕ → ℕ} {i0 : ℕ} {x2 : S1536x3584.Idx → F .bf16} {x3 x4 : S1536x512.Idx → F .fp8e4m3} {x5 x6 : S12x128.Idx → F .f32}
  {x7 : S24x512.Idx → F .f32} {x8 : S256x3584.Idx → BitVec 8} {x9 : S148x3584.Idx → F .f32}
  {d14 : S1536x512.Idx → F .f32} {d17 : S4x32x128.Idx → F .f32} {d19 d20 : S1536x128.Idx → F .f32} {d11 d12 : S1536x512.Idx → F .bf16} {d15 : S1536x512.Idx → F .f32}
  {d24 : ℕ → ℕ} {d16 : S200x512.Idx → F .f32} {d18 : S32x512.Idx → F .f32} {d25 : ℕ → ℕ}

theorem gv_eq {x : S1536x512.Idx → F .fp8e4m3} {s : S12x128.Idx → F .f32} {d : S1536x128.Idx → F .f32} (h : ScTab s d 12) {a b : ℕ} (ha : a < 1536) :
    gv x d a b = gF x s a b := by
  unfold gv gF
  rw [h a (by omega) _ (Nat.mod_lt _ (by omega))]

theorem lv_eq (hT : Tab off d25 d24) (h : LcTab d24 x7 d17 24) {a b : ℕ} (ha : a < 1536) (hb : b < 512) : lv off d17 a b = lF off x7 a b := by
  have hR := R_le (off := off) a
  have ht := tsk_le (off := off) a
  unfold lv lF
  rw [h _ (by omega) _ (by omega) _ (Nat.mod_lt _ (by omega)), hT.task_R a ha]
  refine congrArg₂ (at2 x7) (by omega) (by omega)

theorem out12_of (hsc5 : ScTab x5 d19 12) (hT : Tab off d25 d24) (hl : LcTab d24 x7 d17 24) (hd : DhTab (at2 x2) (wF x8 x9 i0) d14 3)
    (h : Rows (at2 d14) (gv x3 d19) (gv x4 d20) (lv off d17) d11 d12 d15 1536) : d12 = out12 off i0 x2 x3 x5 x7 x8 x9 := by
  refine ext2 _ _ fun a ha b hb => ?_
  rw [h.du a ha b hb, hd a (by omega) b hb, gv_eq hsc5 ha, lv_eq hT hl ha hb]
  exact (at2_eq (out12 off i0 x2 x3 x5 x7 x8 x9) (ValueIdx.ix2 ⟨a, ha⟩ ⟨b, hb⟩) rfl rfl).symm

theorem out11_of (hsc5 : ScTab x5 d19 12) (hsc6 : ScTab x6 d20 12) (hT : Tab off d25 d24) (hl : LcTab d24 x7 d17 24) (hd : DhTab (at2 x2) (wF x8 x9 i0) d14 3)
    (h : Rows (at2 d14) (gv x3 d19) (gv x4 d20) (lv off d17) d11 d12 d15 1536) : d11 = out11 off i0 x2 x3 x4 x5 x6 x7 x8 x9 := by
  refine ext2 _ _ fun a ha b hb => ?_
  rw [h.dg a ha b hb, hd a (by omega) b hb, gv_eq hsc5 ha, gv_eq hsc6 ha, lv_eq hT hl ha hb]
  exact (at2_eq (out11 off i0 x2 x3 x4 x5 x6 x7 x8 x9) (ValueIdx.ix2 ⟨a, ha⟩ ⟨b, hb⟩) rfl rfl).symm

theorem p_of (hsc5 : ScTab x5 d19 12) (hsc6 : ScTab x6 d20 12) (hd : DhTab (at2 x2) (wF x8 x9 i0) d14 3) {a b : ℕ} (ha : a < 1536) (hb : b < 512) :
    pS (at2 d14 a b) (gv x3 d19 a b) (gv x4 d20 a b) = pO i0 x2 x3 x4 x5 x6 x8 x9 a b := by
  rw [hd a (by omega) b hb, gv_eq hsc5 ha, gv_eq hsc6 ha]
  rfl

theorem out10_of (hS : Sorted off) (hsc5 : ScTab x5 d19 12) (hsc6 : ScTab x6 d20 12) (hT : Tab off d25 d24) (hd : DhTab (at2 x2) (wF x8 x9 i0) d14 3)
    (h : Rows (at2 d14) (gv x3 d19) (gv x4 d20) (lv off d17) d11 d12 d15 1536)
    (hA : Acc off (fun a b => pS (at2 d14 a b) (gv x3 d19 a b) (gv x4 d20 a b)) d16 192) {row col : ℕ} (hc : col < 512) :
    dlT d25 (SL off) d24 (at2 d16) (at2 d15) row col 24
      = dlT (stF off) (SL off) (tkF off) (fun r b => accS (SL off) (pO i0 x2 x3 x4 x5 x6 x8 x9) (r / 8) (r % 8) b 192) (pO i0 x2 x3 x4 x5 x6 x8 x9) row col 24 := by
  refine dlT_congr hc (fun r hr => hT.start_eq hr) (fun r hr => hT.task_eq hS hr) (fun _ _ => rfl) (fun r hr => hT.start_le r hr) ?_ ?_ 24 le_rfl
  · intro a ha b hb
    rw [hA a ha b hb]
    exact accS_congr (Nat.mod_lt _ (by omega)) 192 fun a ha => p_of hsc5 hsc6 hd (by omega) hb
  · intro a ha b hb
    rw [h.p a ha b hb, p_of hsc5 hsc6 hd ha hb]

end Use

end Cert.Kernel.Body

end
-- ==== Proof.Kernel.Front.lean ====
/- The front of the body: the tables of the first point, the weights and the products. -/
module

public import proofs.«01_k».proof.Proof.Kernel.Out
public import Idealize.ShloMosaic.Lib.Pipeline.FrameBody

@[expose] public section

set_option maxRecDepth 16384
set_option maxHeartbeats 4000000

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen Cert.Words Cert.Rank

variable {F : FTy → Type} [FloatOps F]

/-- The resources of the run: the frame kit's. -/
local notation "𝕄" => MT nD τ sig Unit (Elt F) ℕ (UR sig nD τ) ℕ

open Cert.At Cert.Spec Cert.Mask

theorem trips1 : Scf.trips k0_t1_loop.lb k0_t1_loop.ub k0_t1_loop.st = 25 := by decide +kernel
theorem trips2 : Scf.trips k0_t2_loop.lb k0_t2_loop.ub k0_t2_loop.st = 24 := by decide +kernel
theorem trips3 : Scf.trips k0_t3_loop.lb k0_t3_loop.ub k0_t3_loop.st = 192 := by decide +kernel
theorem trips6 : Scf.trips k0_t6_loop.lb k0_t6_loop.ub k0_t6_loop.st = 24 := by decide +kernel
theorem trips5 : Scf.trips k0_t5_loop.lb k0_t5_loop.ub k0_t5_loop.st = 192 := by decide +kernel

section Trips

variable (c : Dev nD) (E : Set ℕ) (i : grid0.Coords) (arg1 : Memref sig .tc .smem S25 .i32) (harg1 : arg1.IsWhole) (arg2 : Memref sig .tc .vmem S1536x3584 .bf16) (harg2 : arg2.IsWhole) (arg3 : Memref sig .tc .vmem S1536x512 .fp8e4m3) (harg3 : arg3.IsWhole) (arg4 : Memref sig .tc .vmem S1536x512 .fp8e4m3) (harg4 : arg4.IsWhole) (arg5 : Memref sig .tc .vmem S12x128 .f32) (harg5 : arg5.IsWhole) (arg6 : Memref sig .tc .vmem S12x128 .f32) (harg6 : arg6.IsWhole) (arg7 : Memref sig .tc .vmem S24x512 .f32) (harg7 : arg7.IsWhole) (arg8 : Memref sig .tc .vmem S256x3584 .i8) (harg8 : arg8.IsWhole) (arg9 : Memref sig .tc .vmem S148x3584 .f32) (harg9 : arg9.IsWhole) (arg10 : Memref sig .tc .vmem S24x512 .f32) (harg10 : arg10.IsWhole) (arg11 : Memref sig .tc .vmem S1536x512 .bf16) (harg11 : arg11.IsWhole) (arg12 : Memref sig .tc .vmem S1536x512 .bf16) (harg12 : arg12.IsWhole) (arg13 : Memref sig .tc .vmem S512x3584 .bf16) (harg13 : arg13.IsWhole) (arg14 : Memref sig .tc .vmem S1536x512 .f32) (harg14 : arg14.IsWhole) (arg15 : Memref sig .tc .vmem S1536x512 .f32) (harg15 : arg15.IsWhole) (arg16 : Memref sig .tc .vmem S200x512 .f32) (harg16 : arg16.IsWhole) (arg17 : Memref sig .tc .vmem S4x32x128 .f32) (harg17 : arg17.IsWhole) (arg18 : Memref sig .tc .vmem S32x512 .f32) (harg18 : arg18.IsWhole) (arg19 : Memref sig .tc .vmem S1536x128 .f32) (harg19 : arg19.IsWhole) (arg20 : Memref sig .tc .vmem S1536x128 .f32) (harg20 : arg20.IsWhole) (arg21 : Memref sig .tc .vmem S1536x128 .i32) (harg21 : arg21.IsWhole) (arg22 : Memref sig .tc .smem S192 .i32) (harg22 : arg22.IsWhole) (arg23 : Memref sig .tc .smem S192 .i32) (harg23 : arg23.IsWhole) (arg24 : Memref sig .tc .smem S25 .i32) (harg24 : arg24.IsWhole) (arg25 : Memref sig .tc .smem S26 .i32) (harg25 : arg25.IsWhole)

/-- The scratch buffers between the points: anything before the first, the tables after it. -/
def Scr (n : ℕ) (off : ℕ → ℕ) (x5 x6 : S12x128.Idx → F .f32) : sProp 𝕄 :=
  iprop((∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
    ∗ ∃ d19 d20 d21 d22 d23 d24 d25, owns (c : Thread nD τ) arg19 fullShare d19 ∗ owns (c : Thread nD τ) arg20 fullShare d20 ∗ owns (c : Thread nD τ) arg21 fullShare d21 ∗ owns (c : Thread nD τ) arg22 fullShare d22 ∗ owns (c : Thread nD τ) arg23 fullShare d23 ∗ owns (c : Thread nD τ) arg24 fullShare d24 ∗ owns (c : Thread nD τ) arg25 fullShare d25
      ∗ ⌜0 < n → Tabs off x5 x6 d19 d20 d21 d22 d23 d24 d25⌝)

/-- The scratch when the loops over the rows begin: the weights decoded, the products made, the sums cleared. -/
def Mid (off : ℕ → ℕ) (x2 : Vec F S1536x3584 .bf16) (x5 x6 : Vec F S12x128 .f32) (x7 : Vec F S24x512 .f32) (x8 : Vec F S256x3584 .i8) (x9 : Vec F S148x3584 .f32) : sProp 𝕄 :=
  iprop(∃ f13 f14 f15 f16 f17 f18 f19 f20 f21 f22 f23 f24 f25, (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22) ∗ (arg23.view.loc (c : Thread nD τ) ↦[arg23.view.set]{fullShare} f23) ∗ (arg24.view.loc (c : Thread nD τ) ↦[arg24.view.set]{fullShare} f24) ∗ (arg25.view.loc (c : Thread nD τ) ↦[arg25.view.set]{fullShare} f25)
    ∗ ⌜Tabs off x5 x6 (arg19.view.read (Elt F) f19) (arg20.view.read (Elt F) f20) (arg21.view.read (Elt F) f21) (arg22.view.read (Elt F) f22) (arg23.view.read (Elt F) f23) (arg24.view.read (Elt F) f24) (arg25.view.read (Elt F) f25)⌝
    ∗ ⌜DhTab (at2 x2) (wF x8 x9 (i 0).val) (arg14.view.read (Elt F) f14) 3⌝
    ∗ ⌜LcTab (nw (arg24.view.read (Elt F) f24)) x7 (arg17.view.read (Elt F) f17) 24⌝
    ∗ ⌜∀ a, a < 200 → ∀ b, b < 512 → at2 (arg16.view.read (Elt F) f16) a b = z0⌝
    ∗ ⌜∀ a, a < 32 → ∀ b, b < 512 → at2 (arg18.view.read (Elt F) f18) a b = z0⌝)

set_option maxHeartbeats 1500000 in
theorem front (q : PosShare TreeShare) (n : ℕ) (hn : k0_cond1 i ≠ 1#1 → 0 < n) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) (f23 : BufTy.Contents (Elt F) arg23.view.ty) (f24 : BufTy.Contents (Elt F) arg24.view.ty) (f25 : BufTy.Contents (Elt F) arg25.view.ty) (hS : Sorted (offN arg1 f1))
    (hTabs : 0 < n → Tabs (offN arg1 f1) (arg5.view.read (Elt F) f5) (arg6.view.read (Elt F) f6) (arg19.view.read (Elt F) f19) (arg20.view.read (Elt F) f20) (arg21.view.read (Elt F) f21) (arg22.view.read (Elt F) f22) (arg23.view.read (Elt F) f23) (arg24.view.read (Elt F) f24) (arg25.view.read (Elt F) f25))
    (rest : Prog (TpuEff nD τ sig (Elt F) Λ₀ .tc) PUnit) (K : PUnit → sProp 𝕄) :
    iprop((arg1.view.loc (c : Thread nD τ) ↦[arg1.view.set]{q} f1) ∗ (arg2.view.loc (c : Thread nD τ) ↦[arg2.view.set]{fullShare} f2) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22) ∗ (arg23.view.loc (c : Thread nD τ) ↦[arg23.view.set]{fullShare} f23) ∗ (arg24.view.loc (c : Thread nD τ) ↦[arg24.view.set]{fullShare} f24) ∗ (arg25.view.loc (c : Thread nD τ) ↦[arg25.view.set]{fullShare} f25)
        ∗ (iprop((arg1.view.loc (c : Thread nD τ) ↦[arg1.view.set]{q} f1) ∗ (arg2.view.loc (c : Thread nD τ) ↦[arg2.view.set]{fullShare} f2) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9)
            ∗ Mid c i arg13 arg14 arg15 arg16 arg17 arg18 arg19 arg20 arg21 arg22 arg23 arg24 arg25 (offN arg1 f1) (arg2.view.read (Elt F) f2) (arg5.view.read (Elt F) f5) (arg6.view.read (Elt F) f6) (arg7.view.read (Elt F) f7) (arg8.view.read (Elt F) f8) (arg9.view.read (Elt F) f9))
          -∗ wp frame (wpE (defs₀ (F := F)) Variants.none c none) E rest K))
      ⊢ wp frame (wpE (defs₀ (F := F)) Variants.none c none) E (do
          let ⟨arg0, v29⟩ : Σ' (arg0 : BitVec 32), IVec S128x3584 32 ← k0_part16 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25
          let ⟨v71, c15_i32_30⟩ : Σ' (v71 : IVec S64x3584 32), BitVec 32 ← k0_part17 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg0 v29
          let ⟨v106, v112⟩ : Σ' (v106 : IVec S64x3584 32), IVec S64x3584 32 ← k0_part18 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg0 v71 c15_i32_30
          let ⟨v142, v143⟩ : Σ' (v142 : FVec F S512x512 .f32), Vec F S512x512 .f32 ← k0_part19 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg0 v106 v112
          Prog.lift (.store arg14 (Rect.unit (s := S1536x512) ![1024, 0] S512x512.size inb_S1536x512_S512x512_1024_0) (k0_pay1 v142) Finset.univ (View.stores_vmem_bits_univ h_S512x512 rfl) (.inl rfl))
          rest) K := by
  iintro ⟨H1, H2, H5, H6, H7, H8, H9, H13, H14, H15, H16, H17, H18, H19, H20, H21, H22, H23, H24, H25, Hk⟩
  by_cases k0_h1 : k0_cond1 i = 1#1
  · have hS' : Sorted (offN arg1 f1) := hS
    have h0 : ∀ j, j < 0 → nw (arg25.view.read (Elt F) f25) j = 1536 ∧ nw (arg24.view.read (Elt F) f24) j = 24 := fun j h => absurd h (Nat.not_lt_zero j)
    have h1 : 25 ≤ 0 → Comp (offN arg1 f1) 0 (nw (arg25.view.read (Elt F) f25)) (nw (arg24.view.read (Elt F) f24)) := fun h => absurd h (by decide)
    have h3 : (0#32).toNat ≤ R (offN arg1 f1) (8 * 0) := Nat.zero_le _
    have h3a : ∀ b, b < 0 → nw (arg22.view.read (Elt F) f22) b = R (offN arg1 f1) (8 * b) := fun j h => absurd h (Nat.not_lt_zero j)
    have h3b : ∀ b, b < 0 → nw (arg23.view.read (Elt F) f23) b = SL (offN arg1 f1) b := fun j h => absurd h (Nat.not_lt_zero j)
    have h5 : RankTab (offN arg1 f1) (arg21.view.read (Elt F) f21) (8 * 0) := fun j h => absurd h (Nat.not_lt_zero _)
    let L1 := loopInv1 (F := F) Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_h1 (offN arg1 f1)
    let L2 := loopInv2 (F := F) Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_h1 q f1 hS'
    let L3 := fun X24 X25 (hC : 25 ≤ Scf.trips k0_t1_loop.lb k0_t1_loop.ub k0_t1_loop.st → Comp (offN arg1 f1) (Scf.trips k0_t2_loop.lb k0_t2_loop.ub k0_t2_loop.st) (nw (arg25.view.read (Elt F) X25)) (nw (arg24.view.read (Elt F) X24))) =>
      loopInv3 (F := F) Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_h1 (offN arg1 f1) X24 X25 hS' (tab_of_comp hS' (trips2 ▸ hC (by decide +kernel)))
    let L5 := fun X22 X24 X25 (hC : 25 ≤ Scf.trips k0_t1_loop.lb k0_t1_loop.ub k0_t1_loop.st → Comp (offN arg1 f1) (Scf.trips k0_t2_loop.lb k0_t2_loop.ub k0_t2_loop.st) (nw (arg25.view.read (Elt F) X25)) (nw (arg24.view.read (Elt F) X24)))
        (h22 : ∀ b, b < Scf.trips k0_t3_loop.lb k0_t3_loop.ub k0_t3_loop.st → nw (arg22.view.read (Elt F) X22) b = R (offN arg1 f1) (8 * b)) =>
      let hT := tab_of_comp hS' (trips2 ▸ hC (by decide +kernel))
      loopInv5 (F := F) Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_h1 (offN arg1 f1) X22 X24 X25 hS' hT.le hT.start_le (fun b hb => h22 b (trips3 ▸ hb))
        (iota .tc S8x128 32 [0] iota_S8x128_d0_w32) (fun j => iota_single_apply _ _ _ _ _ _)
    let L6 := fun X24 X25 (hC : 25 ≤ Scf.trips k0_t1_loop.lb k0_t1_loop.ub k0_t1_loop.st → Comp (offN arg1 f1) (Scf.trips k0_t2_loop.lb k0_t2_loop.ub k0_t2_loop.st) (nw (arg25.view.read (Elt F) X25)) (nw (arg24.view.read (Elt F) X24))) =>
      let hT := tab_of_comp hS' (trips2 ▸ hC (by decide +kernel))
      loopInv6 (F := F) Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 fullShare f7 X24 X25 (fun r hr => hT.task_le r hr.le)
    sl_exec
    clear L1 L2 L3 L5 L6
    rename_i acc _
    have hT := tab_of_comp hS' (trips2 ▸ hL8 (by decide +kernel))
    have hs5 : ScTab (arg5.view.read (Elt F) f5) (arg19.view.read (Elt F) (arg19.view.writes (Elt F) arg19.view.junk (front.sl.H19_12 arg5 f5))) 12 := by
      unfold front.sl.H19_12
      refine scTab_step arg5.view arg19.view f5 _ _ 11 _ _ rfl rfl (by decide) ?_
      refine scTab_step arg5.view arg19.view f5 _ _ 10 _ _ rfl rfl (by decide) ?_
      refine scTab_step arg5.view arg19.view f5 _ _ 9 _ _ rfl rfl (by decide) ?_
      refine scTab_step arg5.view arg19.view f5 _ _ 8 _ _ rfl rfl (by decide) ?_
      refine scTab_step arg5.view arg19.view f5 _ _ 7 _ _ rfl rfl (by decide) ?_
      refine scTab_step arg5.view arg19.view f5 _ _ 6 _ _ rfl rfl (by decide) ?_
      refine scTab_step arg5.view arg19.view f5 _ _ 5 _ _ rfl rfl (by decide) ?_
      refine scTab_step arg5.view arg19.view f5 _ _ 4 _ _ rfl rfl (by decide) ?_
      refine scTab_step arg5.view arg19.view f5 _ _ 3 _ _ rfl rfl (by decide) ?_
      refine scTab_step arg5.view arg19.view f5 _ _ 2 _ _ rfl rfl (by decide) ?_
      refine scTab_step arg5.view arg19.view f5 _ _ 1 _ _ rfl rfl (by decide) ?_
      refine scTab_step arg5.view arg19.view f5 _ [] 0 _ _ rfl rfl (by decide) ?_
      exact fun a ha => absurd ha (Nat.not_lt_zero _)
    have hs6 : ScTab (arg6.view.read (Elt F) f6) (arg20.view.read (Elt F) (arg20.view.writes (Elt F) arg20.view.junk (front.sl.H20_12 arg6 f6))) 12 := by
      unfold front.sl.H20_12
      refine scTab_step arg6.view arg20.view f6 _ _ 11 _ _ rfl rfl (by decide) ?_
      refine scTab_step arg6.view arg20.view f6 _ _ 10 _ _ rfl rfl (by decide) ?_
      refine scTab_step arg6.view arg20.view f6 _ _ 9 _ _ rfl rfl (by decide) ?_
      refine scTab_step arg6.view arg20.view f6 _ _ 8 _ _ rfl rfl (by decide) ?_
      refine scTab_step arg6.view arg20.view f6 _ _ 7 _ _ rfl rfl (by decide) ?_
      refine scTab_step arg6.view arg20.view f6 _ _ 6 _ _ rfl rfl (by decide) ?_
      refine scTab_step arg6.view arg20.view f6 _ _ 5 _ _ rfl rfl (by decide) ?_
      refine scTab_step arg6.view arg20.view f6 _ _ 4 _ _ rfl rfl (by decide) ?_
      refine scTab_step arg6.view arg20.view f6 _ _ 3 _ _ rfl rfl (by decide) ?_
      refine scTab_step arg6.view arg20.view f6 _ _ 2 _ _ rfl rfl (by decide) ?_
      refine scTab_step arg6.view arg20.view f6 _ _ 1 _ _ rfl rfl (by decide) ?_
      refine scTab_step arg6.view arg20.view f6 _ [] 0 _ _ rfl rfl (by decide) ?_
      exact fun a ha => absurd ha (Nat.not_lt_zero _)
    have hw : WTab (arg8.view.read (Elt F) f8) (arg9.view.read (Elt F) f9) (i 0).val (arg13.view.read (Elt F) (arg13.view.writes (Elt F) arg13.view.junk (front.sl.H13_4 i arg8 arg9 f8 f9))) 4 :=
      wTab_step arg8.view arg9.view arg13.view f8 f9 arg13.view.junk _ _ 3 _ _ _ rfl (k0_off19_eq i 3) rfl (by decide)
        (wTab_step arg8.view arg9.view arg13.view f8 f9 arg13.view.junk _ _ 2 _ _ _ rfl (k0_off19_eq i 2) rfl (by decide)
          (wTab_step arg8.view arg9.view arg13.view f8 f9 arg13.view.junk _ _ 1 _ _ _ rfl (k0_off19_eq i 1) rfl (by decide)
            (wTab_step arg8.view arg9.view arg13.view f8 f9 arg13.view.junk [] _ 0 _ _ _ rfl (k0_off19_eq i 0) rfl (by decide)
              fun a ha => absurd ha (Nat.not_lt_zero _))))
    have hTabs' : Tabs (offN arg1 f1) (arg5.view.read (Elt F) f5) (arg6.view.read (Elt F) f6) _ _ (arg21.view.read (Elt F) f21L6) (arg22.view.read (Elt F) f22L4) (arg23.view.read (Elt F) f23L5) (arg24.view.read (Elt F) f24L2) (arg25.view.read (Elt F) f25L3) :=
      ⟨hs5, hs6, by have := hL20; rw [trips5] at this; exact this, by have := hL14; rw [trips3] at this; exact this, by have := hL15; rw [trips3] at this; exact this, hT⟩
    have hl := hL25
    rw [trips6] at hl
    ispecialize Hk $$ [H1 H2 H5 H6 H7 H8 H9 H13 H14 H15 H16 H17 H18 H19 H20 H21 H22 H23 H24 H25]
    · isplitl [H1]; · iexact H1
      isplitl [H2]; · iexact H2
      isplitl [H5]; · iexact H5
      isplitl [H6]; · iexact H6
      isplitl [H7]; · iexact H7
      isplitl [H8]; · iexact H8
      isplitl [H9]; · iexact H9
      unfold Mid
      iexists _, _, _, _, _, _, _, _, _, _, _, _, _
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitr; · ipureintro; exact hTabs'
      isplitr
      · ipureintro
        unfold front.sl.v129
        refine dhTab_step arg2.view arg13.view arg14.view f2 (arg13.view.writes (Elt F) arg13.view.junk (front.sl.H13_4 i arg8 arg9 f8 f9)) f14 _ _ 2 _ inb_S512x3584_S512x3584_0_0 _ rfl rfl rfl (by decide) hw ?_
        refine dhTab_step arg2.view arg13.view arg14.view f2 (arg13.view.writes (Elt F) arg13.view.junk (front.sl.H13_4 i arg8 arg9 f8 f9)) f14 _ _ 1 _ inb_S512x3584_S512x3584_0_0 _ rfl rfl rfl (by decide) hw ?_
        refine dhTab_step arg2.view arg13.view arg14.view f2 (arg13.view.writes (Elt F) arg13.view.junk (front.sl.H13_4 i arg8 arg9 f8 f9)) f14 _ [] 0 _ inb_S512x3584_S512x3584_0_0 _ rfl rfl rfl (by decide) hw ?_
        exact fun a ha => absurd ha (Nat.not_lt_zero _)
      isplitr; · ipureintro; exact hl (by decide +kernel)
      isplitr; · ipureintro; exact fun a ha b hb => (at2_store (w0 := 200) (w1 := 512) arg16.view f16 inb_S200x512_S200x512_0_0 _ [] rfl (by omega) (by omega)).trans rfl
      ipureintro; exact fun a ha b hb => (at2_store (w0 := 32) (w1 := 512) arg18.view f18 inb_S32x512_S32x512_0_0 _ [] rfl (by omega) (by omega)).trans rfl
    iexact Hk
  · have hT := hTabs (hn k0_h1)
    let L6 := loopInv6 (F := F) Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 fullShare f7 f24 f25 (fun r hr => hT.tab.task_le r hr.le)
    have hl0 := hT.tab
    sl_exec
    clear L6
    have hw : WTab (arg8.view.read (Elt F) f8) (arg9.view.read (Elt F) f9) (i 0).val (arg13.view.read (Elt F) (arg13.view.writes (Elt F) arg13.view.junk (front.sl.H13_4_1 i arg8 arg9 f8 f9))) 4 :=
      wTab_step arg8.view arg9.view arg13.view f8 f9 arg13.view.junk _ _ 3 _ _ _ rfl (k0_off19_eq i 3) rfl (by decide)
        (wTab_step arg8.view arg9.view arg13.view f8 f9 arg13.view.junk _ _ 2 _ _ _ rfl (k0_off19_eq i 2) rfl (by decide)
          (wTab_step arg8.view arg9.view arg13.view f8 f9 arg13.view.junk _ _ 1 _ _ _ rfl (k0_off19_eq i 1) rfl (by decide)
            (wTab_step arg8.view arg9.view arg13.view f8 f9 arg13.view.junk [] _ 0 _ _ _ rfl (k0_off19_eq i 0) rfl (by decide)
              fun a ha => absurd ha (Nat.not_lt_zero _))))
    have hl := hL4
    rw [trips6] at hl
    have hTabs' := hT
    ispecialize Hk $$ [H1 H2 H5 H6 H7 H8 H9 H13 H14 H15 H16 H17 H18 H19 H20 H21 H22 H23 H24 H25]
    · isplitl [H1]; · iexact H1
      isplitl [H2]; · iexact H2
      isplitl [H5]; · iexact H5
      isplitl [H6]; · iexact H6
      isplitl [H7]; · iexact H7
      isplitl [H8]; · iexact H8
      isplitl [H9]; · iexact H9
      unfold Mid
      iexists _, _, _, _, _, _, _, _, _, _, _, _, _
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitr; · ipureintro; exact hTabs'
      isplitr
      · ipureintro
        unfold front.sl.v129_1
        refine dhTab_step arg2.view arg13.view arg14.view f2 (arg13.view.writes (Elt F) arg13.view.junk (front.sl.H13_4_1 i arg8 arg9 f8 f9)) f14 _ _ 2 _ inb_S512x3584_S512x3584_0_0 _ rfl rfl rfl (by decide) hw ?_
        refine dhTab_step arg2.view arg13.view arg14.view f2 (arg13.view.writes (Elt F) arg13.view.junk (front.sl.H13_4_1 i arg8 arg9 f8 f9)) f14 _ _ 1 _ inb_S512x3584_S512x3584_0_0 _ rfl rfl rfl (by decide) hw ?_
        refine dhTab_step arg2.view arg13.view arg14.view f2 (arg13.view.writes (Elt F) arg13.view.junk (front.sl.H13_4_1 i arg8 arg9 f8 f9)) f14 _ [] 0 _ inb_S512x3584_S512x3584_0_0 _ rfl rfl rfl (by decide) hw ?_
        exact fun a ha => absurd ha (Nat.not_lt_zero _)
      isplitr; · ipureintro; exact hl (by decide +kernel)
      isplitr; · ipureintro; exact fun a ha b hb => (at2_store (w0 := 200) (w1 := 512) arg16.view f16 inb_S200x512_S200x512_0_0 _ [] rfl (by omega) (by omega)).trans rfl
      ipureintro; exact fun a ha b hb => (at2_store (w0 := 32) (w1 := 512) arg18.view f18 inb_S32x512_S32x512_0_0 _ [] rfl (by omega) (by omega)).trans rfl
    iexact Hk

end Trips

end Cert.Kernel.Body

end
-- ==== Proof.Kernel.Back.lean ====
/- The rest of the body: the loops over the rows and over the ranks, and the three output blocks. -/
module

public import proofs.«01_k».proof.Proof.Kernel.Front
public import Idealize.ShloMosaic.Lib.Pipeline.FrameBody

@[expose] public section

set_option maxRecDepth 16384
set_option maxHeartbeats 4000000

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen Cert.Words Cert.Rank

variable {F : FTy → Type} [FloatOps F]

/-- The resources of the run: the frame kit's. -/
local notation "𝕄" => MT nD τ sig Unit (Elt F) ℕ (UR sig nD τ) ℕ

open Cert.At Cert.Spec Cert.Mask

theorem trips7 : Scf.trips k0_t7_loop.lb k0_t7_loop.ub k0_t7_loop.st = 48 := by decide +kernel
theorem trips8 : Scf.trips k0_t8_loop.lb k0_t8_loop.ub k0_t8_loop.st = 24 := by decide +kernel

section Trips

variable (c : Dev nD) (E : Set ℕ) (i : grid0.Coords) (arg1 : Memref sig .tc .smem S25 .i32) (harg1 : arg1.IsWhole) (arg2 : Memref sig .tc .vmem S1536x3584 .bf16) (harg2 : arg2.IsWhole) (arg3 : Memref sig .tc .vmem S1536x512 .fp8e4m3) (harg3 : arg3.IsWhole) (arg4 : Memref sig .tc .vmem S1536x512 .fp8e4m3) (harg4 : arg4.IsWhole) (arg5 : Memref sig .tc .vmem S12x128 .f32) (harg5 : arg5.IsWhole) (arg6 : Memref sig .tc .vmem S12x128 .f32) (harg6 : arg6.IsWhole) (arg7 : Memref sig .tc .vmem S24x512 .f32) (harg7 : arg7.IsWhole) (arg8 : Memref sig .tc .vmem S256x3584 .i8) (harg8 : arg8.IsWhole) (arg9 : Memref sig .tc .vmem S148x3584 .f32) (harg9 : arg9.IsWhole) (arg10 : Memref sig .tc .vmem S24x512 .f32) (harg10 : arg10.IsWhole) (arg11 : Memref sig .tc .vmem S1536x512 .bf16) (harg11 : arg11.IsWhole) (arg12 : Memref sig .tc .vmem S1536x512 .bf16) (harg12 : arg12.IsWhole) (arg13 : Memref sig .tc .vmem S512x3584 .bf16) (harg13 : arg13.IsWhole) (arg14 : Memref sig .tc .vmem S1536x512 .f32) (harg14 : arg14.IsWhole) (arg15 : Memref sig .tc .vmem S1536x512 .f32) (harg15 : arg15.IsWhole) (arg16 : Memref sig .tc .vmem S200x512 .f32) (harg16 : arg16.IsWhole) (arg17 : Memref sig .tc .vmem S4x32x128 .f32) (harg17 : arg17.IsWhole) (arg18 : Memref sig .tc .vmem S32x512 .f32) (harg18 : arg18.IsWhole) (arg19 : Memref sig .tc .vmem S1536x128 .f32) (harg19 : arg19.IsWhole) (arg20 : Memref sig .tc .vmem S1536x128 .f32) (harg20 : arg20.IsWhole) (arg21 : Memref sig .tc .vmem S1536x128 .i32) (harg21 : arg21.IsWhole) (arg22 : Memref sig .tc .smem S192 .i32) (harg22 : arg22.IsWhole) (arg23 : Memref sig .tc .smem S192 .i32) (harg23 : arg23.IsWhole) (arg24 : Memref sig .tc .smem S25 .i32) (harg24 : arg24.IsWhole) (arg25 : Memref sig .tc .smem S26 .i32) (harg25 : arg25.IsWhole)

/-- The three results at a point, the scratch at any contents but for the tables. -/
def Res (off : ℕ → ℕ) (x2 : Vec F S1536x3584 .bf16) (x3 x4 : Vec F S1536x512 .fp8e4m3) (x5 x6 : Vec F S12x128 .f32) (x7 : Vec F S24x512 .f32) (x8 : Vec F S256x3584 .i8)
    (x9 : Vec F S148x3584 .f32) : sProp 𝕄 :=
  iprop(∃ f10 f11 f12 f14 f15 f16 f17 f18, (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18)
    ∗ ⌜(arg10.view.read (Elt F) f10) = out10 off (i 0).val x2 x3 x4 x5 x6 x8 x9⌝ ∗ ⌜(arg11.view.read (Elt F) f11) = out11 off (i 0).val x2 x3 x4 x5 x6 x7 x8 x9⌝ ∗ ⌜(arg12.view.read (Elt F) f12) = out12 off (i 0).val x2 x3 x5 x7 x8 x9⌝)

set_option maxHeartbeats 1500000 in
theorem back (off : ℕ → ℕ) (hS : Sorted off) (f3 : BufTy.Contents (Elt F) arg3.view.ty) (f4 : BufTy.Contents (Elt F) arg4.view.ty) (f10 : BufTy.Contents (Elt F) arg10.view.ty) (f11 : BufTy.Contents (Elt F) arg11.view.ty) (f12 : BufTy.Contents (Elt F) arg12.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) (f23 : BufTy.Contents (Elt F) arg23.view.ty) (f24 : BufTy.Contents (Elt F) arg24.view.ty) (f25 : BufTy.Contents (Elt F) arg25.view.ty)
    (x2 : Vec F S1536x3584 .bf16) (x5 x6 : Vec F S12x128 .f32) (x7 : Vec F S24x512 .f32) (x8 : Vec F S256x3584 .i8) (x9 : Vec F S148x3584 .f32)
    (hT : Tabs off x5 x6 (arg19.view.read (Elt F) f19) (arg20.view.read (Elt F) f20) (arg21.view.read (Elt F) f21) (arg22.view.read (Elt F) f22) (arg23.view.read (Elt F) f23) (arg24.view.read (Elt F) f24) (arg25.view.read (Elt F) f25))
    (hd : DhTab (at2 x2) (wF x8 x9 (i 0).val) (arg14.view.read (Elt F) f14) 3) (hl : LcTab (nw (arg24.view.read (Elt F) f24)) x7 (arg17.view.read (Elt F) f17) 24)
    (h16 : ∀ a, a < 200 → ∀ b, b < 512 → at2 (arg16.view.read (Elt F) f16) a b = z0) (h18 : ∀ a, a < 32 → ∀ b, b < 512 → at2 (arg18.view.read (Elt F) f18) a b = z0) (K : PUnit → sProp 𝕄) :
    iprop((arg3.view.loc (c : Thread nD τ) ↦[arg3.view.set]{fullShare} f3) ∗ (arg4.view.loc (c : Thread nD τ) ↦[arg4.view.set]{fullShare} f4) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22) ∗ (arg23.view.loc (c : Thread nD τ) ↦[arg23.view.set]{fullShare} f23) ∗ (arg24.view.loc (c : Thread nD τ) ↦[arg24.view.set]{fullShare} f24) ∗ (arg25.view.loc (c : Thread nD τ) ↦[arg25.view.set]{fullShare} f25)
        ∗ (iprop((arg3.view.loc (c : Thread nD τ) ↦[arg3.view.set]{fullShare} f3) ∗ (arg4.view.loc (c : Thread nD τ) ↦[arg4.view.set]{fullShare} f4) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22) ∗ (arg23.view.loc (c : Thread nD τ) ↦[arg23.view.set]{fullShare} f23) ∗ (arg24.view.loc (c : Thread nD τ) ↦[arg24.view.set]{fullShare} f24) ∗ (arg25.view.loc (c : Thread nD τ) ↦[arg25.view.set]{fullShare} f25) ∗ Res c i arg10 arg11 arg12 arg14 arg15 arg16 arg17 arg18 off x2 (arg3.view.read (Elt F) f3) (arg4.view.read (Elt F) f4) x5 x6 x7 x8 x9) -∗ K ⟨⟩))
      ⊢ wp frame (wpE (defs₀ (F := F)) Variants.none c none) E (do
          Scf.Loop.for k0_t7_loop k0_t7_ok ⟨⟩ (k0_t7_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25)
          have v147 : IVec S8x512 32 := iota .tc S8x512 32 [0] iota_S8x512_d0_w32
          Scf.Loop.for k0_t8_loop k0_t8_ok ⟨⟩ (k0_t8_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v147)
          let v149 : Vec F S24x512 .f32 ← Prog.lift (.load arg18 (Rect.unit (s := S32x512) ![0, 0] S24x512.size inb_S32x512_S24x512_0_0).toLoadRect (View.loadsAt_vmem h_S24x512))
          let v150 : Vec F S24x512 .f32 ← Prog.lift (.load arg10 (Rect.unit (s := S24x512) ![0, 0] S24x512.size inb_S24x512_S24x512_0_0).toLoadRect (View.loadsAt_vmem h_S24x512))
          Prog.lift (.store arg10 (Rect.unit (s := S24x512) ![0, 0] S24x512.size inb_S24x512_S24x512_0_0) v149 Finset.univ (View.stores_vmem_bits_univ h_S24x512 rfl) (.inl rfl))
          pure ⟨⟩) K := by
  iintro ⟨H3, H4, H10, H11, H12, H14, H15, H16, H17, H18, H19, H20, H21, H22, H23, H24, H25, Hk⟩
  let L7 := loopInv7 (F := F) Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 off f3 f4 f14 f17 f19 f20 f21 f22 f23 hS hT.rk hT.fr hT.sl
  let L8 := fun X15 X16 => loopInv8 (F := F) Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (nw (arg25.view.read (Elt F) f25)) (nw (arg24.view.read (Elt F) f24)) (SL off) X15 X16 f23 f24 f25 (iota .tc S8x512 32 [0] iota_S8x512_d0_w32) rfl
    hT.sl (fun _ _ => rfl) (fun r hr => hT.tab.task_le r hr.le) (fun _ _ => rfl) hT.tab.start_le
  have h7 : Rows (at2 (arg14.view.read (Elt F) f14)) (gv (arg3.view.read (Elt F) f3) (arg19.view.read (Elt F) f19))
            (gv (arg4.view.read (Elt F) f4) (arg20.view.read (Elt F) f20)) (lv off (arg17.view.read (Elt F) f17))
            (arg11.view.read (Elt F) f11) (arg12.view.read (Elt F) f12) (arg15.view.read (Elt F) f15) (32 * 0)
          ∧ Acc off (fun a b => pS (at2 (arg14.view.read (Elt F) f14) a b) (gv (arg3.view.read (Elt F) f3) (arg19.view.read (Elt F) f19) a b)
              (gv (arg4.view.read (Elt F) f4) (arg20.view.read (Elt F) f20) a b)) (arg16.view.read (Elt F) f16) (4 * 0) :=
    ⟨⟨fun _ h => absurd h (Nat.not_lt_zero _), fun _ h => absurd h (Nat.not_lt_zero _), fun _ h => absurd h (Nat.not_lt_zero _)⟩, fun r hr b hb => h16 r hr b hb⟩
  have h8 : ∀ row, row < 24 → ∀ col, col < 512 → at2 (arg18.view.read (Elt F) f18) row col = z0 := fun r hr b hb => h18 r (by omega) b hb
  sl_exec
  clear L7 L8
  sl_step
  rw [trips7] at hL13
  rw [trips8] at hL20
  obtain ⟨hR, hA⟩ := hL13
  ispecialize Hk $$ [H3 H4 H10 H11 H12 H14 H15 H16 H17 H18 H19 H20 H21 H22 H23 H24 H25]
  · isplitl [H3]; · iexact H3
    isplitl [H4]; · iexact H4
    isplitl [H19]; · iexact H19
    isplitl [H20]; · iexact H20
    isplitl [H21]; · iexact H21
    isplitl [H22]; · iexact H22
    isplitl [H23]; · iexact H23
    isplitl [H24]; · iexact H24
    isplitl [H25]; · iexact H25
    unfold Res
    iexists _, _, _, _, _, _, _, _
    isplitl [H10]; · iexact H10
    isplitl [H11]; · iexact H11
    isplitl [H12]; · iexact H12
    isplitl [H14]; · iexact H14
    isplitl [H15]; · iexact H15
    isplitl [H16]; · iexact H16
    isplitl [H17]; · iexact H17
    isplitl [H18]; · iexact H18
    isplitr
    · ipureintro
      refine ext2 _ _ fun a ha b hb => ?_
      refine (at2_store (w0 := 24) (w1 := 512) arg10.view f10 inb_S24x512_S24x512_0_0 _ [] rfl (by omega) (by omega)).trans ?_
      refine (at2_load (w0 := 24) (w1 := 512) arg18.view _ inb_S32x512_S24x512_0_0 rfl (by omega) (by omega)).trans ?_
      rw [Nat.zero_add, Nat.zero_add, Nat.sub_zero, Nat.sub_zero, hL20 a ha b hb]
      refine (out10_of hS hT.sc5 hT.sc6 hT.tab hd hR hA hb).trans ?_
      exact (at2_eq (out10 off (i 0).val x2 _ _ x5 x6 x8 x9) (ValueIdx.ix2 ⟨a, ha⟩ ⟨b, hb⟩) rfl rfl).symm
    isplitr
    · ipureintro; exact out11_of hT.sc5 hT.sc6 hT.tab hl hd hR
    ipureintro; exact out12_of hT.sc5 hT.tab hl hd hR
  iexact Hk

end Trips

end Cert.Kernel.Body

end
-- ==== Proof.Kernel.Body.lean ====
/- The body at one grid point: from the staged blocks and the tables to the three output blocks. -/
module

public import proofs.«01_k».proof.Proof.Kernel.Back
public import Idealize.ShloMosaic.Lib.Pipeline.FrameBody

@[expose] public section

set_option maxRecDepth 16384
set_option maxHeartbeats 4000000

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen Cert.Words Cert.Rank

variable {F : FTy → Type} [FloatOps F]

/-- The resources of the run: the frame kit's. -/
local notation "𝕄" => MT nD τ sig Unit (Elt F) ℕ (UR sig nD τ) ℕ

open Cert.At Cert.Spec Cert.Mask

section Trips

variable (c : Dev nD) (E : Set ℕ) (i : grid0.Coords) (arg1 : Memref sig .tc .smem S25 .i32) (harg1 : arg1.IsWhole) (arg2 : Memref sig .tc .vmem S1536x3584 .bf16) (harg2 : arg2.IsWhole) (arg3 : Memref sig .tc .vmem S1536x512 .fp8e4m3) (harg3 : arg3.IsWhole) (arg4 : Memref sig .tc .vmem S1536x512 .fp8e4m3) (harg4 : arg4.IsWhole) (arg5 : Memref sig .tc .vmem S12x128 .f32) (harg5 : arg5.IsWhole) (arg6 : Memref sig .tc .vmem S12x128 .f32) (harg6 : arg6.IsWhole) (arg7 : Memref sig .tc .vmem S24x512 .f32) (harg7 : arg7.IsWhole) (arg8 : Memref sig .tc .vmem S256x3584 .i8) (harg8 : arg8.IsWhole) (arg9 : Memref sig .tc .vmem S148x3584 .f32) (harg9 : arg9.IsWhole) (arg10 : Memref sig .tc .vmem S24x512 .f32) (harg10 : arg10.IsWhole) (arg11 : Memref sig .tc .vmem S1536x512 .bf16) (harg11 : arg11.IsWhole) (arg12 : Memref sig .tc .vmem S1536x512 .bf16) (harg12 : arg12.IsWhole) (arg13 : Memref sig .tc .vmem S512x3584 .bf16) (harg13 : arg13.IsWhole) (arg14 : Memref sig .tc .vmem S1536x512 .f32) (harg14 : arg14.IsWhole) (arg15 : Memref sig .tc .vmem S1536x512 .f32) (harg15 : arg15.IsWhole) (arg16 : Memref sig .tc .vmem S200x512 .f32) (harg16 : arg16.IsWhole) (arg17 : Memref sig .tc .vmem S4x32x128 .f32) (harg17 : arg17.IsWhole) (arg18 : Memref sig .tc .vmem S32x512 .f32) (harg18 : arg18.IsWhole) (arg19 : Memref sig .tc .vmem S1536x128 .f32) (harg19 : arg19.IsWhole) (arg20 : Memref sig .tc .vmem S1536x128 .f32) (harg20 : arg20.IsWhole) (arg21 : Memref sig .tc .vmem S1536x128 .i32) (harg21 : arg21.IsWhole) (arg22 : Memref sig .tc .smem S192 .i32) (harg22 : arg22.IsWhole) (arg23 : Memref sig .tc .smem S192 .i32) (harg23 : arg23.IsWhole) (arg24 : Memref sig .tc .smem S25 .i32) (harg24 : arg24.IsWhole) (arg25 : Memref sig .tc .smem S26 .i32) (harg25 : arg25.IsWhole)

/-- What a grid point leaves: its blocks unchanged, the three outputs, and the scratch with the tables. -/
def Post (q : PosShare TreeShare) (n : ℕ) (x1 : Vec F S25 .i32)
    (x2 : Vec F S1536x3584 .bf16) (x3 x4 : Vec F S1536x512 .fp8e4m3) (x5 x6 : Vec F S12x128 .f32) (x7 : Vec F S24x512 .f32) (x8 : Vec F S256x3584 .i8)
    (x9 : Vec F S148x3584 .f32) : sProp 𝕄 :=
  iprop(owns (c : Thread nD τ) arg1 q x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
    ∗ owns (c : Thread nD τ) arg10 fullShare (out10 (nw x1) (i 0).val x2 x3 x4 x5 x6 x8 x9)
    ∗ owns (c : Thread nD τ) arg11 fullShare (out11 (nw x1) (i 0).val x2 x3 x4 x5 x6 x7 x8 x9)
    ∗ owns (c : Thread nD τ) arg12 fullShare (out12 (nw x1) (i 0).val x2 x3 x5 x7 x8 x9) ∗ Scr c arg13 arg14 arg15 arg16 arg17 arg18 arg19 arg20 arg21 arg22 arg23 arg24 arg25 (n + 1) (nw x1) x5 x6)

set_option maxHeartbeats 1500000 in
theorem sound_kernel (q : PosShare TreeShare) (n : ℕ) (hn : k0_cond1 i ≠ 1#1 → 0 < n) (x1 : Vec F S25 .i32) (hS : Sorted (nw x1))
    (x2 : Vec F S1536x3584 .bf16) (x3 x4 : Vec F S1536x512 .fp8e4m3) (x5 x6 : Vec F S12x128 .f32) (x7 : Vec F S24x512 .f32) (x8 : Vec F S256x3584 .i8)
    (x9 : Vec F S148x3584 .f32) (K : PUnit → sProp 𝕄) :
    iprop(owns (c : Thread nD τ) arg1 q x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
        ∗ (∃ d, owns (c : Thread nD τ) arg10 fullShare d) ∗ (∃ d, owns (c : Thread nD τ) arg11 fullShare d) ∗ (∃ d, owns (c : Thread nD τ) arg12 fullShare d) ∗ Scr c arg13 arg14 arg15 arg16 arg17 arg18 arg19 arg20 arg21 arg22 arg23 arg24 arg25 n (nw x1) x5 x6
        ∗ (Post c i arg1 arg2 arg3 arg4 arg5 arg6 arg7 arg8 arg9 arg10 arg11 arg12 arg13 arg14 arg15 arg16 arg17 arg18 arg19 arg20 arg21 arg22 arg23 arg24 arg25 q n x1 x2 x3 x4 x5 x6 x7 x8 x9 -∗ K ⟨⟩))
      ⊢ wp frame (wpE (defs₀ (F := F)) Variants.none c none) E (cc0_ia3_swiglu_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0_ia3_swiglu_bwd_eq_skeleton]; unfold cc0_ia3_swiglu_bwd_skel
  unfold Scr owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩,
    ⟨⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %d20, %d21, %d22, %d23, %d24, %d25, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, %hTabs⟩⟩, Hk⟩
  subst hf1 hf2 hf3 hf4 hf5 hf6 hf7 hf8 hf9 hf19 hf20 hf21 hf22 hf23 hf24 hf25
  iapply (front c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 q n hn f1 f2 f3 f4 f5 f6 f7 f8 f9 f13 f14 f15 f16 f17 f18 f19 f20 f21 f22 f23 f24 f25 hS hTabs)
  isplitl [H1]; · iexact H1
  isplitl [H2]; · iexact H2
  isplitl [H5]; · iexact H5
  isplitl [H6]; · iexact H6
  isplitl [H7]; · iexact H7
  isplitl [H8]; · iexact H8
  isplitl [H9]; · iexact H9
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iintro ⟨H1, H2, H5, H6, H7, H8, H9, HM⟩
  unfold Mid
  icases HM with ⟨%g13, %g14, %g15, %g16, %g17, %g18, %g19, %g20, %g21, %g22, %g23, %g24, %g25, H13, H14, H15, H16, H17, H18, H19, H20, H21, H22, H23, H24, H25, %hT, %hd, %hl, %h16, %h18⟩
  iapply (back c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (offN arg1 f1) hS f3 f4 f10 f11 f12 g14 g15 g16 g17 g18 g19 g20 g21 g22 g23 g24 g25 _ _ _ _ _ _ hT hd hl h16 h18)
  isplitl [H3]; · iexact H3
  isplitl [H4]; · iexact H4
  isplitl [H10]; · iexact H10
  isplitl [H11]; · iexact H11
  isplitl [H12]; · iexact H12
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iintro ⟨H3, H4, H19, H20, H21, H22, H23, H24, H25, HR⟩
  unfold Res
  icases HR with ⟨%e10, %e11, %e12, %e14, %e15, %e16, %e17, %e18, H10, H11, H12, H14, H15, H16, H17, H18, %h10, %h11, %h12⟩
  iapply Hk
  unfold Post Scr owns
  isplitl [H1]
  · iexists f1; isplitr
    · ipureintro; exact rfl
    · iexact H1
  isplitl [H2]
  · iexists f2; isplitr
    · ipureintro; exact rfl
    · iexact H2
  isplitl [H3]
  · iexists f3; isplitr
    · ipureintro; exact rfl
    · iexact H3
  isplitl [H4]
  · iexists f4; isplitr
    · ipureintro; exact rfl
    · iexact H4
  isplitl [H5]
  · iexists f5; isplitr
    · ipureintro; exact rfl
    · iexact H5
  isplitl [H6]
  · iexists f6; isplitr
    · ipureintro; exact rfl
    · iexact H6
  isplitl [H7]
  · iexists f7; isplitr
    · ipureintro; exact rfl
    · iexact H7
  isplitl [H8]
  · iexists f8; isplitr
    · ipureintro; exact rfl
    · iexact H8
  isplitl [H9]
  · iexists f9; isplitr
    · ipureintro; exact rfl
    · iexact H9
  isplitl [H10]
  · iexists e10; isplitr
    · ipureintro; exact h10
    · iexact H10
  isplitl [H11]
  · iexists e11; isplitr
    · ipureintro; exact h11
    · iexact H11
  isplitl [H12]
  · iexists e12; isplitr
    · ipureintro; exact h12
    · iexact H12
  isplitl [H13]
  · iexists (arg13.view.read (Elt F) g13), g13; isplitr
    · ipureintro; rfl
    · iexact H13
  isplitl [H14]
  · iexists (arg14.view.read (Elt F) e14), e14; isplitr
    · ipureintro; rfl
    · iexact H14
  isplitl [H15]
  · iexists (arg15.view.read (Elt F) e15), e15; isplitr
    · ipureintro; rfl
    · iexact H15
  isplitl [H16]
  · iexists (arg16.view.read (Elt F) e16), e16; isplitr
    · ipureintro; rfl
    · iexact H16
  isplitl [H17]
  · iexists (arg17.view.read (Elt F) e17), e17; isplitr
    · ipureintro; rfl
    · iexact H17
  isplitl [H18]
  · iexists (arg18.view.read (Elt F) e18), e18; isplitr
    · ipureintro; rfl
    · iexact H18
  iexists (arg19.view.read (Elt F) g19), (arg20.view.read (Elt F) g20), (arg21.view.read (Elt F) g21), (arg22.view.read (Elt F) g22), (arg23.view.read (Elt F) g23), (arg24.view.read (Elt F) g24), (arg25.view.read (Elt F) g25)
  isplitl [H19]
  · iexists g19; isplitr
    · ipureintro; rfl
    · iexact H19
  isplitl [H20]
  · iexists g20; isplitr
    · ipureintro; rfl
    · iexact H20
  isplitl [H21]
  · iexists g21; isplitr
    · ipureintro; rfl
    · iexact H21
  isplitl [H22]
  · iexists g22; isplitr
    · ipureintro; rfl
    · iexact H22
  isplitl [H23]
  · iexists g23; isplitr
    · ipureintro; rfl
    · iexact H23
  isplitl [H24]
  · iexists g24; isplitr
    · ipureintro; rfl
    · iexact H24
  isplitl [H25]
  · iexists g25; isplitr
    · ipureintro; rfl
    · iexact H25
  ipureintro; exact fun _ => hT

end Trips

end Cert.Kernel.Body

end
-- ==== Proof.Kernel.Launch.lean ====
/- The launch: the pipeline's proof data, the body obligation at every grid point, and the run of the whole program. -/
module

public import proofs.«01_k».proof.Proof.Kernel.Body
public import proofs.«01_k».proof.Proof.Gen.Kernel.Launch
public import Idealize.ShloMosaic.Lib.Pipeline.FrameBody
public import Idealize.ShloMosaic.Lib.Pipeline.FrameSuffix

@[expose] public section

set_option maxRecDepth 16384
set_option maxHeartbeats 4000000

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen Cert.Words Cert.Rank

variable {F : FTy → Type} [FloatOps F]

/-- The resources of the run: the frame kit's. -/
local notation "𝕄" => MT nD τ sig Unit (Elt F) ℕ (UR sig nD τ) ℕ

open Idealize.ShloMosaic.Pipeline (Dat Cfg Window BodyObligation cellOf)
open Cert.At Cert.Spec Cert.Mask

variable (m : (ℓ : Loc nD τ sig) → Buf (Elt F) ℓ) (ρ : Dev nD → PrngReg)

/-- The buffers' contents when the region is entered: after the two reshapes of the scales. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- A buffer that neither reshape writes is found as launched. -/
theorem V_of (c : Dev nD) (b : Ref sig .tc) (h0 : b ≠ main_v0) (h1 : b ≠ main_v1) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1⟩))

/-- The prefetched table: the offsets as launched. -/
def adm (_ : Fin 1) : (pcfg0 (F := F)).Adm := ⟨fun k => V m 0 (pre0.ref k), trivial⟩

/-- The configuration of the pipeline at the offsets. -/
abbrev cfgm : Cfg sig Λ₀ := Pipeline.pin (pcfgs (F := F)) (adm m) 0

/-- The offsets as numbers. -/
def off0 : ℕ → ℕ := nw (V m 0 main_arg1 : S25.Idx → BitVec 32)

theorem N_eq : (cfgm m).N = 37 := N_0

/-- A window's block at a point, read off its array as the region finds it. -/
def iblk (c : Dev nD) (w : Fin (cfgm m).W) (t : Fin (cfgm m).N) : (((cfgm m).win w).xblock ((cfgm m).grid.coords t)).Idx → Elt F ((cfgm m).win w).elt :=
  (((cfgm m).win w).blk t).view.read (Elt F) (V m c (Pipeline.arrRef spec0 w))

/-- A point's number as the body reads it. -/
abbrev i0 (t : Fin (cfgm m).N) : ℕ := (grid0.coords t 0).val

/-- The three output blocks of a point. -/
def ob8 (c : Dev nD) (t : Fin (cfgm m).N) := out10 (off0 m) (i0 m t) (iblk m c 0 t) (iblk m c 1 t) (iblk m c 2 t) (iblk m c 3 t) (iblk m c 4 t) (iblk m c 6 t) (iblk m c 7 t)
def ob9 (c : Dev nD) (t : Fin (cfgm m).N) := out11 (off0 m) (i0 m t) (iblk m c 0 t) (iblk m c 1 t) (iblk m c 2 t) (iblk m c 3 t) (iblk m c 4 t) (iblk m c 5 t) (iblk m c 6 t) (iblk m c 7 t)
def ob10 (c : Dev nD) (t : Fin (cfgm m).N) := out12 (off0 m) (i0 m t) (iblk m c 0 t) (iblk m c 1 t) (iblk m c 3 t) (iblk m c 5 t) (iblk m c 6 t) (iblk m c 7 t)

/-- The first point. -/
def t0 : Fin (cfgm m).N := ⟨0, by rw [N_eq]; decide⟩

/-- What the body carries from point to point: the scratch buffers, the generator register and the offsets. -/
def Car (c : Dev nD) (n : ℕ) : sProp 𝕄 :=
  iprop(Scr c (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) (Memref.whole cc0_scratch10) (Memref.whole cc0_scratch11) (Memref.whole cc0_scratch12) n (off0 m) (iblk m c 3 (t0 m)) (iblk m c 4 (t0 m)) ∗ (∃ r, prngReg c r) ∗ Pipeline.ΦT pre0 (adm m 0).1 c)

/-- The pipeline's proof data. -/
def dats (_ : Fin 1) (c : Dev nD) : Dat τ (Elt F) Unit ℕ (UR sig nD τ) ℕ (cfgm m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => ob8 m c t
    | ⟨9, _⟩ => ob9 m c t
    | ⟨10, _⟩ => ob10 m c t
  Φ t := Car m c t.val
  q _ := fullShare
  owed _ := 0

theorem A_eq (c : Dev nD) (w : Fin (cfgm m).W) : (dats m 0 c).A w = V m c (Pipeline.arrRef spec0 w) := by
  dsimp only [dats]

theorem after0_0 (c : Dev nD) (t : Fin (cfgm m).N) : (dats m 0 c).after 0 t = iblk m c 0 t := by dsimp only [dats]; rfl
theorem after0_1 (c : Dev nD) (t : Fin (cfgm m).N) : (dats m 0 c).after 1 t = iblk m c 1 t := by dsimp only [dats]; rfl
theorem after0_2 (c : Dev nD) (t : Fin (cfgm m).N) : (dats m 0 c).after 2 t = iblk m c 2 t := by dsimp only [dats]; rfl
theorem after0_3 (c : Dev nD) (t : Fin (cfgm m).N) : (dats m 0 c).after 3 t = iblk m c 3 t := by dsimp only [dats]; rfl
theorem after0_4 (c : Dev nD) (t : Fin (cfgm m).N) : (dats m 0 c).after 4 t = iblk m c 4 t := by dsimp only [dats]; rfl
theorem after0_5 (c : Dev nD) (t : Fin (cfgm m).N) : (dats m 0 c).after 5 t = iblk m c 5 t := by dsimp only [dats]; rfl
theorem after0_6 (c : Dev nD) (t : Fin (cfgm m).N) : (dats m 0 c).after 6 t = iblk m c 6 t := by dsimp only [dats]; rfl
theorem after0_7 (c : Dev nD) (t : Fin (cfgm m).N) : (dats m 0 c).after 7 t = iblk m c 7 t := by dsimp only [dats]; rfl
theorem after0_8 (c : Dev nD) (t : Fin (cfgm m).N) : (dats m 0 c).after 8 t = ob8 m c t := by dsimp only [dats]; rfl
theorem after0_9 (c : Dev nD) (t : Fin (cfgm m).N) : (dats m 0 c).after 9 t = ob9 m c t := by dsimp only [dats]; rfl
theorem after0_10 (c : Dev nD) (t : Fin (cfgm m).N) : (dats m 0 c).after 10 t = ob10 m c t := by dsimp only [dats]; rfl
theorem before0_0 (c : Dev nD) (t : Fin (cfgm m).N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin (cfgm m).N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin (cfgm m).N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin (cfgm m).N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin (cfgm m).N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin (cfgm m).N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin (cfgm m).N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin (cfgm m).N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)

/-- The body at a point, on what the pipeline calls it with. -/
abbrev bodyAt (t : Fin (cfgm m).N) : Prog (TpuEff nD τ sig (Elt F) Λ₀ .tc) PUnit :=
  cc0_ia3_swiglu_bwd (grid0.coords t) (Memref.whole main_arg1) (Memref.isWhole_whole _) (spec0_0.stage ((cfg0 (adm m 0)).slots t 0)) (hstage0_0 (((cfg0 (adm m 0)).slots t 0).cast nbuf0_0)) (spec0_1.stage ((cfg0 (adm m 0)).slots t 1)) (hstage0_1 (((cfg0 (adm m 0)).slots t 1).cast nbuf0_1)) (spec0_2.stage ((cfg0 (adm m 0)).slots t 2)) (hstage0_2 (((cfg0 (adm m 0)).slots t 2).cast nbuf0_2)) (spec0_3.stage ((cfg0 (adm m 0)).slots t 3)) (hstage0_3 (((cfg0 (adm m 0)).slots t 3).cast nbuf0_3)) (spec0_4.stage ((cfg0 (adm m 0)).slots t 4)) (hstage0_4 (((cfg0 (adm m 0)).slots t 4).cast nbuf0_4)) (spec0_5.stage ((cfg0 (adm m 0)).slots t 5)) (hstage0_5 (((cfg0 (adm m 0)).slots t 5).cast nbuf0_5)) (spec0_6.stage ((cfg0 (adm m 0)).slots t 6)) (hstage0_6 (((cfg0 (adm m 0)).slots t 6).cast nbuf0_6)) (spec0_7.stage ((cfg0 (adm m 0)).slots t 7)) (hstage0_7 (((cfg0 (adm m 0)).slots t 7).cast nbuf0_7)) (spec0_8.stage ((cfg0 (adm m 0)).slots t 8)) (hstage0_8 (((cfg0 (adm m 0)).slots t 8).cast nbuf0_8)) (spec0_9.stage ((cfg0 (adm m 0)).slots t 9)) (hstage0_9 (((cfg0 (adm m 0)).slots t 9).cast nbuf0_9)) (spec0_10.stage ((cfg0 (adm m 0)).slots t 10)) (hstage0_10 (((cfg0 (adm m 0)).slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _)

theorem defs₀_row (t : Fin (cfgm m).N) :
    defs₀ (F := F) .tc (cfgm m).body ((cfgm m).bodyArgs t ((cfgm m).slots t)) = bodyAt m t := by
  unfold defs₀; rw [Defs.onTc_tc]

/-- What the body is called with at a point, -/
def bodyPre (c : Dev nD) (t : Fin (cfgm m).N) : sProp 𝕄 :=
  iprop((dats m 0 c).Φ t.castSucc ∗ (dats m 0 c).owesAt () t.castSucc
    ∗ (∃ d, owns (c : Thread nD τ) (((cfgm m).win 0).stage ((cfgm m).slots t 0)) fullShare ((dats m 0 c).before 0 t d))
    ∗ (∃ d, owns (c : Thread nD τ) (((cfgm m).win 1).stage ((cfgm m).slots t 1)) fullShare ((dats m 0 c).before 1 t d))
    ∗ (∃ d, owns (c : Thread nD τ) (((cfgm m).win 2).stage ((cfgm m).slots t 2)) fullShare ((dats m 0 c).before 2 t d))
    ∗ (∃ d, owns (c : Thread nD τ) (((cfgm m).win 3).stage ((cfgm m).slots t 3)) fullShare ((dats m 0 c).before 3 t d))
    ∗ (∃ d, owns (c : Thread nD τ) (((cfgm m).win 4).stage ((cfgm m).slots t 4)) fullShare ((dats m 0 c).before 4 t d))
    ∗ (∃ d, owns (c : Thread nD τ) (((cfgm m).win 5).stage ((cfgm m).slots t 5)) fullShare ((dats m 0 c).before 5 t d))
    ∗ (∃ d, owns (c : Thread nD τ) (((cfgm m).win 6).stage ((cfgm m).slots t 6)) fullShare ((dats m 0 c).before 6 t d))
    ∗ (∃ d, owns (c : Thread nD τ) (((cfgm m).win 7).stage ((cfgm m).slots t 7)) fullShare ((dats m 0 c).before 7 t d))
    ∗ (∃ d, owns (c : Thread nD τ) (((cfgm m).win 8).stage ((cfgm m).slots t 8)) fullShare ((dats m 0 c).before 8 t d))
    ∗ (∃ d, owns (c : Thread nD τ) (((cfgm m).win 9).stage ((cfgm m).slots t 9)) fullShare ((dats m 0 c).before 9 t d))
    ∗ (∃ d, owns (c : Thread nD τ) (((cfgm m).win 10).stage ((cfgm m).slots t 10)) fullShare ((dats m 0 c).before 10 t d)))

/-- and what it returns. -/
def bodyPost (c : Dev nD) (t : Fin (cfgm m).N) : sProp 𝕄 :=
  iprop((dats m 0 c).Φ t.succ ∗ (dats m 0 c).owesAt () t.succ
    ∗ owns (c : Thread nD τ) (((cfgm m).win 0).stage ((cfgm m).slots t 0)) fullShare ((dats m 0 c).after 0 t)
    ∗ owns (c : Thread nD τ) (((cfgm m).win 1).stage ((cfgm m).slots t 1)) fullShare ((dats m 0 c).after 1 t)
    ∗ owns (c : Thread nD τ) (((cfgm m).win 2).stage ((cfgm m).slots t 2)) fullShare ((dats m 0 c).after 2 t)
    ∗ owns (c : Thread nD τ) (((cfgm m).win 3).stage ((cfgm m).slots t 3)) fullShare ((dats m 0 c).after 3 t)
    ∗ owns (c : Thread nD τ) (((cfgm m).win 4).stage ((cfgm m).slots t 4)) fullShare ((dats m 0 c).after 4 t)
    ∗ owns (c : Thread nD τ) (((cfgm m).win 5).stage ((cfgm m).slots t 5)) fullShare ((dats m 0 c).after 5 t)
    ∗ owns (c : Thread nD τ) (((cfgm m).win 6).stage ((cfgm m).slots t 6)) fullShare ((dats m 0 c).after 6 t)
    ∗ owns (c : Thread nD τ) (((cfgm m).win 7).stage ((cfgm m).slots t 7)) fullShare ((dats m 0 c).after 7 t)
    ∗ owns (c : Thread nD τ) (((cfgm m).win 8).stage ((cfgm m).slots t 8)) fullShare ((dats m 0 c).after 8 t)
    ∗ owns (c : Thread nD τ) (((cfgm m).win 9).stage ((cfgm m).slots t 9)) fullShare ((dats m 0 c).after 9 t)
    ∗ owns (c : Thread nD τ) (((cfgm m).win 10).stage ((cfgm m).slots t 10)) fullShare ((dats m 0 c).after 10 t))

theorem i0_eq (t : Fin (cfgm m).N) : i0 m t = t.val :=
  (by decide +kernel : ∀ t : Fin grid0.N, (grid0.coords t 0).val = t.val) t

/-- The first point's branch is taken at the first point. -/
theorem cond_first (t : Fin (cfgm m).N) (h : k0_cond1 (grid0.coords t) ≠ 1#1) : 0 < t.val :=
  (by decide +kernel : ∀ t : Fin grid0.N, k0_cond1 (grid0.coords t) ≠ 1#1 → 0 < t.val) t h

theorem blk3 (c : Dev nD) (t : Fin (cfgm m).N) : iblk m c 3 t = iblk m c 3 (t0 m) := rfl
theorem blk4 (c : Dev nD) (t : Fin (cfgm m).N) : iblk m c 4 t = iblk m c 4 (t0 m) := rfl

/-- The offsets' table, as the pipeline hands it over, is the table owned whole at half the share. -/
theorem tab_in (c : Dev nD) : Pipeline.ΦT pre0 (adm m 0).1 c ⊢ (owns (c : Thread nD τ) (Memref.whole main_arg1) fullShare.right (V m 0 main_arg1) : sProp 𝕄) := by
  rw [owns_whole_eq]; unfold Pipeline.ΦT Pipeline.prefHeld
  rw [bigSep_univ_eq_bigSepL [(0 : Fin 1)] (by decide) (by decide)]
  show iprop(((c : Thread nD τ).loc main_arg1) ↦{fullShare.right} (V m 0 main_arg1)) ⊢ _
  iintro H; iexists (V m 0 main_arg1)
  isplitr; · ipureintro; rfl
  iexact H
theorem tab_out (c : Dev nD) : (owns (c : Thread nD τ) (Memref.whole main_arg1) fullShare.right (V m 0 main_arg1) : sProp 𝕄) ⊢ Pipeline.ΦT pre0 (adm m 0).1 c := by
  rw [owns_whole_eq]; unfold Pipeline.ΦT Pipeline.prefHeld
  rw [bigSep_univ_eq_bigSepL [(0 : Fin 1)] (by decide) (by decide)]
  show _ ⊢ iprop(((c : Thread nD τ).loc main_arg1) ↦{fullShare.right} (V m 0 main_arg1))
  iintro ⟨%f, %hf, H⟩
  subst hf
  iexact H

set_option maxHeartbeats 1000000 in
/-- The body at any point. -/
theorem sound_body (c : Dev nD) (hS : Sorted (off0 m)) (t : Fin (cfgm m).N) :
    bodyPre m c t ⊢ wp frame (wpE (defs₀ (F := F)) Variants.none c none) Set.univ (bodyAt m t) (fun _ => bodyPost m c t) := by
  unfold bodyPre bodyPost bodyAt
  simp only [before0_0, before0_1, before0_2, before0_3, before0_4, before0_5, before0_6, before0_7]
  rw [show (dats m 0 c).Φ t.succ = Car m c (t.val + 1) from rfl, show (dats m 0 c).Φ t.castSucc = Car m c t.val from rfl,
    show (dats m 0 c).owesAt () t.succ = (dats m 0 c).owesAt () t.castSucc from rfl,
    after0_0, after0_1, after0_2, after0_3, after0_4, after0_5, after0_6, after0_7, after0_8, after0_9, after0_10]
  unfold Car
  iintro ⟨⟨HS, Hp, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) (Memref.whole main_arg1) (Memref.isWhole_whole _) (spec0_0.stage ((cfg0 (adm m 0)).slots t 0)) (hstage0_0 (((cfg0 (adm m 0)).slots t 0).cast nbuf0_0)) (spec0_1.stage ((cfg0 (adm m 0)).slots t 1)) (hstage0_1 (((cfg0 (adm m 0)).slots t 1).cast nbuf0_1)) (spec0_2.stage ((cfg0 (adm m 0)).slots t 2)) (hstage0_2 (((cfg0 (adm m 0)).slots t 2).cast nbuf0_2)) (spec0_3.stage ((cfg0 (adm m 0)).slots t 3)) (hstage0_3 (((cfg0 (adm m 0)).slots t 3).cast nbuf0_3)) (spec0_4.stage ((cfg0 (adm m 0)).slots t 4)) (hstage0_4 (((cfg0 (adm m 0)).slots t 4).cast nbuf0_4)) (spec0_5.stage ((cfg0 (adm m 0)).slots t 5)) (hstage0_5 (((cfg0 (adm m 0)).slots t 5).cast nbuf0_5)) (spec0_6.stage ((cfg0 (adm m 0)).slots t 6)) (hstage0_6 (((cfg0 (adm m 0)).slots t 6).cast nbuf0_6)) (spec0_7.stage ((cfg0 (adm m 0)).slots t 7)) (hstage0_7 (((cfg0 (adm m 0)).slots t 7).cast nbuf0_7)) (spec0_8.stage ((cfg0 (adm m 0)).slots t 8)) (hstage0_8 (((cfg0 (adm m 0)).slots t 8).cast nbuf0_8)) (spec0_9.stage ((cfg0 (adm m 0)).slots t 9)) (hstage0_9 (((cfg0 (adm m 0)).slots t 9).cast nbuf0_9)) (spec0_10.stage ((cfg0 (adm m 0)).slots t 10)) (hstage0_10 (((cfg0 (adm m 0)).slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) fullShare.right t.val (cond_first m t) (V m 0 main_arg1) hS
    (iblk m c 0 t) (iblk m c 1 t) (iblk m c 2 t) (iblk m c 3 t) (iblk m c 4 t) (iblk m c 5 t) (iblk m c 6 t) (iblk m c 7 t) _)
  isplitl [HT]; · iapply (tab_in m c); iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [HS]; · rw [blk3 m c t, blk4 m c t]; iexact HS
  unfold Post
  iintro ⟨HT, H0, H1, H2, H3, H4, H5, H6, H7, H8, H9, H10, HS⟩
  isplitl [HS Hp HT]
  · isplitl [HS]; · rw [← blk3 m c t, ← blk4 m c t]; iexact HS
    isplitl [Hp]; · iexact Hp
    iapply (tab_out m c); iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The pipeline's body obligation. -/
theorem body_obligation (hS : Sorted (off0 m)) (c : Dev nD) : BodyObligation (dats (F := F) m 0 c) (defs₀ (F := F)) Variants.none () Set.univ := fun t => by
  rw [bigSep_W0, bigSep_W0, defs₀_row]
  exact Idealize.ShloMosaic.triple_restated (sound_body m c hS t) rfl .rfl fun _ => .rfl

/-- A whole scratch buffer at some contents, in the two spellings. -/
theorem pt_own (c : Dev nD) (b : Ref sig .tc) : (iprop(∃ f : Buf (Elt F) ((c : Thread nD τ).loc b), ((c : Thread nD τ).loc b) ↦{fullShare} f) : sProp 𝕄) ⊢ iprop(∃ d, owns (c : Thread nD τ) (Memref.whole b) fullShare d) := by
  iintro ⟨%f, H⟩; iexists f; rw [owns_whole_eq]; iexists f
  isplitr; · ipureintro; rfl
  iexact H
theorem own_pt (c : Dev nD) (b : Ref sig .tc) (d) : (owns (c : Thread nD τ) (Memref.whole b) fullShare d : sProp 𝕄) ⊢ iprop(∃ f : Buf (Elt F) ((c : Thread nD τ).loc b), ((c : Thread nD τ).loc b) ↦{fullShare} f) := by
  rw [owns_whole_eq]
  iintro ⟨%f, -, H⟩; iexists f; iexact H

theorem car_in (c : Dev nD) : iprop(Pipeline.ΦA spec0 c ∗ Pipeline.ΦT pre0 (adm m 0).1 c) ⊢ Car m c 0 := by
  unfold Pipeline.ΦA Car Scr
  rw [scopedRest0_eq]
  iintro ⟨⟨⟨H0, H1, H2, H3, H4, H5, H6, H7, H8, H9, H10, H11, H12⟩, Hp⟩, HT⟩
  isplitl [H0 H1 H2 H3 H4 H5 H6 H7 H8 H9 H10 H11 H12]
  · isplitl [H0]; · iapply (pt_own c cc0_scratch0); iexact H0
    isplitl [H1]; · iapply (pt_own c cc0_scratch1); iexact H1
    isplitl [H2]; · iapply (pt_own c cc0_scratch2); iexact H2
    isplitl [H3]; · iapply (pt_own c cc0_scratch3); iexact H3
    isplitl [H4]; · iapply (pt_own c cc0_scratch4); iexact H4
    isplitl [H5]; · iapply (pt_own c cc0_scratch5); iexact H5
    icases H6 with ⟨%f6, H6⟩
    icases H7 with ⟨%f7, H7⟩
    icases H8 with ⟨%f8, H8⟩
    icases H9 with ⟨%f9, H9⟩
    icases H10 with ⟨%f10, H10⟩
    icases H11 with ⟨%f11, H11⟩
    icases H12 with ⟨%f12, H12⟩
    iexists f6, f7, f8, f9, f10, f11, f12
    isplitl [H6]; · rw [owns_whole_eq]; iexists f6; isplitr; (ipureintro; rfl); iexact H6
    isplitl [H7]; · rw [owns_whole_eq]; iexists f7; isplitr; (ipureintro; rfl); iexact H7
    isplitl [H8]; · rw [owns_whole_eq]; iexists f8; isplitr; (ipureintro; rfl); iexact H8
    isplitl [H9]; · rw [owns_whole_eq]; iexists f9; isplitr; (ipureintro; rfl); iexact H9
    isplitl [H10]; · rw [owns_whole_eq]; iexists f10; isplitr; (ipureintro; rfl); iexact H10
    isplitl [H11]; · rw [owns_whole_eq]; iexists f11; isplitr; (ipureintro; rfl); iexact H11
    isplitl [H12]; · rw [owns_whole_eq]; iexists f12; isplitr; (ipureintro; rfl); iexact H12
    ipureintro; exact fun h => absurd h (Nat.lt_irrefl 0)
  isplitl [Hp]; · iexact Hp
  iexact HT

theorem car_out (c : Dev nD) (n : ℕ) : Car m c n ⊢ Pipeline.ΦA spec0 c := by
  unfold Pipeline.ΦA Car Scr
  rw [scopedRest0_eq]
  iintro ⟨⟨⟨%d0, H0⟩, ⟨%d1, H1⟩, ⟨%d2, H2⟩, ⟨%d3, H3⟩, ⟨%d4, H4⟩, ⟨%d5, H5⟩, %e6, %e7, %e8, %e9, %e10, %e11, %e12, H6, H7, H8, H9, H10, H11, H12, -⟩, Hp, -⟩
  isplitl [H0 H1 H2 H3 H4 H5 H6 H7 H8 H9 H10 H11 H12]
  · isplitl [H0]; · iapply (own_pt c cc0_scratch0); iexact H0
    isplitl [H1]; · iapply (own_pt c cc0_scratch1); iexact H1
    isplitl [H2]; · iapply (own_pt c cc0_scratch2); iexact H2
    isplitl [H3]; · iapply (own_pt c cc0_scratch3); iexact H3
    isplitl [H4]; · iapply (own_pt c cc0_scratch4); iexact H4
    isplitl [H5]; · iapply (own_pt c cc0_scratch5); iexact H5
    isplitl [H6]; · iapply (own_pt c cc0_scratch6); iexact H6
    isplitl [H7]; · iapply (own_pt c cc0_scratch7); iexact H7
    isplitl [H8]; · iapply (own_pt c cc0_scratch8); iexact H8
    isplitl [H9]; · iapply (own_pt c cc0_scratch9); iexact H9
    isplitl [H10]; · iapply (own_pt c cc0_scratch10); iexact H10
    isplitl [H11]; · iapply (own_pt c cc0_scratch11); iexact H11
    iapply (own_pt c cc0_scratch12); iexact H12
  iexact Hp

set_option backward.isDefEq.respectTransparency.types false in
set_option maxHeartbeats 1000000 in
/-- The run: every fair execution ends, the arrays as the proof data say, every semaphore at zero. -/
theorem run_main_quiescent (hS : Sorted (off0 m)) : θ_run defs (onTc (τ := τ) (main (F := F))) (s₀ m ρ)
    (fun r => Pipeline.FramePost (Pipeline.pin (pcfgs (F := F)) (adm m)) (dats m) 0 (V m) r ∧ r.2.sem = fun _ => 0) :=
  Pipeline.θ_run_frameP_track (Q' := _) (pcfgs (F := F)) (adm m) (dats m) (0 : Fin 1) launch0 defs₀ Variants.none m ρ main
    (hbody := fun c => (body_obligation m hS c).loose) (hshare := fun c => (dats m 0 c).share_full fun _ => rfl)
    (howed := fun _ _ => rfl) (V := V m)
    (hmain := Pipeline.hmainP_prefix _ 0 defs₀ Variants.none m main hostOps0 hostOps0_sub hostOps0_fresh main_chain)
    (hA := A_eq m) (hpf := fun c k => by obtain rfl : c = 0 := Subsingleton.elim _ _; rfl)
    (hin := fun c => car_in m c) (hout := fun c => car_out m c _)

end Cert.Kernel.Body

end
-- ==== Proof.Kernel.Frame.lean ====
/- The frame: every argument array ends as launched. -/
module

public import proofs.«01_k».proof.Proof.Kernel.Launch

@[expose] public section

set_option maxRecDepth 16384
set_option maxHeartbeats 4000000

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen Cert.Words Cert.Rank

variable {F : FTy → Type} [FloatOps F]

/-- The resources of the run: the frame kit's. -/
local notation "𝕄" => MT nD τ sig Unit (Elt F) ℕ (UR sig nD τ) ℕ

variable (m : (ℓ : Loc nD τ sig) → Buf (Elt F) ℓ) (ρ : Dev nD → PrngReg)

/-- The argument arrays, in a final state of the run. -/
theorem args_of {r : PUnit × MemSt nD τ sig (Elt F)} (h : Pipeline.FramePost (Pipeline.pin (pcfgs (F := F)) (adm m)) (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨((h c).1 0).trans (((dats m 0 c).arrAt_in 0 rfl _).trans ((A_eq m c 0).trans (V_of m c main_arg0 (by decide) (by decide)))),
    ((h c).2 main_arg1 (Pipeline.mem_restRefs_of main_arg1 (by decide) (show ∀ w : Fin 11, (spec0 w).arr.view.ref ≠ main_arg1 by decide))).trans (V_of m c main_arg1 (by decide) (by decide)),
    ((h c).1 1).trans (((dats m 0 c).arrAt_in 1 rfl _).trans ((A_eq m c 1).trans (V_of m c main_arg2 (by decide) (by decide)))),
    ((h c).2 main_arg3 (Pipeline.mem_restRefs_of main_arg3 (by decide) (show ∀ w : Fin 11, (spec0 w).arr.view.ref ≠ main_arg3 by decide))).trans (V_of m c main_arg3 (by decide) (by decide)),
    ((h c).1 2).trans (((dats m 0 c).arrAt_in 2 rfl _).trans ((A_eq m c 2).trans (V_of m c main_arg4 (by decide) (by decide)))),
    ((h c).2 main_arg5 (Pipeline.mem_restRefs_of main_arg5 (by decide) (show ∀ w : Fin 11, (spec0 w).arr.view.ref ≠ main_arg5 by decide))).trans (V_of m c main_arg5 (by decide) (by decide)),
    ((h c).1 5).trans (((dats m 0 c).arrAt_in 5 rfl _).trans ((A_eq m c 5).trans (V_of m c main_arg6 (by decide) (by decide)))),
    ((h c).1 6).trans (((dats m 0 c).arrAt_in 6 rfl _).trans ((A_eq m c 6).trans (V_of m c main_arg7 (by decide) (by decide)))),
    ((h c).1 7).trans (((dats m 0 c).arrAt_in 7 rfl _).trans ((A_eq m c 7).trans (V_of m c main_arg8 (by decide) (by decide))))⟩

/-- The offsets the pipeline holds are the launched ones. -/
theorem off0_eq : off0 m = nw (m (((0 : Dev nD) : Thread nD τ).loc main_arg1) : S25.Idx → BitVec 32) :=
  congrArg (nw (d := 25)) (V_of m 0 main_arg1 (by decide) (by decide))

/-- The frame claim's statement. -/
theorem frame (hS : Sorted (off0 m)) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => args_of m h.1 c, h.2⟩) (run_main_quiescent m ρ hS)

end Cert.Kernel.Body

end
-- ==== Proof.lean ====
/- The proof of the claims: the frames of the kernel, of its ideal form and of the reference, and over the reals the equality of the
   results of the last two. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_offsets_sorted
public import proofs.«01_k».proof.Proof.Pre
public import proofs.«01_k».proof.Proof.Alg
public import proofs.«01_k».proof.Proof.Kernel.Frame
public import proofs.«01_k».proof.Proof.KernelIdeal.Frame

@[expose] public section

noncomputable section

open Idealize.ShloMosaic Idealize.SL.Sem

/-- The claims. -/
theorem Cert.Proof.claim : Cert.Claim := by
  letI := Cert.Kernel.Gen.facts
  letI := Cert.KernelIdeal.Gen.facts
  letI := Cert.ReferenceIdeal.Gen.facts
  letI := Cert.Pre_offsets_sorted.Gen.facts
  refine ⟨Cert.Kernel.Gen.facts, Cert.KernelIdeal.Gen.facts, Cert.ReferenceIdeal.Gen.facts, Cert.Pre_offsets_sorted.Gen.facts, ?_, ?_, ?_, ?_, trivial, ?_⟩
  · intro m g hp
    exact Cert.Kernel.Body.frame m g (Cert.Kernel.Body.off0_eq m ▸ Cert.Pre.sorted_of _ _ _ _ _ _ _ _ _ (hp 0))
  · intro m g hp
    exact Cert.KernelIdeal.Body.frame m g (Cert.KernelIdeal.Body.off0_eq m ▸ Cert.Pre.sorted_of _ _ _ _ _ _ _ _ _ (hp 0))
  · exact fun m g _ => Cert.ReferenceIdeal.Gen.frame m g
  · exact fun m g _ => Cert.ReferenceIdeal.Gen.frame m g
  · intro m g m' g' hp hagree
    have hS : Cert.Rank.Sorted (Cert.KernelIdeal.Body.off0 m) :=
      Cert.KernelIdeal.Body.off0_eq m ▸ Cert.Pre.sorted_of _ _ _ _ _ _ _ _ _ (hp 0)
    refine ⟨fun c => Cert.KernelIdeal.Body.arr8 m c, fun c => Cert.KernelIdeal.Body.arr9 m c, fun c => Cert.KernelIdeal.Body.arr10 m c,
      Cert.KernelIdeal.Body.run_results m g hS, ?_⟩
    refine (θ_run Cert.ReferenceIdeal.defs _ _).mono (fun r hr c => ?_) (Cert.ReferenceIdeal.Val.run_results m' g')
    obtain ⟨e78, e64, e66⟩ := Cert.Alg.results_eq m c m' hS (hagree c)
    obtain ⟨r78, r64, r66, rest⟩ := hr c
    exact ⟨r78.trans e78, r64.trans e64, r66.trans e66, rest⟩

end
